-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel3 [hPre_known_expert : Cert.Pre_known_expert.Facts] (m : (ℓ : Loc Cert.Kernel3.nD Cert.Kernel3.τ Cert.Kernel3.sig) → Buf (Elt Bits) ℓ) : Prop :=
  ∀ c : Dev Cert.Kernel3.nD,
    (Cert.Pre_known_expert.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))) = (fun _ => 1#1)

def Pre_Kernel3Ideal [hPre_known_expert : Cert.Pre_known_expert.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_known_expert.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_known_expert [hPre_known_expert : Cert.Pre_known_expert.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_known_expert.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel3 [hKernel3 : Cert.Kernel3.Facts] [hPre_known_expert : Cert.Pre_known_expert.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_known_expert : Cert.Pre_known_expert.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_known_expert [hReference3Ideal : Cert.Reference3Ideal.Facts] [hPre_known_expert : Cert.Pre_known_expert.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_known_expert m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v57_0)) (v1 : (c : Dev Cert.Kernel2Ideal.nD) → Buf (Elt Ideal) ((c.tc : Thread Cert.Kernel2Ideal.nD Cert.Kernel2Ideal.τ).loc Cert.Kernel2Ideal.main_v57_1)) (v2 : (c : Dev Cert.Kernel2Ideal.nD) → Buf (Elt Ideal) ((c.tc : Thread Cert.Kernel2Ideal.nD Cert.Kernel2Ideal.τ).loc Cert.Kernel2Ideal.main_v57_2)) (v3 : (c : Dev Cert.Kernel2Ideal.nD) → Buf (Elt Ideal) ((c.tc : Thread Cert.Kernel2Ideal.nD Cert.Kernel2Ideal.τ).loc Cert.Kernel2Ideal.main_v57_3)) (v4 : (c : Dev Cert.Kernel2Ideal.nD) → Buf (Elt Ideal) ((c.tc : Thread Cert.Kernel2Ideal.nD Cert.Kernel2Ideal.τ).loc Cert.Kernel2Ideal.main_v57_4)) (v5 : (c : Dev Cert.Kernel2Ideal.nD) → Buf (Elt Ideal) ((c.tc : Thread Cert.Kernel2Ideal.nD Cert.Kernel2Ideal.τ).loc Cert.Kernel2Ideal.main_v57_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v57_0) = v0 c
          ∧ r.2.mem ((c.tc : Thread Cert.Kernel2Ideal.nD Cert.Kernel2Ideal.τ).loc Cert.Kernel2Ideal.main_v57_1) = v1 c
          ∧ r.2.mem ((c.tc : Thread Cert.Kernel2Ideal.nD Cert.Kernel2Ideal.τ).loc Cert.Kernel2Ideal.main_v57_2) = v2 c
          ∧ r.2.mem ((c.tc : Thread Cert.Kernel2Ideal.nD Cert.Kernel2Ideal.τ).loc Cert.Kernel2Ideal.main_v57_3) = v3 c
          ∧ r.2.mem ((c.tc : Thread Cert.Kernel2Ideal.nD Cert.Kernel2Ideal.τ).loc Cert.Kernel2Ideal.main_v57_4) = v4 c
          ∧ r.2.mem ((c.tc : Thread Cert.Kernel2Ideal.nD Cert.Kernel2Ideal.τ).loc Cert.Kernel2Ideal.main_v57_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v161) = v0 c
          ∧ r.2.mem ((c.tc : Thread Cert.Reference2Ideal.nD Cert.Reference2Ideal.τ).loc Cert.Reference2Ideal.main_v162) = v1 c
          ∧ r.2.mem ((c.tc : Thread Cert.Reference2Ideal.nD Cert.Reference2Ideal.τ).loc Cert.Reference2Ideal.main_v163) = v2 c
          ∧ r.2.mem ((c.tc : Thread Cert.Reference2Ideal.nD Cert.Reference2Ideal.τ).loc Cert.Reference2Ideal.main_v28) = v3 c
          ∧ r.2.mem ((c.tc : Thread Cert.Reference2Ideal.nD Cert.Reference2Ideal.τ).loc Cert.Reference2Ideal.main_v164) = v4 c
          ∧ r.2.mem ((c.tc : Thread Cert.Reference2Ideal.nD Cert.Reference2Ideal.τ).loc Cert.Reference2Ideal.main_v167) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v58_0)) (v1 : (c : Dev Cert.Kernel4Ideal.nD) → Buf (Elt Ideal) ((c.tc : Thread Cert.Kernel4Ideal.nD Cert.Kernel4Ideal.τ).loc Cert.Kernel4Ideal.main_v58_1)) (v2 : (c : Dev Cert.Kernel4Ideal.nD) → Buf (Elt Ideal) ((c.tc : Thread Cert.Kernel4Ideal.nD Cert.Kernel4Ideal.τ).loc Cert.Kernel4Ideal.main_v58_2)) (v3 : (c : Dev Cert.Kernel4Ideal.nD) → Buf (Elt Ideal) ((c.tc : Thread Cert.Kernel4Ideal.nD Cert.Kernel4Ideal.τ).loc Cert.Kernel4Ideal.main_v58_3)) (v4 : (c : Dev Cert.Kernel4Ideal.nD) → Buf (Elt Ideal) ((c.tc : Thread Cert.Kernel4Ideal.nD Cert.Kernel4Ideal.τ).loc Cert.Kernel4Ideal.main_v58_4)) (v5 : (c : Dev Cert.Kernel4Ideal.nD) → Buf (Elt Ideal) ((c.tc : Thread Cert.Kernel4Ideal.nD Cert.Kernel4Ideal.τ).loc Cert.Kernel4Ideal.main_v58_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v58_0) = v0 c
          ∧ r.2.mem ((c.tc : Thread Cert.Kernel4Ideal.nD Cert.Kernel4Ideal.τ).loc Cert.Kernel4Ideal.main_v58_1) = v1 c
          ∧ r.2.mem ((c.tc : Thread Cert.Kernel4Ideal.nD Cert.Kernel4Ideal.τ).loc Cert.Kernel4Ideal.main_v58_2) = v2 c
          ∧ r.2.mem ((c.tc : Thread Cert.Kernel4Ideal.nD Cert.Kernel4Ideal.τ).loc Cert.Kernel4Ideal.main_v58_3) = v3 c
          ∧ r.2.mem ((c.tc : Thread Cert.Kernel4Ideal.nD Cert.Kernel4Ideal.τ).loc Cert.Kernel4Ideal.main_v58_4) = v4 c
          ∧ r.2.mem ((c.tc : Thread Cert.Kernel4Ideal.nD Cert.Kernel4Ideal.τ).loc Cert.Kernel4Ideal.main_v58_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v157) = v0 c
          ∧ r.2.mem ((c.tc : Thread Cert.Reference4Ideal.nD Cert.Reference4Ideal.τ).loc Cert.Reference4Ideal.main_v158) = v1 c
          ∧ r.2.mem ((c.tc : Thread Cert.Reference4Ideal.nD Cert.Reference4Ideal.τ).loc Cert.Reference4Ideal.main_v159) = v2 c
          ∧ r.2.mem ((c.tc : Thread Cert.Reference4Ideal.nD Cert.Reference4Ideal.τ).loc Cert.Reference4Ideal.main_v160) = v3 c
          ∧ r.2.mem ((c.tc : Thread Cert.Reference4Ideal.nD Cert.Reference4Ideal.τ).loc Cert.Reference4Ideal.main_v161) = v4 c
          ∧ r.2.mem ((c.tc : Thread Cert.Reference4Ideal.nD Cert.Reference4Ideal.τ).loc Cert.Reference4Ideal.main_v162) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel3_Kernel3Ideal : Prop :=
  True

def algebraic_Kernel3Ideal_Reference3Ideal [hKernel3Ideal : Cert.Kernel3Ideal.Facts] [hReference3Ideal : Cert.Reference3Ideal.Facts] [hPre_known_expert : Cert.Pre_known_expert.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hKernel3 : Cert.Kernel3.Facts) (hKernel3Ideal : Cert.Kernel3Ideal.Facts) (hReference3Ideal : Cert.Reference3Ideal.Facts) (hPre_finite : Cert.Pre_finite.Facts) (hPre_known_expert : Cert.Pre_known_expert.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel3 (hKernel3 := hKernel3) (hPre_known_expert := hPre_known_expert)
    ∧ quiescent_Kernel3Ideal (hKernel3Ideal := hKernel3Ideal) (hPre_known_expert := hPre_known_expert)
    ∧ quiescent_Reference3Ideal (hReference3Ideal := hReference3Ideal)
    ∧ quiescent_Reference3Ideal_pre_known_expert (hReference3Ideal := hReference3Ideal) (hPre_known_expert := hPre_known_expert)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel4_Kernel4Ideal
    ∧ algebraic_Kernel4Ideal_Reference4Ideal (hKernel4Ideal := hKernel4Ideal) (hReference4Ideal := hReference4Ideal)
    ∧ preserves_Kernel3_Kernel3Ideal
    ∧ algebraic_Kernel3Ideal_Reference3Ideal (hKernel3Ideal := hKernel3Ideal) (hReference3Ideal := hReference3Ideal) (hPre_known_expert := hPre_known_expert)
-- ==== Pre_finite.lean ====
abbrev S8x8192x512 : Shape := ⟨3, ![8, 8192, 512]⟩
abbrev S4x64 : Shape := ⟨2, ![4, 64]⟩
abbrev S128 : Shape := ⟨1, ![128]⟩
abbrev S_ : Shape := ⟨0, ![]⟩

class Facts : Prop where
  bcast_S_S8x8192x512 : S_.BroadcastsInDim S8x8192x512 (![] : Fin 0 → Fin S8x8192x512.rank)
  reducesTo_S8x8192x512_S_d0_1_2 : S8x8192x512.ReducesTo [0, 1, 2] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_v13 : IVec S_ 1) (main_v16 : IVec S4x64 1) : IVec S_ 1 :=
  let main_c_5 : IVec S_ 1 := constantI S_ 1 1#1
  let main_v17 : IVec S_ 1 := (fun x v => Host.reduce IntOp.andi x v reducesTo_S4x64_S_d0_1 h_S_) main_v16 main_c_5
  let main_v18 : IVec S_ 1 := andi main_v13 main_v17
  main_v18

def fn {F : FTy → Type} [FloatOps F] (main_arg0 : FVec F S8x8192x512 .f32) (main_arg1 : FVec F S8x8192x512 .f32) (main_arg2 : FVec F S8x8192x512 .f32) (main_arg3 : FVec F S4x64 .f32) (main_arg4 : FVec F S128 .f32) : IVec S_ 1 :=
  let main_v0 : FVec F S8x8192x512 .f32 := Host.absf main_arg0
  let main_cst : FVec F S_ .f32 := constant S_ .f32 0x7F800000#32
  let main_v1 : FVec F S8x8192x512 .f32 := broadcastInDim S8x8192x512 ![] bcast_S_S8x8192x512 main_cst
  let main_v2 : IVec S8x8192x512 1 := cmpf .olt main_v0 main_v1
  let main_c : IVec S_ 1 := constantI S_ 1 1#1
  let main_v3 : IVec S_ 1 := (fun x v => Host.reduce IntOp.andi x v reducesTo_S8x8192x512_S_d0_1_2 h_S_) main_v2 main_c
  let main_v4 : FVec F S8x8192x512 .f32 := Host.absf main_arg1
  let main_cst_0 : FVec F S_ .f32 := constant S_ .f32 0x7F800000#32
  let main_v5 : FVec F S8x8192x512 .f32 := broadcastInDim S8x8192x512 ![] bcast_S_S8x8192x512 main_cst_0
  let main_v6 : IVec S8x8192x512 1 := cmpf .olt main_v4 main_v5
  let main_c_1 : IVec S_ 1 := constantI S_ 1 1#1
  let main_v7 : IVec S_ 1 := (fun x v => Host.reduce IntOp.andi x v reducesTo_S8x8192x512_S_d0_1_2 h_S_) main_v6 main_c_1
  let main_v8 : IVec S_ 1 := andi main_v3 main_v7
  let main_v9 : FVec F S8x8192x512 .f32 := Host.absf main_arg2
  let main_cst_2 : FVec F S_ .f32 := constant S_ .f32 0x7F800000#32
  let main_v10 : FVec F S8x8192x512 .f32 := broadcastInDim S8x8192x512 ![] bcast_S_S8x8192x512 main_cst_2
  let main_v11 : IVec S8x8192x512 1 := cmpf .olt main_v9 main_v10
  let main_c_3 : IVec S_ 1 := constantI S_ 1 1#1
  let main_v12 : IVec S_ 1 := (fun x v => Host.reduce IntOp.andi x v reducesTo_S8x8192x512_S_d0_1_2 h_S_) main_v11 main_c_3
  let main_v13 : IVec S_ 1 := andi main_v8 main_v12
  let main_v14 : FVec F S4x64 .f32 := Host.absf main_arg3
  let main_cst_4 : FVec F S_ .f32 := constant S_ .f32 0x7F800000#32
  let main_v15 : FVec F S4x64 .f32 := broadcastInDim S4x64 ![] bcast_S_S4x64 main_cst_4
  let main_v16 : IVec S4x64 1 := cmpf .olt main_v14 main_v15
  fn_part1 (F := F) main_v13 main_v16
-- ==== Pre_known_expert.lean ====
abbrev S2116 : Shape := ⟨1, ![2116]⟩
abbrev S541696x1024 : Shape := ⟨2, ![541696, 1024]⟩
abbrev S64x1024x256 : Shape := ⟨3, ![64, 1024, 256]⟩
abbrev S64x256x1024 : Shape := ⟨3, ![64, 256, 1024]⟩
abbrev S_ : Shape := ⟨0, ![]⟩

class Facts : Prop where
  bcast_S_S2116 : S_.BroadcastsInDim S2116 (![] : Fin 0 → Fin S2116.rank)
  reducesTo_S2116_S_d0 : S2116.ReducesTo [0] S_
  h_S_ : 0 < S_.numel

variable [Facts]

def fn {F : FTy → Type} [FloatOps F] (main_arg0 : IVec S2116 32) (main_arg1 : IVec S2116 32) (main_arg2 : FVec F S541696x1024 .f32) (main_arg3 : FVec F S64x1024x256 .f32) (main_arg4 : FVec F S64x1024x256 .f32) (main_arg5 : FVec F S64x256x1024 .f32) : IVec S_ 1 :=
  let main_c : IVec S_ 32 := constantI S_ 32 0#32
  let main_v0 : IVec S2116 32 := broadcastInDim S2116 ![] bcast_S_S2116 main_c
  let main_v1 : IVec S2116 1 := cmpi .sge main_arg0 main_v0
  let main_c_0 : IVec S_ 32 := constantI S_ 32 64#32
  let main_v2 : IVec S2116 32 := broadcastInDim S2116 ![] bcast_S_S2116 main_c_0
  let main_v3 : IVec S2116 1 := cmpi .slt main_arg0 main_v2
  let main_v4 : IVec S2116 1 := andi main_v1 main_v3
  let main_c_1 : IVec S_ 1 := constantI S_ 1 1#1
  let main_v5 : IVec S_ 1 := (fun x v => Host.reduce IntOp.andi x v reducesTo_S2116_S_d0 h_S_) main_v4 main_c_1
  main_v5
-- ==== Kernel.lean ====
abbrev S8x8192x512 : Shape := ⟨3, ![8, 8192, 512]⟩
abbrev S4x64 : Shape := ⟨2, ![4, 64]⟩
abbrev S128 : Shape := ⟨1, ![128]⟩
abbrev S_ : Shape := ⟨0, ![]⟩
abbrev S8x512x8192 : Shape := ⟨3, ![8, 512, 8192]⟩
abbrev S8x8192x8x64 : Shape := ⟨4, ![8, 8192, 8, 64]⟩
abbrev S8x8x8192x64 : Shape := ⟨4, ![8, 8, 8192, 64]⟩
abbrev S8x32x256x512 : Shape := ⟨4, ![8, 32, 256, 512]⟩
abbrev S8x32x512x256 : Shape := ⟨4, ![8, 32, 512, 256]⟩
abbrev S128x1 : Shape := ⟨2, ![128, 1]⟩
abbrev S1x128x1024 : Shape := ⟨3, ![1, 128, 1024]⟩
abbrev S1x2x8192x64 : Shape := ⟨4, ![1, 2, 8192, 64]⟩
abbrev S1x32x128x256 : Shape := ⟨4, ![1, 32, 128, 256]⟩
abbrev S1x1024x128 : Shape := ⟨3, ![1, 1024, 128]⟩
abbrev S1x64x1024 : Shape := ⟨3, ![1, 64, 1024]⟩
abbrev S64x1024 : Shape := ⟨2, ![64, 1024]⟩
abbrev S1x1024 : Shape := ⟨2, ![1, 1024]⟩
abbrev S128x1024 : Shape := ⟨2, ![128, 1024]⟩
abbrev S1x1x256x64 : Shape := ⟨4, ![1, 1, 256, 64]⟩
abbrev S256x64 : Shape := ⟨2, ![256, 64]⟩
abbrev S256x1024 : Shape := ⟨2, ![256, 1024]⟩
abbrev S1024 : Shape := ⟨1, ![1024]⟩
abbrev S1x1x128x256 : Shape := ⟨4, ![1, 1, 128, 256]⟩
abbrev S128x256 : Shape := ⟨2, ![128, 256]⟩
abbrev S1x64 : Shape := ⟨2, ![1, 64]⟩
abbrev S1 : Shape := ⟨1, ![1]⟩
abbrev S1x1 : Shape := ⟨2, ![1, 1]⟩
abbrev S1024x128 : Shape := ⟨2, ![1024, 128]⟩

abbrev nBuf : Space → Nat
  | .hbm => 22
  | .vmem => 10
  | .smem => 0
  | _ => 0

abbrev bufTy : (tb : Table) → Fin (tcTables nBuf tb) → BufTy
  | .hbm, ⟨0, _⟩ => ⟨S8x8192x512, .f32⟩
  | .hbm, ⟨1, _⟩ => ⟨S8x8192x512, .f32⟩
  | .hbm, ⟨2, _⟩ => ⟨S8x8192x512, .f32⟩
  | .hbm, ⟨3, _⟩ => ⟨S4x64, .f32⟩
  | .hbm, ⟨4, _⟩ => ⟨S128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x8192x512, .f32⟩
  | .hbm, ⟨11, _⟩ => ⟨S8x8192x512, .f32⟩
  | .hbm, ⟨12, _⟩ => ⟨S8x512x8192, .f32⟩
  | .hbm, ⟨13, _⟩ => ⟨S8x512x8192, .bf16⟩
  | .hbm, ⟨14, _⟩ => ⟨S8x8192x8x64, .f32⟩
  | .hbm, ⟨15, _⟩ => ⟨S8x8x8192x64, .f32⟩
  | .hbm, ⟨16, _⟩ => ⟨S8x8x8192x64, .bf16⟩
  | .hbm, ⟨17, _⟩ => ⟨S8x32x256x512, .f32⟩
  | .hbm, ⟨18, _⟩ => ⟨S8x32x512x256, .f32⟩
  | .hbm, ⟨19, _⟩ => ⟨S8x32x512x256, .bf16⟩
  | .hbm, ⟨20, _⟩ => ⟨S128x1, .f32⟩
  | .hbm, ⟨21, _⟩ => ⟨S8x8192x512, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x2x8192x64, .bf16⟩
  | .local _ .vmem, ⟨3, _⟩ => ⟨S1x2x8192x64, .bf16⟩
  | .local _ .vmem, ⟨4, _⟩ => ⟨S1x32x128x256, .bf16⟩
  | .local _ .vmem, ⟨5, _⟩ => ⟨S1x32x128x256, .bf16⟩
  | .local _ .vmem, ⟨6, _⟩ => ⟨S4x64, .f32⟩
  | .local _ .vmem, ⟨7, _⟩ => ⟨S128x1, .f32⟩
  | .local _ .vmem, ⟨8, _⟩ => ⟨S1x1024x128, .bf16⟩
  | .local _ .vmem, ⟨9, _⟩ => ⟨S1x1024x128, .bf16⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 4, 8], ![false, false, false]⟩

@[reducible] def k0_t1_loop (i : grid0.Coords) : Scf.Loop 32 :=
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_9 : BitVec 32 := 1#32
  ⟨c0_i32, v14, c1_i32_9⟩
def k0_mult1 (i : grid0.Coords) (k0_t1 : Fin (k0_t1_loop i).trips) : BitVec 32 :=
  let c0_i32 : BitVec 32 := 0#32
  let c1_i32_9 : BitVec 32 := 1#32
  let arg9 : BitVec 32 := Scf.iv c0_i32 c1_i32_9 k0_t1
  let c4_i32_154 : BitVec 32 := 4#32
  let v327 : BitVec 32 := Scalar.muli arg9 c4_i32_154
  let c0_i32_155 : BitVec 32 := 0#32
  let v328 : BitVec 32 := Scalar.addi v327 c0_i32_155
  let c256_i32_156 : BitVec 32 := 256#32
  let v329 : BitVec 32 := Scalar.muli v328 c256_i32_156
  v329
def k0_off1 (i : grid0.Coords) (k0_t1 : Fin (k0_t1_loop i).trips) (c0_i32_155 : BitVec 32) : Fin 4 → Nat :=
  let c0_157 : Index := 0#32
  let c0_158 : Index := 0#32
  let c0_i32 : BitVec 32 := 0#32
  let c1_i32_9 : BitVec 32 := 1#32
  let arg9 : BitVec 32 := Scf.iv c0_i32 c1_i32_9 k0_t1
  let c4_i32_154 : BitVec 32 := 4#32
  let v327 : BitVec 32 := Scalar.muli arg9 c4_i32_154
  let v328 : BitVec 32 := Scalar.addi v327 c0_i32_155
  let c256_i32_156 : BitVec 32 := 256#32
  let v329 : BitVec 32 := Scalar.muli v328 c256_i32_156
  let v330 : BitVec 32 := v329
  let v331 : Index := Scalar.indexCast v330
  let c0_159 : Index := 0#32
  ![0, 0, v331.toNat, 0]
def k0_mult2 (i : grid0.Coords) (k0_t1 : Fin (k0_t1_loop i).trips) : BitVec 32 :=
  let c0_i32 : BitVec 32 := 0#32
  let c1_i32_9 : BitVec 32 := 1#32
  let arg9 : BitVec 32 := Scf.iv c0_i32 c1_i32_9 k0_t1
  let c4_i32_161 : BitVec 32 := 4#32
  let v335 : BitVec 32 := Scalar.muli arg9 c4_i32_161
  let c1_i32_162 : BitVec 32 := 1#32
  let v336 : BitVec 32 := Scalar.addi v335 c1_i32_162
  let c256_i32_163 : BitVec 32 := 256#32
  let v337 : BitVec 32 := Scalar.muli v336 c256_i32_163
  v337
def k0_mult3 (i : grid0.Coords) (k0_t1 : Fin (k0_t1_loop i).trips) : BitVec 32 :=
  let c0_i32 : BitVec 32 := 0#32
  let c1_i32_9 : BitVec 32 := 1#32
  let arg9 : BitVec 32 := Scf.iv c0_i32 c1_i32_9 k0_t1
  let c4_i32_168 : BitVec 32 := 4#32
  let v343 : BitVec 32 := Scalar.muli arg9 c4_i32_168
  let c2_i32_169 : BitVec 32 := 2#32
  let v344 : BitVec 32 := Scalar.addi v343 c2_i32_169
  let c256_i32_170 : BitVec 32 := 256#32
  let v345 : BitVec 32 := Scalar.muli v344 c256_i32_170
  v345
def k0_mult4 (i : grid0.Coords) (k0_t1 : Fin (k0_t1_loop i).trips) : BitVec 32 :=
  let c0_i32 : BitVec 32 := 0#32
  let c1_i32_9 : BitVec 32 := 1#32
  let arg9 : BitVec 32 := Scf.iv c0_i32 c1_i32_9 k0_t1
  let c4_i32_175 : BitVec 32 := 4#32
  let v351 : BitVec 32 := Scalar.muli arg9 c4_i32_175
  let c3_i32_176 : BitVec 32 := 3#32
  let v352 : BitVec 32 := Scalar.addi v351 c3_i32_176
  let c256_i32_177 : BitVec 32 := 256#32
  let v353 : BitVec 32 := Scalar.muli v352 c256_i32_177
  v353
def k0_off2 (i : grid0.Coords) (k0_t1 : Fin (k0_t1_loop i).trips) (c0_i32_187 : BitVec 32) : Fin 4 → Nat :=
  let c0_189 : Index := 0#32
  let c0_i32 : BitVec 32 := 0#32
  let c1_i32_9 : BitVec 32 := 1#32
  let arg9 : BitVec 32 := Scf.iv c0_i32 c1_i32_9 k0_t1
  let c4_i32_186 : BitVec 32 := 4#32
  let v376 : BitVec 32 := Scalar.muli arg9 c4_i32_186
  let v377 : BitVec 32 := Scalar.addi v376 c0_i32_187
  let v384 : Index := Scalar.indexCast v377
  let c0_190 : Index := 0#32
  let c0_191 : Index := 0#32
  ![0, v384.toNat, 0, 0]
def k0_mult5 (i : grid0.Coords) (k0_t1 : Fin (k0_t1_loop i).trips) : BitVec 32 :=
  let c0_i32 : BitVec 32 := 0#32
  let c1_i32_9 : BitVec 32 := 1#32
  let arg9 : BitVec 32 := Scf.iv c0_i32 c1_i32_9 k0_t1
  let c4_i32_214 : BitVec 32 := 4#32
  let v432 : BitVec 32 := Scalar.muli arg9 c4_i32_214
  let c0_i32_215 : BitVec 32 := 0#32
  let v433 : BitVec 32 := Scalar.addi v432 c0_i32_215
  let c256_i32_216 : BitVec 32 := 256#32
  let v434 : BitVec 32 := Scalar.muli v433 c256_i32_216
  v434
def k0_off3 (i : grid0.Coords) (k0_t1 : Fin (k0_t1_loop i).trips) (c0_i32_215 : BitVec 32) : Fin 4 → Nat :=
  let c0_217 : Index := 0#32
  let c1_218 : Index := 1#32
  let c0_i32 : BitVec 32 := 0#32
  let c1_i32_9 : BitVec 32 := 1#32
  let arg9 : BitVec 32 := Scf.iv c0_i32 c1_i32_9 k0_t1
  let c4_i32_214 : BitVec 32 := 4#32
  let v432 : BitVec 32 := Scalar.muli arg9 c4_i32_214
  let v433 : BitVec 32 := Scalar.addi v432 c0_i32_215
  let c256_i32_216 : BitVec 32 := 256#32
  let v434 : BitVec 32 := Scalar.muli v433 c256_i32_216
  let v435 : BitVec 32 := v434
  let v436 : Index := Scalar.indexCast v435
  let c0_219 : Index := 0#32
  ![0, 1, v436.toNat, 0]
def k0_mult6 (i : grid0.Coords) (k0_t1 : Fin (k0_t1_loop i).trips) : BitVec 32 :=
  let c0_i32 : BitVec 32 := 0#32
  let c1_i32_9 : BitVec 32 := 1#32
  let arg9 : BitVec 32 := Scf.iv c0_i32 c1_i32_9 k0_t1
  let c4_i32_221 : BitVec 32 := 4#32
  let v440 : BitVec 32 := Scalar.muli arg9 c4_i32_221
  let c1_i32_222 : BitVec 32 := 1#32
  let v441 : BitVec 32 := Scalar.addi v440 c1_i32_222
  let c256_i32_223 : BitVec 32 := 256#32
  let v442 : BitVec 32 := Scalar.muli v441 c256_i32_223
  v442
def k0_mult7 (i : grid0.Coords) (k0_t1 : Fin (k0_t1_loop i).trips) : BitVec 32 :=
  let c0_i32 : BitVec 32 := 0#32
  let c1_i32_9 : BitVec 32 := 1#32
  let arg9 : BitVec 32 := Scf.iv c0_i32 c1_i32_9 k0_t1
  let c4_i32_228 : BitVec 32 := 4#32
  let v448 : BitVec 32 := Scalar.muli arg9 c4_i32_228
  let c2_i32_229 : BitVec 32 := 2#32
  let v449 : BitVec 32 := Scalar.addi v448 c2_i32_229
  let c256_i32_230 : BitVec 32 := 256#32
  let v450 : BitVec 32 := Scalar.muli v449 c256_i32_230
  v450
def k0_mult8 (i : grid0.Coords) (k0_t1 : Fin (k0_t1_loop i).trips) : BitVec 32 :=
  let c0_i32 : BitVec 32 := 0#32
  let c1_i32_9 : BitVec 32 := 1#32
  let arg9 : BitVec 32 := Scf.iv c0_i32 c1_i32_9 k0_t1
  let c4_i32_235 : BitVec 32 := 4#32
  let v456 : BitVec 32 := Scalar.muli arg9 c4_i32_235
  let c3_i32_236 : BitVec 32 := 3#32
  let v457 : BitVec 32 := Scalar.addi v456 c3_i32_236
  let c256_i32_237 : BitVec 32 := 256#32
  let v458 : BitVec 32 := Scalar.muli v457 c256_i32_237
  v458
@[reducible] def k0_t2_loop (i : grid0.Coords) : Scf.Loop 32 :=
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let v11 : BitVec 32 := Scalar.addi c0_i32 v10
  let c1_i32_10 : BitVec 32 := 1#32
  ⟨v14, v11, c1_i32_10⟩
def k0_mult9 (i : grid0.Coords) (k0_t2 : Fin (k0_t2_loop i).trips) : BitVec 32 :=
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg9 : BitVec 32 := Scf.iv v14 c1_i32_10 k0_t2
  let c4_i32_154 : BitVec 32 := 4#32
  let v327 : BitVec 32 := Scalar.muli arg9 c4_i32_154
  let c0_i32_155 : BitVec 32 := 0#32
  let v328 : BitVec 32 := Scalar.addi v327 c0_i32_155
  let c256_i32_156 : BitVec 32 := 256#32
  let v329 : BitVec 32 := Scalar.muli v328 c256_i32_156
  v329
def k0_off4 (i : grid0.Coords) (k0_t2 : Fin (k0_t2_loop i).trips) (c0_i32_155 : BitVec 32) : Fin 4 → Nat :=
  let c0_157 : Index := 0#32
  let c0_158 : Index := 0#32
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg9 : BitVec 32 := Scf.iv v14 c1_i32_10 k0_t2
  let c4_i32_154 : BitVec 32 := 4#32
  let v327 : BitVec 32 := Scalar.muli arg9 c4_i32_154
  let v328 : BitVec 32 := Scalar.addi v327 c0_i32_155
  let c256_i32_156 : BitVec 32 := 256#32
  let v329 : BitVec 32 := Scalar.muli v328 c256_i32_156
  let v330 : BitVec 32 := v329
  let v331 : Index := Scalar.indexCast v330
  let c0_159 : Index := 0#32
  ![0, 0, v331.toNat, 0]
def k0_mult10 (i : grid0.Coords) (k0_t2 : Fin (k0_t2_loop i).trips) : BitVec 32 :=
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg9 : BitVec 32 := Scf.iv v14 c1_i32_10 k0_t2
  let c4_i32_161 : BitVec 32 := 4#32
  let v335 : BitVec 32 := Scalar.muli arg9 c4_i32_161
  let c1_i32_162 : BitVec 32 := 1#32
  let v336 : BitVec 32 := Scalar.addi v335 c1_i32_162
  let c256_i32_163 : BitVec 32 := 256#32
  let v337 : BitVec 32 := Scalar.muli v336 c256_i32_163
  v337
def k0_mult11 (i : grid0.Coords) (k0_t2 : Fin (k0_t2_loop i).trips) : BitVec 32 :=
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg9 : BitVec 32 := Scf.iv v14 c1_i32_10 k0_t2
  let c4_i32_168 : BitVec 32 := 4#32
  let v343 : BitVec 32 := Scalar.muli arg9 c4_i32_168
  let c2_i32_169 : BitVec 32 := 2#32
  let v344 : BitVec 32 := Scalar.addi v343 c2_i32_169
  let c256_i32_170 : BitVec 32 := 256#32
  let v345 : BitVec 32 := Scalar.muli v344 c256_i32_170
  v345
def k0_mult12 (i : grid0.Coords) (k0_t2 : Fin (k0_t2_loop i).trips) : BitVec 32 :=
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg9 : BitVec 32 := Scf.iv v14 c1_i32_10 k0_t2
  let c4_i32_175 : BitVec 32 := 4#32
  let v351 : BitVec 32 := Scalar.muli arg9 c4_i32_175
  let c3_i32_176 : BitVec 32 := 3#32
  let v352 : BitVec 32 := Scalar.addi v351 c3_i32_176
  let c256_i32_177 : BitVec 32 := 256#32
  let v353 : BitVec 32 := Scalar.muli v352 c256_i32_177
  v353
def k0_off5 (i : grid0.Coords) (k0_t2 : Fin (k0_t2_loop i).trips) (c0_i32_187 : BitVec 32) : Fin 4 → Nat :=
  let c0_189 : Index := 0#32
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg9 : BitVec 32 := Scf.iv v14 c1_i32_10 k0_t2
  let c4_i32_186 : BitVec 32 := 4#32
  let v376 : BitVec 32 := Scalar.muli arg9 c4_i32_186
  let v377 : BitVec 32 := Scalar.addi v376 c0_i32_187
  let v384 : Index := Scalar.indexCast v377
  let c0_190 : Index := 0#32
  let c0_191 : Index := 0#32
  ![0, v384.toNat, 0, 0]
def k0_mult13 (i : grid0.Coords) (k0_t2 : Fin (k0_t2_loop i).trips) : BitVec 32 :=
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg9 : BitVec 32 := Scf.iv v14 c1_i32_10 k0_t2
  let c4_i32_214 : BitVec 32 := 4#32
  let v432 : BitVec 32 := Scalar.muli arg9 c4_i32_214
  let c0_i32_215 : BitVec 32 := 0#32
  let v433 : BitVec 32 := Scalar.addi v432 c0_i32_215
  let c256_i32_216 : BitVec 32 := 256#32
  let v434 : BitVec 32 := Scalar.muli v433 c256_i32_216
  v434
def k0_off6 (i : grid0.Coords) (k0_t2 : Fin (k0_t2_loop i).trips) (c0_i32_215 : BitVec 32) : Fin 4 → Nat :=
  let c0_217 : Index := 0#32
  let c1_218 : Index := 1#32
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg9 : BitVec 32 := Scf.iv v14 c1_i32_10 k0_t2
  let c4_i32_214 : BitVec 32 := 4#32
  let v432 : BitVec 32 := Scalar.muli arg9 c4_i32_214
  let v433 : BitVec 32 := Scalar.addi v432 c0_i32_215
  let c256_i32_216 : BitVec 32 := 256#32
  let v434 : BitVec 32 := Scalar.muli v433 c256_i32_216
  let v435 : BitVec 32 := v434
  let v436 : Index := Scalar.indexCast v435
  let c0_219 : Index := 0#32
  ![0, 1, v436.toNat, 0]
def k0_mult14 (i : grid0.Coords) (k0_t2 : Fin (k0_t2_loop i).trips) : BitVec 32 :=
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg9 : BitVec 32 := Scf.iv v14 c1_i32_10 k0_t2
  let c4_i32_221 : BitVec 32 := 4#32
  let v440 : BitVec 32 := Scalar.muli arg9 c4_i32_221
  let c1_i32_222 : BitVec 32 := 1#32
  let v441 : BitVec 32 := Scalar.addi v440 c1_i32_222
  let c256_i32_223 : BitVec 32 := 256#32
  let v442 : BitVec 32 := Scalar.muli v441 c256_i32_223
  v442
def k0_mult15 (i : grid0.Coords) (k0_t2 : Fin (k0_t2_loop i).trips) : BitVec 32 :=
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg9 : BitVec 32 := Scf.iv v14 c1_i32_10 k0_t2
  let c4_i32_228 : BitVec 32 := 4#32
  let v448 : BitVec 32 := Scalar.muli arg9 c4_i32_228
  let c2_i32_229 : BitVec 32 := 2#32
  let v449 : BitVec 32 := Scalar.addi v448 c2_i32_229
  let c256_i32_230 : BitVec 32 := 256#32
  let v450 : BitVec 32 := Scalar.muli v449 c256_i32_230
  v450
def k0_mult16 (i : grid0.Coords) (k0_t2 : Fin (k0_t2_loop i).trips) : BitVec 32 :=
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg9 : BitVec 32 := Scf.iv v14 c1_i32_10 k0_t2
  let c4_i32_235 : BitVec 32 := 4#32
  let v456 : BitVec 32 := Scalar.muli arg9 c4_i32_235
  let c3_i32_236 : BitVec 32 := 3#32
  let v457 : BitVec 32 := Scalar.addi v456 c3_i32_236
  let c256_i32_237 : BitVec 32 := 256#32
  let v458 : BitVec 32 := Scalar.muli v457 c256_i32_237
  v458
def k0_mult17 (i : grid0.Coords) : BitVec 32 :=
  let arg2 : BitVec 32 := BitVec.ofNat 32 (i 2).val
  let c4_i32 : BitVec 32 := 4#32
  let v17 : BitVec 32 := Scalar.muli arg2 c4_i32
  let c0_i32_11 : BitVec 32 := 0#32
  let v18 : BitVec 32 := Scalar.addi v17 c0_i32_11
  let c256_i32 : BitVec 32 := 256#32
  let v19 : BitVec 32 := Scalar.muli v18 c256_i32
  v19
def k0_off7 (i : grid0.Coords) (c0_i32_11 : BitVec 32) : Fin 4 → Nat :=
  let c0_12 : Index := 0#32
  let c0_13 : Index := 0#32
  let arg2 : BitVec 32 := BitVec.ofNat 32 (i 2).val
  let c4_i32 : BitVec 32 := 4#32
  let v17 : BitVec 32 := Scalar.muli arg2 c4_i32
  let v18 : BitVec 32 := Scalar.addi v17 c0_i32_11
  let c256_i32 : BitVec 32 := 256#32
  let v19 : BitVec 32 := Scalar.muli v18 c256_i32
  let v20 : BitVec 32 := v19
  let v21 : Index := Scalar.indexCast v20
  let c0_14 : Index := 0#32
  ![0, 0, v21.toNat, 0]
def k0_mult18 (i : grid0.Coords) : BitVec 32 :=
  let arg2 : BitVec 32 := BitVec.ofNat 32 (i 2).val
  let c4_i32_18 : BitVec 32 := 4#32
  let v32 : BitVec 32 := Scalar.muli arg2 c4_i32_18
  let c1_i32_19 : BitVec 32 := 1#32
  let v33 : BitVec 32 := Scalar.addi v32 c1_i32_19
  let c256_i32_20 : BitVec 32 := 256#32
  let v34 : BitVec 32 := Scalar.muli v33 c256_i32_20
  v34
def k0_mult19 (i : grid0.Coords) : BitVec 32 :=
  let arg2 : BitVec 32 := BitVec.ofNat 32 (i 2).val
  let c4_i32_27 : BitVec 32 := 4#32
  let v47 : BitVec 32 := Scalar.muli arg2 c4_i32_27
  let c2_i32 : BitVec 32 := 2#32
  let v48 : BitVec 32 := Scalar.addi v47 c2_i32
  let c256_i32_28 : BitVec 32 := 256#32
  let v49 : BitVec 32 := Scalar.muli v48 c256_i32_28
  v49
def k0_mult20 (i : grid0.Coords) : BitVec 32 :=
  let arg2 : BitVec 32 := BitVec.ofNat 32 (i 2).val
  let c4_i32_34 : BitVec 32 := 4#32
  let v62 : BitVec 32 := Scalar.muli arg2 c4_i32_34
  let c3_i32 : BitVec 32 := 3#32
  let v63 : BitVec 32 := Scalar.addi v62 c3_i32
  let c256_i32_35 : BitVec 32 := 256#32
  let v64 : BitVec 32 := Scalar.muli v63 c256_i32_35
  v64
def k0_off8 (i : grid0.Coords) (c0_i32_46 : BitVec 32) : Fin 4 → Nat :=
  let c0_48 : Index := 0#32
  let arg2 : BitVec 32 := BitVec.ofNat 32 (i 2).val
  let c4_i32_45 : BitVec 32 := 4#32
  let v94 : BitVec 32 := Scalar.muli arg2 c4_i32_45
  let v95 : BitVec 32 := Scalar.addi v94 c0_i32_46
  let v102 : Index := Scalar.indexCast v95
  let c0_49 : Index := 0#32
  let c0_50 : Index := 0#32
  ![0, v102.toNat, 0, 0]
def k0_mult21 (i : grid0.Coords) : BitVec 32 :=
  let arg2 : BitVec 32 := BitVec.ofNat 32 (i 2).val
  let c4_i32_73 : BitVec 32 := 4#32
  let v150 : BitVec 32 := Scalar.muli arg2 c4_i32_73
  let c0_i32_74 : BitVec 32 := 0#32
  let v151 : BitVec 32 := Scalar.addi v150 c0_i32_74
  let c256_i32_75 : BitVec 32 := 256#32
  let v152 : BitVec 32 := Scalar.muli v151 c256_i32_75
  v152
def k0_off9 (i : grid0.Coords) (c0_i32_74 : BitVec 32) : Fin 4 → Nat :=
  let c0_76 : Index := 0#32
  let c1 : Index := 1#32
  let arg2 : BitVec 32 := BitVec.ofNat 32 (i 2).val
  let c4_i32_73 : BitVec 32 := 4#32
  let v150 : BitVec 32 := Scalar.muli arg2 c4_i32_73
  let v151 : BitVec 32 := Scalar.addi v150 c0_i32_74
  let c256_i32_75 : BitVec 32 := 256#32
  let v152 : BitVec 32 := Scalar.muli v151 c256_i32_75
  let v153 : BitVec 32 := v152
  let v154 : Index := Scalar.indexCast v153
  let c0_77 : Index := 0#32
  ![0, 1, v154.toNat, 0]
def k0_mult22 (i : grid0.Coords) : BitVec 32 :=
  let arg2 : BitVec 32 := BitVec.ofNat 32 (i 2).val
  let c4_i32_81 : BitVec 32 := 4#32
  let v165 : BitVec 32 := Scalar.muli arg2 c4_i32_81
  let c1_i32_82 : BitVec 32 := 1#32
  let v166 : BitVec 32 := Scalar.addi v165 c1_i32_82
  let c256_i32_83 : BitVec 32 := 256#32
  let v167 : BitVec 32 := Scalar.muli v166 c256_i32_83
  v167
def k0_mult23 (i : grid0.Coords) : BitVec 32 :=
  let arg2 : BitVec 32 := BitVec.ofNat 32 (i 2).val
  let c4_i32_90 : BitVec 32 := 4#32
  let v180 : BitVec 32 := Scalar.muli arg2 c4_i32_90
  let c2_i32_91 : BitVec 32 := 2#32
  let v181 : BitVec 32 := Scalar.addi v180 c2_i32_91
  let c256_i32_92 : BitVec 32 := 256#32
  let v182 : BitVec 32 := Scalar.muli v181 c256_i32_92
  v182
def k0_mult24 (i : grid0.Coords) : BitVec 32 :=
  let arg2 : BitVec 32 := BitVec.ofNat 32 (i 2).val
  let c4_i32_99 : BitVec 32 := 4#32
  let v195 : BitVec 32 := Scalar.muli arg2 c4_i32_99
  let c3_i32_100 : BitVec 32 := 3#32
  let v196 : BitVec 32 := Scalar.addi v195 c3_i32_100
  let c256_i32_101 : BitVec 32 := 256#32
  let v197 : BitVec 32 := Scalar.muli v196 c256_i32_101
  v197
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x8192x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x32x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x8192x512 : Shape := ⟨3, ![8, 8192, 512]⟩
abbrev S4x64 : Shape := ⟨2, ![4, 64]⟩
abbrev S128 : Shape := ⟨1, ![128]⟩
abbrev S8x8192x4x2x64 : Shape := ⟨5, ![8, 8192, 4, 2, 64]⟩
abbrev S8x8192x4x128 : Shape := ⟨4, ![8, 8192, 4, 128]⟩
abbrev S1x64 : Shape := ⟨2, ![1, 64]⟩
abbrev S64 : Shape := ⟨1, ![64]⟩
abbrev S_ : Shape := ⟨0, ![]⟩
abbrev S8x4x2x8192x8192 : Shape := ⟨5, ![8, 4, 2, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x4x2x8192 : Shape := ⟨4, ![8, 4, 2, 8192]⟩
abbrev S8x4x2x8192x1 : Shape := ⟨5, ![8, 4, 2, 8192, 1]⟩
abbrev S8x4x1x8192x8192 : Shape := ⟨5, ![8, 4, 1, 8192, 8192]⟩
abbrev S8x4x8192x8192 : Shape := ⟨4, ![8, 4, 8192, 8192]⟩
abbrev S8x4x128x8192 : Shape := ⟨4, ![8, 4, 128, 8192]⟩
abbrev S8x8192x4 : Shape := ⟨3, ![8, 8192, 4]⟩
abbrev S8x8192x4x1 : Shape := ⟨4, ![8, 8192, 4, 1]⟩
abbrev S1x1x1x128 : Shape := ⟨4, ![1, 1, 1, 128]⟩

abbrev nBuf : Space → Nat
  | .hbm => 87
  | .vmem => 0
  | .smem => 0
  | _ => 0

abbrev bufTy : (tb : Table) → Fin (tcTables nBuf tb) → BufTy
  | .hbm, ⟨0, _⟩ => ⟨S8x8192x512, .f32⟩
  | .hbm, ⟨1, _⟩ => ⟨S8x8192x512, .f32⟩
  | .hbm, ⟨2, _⟩ => ⟨S8x8192x512, .f32⟩
  | .hbm, ⟨3, _⟩ => ⟨S4x64, .f32⟩
  | .hbm, ⟨4, _⟩ => ⟨S128, .f32⟩
  | .hbm, ⟨5, _⟩ => ⟨S8x8192x4x2x64, .f32⟩
  | .hbm, ⟨6, _⟩ => ⟨S8x8192x4x2x64, .f32⟩
  | .hbm, ⟨7, _⟩ => ⟨S8x8192x4x128, .f32⟩
  | .hbm, ⟨8, _⟩ => ⟨S1x64, .f32⟩
  | .hbm, ⟨9, _⟩ => ⟨S64, .f32⟩
  | .hbm, ⟨10, _⟩ => ⟨S1x64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8x4x2x8192x8192, .f32⟩
  | .hbm, ⟨28, _⟩ => ⟨S_, .f32⟩
  | .hbm, ⟨29, _⟩ => ⟨S8x4x2x8192x8192, .f32⟩
  | .hbm, ⟨30, _⟩ => ⟨S8x4x2x8192x8192, .f32⟩
  | .hbm, ⟨31, _⟩ => ⟨S8192, .i32⟩
  | .hbm, ⟨32, _⟩ => ⟨S1x8192, .i32⟩
  | .hbm, ⟨33, _⟩ => ⟨S8192, .i32⟩
  | .hbm, ⟨34, _⟩ => ⟨S8192x1, .i32⟩
  | .hbm, ⟨35, _⟩ => ⟨S8192x8192, .i32⟩
  | .hbm, ⟨36, _⟩ => ⟨S8192x8192, .i32⟩
  | .hbm, ⟨37, _⟩ => ⟨S8192x8192, .i1⟩
  | .hbm, ⟨38, _⟩ => ⟨S_, .f32⟩
  | .hbm, ⟨39, _⟩ => ⟨S_, .f32⟩
  | .hbm, ⟨40, _⟩ => ⟨S8x4x2x8192x8192, .i1⟩
  | .hbm, ⟨41, _⟩ => ⟨S8x4x2x8192x8192, .f32⟩
  | .hbm, ⟨42, _⟩ => ⟨S8x4x2x8192x8192, .f32⟩
  | .hbm, ⟨43, _⟩ => ⟨S_, .f32⟩
  | .hbm, ⟨44, _⟩ => ⟨S8x4x2x8192, .f32⟩
  | .hbm, ⟨45, _⟩ => ⟨S_, .f32⟩
  | .hbm, ⟨46, _⟩ => ⟨S8x4x2x8192, .f32⟩
  | .hbm, ⟨47, _⟩ => ⟨S8x4x2x8192, .f32⟩
  | .hbm, ⟨48, _⟩ => ⟨S8x4x2x8192x1, .f32⟩
  | .hbm, ⟨49, _⟩ => ⟨S8x4x2x8192x8192, .f32⟩
  | .hbm, ⟨50, _⟩ => ⟨S8x4x2x8192x8192, .f32⟩
  | .hbm, ⟨51, _⟩ => ⟨S8x4x2x8192x8192, .f32⟩
  | .hbm, ⟨52, _⟩ => ⟨S_, .f32⟩
  | .hbm, ⟨53, _⟩ => ⟨S8x4x2x8192, .f32⟩
  | .hbm, ⟨54, _⟩ => ⟨S8x4x2x8192x1, .f32⟩
  | .hbm, ⟨55, _⟩ => ⟨S8x4x2x8192x8192, .f32⟩
  | .hbm, ⟨56, _⟩ => ⟨S8x4x2x8192x8192, .f32⟩
  | .hbm, ⟨57, _⟩ => ⟨S8x4x1x8192x8192, .f32⟩
  | .hbm, ⟨58, _⟩ => ⟨S8x4x8192x8192, .f32⟩
  | .hbm, ⟨59, _⟩ => ⟨S8x4x1x8192x8192, .f32⟩
  | .hbm, ⟨60, _⟩ => ⟨S8x4x8192x8192, .f32⟩
  | .hbm, ⟨61, _⟩ => ⟨S8x4x8192x8192, .f32⟩
  | .hbm, ⟨62, _⟩ => ⟨S8x4x8192x8192, .f32⟩
  | .hbm, ⟨63, _⟩ => ⟨S8x4x8192x8192, .f32⟩
  | .hbm, ⟨64, _⟩ => ⟨S8x4x128x8192, .f32⟩
  | .hbm, ⟨65, _⟩ => ⟨S8x8192x4x128, .f32⟩
  | .hbm, ⟨66, _⟩ => ⟨S8x8192x4x128, .f32⟩
  | .hbm, ⟨67, _⟩ => ⟨S_, .f32⟩
  | .hbm, ⟨68, _⟩ => ⟨S8x8192x4, .f32⟩
  | .hbm, ⟨69, _⟩ => ⟨S8x8192x4x1, .f32⟩
  | .hbm, ⟨70, _⟩ => ⟨S_, .f32⟩
  | .hbm, ⟨71, _⟩ => ⟨S8x8192x4x1, .f32⟩
  | .hbm, ⟨72, _⟩ => ⟨S8x8192x4x1, .f32⟩
  | .hbm, ⟨73, _⟩ => ⟨S_, .f32⟩
  | .hbm, ⟨74, _⟩ => ⟨S8x8192x4x1, .f32⟩
  | .hbm, ⟨75, _⟩ => ⟨S8x8192x4x1, .f32⟩
  | .hbm, ⟨76, _⟩ => ⟨S8x8192x4x1, .f32⟩
  | .hbm, ⟨77, _⟩ => ⟨S8x8192x4x128, .f32⟩
  | .hbm, ⟨78, _⟩ => ⟨S8x8192x4x128, .f32⟩
  | .hbm, ⟨79, _⟩ => ⟨S1x1x1x128, .f32⟩
  | .hbm, ⟨80, _⟩ => ⟨S8x8192x4x128, .f32⟩
  | .hbm, ⟨81, _⟩ => ⟨S8x8192x4x128, .f32⟩
  | .hbm, ⟨82, _⟩ => ⟨S_, .f32⟩
  | .hbm, ⟨83, _⟩ => ⟨S8x8192x4x128, .f32⟩
  | .hbm, ⟨84, _⟩ => ⟨S8x8192x4x128, .f32⟩
  | .hbm, ⟨85, _⟩ => ⟨S8x8192x512, .f32⟩
  | .hbm, ⟨86, _⟩ => ⟨S8x8192x512, .bf16⟩
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_7 : Ref sig .tc := ⟨.hbm, 67, rfl⟩
abbrev main_v51 : Ref sig .tc := ⟨.hbm, 68, rfl⟩
abbrev main_v52 : Ref sig .tc := ⟨.hbm, 69, rfl⟩
abbrev main_cst_8 : Ref sig .tc := ⟨.hbm, 70, rfl⟩
abbrev main_v53 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_10 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩

abbrev nD : Nat := 1
abbrev τ : Topo := Topo.v7x

variable {F : FTy → Type} [FloatOps F]
-- ==== Kernel2.lean ====
abbrev S8x8192x1024 : Shape := ⟨3, ![8, 8192, 1024]⟩
abbrev S8x1024 : Shape := ⟨2, ![8, 1024]⟩
abbrev S1024 : Shape := ⟨1, ![1024]⟩
abbrev S1024x3072 : Shape := ⟨2, ![1024, 3072]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S128 : Shape := ⟨1, ![128]⟩
abbrev S128x1 : Shape := ⟨2, ![128, 1]⟩
abbrev S8192x128 : Shape := ⟨2, ![8192, 128]⟩
abbrev S8x1x1024 : Shape := ⟨3, ![8, 1, 1024]⟩
abbrev S1x1024 : Shape := ⟨2, ![1, 1024]⟩
abbrev S8x32768x128 : Shape := ⟨3, ![8, 32768, 128]⟩
abbrev S8x8192x512 : Shape := ⟨3, ![8, 8192, 512]⟩
abbrev S8x512x8192 : Shape := ⟨3, ![8, 512, 8192]⟩
abbrev S8x8x8192x64 : Shape := ⟨4, ![8, 8, 8192, 64]⟩
abbrev S8x32x512x256 : Shape := ⟨4, ![8, 32, 512, 256]⟩
abbrev S1x512x1024 : Shape := ⟨3, ![1, 512, 1024]⟩
abbrev S1x1x1024 : Shape := ⟨3, ![1, 1, 1024]⟩
abbrev S512x128 : Shape := ⟨2, ![512, 128]⟩
abbrev S1x2048x128 : Shape := ⟨3, ![1, 2048, 128]⟩
abbrev S1x512x512 : Shape := ⟨3, ![1, 512, 512]⟩
abbrev S1x8x512x64 : Shape := ⟨4, ![1, 8, 512, 64]⟩
abbrev S1x2x512x256 : Shape := ⟨4, ![1, 2, 512, 256]⟩
abbrev S512x1024 : Shape := ⟨2, ![512, 1024]⟩
abbrev S512 : Shape := ⟨1, ![512]⟩
abbrev S512x1 : Shape := ⟨2, ![512, 1]⟩
abbrev S512x3072 : Shape := ⟨2, ![512, 3072]⟩
abbrev S512x512 : Shape := ⟨2, ![512, 512]⟩
abbrev S1x512x128 : Shape := ⟨3, ![1, 512, 128]⟩
abbrev S512x64 : Shape := ⟨2, ![512, 64]⟩
abbrev S1x1x512x64 : Shape := ⟨4, ![1, 1, 512, 64]⟩
abbrev S256x512 : Shape := ⟨2, ![256, 512]⟩
abbrev S512x256 : Shape := ⟨2, ![512, 256]⟩
abbrev S1x1x512x256 : Shape := ⟨4, ![1, 1, 512, 256]⟩

abbrev nBuf : Space → Nat
  | .hbm => 140
  | .vmem => 36
  | .smem => 0
  | _ => 0

abbrev hbmTy0_0 (i : Nat) : BufTy := match i % 128 with
  | 0 => ⟨S8x8192x1024, .f32⟩
  | 1 => ⟨S8x1024, .f32⟩
  | 2 => ⟨S8x1024, .f32⟩
  | 3 => ⟨S1024, .f32⟩
  | 4 => ⟨S1024x3072, .f32⟩
  | 5 => ⟨S8192, .i32⟩
  | 6 => ⟨S8, .f32⟩
  | 7 => ⟨S_, .f32⟩
  | 8 => ⟨S8, .f32⟩
  | 9 => ⟨S8, .f32⟩
  | 10 => ⟨S_, .f32⟩
  | 11 => ⟨S8, .f32⟩
  | 12 => ⟨S8, .f32⟩
  | 13 => ⟨S_, .f32⟩
  | 14 => ⟨S8, .f32⟩
  | 15 => ⟨S8, .f32⟩
  | 16 => ⟨S8192, .f32⟩
  | 17 => ⟨S8192x1, .f32⟩
  | 18 => ⟨S1x8, .f32⟩
  | 19 => ⟨S8192x8, .f32⟩
  | 20 => ⟨S8192x8, .f32⟩
  | 21 => ⟨S8192x8, .f32⟩
  | 22 => ⟨S8192x8, .f32⟩
  | 23 => ⟨S8192x8, .f32⟩
  | 24 => ⟨S128, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S128, .i32⟩
  | 32 => ⟨S128, .i32⟩
  | 33 => ⟨S_, .i32⟩
  | 34 => ⟨S128, .i32⟩
  | 35 => ⟨S128, .i1⟩
  | 36 => ⟨S_, .i32⟩
  | 37 => ⟨S128, .i32⟩
  | 38 => ⟨S128, .i1⟩
  | 39 => ⟨S_, .i32⟩
  | 40 => ⟨S_, .i1⟩
  | 41 => ⟨S128, .i1⟩
  | 42 => ⟨S128, .i1⟩
  | 43 => ⟨S128, .i1⟩
  | 44 => ⟨S128, .i32⟩
  | 45 => ⟨S128, .i32⟩
  | 46 => ⟨S128, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S128, .i32⟩
  | 54 => ⟨S128, .i32⟩
  | 55 => ⟨S_, .i32⟩
  | 56 => ⟨S128, .i32⟩
  | 57 => ⟨S128, .i1⟩
  | 58 => ⟨S_, .i32⟩
  | 59 => ⟨S128, .i32⟩
  | 60 => ⟨S128, .i1⟩
  | 61 => ⟨S_, .i32⟩
  | 62 => ⟨S_, .i1⟩
  | 63 => ⟨S128, .i1⟩
  | 64 => ⟨S128, .i1⟩
  | 65 => ⟨S128, .i1⟩
  | 66 => ⟨S128, .i32⟩
  | 67 => ⟨S128, .i32⟩
  | 68 => ⟨S128, .i32⟩
  | 69 => ⟨S_, .i32⟩
  | 70 => ⟨S128, .i32⟩
  | 71 => ⟨S128, .i1⟩
  | 72 => ⟨S_, .i32⟩
  | 73 => ⟨S128, .i32⟩
  | 74 => ⟨S128, .i1⟩
  | 75 => ⟨S_, .i32⟩
  | 76 => ⟨S128, .i32⟩
  | 77 => ⟨S128, .i32⟩
  | 78 => ⟨S128, .i32⟩
  | 79 => ⟨S128x1, .i32⟩
  | 80 => ⟨S8192x128, .f32⟩
  | 81 => ⟨S_, .f32⟩
  | 82 => ⟨S_, .f32⟩
  | 83 => ⟨S8192x128, .i1⟩
  | 84 => ⟨S8192x128, .f32⟩
  | 85 => ⟨S8192x128, .f32⟩
  | 86 => ⟨S_, .i32⟩
  | 87 => ⟨S128, .i32⟩
  | 88 => ⟨S128, .i1⟩
  | 89 => ⟨S_, .i32⟩
  | 90 => ⟨S128, .i32⟩
  | 91 => ⟨S128, .i1⟩
  | 92 => ⟨S_, .i32⟩
  | 93 => ⟨S128, .i32⟩
  | 94 => ⟨S128, .i32⟩
  | 95 => ⟨S128, .i32⟩
  | 96 => ⟨S128x1, .i32⟩
  | 97 => ⟨S8192x128, .f32⟩
  | 98 => ⟨S8192x128, .f32⟩
  | 99 => ⟨S_, .f32⟩
  | 100 => ⟨S_, .f32⟩
  | 101 => ⟨S8192x128, .i1⟩
  | 102 => ⟨S8192x128, .f32⟩
  | 103 => ⟨S8192x128, .f32⟩
  | 104 => ⟨S_, .i32⟩
  | 105 => ⟨S128, .i32⟩
  | 106 => ⟨S128, .i1⟩
  | 107 => ⟨S_, .i32⟩
  | 108 => ⟨S128, .i32⟩
  | 109 => ⟨S128, .i1⟩
  | 110 => ⟨S128, .i1⟩
  | 111 => ⟨S_, .i32⟩
  | 112 => ⟨S128, .i32⟩
  | 113 => ⟨S128, .i1⟩
  | 114 => ⟨S_, .i32⟩
  | 115 => ⟨S128, .i32⟩
  | 116 => ⟨S128, .i32⟩
  | 117 => ⟨S128, .i32⟩
  | 118 => ⟨S128x1, .i32⟩
  | 119 => ⟨S8192x128, .f32⟩
  | 120 => ⟨S_, .f32⟩
  | 121 => ⟨S_, .f32⟩
  | 122 => ⟨S8192x128, .i1⟩
  | 123 => ⟨S8192x128, .f32⟩
  | 124 => ⟨S8192x128, .f32⟩
  | 125 => ⟨S8x1x1024, .f32⟩
  | 126 => ⟨S8x1x1024, .f32⟩
  | 127 => ⟨S1024x3072, .bf16⟩
  | _ => ⟨S8x8192x1024, .f32⟩

abbrev hbmTy0_1 (i : Nat) : BufTy := match i % 128 with
  | 0 => ⟨S1x1024, .f32⟩
  | 1 => ⟨S8x32768x128, .f32⟩
  | 2 => ⟨S8x32768x128, .f32⟩
  | 3 => ⟨S8x8192x512, .f32⟩
  | 4 => ⟨S8x8192x512, .f32⟩
  | 5 => ⟨S8x8192x512, .f32⟩
  | 6 => ⟨S8x512x8192, .bf16⟩
  | 7 => ⟨S8x512x8192, .bf16⟩
  | 8 => ⟨S8x8x8192x64, .bf16⟩
  | 9 => ⟨S8x8x8192x64, .bf16⟩
  | 10 => ⟨S8x32x512x256, .bf16⟩
  | 11 => ⟨S8x32x512x256, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x3072, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1x2048x128, .f32⟩
  | .local _ .vmem, ⟨15, _⟩ => ⟨S1x2048x128, .f32⟩
  | .local _ .vmem, ⟨16, _⟩ => ⟨S1x2048x128, .f32⟩
  | .local _ .vmem, ⟨17, _⟩ => ⟨S1x2048x128, .f32⟩
  | .local _ .vmem, ⟨18, _⟩ => ⟨S1x512x512, .f32⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | .local _ .vmem, ⟨23, _⟩ => ⟨S1x512x512, .f32⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x512, .bf16⟩
  | .local _ .vmem, ⟨28, _⟩ => ⟨S1x8x512x64, .bf16⟩
  | .local _ .vmem, ⟨29, _⟩ => ⟨S1x8x512x64, .bf16⟩
  | .local _ .vmem, ⟨30, _⟩ => ⟨S1x8x512x64, .bf16⟩
  | .local _ .vmem, ⟨31, _⟩ => ⟨S1x8x512x64, .bf16⟩
  | .local _ .vmem, ⟨32, _⟩ => ⟨S1x2x512x256, .bf16⟩
  | .local _ .vmem, ⟨33, _⟩ => ⟨S1x2x512x256, .bf16⟩
  | .local _ .vmem, ⟨34, _⟩ => ⟨S1x2x512x256, .bf16⟩
  | .local _ .vmem, ⟨35, _⟩ => ⟨S1x2x512x256, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_call0_v0 : Ref sig .tc := ⟨.hbm, 26, rfl⟩
abbrev main_call0_c : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_c_1 : Ref sig .tc := ⟨.hbm, 33, rfl⟩
abbrev main_call0_v5 : Ref sig .tc := ⟨.hbm, 34, rfl⟩
abbrev main_call0_v6 : Ref sig .tc := ⟨.hbm, 35, rfl⟩
abbrev main_call0_c_2 : Ref sig .tc := ⟨.hbm, 36, rfl⟩
abbrev main_call0_v7 : Ref sig .tc := ⟨.hbm, 37, rfl⟩
abbrev main_call0_v8 : Ref sig .tc := ⟨.hbm, 38, rfl⟩
abbrev main_call0_c_3 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_v17 : Ref sig .tc := ⟨.hbm, 46, rfl⟩
abbrev main_c_2 : Ref sig .tc := ⟨.hbm, 47, rfl⟩
abbrev main_call1_v0 : Ref sig .tc := ⟨.hbm, 48, rfl⟩
abbrev main_call1_c : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_c_1 : Ref sig .tc := ⟨.hbm, 55, rfl⟩
abbrev main_call1_v5 : Ref sig .tc := ⟨.hbm, 56, rfl⟩
abbrev main_call1_v6 : Ref sig .tc := ⟨.hbm, 57, rfl⟩
abbrev main_call1_c_2 : Ref sig .tc := ⟨.hbm, 58, rfl⟩
abbrev main_call1_v7 : Ref sig .tc := ⟨.hbm, 59, rfl⟩
abbrev main_call1_v8 : Ref sig .tc := ⟨.hbm, 60, rfl⟩
abbrev main_call1_c_3 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_v18 : Ref sig .tc := ⟨.hbm, 68, rfl⟩
abbrev main_c_3 : Ref sig .tc := ⟨.hbm, 69, rfl⟩
abbrev main_v19 : Ref sig .tc := ⟨.hbm, 70, rfl⟩
abbrev main_v20 : Ref sig .tc := ⟨.hbm, 71, rfl⟩
abbrev main_c_4 : Ref sig .tc := ⟨.hbm, 72, rfl⟩
abbrev main_v21 : Ref sig .tc := ⟨.hbm, 73, rfl⟩
abbrev main_v22 : Ref sig .tc := ⟨.hbm, 74, rfl⟩
abbrev main_c_5 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_cst_6 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_v28 : Ref sig .tc := ⟨.hbm, 85, rfl⟩
abbrev main_c_7 : Ref sig .tc := ⟨.hbm, 86, rfl⟩
abbrev main_v29 : Ref sig .tc := ⟨.hbm, 87, rfl⟩
abbrev main_v30 : Ref sig .tc := ⟨.hbm, 88, rfl⟩
abbrev main_c_8 : Ref sig .tc := ⟨.hbm, 89, rfl⟩
abbrev main_v31 : Ref sig .tc := ⟨.hbm, 90, rfl⟩
abbrev main_v32 : Ref sig .tc := ⟨.hbm, 91, rfl⟩
abbrev main_c_9 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_cst_10 : Ref sig .tc := ⟨.hbm, 99, rfl⟩
abbrev main_call3_v0 : Ref sig .tc := ⟨.hbm, 100, rfl⟩
abbrev main_call3_v1 : Ref sig .tc := ⟨.hbm, 101, rfl⟩
abbrev main_call3_v2 : Ref sig .tc := ⟨.hbm, 102, rfl⟩
abbrev main_v39 : Ref sig .tc := ⟨.hbm, 103, rfl⟩
abbrev main_c_11 : Ref sig .tc := ⟨.hbm, 104, rfl⟩
abbrev main_v40 : Ref sig .tc := ⟨.hbm, 105, rfl⟩
abbrev main_v41 : Ref sig .tc := ⟨.hbm, 106, rfl⟩
abbrev main_c_12 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_c_13 : Ref sig .tc := ⟨.hbm, 111, rfl⟩
abbrev main_v45 : Ref sig .tc := ⟨.hbm, 112, rfl⟩
abbrev main_v46 : Ref sig .tc := ⟨.hbm, 113, rfl⟩
abbrev main_c_14 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_cst_15 : Ref sig .tc := ⟨.hbm, 120, rfl⟩
abbrev main_call4_v0 : Ref sig .tc := ⟨.hbm, 121, rfl⟩
abbrev main_call4_v1 : Ref sig .tc := ⟨.hbm, 122, rfl⟩
abbrev main_call4_v2 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57_0 : Ref sig .tc := ⟨.hbm, 129, rfl⟩
abbrev main_v57_1 : Ref sig .tc := ⟨.hbm, 130, rfl⟩
abbrev main_v57_2 : Ref sig .tc := ⟨.hbm, 131, rfl⟩
abbrev main_v57_3 : Ref sig .tc := ⟨.hbm, 132, rfl⟩
abbrev main_v57_4 : Ref sig .tc := ⟨.hbm, 133, rfl⟩
abbrev main_v57_5 : Ref sig .tc := ⟨.hbm, 134, rfl⟩
abbrev main_v57_6 : Ref sig .tc := ⟨.hbm, 135, rfl⟩
abbrev main_v57_7 : Ref sig .tc := ⟨.hbm, 136, rfl⟩
abbrev main_v57_8 : Ref sig .tc := ⟨.hbm, 137, rfl⟩
abbrev main_v57_9 : Ref sig .tc := ⟨.hbm, 138, rfl⟩
abbrev main_v57_10 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x512x64 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x512x64 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x2x512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x2x512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference2Ideal.lean ====
abbrev S8x8192x1024 : Shape := ⟨3, ![8, 8192, 1024]⟩
abbrev S8x1024 : Shape := ⟨2, ![8, 1024]⟩
abbrev S1024 : Shape := ⟨1, ![1024]⟩
abbrev S1024x3072 : Shape := ⟨2, ![1024, 3072]⟩
abbrev S8192 : Shape := ⟨1, ![8192]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x1x1024 : Shape := ⟨3, ![8, 1, 1024]⟩
abbrev S8x8192x3072 : Shape := ⟨3, ![8, 8192, 3072]⟩
abbrev S8x8192x512 : Shape := ⟨3, ![8, 8192, 512]⟩
abbrev S8x8192x4x2x64 : Shape := ⟨5, ![8, 8192, 4, 2, 64]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S1x8192x1x1x8 : Shape := ⟨5, ![1, 8192, 1, 1, 8]⟩
abbrev S8x8192x4x2x8 : Shape := ⟨5, ![8, 8192, 4, 2, 8]⟩
abbrev S8x8192x4x2x48 : Shape := ⟨5, ![8, 8192, 4, 2, 48]⟩
abbrev S8x8192x8x64 : Shape := ⟨4, ![8, 8192, 8, 64]⟩
abbrev S1x8192x1x8 : Shape := ⟨4, ![1, 8192, 1, 8]⟩
abbrev S8x8192x8x8 : Shape := ⟨4, ![8, 8192, 8, 8]⟩
abbrev S8x8192x8x48 : Shape := ⟨4, ![8, 8192, 8, 48]⟩
abbrev S8x32768x128 : Shape := ⟨3, ![8, 32768, 128]⟩
abbrev S8x512x8192 : Shape := ⟨3, ![8, 512, 8192]⟩

abbrev nBuf : Space → Nat
  | .hbm => 191
  | .vmem => 0
  | .smem => 0
  | _ => 0

abbrev hbmTy0_0 (i : Nat) : BufTy := match i % 128 with
  | 0 => ⟨S8x8192x1024, .f32⟩
  | 1 => ⟨S8x1024, .f32⟩
  | 2 => ⟨S8x1024, .f32⟩
  | 3 => ⟨S1024, .f32⟩
  | 4 => ⟨S1024x3072, .f32⟩
  | 5 => ⟨S8192, .i32⟩
  | 6 => ⟨S8x8192x1024, .f32⟩
  | 7 => ⟨S_, .f32⟩
  | 8 => ⟨S8x8192, .f32⟩
  | 9 => ⟨S8x8192x1, .f32⟩
  | 10 => ⟨S_, .f32⟩
  | 11 => ⟨S8x8192x1, .f32⟩
  | 12 => ⟨S8x8192x1, .f32⟩
  | 13 => ⟨S_, .f32⟩
  | 14 => ⟨S8x8192x1, .f32⟩
  | 15 => ⟨S8x8192x1, .f32⟩
  | 16 => ⟨S8x8192x1, .f32⟩
  | 17 => ⟨S8x8192x1024, .f32⟩
  | 18 => ⟨S8x8192x1024, .f32⟩
  | 19 => ⟨S1x1x1024, .f32⟩
  | 20 => ⟨S8x8192x1024, .f32⟩
  | 21 => ⟨S8x8192x1024, .f32⟩
  | 22 => ⟨S8x1x1024, .f32⟩
  | 23 => ⟨S_, .f32⟩
  | 24 => ⟨S8x1x1024, .f32⟩
  | 25 => ⟨S8x1x1024, .f32⟩
  | 26 => ⟨S8x8192x1024, .f32⟩
  | 27 => ⟨S8x8192x1024, .f32⟩
  | 28 => ⟨S8x1x1024, .f32⟩
  | 29 => ⟨S8x8192x1024, .f32⟩
  | 30 => ⟨S8x8192x1024, .f32⟩
  | 31 => ⟨S8x8192x3072, .f32⟩
  | 32 => ⟨S8x8192x512, .f32⟩
  | 33 => ⟨S8x8192x512, .f32⟩
  | 34 => ⟨S8x8192x512, .f32⟩
  | 35 => ⟨S8x8192x512, .f32⟩
  | 36 => ⟨S8x8192x512, .f32⟩
  | 37 => ⟨S8x8192x512, .f32⟩
  | 38 => ⟨S8x8192x4x2x64, .f32⟩
  | 39 => ⟨S8, .f32⟩
  | 40 => ⟨S_, .f32⟩
  | 41 => ⟨S8, .f32⟩
  | 42 => ⟨S8, .f32⟩
  | 43 => ⟨S_, .f32⟩
  | 44 => ⟨S8, .f32⟩
  | 45 => ⟨S8, .f32⟩
  | 46 => ⟨S_, .f32⟩
  | 47 => ⟨S8, .f32⟩
  | 48 => ⟨S8, .f32⟩
  | 49 => ⟨S8192, .f32⟩
  | 50 => ⟨S8192x1, .f32⟩
  | 51 => ⟨S1x8, .f32⟩
  | 52 => ⟨S8192x8, .f32⟩
  | 53 => ⟨S8192x8, .f32⟩
  | 54 => ⟨S8192x8, .f32⟩
  | 55 => ⟨S8192x8, .f32⟩
  | 56 => ⟨S1x8192x1x1x8, .f32⟩
  | 57 => ⟨S8192x8, .f32⟩
  | 58 => ⟨S1x8192x1x1x8, .f32⟩
  | 59 => ⟨S8x8192x4x2x8, .f32⟩
  | 60 => ⟨S8x8192x4x2x8, .f32⟩
  | 61 => ⟨S8x8192x4x2x8, .f32⟩
  | 62 => ⟨S8x8192x4x2x8, .f32⟩
  | 63 => ⟨S8x8192x4x2x8, .f32⟩
  | 64 => ⟨S8x8192x4x2x8, .f32⟩
  | 65 => ⟨S8x8192x4x2x8, .f32⟩
  | 66 => ⟨S8x8192x4x2x8, .f32⟩
  | 67 => ⟨S8x8192x4x2x8, .f32⟩
  | 68 => ⟨S8x8192x4x2x8, .f32⟩
  | 69 => ⟨S8x8192x4x2x8, .f32⟩
  | 70 => ⟨S8x8192x4x2x8, .f32⟩
  | 71 => ⟨S8x8192x4x2x48, .f32⟩
  | 72 => ⟨S8x8192x4x2x64, .f32⟩
  | 73 => ⟨S_, .f32⟩
  | 74 => ⟨S8x8192x4x2x64, .f32⟩
  | 75 => ⟨S8x8192x4x2x64, .f32⟩
  | 76 => ⟨S8x8192x4x2x64, .f32⟩
  | 77 => ⟨S8, .f32⟩
  | 78 => ⟨S_, .f32⟩
  | 79 => ⟨S8, .f32⟩
  | 80 => ⟨S8, .f32⟩
  | 81 => ⟨S_, .f32⟩
  | 82 => ⟨S8, .f32⟩
  | 83 => ⟨S8, .f32⟩
  | 84 => ⟨S_, .f32⟩
  | 85 => ⟨S8, .f32⟩
  | 86 => ⟨S8, .f32⟩
  | 87 => ⟨S8192, .f32⟩
  | 88 => ⟨S8192x1, .f32⟩
  | 89 => ⟨S1x8, .f32⟩
  | 90 => ⟨S8192x8, .f32⟩
  | 91 => ⟨S8192x8, .f32⟩
  | 92 => ⟨S8192x8, .f32⟩
  | 93 => ⟨S8192x8, .f32⟩
  | 94 => ⟨S1x8192x1x1x8, .f32⟩
  | 95 => ⟨S8192x8, .f32⟩
  | 96 => ⟨S1x8192x1x1x8, .f32⟩
  | 97 => ⟨S8x8192x4x2x8, .f32⟩
  | 98 => ⟨S8x8192x4x2x8, .f32⟩
  | 99 => ⟨S8x8192x4x2x8, .f32⟩
  | 100 => ⟨S8x8192x4x2x8, .f32⟩
  | 101 => ⟨S8x8192x4x2x8, .f32⟩
  | 102 => ⟨S8x8192x4x2x8, .f32⟩
  | 103 => ⟨S8x8192x4x2x8, .f32⟩
  | 104 => ⟨S8x8192x4x2x8, .f32⟩
  | 105 => ⟨S8x8192x4x2x8, .f32⟩
  | 106 => ⟨S8x8192x4x2x8, .f32⟩
  | 107 => ⟨S8x8192x4x2x8, .f32⟩
  | 108 => ⟨S8x8192x4x2x8, .f32⟩
  | 109 => ⟨S8x8192x4x2x48, .f32⟩
  | 110 => ⟨S8x8192x4x2x64, .f32⟩
  | 111 => ⟨S8x8192x8x64, .f32⟩
  | 112 => ⟨S8, .f32⟩
  | 113 => ⟨S_, .f32⟩
  | 114 => ⟨S8, .f32⟩
  | 115 => ⟨S8, .f32⟩
  | 116 => ⟨S_, .f32⟩
  | 117 => ⟨S8, .f32⟩
  | 118 => ⟨S8, .f32⟩
  | 119 => ⟨S_, .f32⟩
  | 120 => ⟨S8, .f32⟩
  | 121 => ⟨S8, .f32⟩
  | 122 => ⟨S8192, .f32⟩
  | 123 => ⟨S8192x1, .f32⟩
  | 124 => ⟨S1x8, .f32⟩
  | 125 => ⟨S8192x8, .f32⟩
  | 126 => ⟨S8192x8, .f32⟩
  | 127 => ⟨S8192x8, .f32⟩
  | _ => ⟨S8x8192x1024, .f32⟩

abbrev hbmTy0_1 (i : Nat) : BufTy := match i % 128 with
  | 0 => ⟨S8192x8, .f32⟩
  | 1 => ⟨S1x8192x1x8, .f32⟩
  | 2 => ⟨S8192x8, .f32⟩
  | 3 => ⟨S1x8192x1x8, .f32⟩
  | 4 => ⟨S8x8192x8x8, .f32⟩
  | 5 => ⟨S8x8192x8x8, .f32⟩
  | 6 => ⟨S8x8192x8x8, .f32⟩
  | 7 => ⟨S8x8192x8x8, .f32⟩
  | 8 => ⟨S8x8192x8x8, .f32⟩
  | 9 => ⟨S8x8192x8x8, .f32⟩
  | 10 => ⟨S8x8192x8x8, .f32⟩
  | 11 => ⟨S8x8192x8x8, .f32⟩
  | 12 => ⟨S8x8192x8x8, .f32⟩
  | 13 => ⟨S8x8192x8x8, .f32⟩
  | 14 => ⟨S8x8192x8x8, .f32⟩
  | 15 => ⟨S8x8192x8x8, .f32⟩
  | 16 => ⟨S8x8192x8x48, .f32⟩
  | 17 => ⟨S8x8192x8x64, .f32⟩
  | 18 => ⟨S_, .f32⟩
  | 19 => ⟨S8x8192x8x64, .f32⟩
  | 20 => ⟨S8x8192x8x64, .f32⟩
  | 21 => ⟨S8x8192x8x64, .f32⟩
  | 22 => ⟨S8, .f32⟩
  | 23 => ⟨S_, .f32⟩
  | 24 => ⟨S8, .f32⟩
  | 25 => ⟨S8, .f32⟩
  | 26 => ⟨S_, .f32⟩
  | 27 => ⟨S8, .f32⟩
  | 28 => ⟨S8, .f32⟩
  | 29 => ⟨S_, .f32⟩
  | 30 => ⟨S8, .f32⟩
  | 31 => ⟨S8, .f32⟩
  | 32 => ⟨S8192, .f32⟩
  | 33 => ⟨S8192x1, .f32⟩
  | 34 => ⟨S1x8, .f32⟩
  | 35 => ⟨S8192x8, .f32⟩
  | 36 => ⟨S8192x8, .f32⟩
  | 37 => ⟨S8192x8, .f32⟩
  | 38 => ⟨S8192x8, .f32⟩
  | 39 => ⟨S1x8192x1x8, .f32⟩
  | 40 => ⟨S8192x8, .f32⟩
  | 41 => ⟨S1x8192x1x8, .f32⟩
  | 42 => ⟨S8x8192x8x8, .f32⟩
  | 43 => ⟨S8x8192x8x8, .f32⟩
  | 44 => ⟨S8x8192x8x8, .f32⟩
  | 45 => ⟨S8x8192x8x8, .f32⟩
  | 46 => ⟨S8x8192x8x8, .f32⟩
  | 47 => ⟨S8x8192x8x8, .f32⟩
  | 48 => ⟨S8x8192x8x8, .f32⟩
  | 49 => ⟨S8x8192x8x8, .f32⟩
  | 50 => ⟨S8x8192x8x8, .f32⟩
  | 51 => ⟨S8x8192x8x8, .f32⟩
  | 52 => ⟨S8x8192x8x8, .f32⟩
  | 53 => ⟨S8x8192x8x8, .f32⟩
  | 54 => ⟨S8x8192x8x48, .f32⟩
  | 55 => ⟨S8x8192x8x64, .f32⟩
  | 56 => ⟨S8x32768x128, .f32⟩
  | 57 => ⟨S8x32768x128, .f32⟩
  | 58 => ⟨S8x8192x512, .f32⟩
  | 59 => ⟨S8x8192x512, .f32⟩
  | 60 => ⟨S8x8192x512, .f32⟩
  | 61 => ⟨S8x512x8192, .f32⟩
  | 62 => ⟨S8x512x8192, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_6 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_7 : Ref sig .tc := ⟨.hbm, 78, rfl⟩
abbrev main_v65 : Ref sig .tc := ⟨.hbm, 79, rfl⟩
abbrev main_v66 : Ref sig .tc := ⟨.hbm, 80, rfl⟩
abbrev main_cst_8 : Ref sig .tc := ⟨.hbm, 81, rfl⟩
abbrev main_v67 : Ref sig .tc := ⟨.hbm, 82, rfl⟩
abbrev main_v68 : Ref sig .tc := ⟨.hbm, 83, rfl⟩
abbrev main_cst_9 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_cst_10 : Ref sig .tc := ⟨.hbm, 113, rfl⟩
abbrev main_v97 : Ref sig .tc := ⟨.hbm, 114, rfl⟩
abbrev main_v98 : Ref sig .tc := ⟨.hbm, 115, rfl⟩
abbrev main_cst_11 : Ref sig .tc := ⟨.hbm, 116, rfl⟩
abbrev main_v99 : Ref sig .tc := ⟨.hbm, 117, rfl⟩
abbrev main_v100 : Ref sig .tc := ⟨.hbm, 118, rfl⟩
abbrev main_cst_12 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_cst_13 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_cst_14 : Ref sig .tc := ⟨.hbm, 151, rfl⟩
abbrev main_v131 : Ref sig .tc := ⟨.hbm, 152, rfl⟩
abbrev main_v132 : Ref sig .tc := ⟨.hbm, 153, rfl⟩
abbrev main_cst_15 : Ref sig .tc := ⟨.hbm, 154, rfl⟩
abbrev main_v133 : Ref sig .tc := ⟨.hbm, 155, rfl⟩
abbrev main_v134 : Ref sig .tc := ⟨.hbm, 156, rfl⟩
abbrev main_cst_16 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩

abbrev nD : Nat := 1
abbrev τ : Topo := Topo.v7x

variable {F : FTy → Type} [FloatOps F]
-- ==== Kernel4.lean ====
abbrev S128x1x1024 : Shape := ⟨3, ![128, 1, 1024]⟩
abbrev S128x1024 : Shape := ⟨2, ![128, 1024]⟩
abbrev S1024 : Shape := ⟨1, ![1024]⟩
abbrev S1024x3072 : Shape := ⟨2, ![1024, 3072]⟩
abbrev S_ : Shape := ⟨0, ![]⟩
abbrev S128 : Shape := ⟨1, ![128]⟩
abbrev S8 : Shape := ⟨1, ![8]⟩
abbrev S128x1 : Shape := ⟨2, ![128, 1]⟩
abbrev S1x8 : Shape := ⟨2, ![1, 8]⟩
abbrev S128x8 : Shape := ⟨2, ![128, 8]⟩
abbrev S128x128 : Shape := ⟨2, ![128, 128]⟩
abbrev S1x128x1024 : Shape := ⟨3, ![1, 128, 1024]⟩
abbrev S1x1024 : Shape := ⟨2, ![1, 1024]⟩
abbrev S1x128x512 : Shape := ⟨3, ![1, 128, 512]⟩
abbrev S128x3072 : Shape := ⟨2, ![128, 3072]⟩
abbrev S128x512 : Shape := ⟨2, ![128, 512]⟩

abbrev nBuf : Space → Nat
  | .hbm => 137
  | .vmem => 14
  | .smem => 0
  | _ => 0

abbrev hbmTy0_0 (i : Nat) : BufTy := match i % 128 with
  | 0 => ⟨S128x1x1024, .f32⟩
  | 1 => ⟨S128x1024, .f32⟩
  | 2 => ⟨S128x1024, .f32⟩
  | 3 => ⟨S1024, .f32⟩
  | 4 => ⟨S1024x3072, .f32⟩
  | 5 => ⟨S_, .i32⟩
  | 6 => ⟨S128, .i32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S_, .f32⟩
  | 15 => ⟨S8, .f32⟩
  | 16 => ⟨S8, .f32⟩
  | 17 => ⟨S128, .f32⟩
  | 18 => ⟨S128x1, .f32⟩
  | 19 => ⟨S1x8, .f32⟩
  | 20 => ⟨S128x8, .f32⟩
  | 21 => ⟨S128x8, .f32⟩
  | 22 => ⟨S128x8, .f32⟩
  | 23 => ⟨S128x8, .f32⟩
  | 24 => ⟨S128x8, .f32⟩
  | 25 => ⟨S128, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S128, .i32⟩
  | 33 => ⟨S128, .i32⟩
  | 34 => ⟨S_, .i32⟩
  | 35 => ⟨S128, .i32⟩
  | 36 => ⟨S128, .i1⟩
  | 37 => ⟨S_, .i32⟩
  | 38 => ⟨S128, .i32⟩
  | 39 => ⟨S128, .i1⟩
  | 40 => ⟨S_, .i32⟩
  | 41 => ⟨S_, .i1⟩
  | 42 => ⟨S128, .i1⟩
  | 43 => ⟨S128, .i1⟩
  | 44 => ⟨S128, .i1⟩
  | 45 => ⟨S128, .i32⟩
  | 46 => ⟨S128, .i32⟩
  | 47 => ⟨S128, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S128, .i32⟩
  | 55 => ⟨S128, .i32⟩
  | 56 => ⟨S_, .i32⟩
  | 57 => ⟨S128, .i32⟩
  | 58 => ⟨S128, .i1⟩
  | 59 => ⟨S_, .i32⟩
  | 60 => ⟨S128, .i32⟩
  | 61 => ⟨S128, .i1⟩
  | 62 => ⟨S_, .i32⟩
  | 63 => ⟨S_, .i1⟩
  | 64 => ⟨S128, .i1⟩
  | 65 => ⟨S128, .i1⟩
  | 66 => ⟨S128, .i1⟩
  | 67 => ⟨S128, .i32⟩
  | 68 => ⟨S128, .i32⟩
  | 69 => ⟨S128, .i32⟩
  | 70 => ⟨S_, .i32⟩
  | 71 => ⟨S128, .i32⟩
  | 72 => ⟨S128, .i1⟩
  | 73 => ⟨S_, .i32⟩
  | 74 => ⟨S128, .i32⟩
  | 75 => ⟨S128, .i1⟩
  | 76 => ⟨S_, .i32⟩
  | 77 => ⟨S128, .i32⟩
  | 78 => ⟨S128, .i32⟩
  | 79 => ⟨S128, .i32⟩
  | 80 => ⟨S128x1, .i32⟩
  | 81 => ⟨S128x128, .f32⟩
  | 82 => ⟨S_, .f32⟩
  | 83 => ⟨S_, .f32⟩
  | 84 => ⟨S128x128, .i1⟩
  | 85 => ⟨S128x128, .f32⟩
  | 86 => ⟨S128x128, .f32⟩
  | 87 => ⟨S_, .i32⟩
  | 88 => ⟨S128, .i32⟩
  | 89 => ⟨S128, .i1⟩
  | 90 => ⟨S_, .i32⟩
  | 91 => ⟨S128, .i32⟩
  | 92 => ⟨S128, .i1⟩
  | 93 => ⟨S_, .i32⟩
  | 94 => ⟨S128, .i32⟩
  | 95 => ⟨S128, .i32⟩
  | 96 => ⟨S128, .i32⟩
  | 97 => ⟨S128x1, .i32⟩
  | 98 => ⟨S128x128, .f32⟩
  | 99 => ⟨S128x128, .f32⟩
  | 100 => ⟨S_, .f32⟩
  | 101 => ⟨S_, .f32⟩
  | 102 => ⟨S128x128, .i1⟩
  | 103 => ⟨S128x128, .f32⟩
  | 104 => ⟨S128x128, .f32⟩
  | 105 => ⟨S_, .i32⟩
  | 106 => ⟨S128, .i32⟩
  | 107 => ⟨S128, .i1⟩
  | 108 => ⟨S_, .i32⟩
  | 109 => ⟨S128, .i32⟩
  | 110 => ⟨S128, .i1⟩
  | 111 => ⟨S128, .i1⟩
  | 112 => ⟨S_, .i32⟩
  | 113 => ⟨S128, .i32⟩
  | 114 => ⟨S128, .i1⟩
  | 115 => ⟨S_, .i32⟩
  | 116 => ⟨S128, .i32⟩
  | 117 => ⟨S128, .i32⟩
  | 118 => ⟨S128, .i32⟩
  | 119 => ⟨S128x1, .i32⟩
  | 120 => ⟨S128x128, .f32⟩
  | 121 => ⟨S_, .f32⟩
  | 122 => ⟨S_, .f32⟩
  | 123 => ⟨S128x128, .i1⟩
  | 124 => ⟨S128x128, .f32⟩
  | 125 => ⟨S128x128, .f32⟩
  | 126 => ⟨S1x128x1024, .f32⟩
  | 127 => ⟨S1x128x1024, .f32⟩
  | _ => ⟨S128x1x1024, .f32⟩

abbrev hbmTy0_1 (i : Nat) : BufTy := match i % 128 with
  | 0 => ⟨S1x128x1024, .f32⟩
  | 1 => ⟨S1024x3072, .bf16⟩
  | 2 => ⟨S1x1024, .f32⟩
  | 3 => ⟨S1x128x512, .f32⟩
  | 4 => ⟨S1x128x512, .f32⟩
  | 5 => ⟨S1x128x512, .f32⟩
  | 6 => ⟨S1x128x512, .f32⟩
  | 7 => ⟨S1x128x512, .f32⟩
  | 8 => ⟨S1x128x512, .f32⟩
  | _ => ⟨S128x1x1024, .f32⟩

abbrev hbmTy (i : Nat) : BufTy := match i / 128 with
  | 0 => hbmTy0_0 i
  | 1 => hbmTy0_1 i
  | _ => ⟨S128x1x1024, .f32⟩

abbrev bufTy : (tb : Table) → Fin (tcTables nBuf tb) → BufTy
  | .hbm, ⟨i, _⟩ => hbmTy i
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x1024, .f32⟩
  | .local _ .vmem, ⟨4, _⟩ => ⟨S1024x3072, .bf16⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S1x128x512, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_c_1 : Ref sig .tc := ⟨.hbm, 34, rfl⟩
abbrev main_call0_v5 : Ref sig .tc := ⟨.hbm, 35, rfl⟩
abbrev main_call0_v6 : Ref sig .tc := ⟨.hbm, 36, rfl⟩
abbrev main_call0_c_2 : Ref sig .tc := ⟨.hbm, 37, rfl⟩
abbrev main_call0_v7 : Ref sig .tc := ⟨.hbm, 38, rfl⟩
abbrev main_call0_v8 : Ref sig .tc := ⟨.hbm, 39, rfl⟩
abbrev main_call0_c_3 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_v17 : Ref sig .tc := ⟨.hbm, 47, rfl⟩
abbrev main_c_3 : Ref sig .tc := ⟨.hbm, 48, rfl⟩
abbrev main_call1_v0 : Ref sig .tc := ⟨.hbm, 49, rfl⟩
abbrev main_call1_c : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_c_1 : Ref sig .tc := ⟨.hbm, 56, rfl⟩
abbrev main_call1_v5 : Ref sig .tc := ⟨.hbm, 57, rfl⟩
abbrev main_call1_v6 : Ref sig .tc := ⟨.hbm, 58, rfl⟩
abbrev main_call1_c_2 : Ref sig .tc := ⟨.hbm, 59, rfl⟩
abbrev main_call1_v7 : Ref sig .tc := ⟨.hbm, 60, rfl⟩
abbrev main_call1_v8 : Ref sig .tc := ⟨.hbm, 61, rfl⟩
abbrev main_call1_c_3 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_v18 : Ref sig .tc := ⟨.hbm, 69, rfl⟩
abbrev main_c_4 : Ref sig .tc := ⟨.hbm, 70, rfl⟩
abbrev main_v19 : Ref sig .tc := ⟨.hbm, 71, rfl⟩
abbrev main_v20 : Ref sig .tc := ⟨.hbm, 72, rfl⟩
abbrev main_c_5 : Ref sig .tc := ⟨.hbm, 73, rfl⟩
abbrev main_v21 : Ref sig .tc := ⟨.hbm, 74, rfl⟩
abbrev main_v22 : Ref sig .tc := ⟨.hbm, 75, rfl⟩
abbrev main_c_6 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_cst_7 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_v28 : Ref sig .tc := ⟨.hbm, 86, rfl⟩
abbrev main_c_8 : Ref sig .tc := ⟨.hbm, 87, rfl⟩
abbrev main_v29 : Ref sig .tc := ⟨.hbm, 88, rfl⟩
abbrev main_v30 : Ref sig .tc := ⟨.hbm, 89, rfl⟩
abbrev main_c_9 : Ref sig .tc := ⟨.hbm, 90, rfl⟩
abbrev main_v31 : Ref sig .tc := ⟨.hbm, 91, rfl⟩
abbrev main_v32 : Ref sig .tc := ⟨.hbm, 92, rfl⟩
abbrev main_c_10 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_cst_11 : Ref sig .tc := ⟨.hbm, 100, rfl⟩
abbrev main_call3_v0 : Ref sig .tc := ⟨.hbm, 101, rfl⟩
abbrev main_call3_v1 : Ref sig .tc := ⟨.hbm, 102, rfl⟩
abbrev main_call3_v2 : Ref sig .tc := ⟨.hbm, 103, rfl⟩
abbrev main_v39 : Ref sig .tc := ⟨.hbm, 104, rfl⟩
abbrev main_c_12 : Ref sig .tc := ⟨.hbm, 105, rfl⟩
abbrev main_v40 : Ref sig .tc := ⟨.hbm, 106, rfl⟩
abbrev main_v41 : Ref sig .tc := ⟨.hbm, 107, rfl⟩
abbrev main_c_13 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_c_14 : Ref sig .tc := ⟨.hbm, 112, rfl⟩
abbrev main_v45 : Ref sig .tc := ⟨.hbm, 113, rfl⟩
abbrev main_v46 : Ref sig .tc := ⟨.hbm, 114, rfl⟩
abbrev main_c_15 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_cst_16 : Ref sig .tc := ⟨.hbm, 121, rfl⟩
abbrev main_call4_v0 : Ref sig .tc := ⟨.hbm, 122, rfl⟩
abbrev main_call4_v1 : Ref sig .tc := ⟨.hbm, 123, rfl⟩
abbrev main_call4_v2 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58_0 : Ref sig .tc := ⟨.hbm, 131, rfl⟩
abbrev main_v58_1 : Ref sig .tc := ⟨.hbm, 132, rfl⟩
abbrev main_v58_2 : Ref sig .tc := ⟨.hbm, 133, rfl⟩
abbrev main_v58_3 : Ref sig .tc := ⟨.hbm, 134, rfl⟩
abbrev main_v58_4 : Ref sig .tc := ⟨.hbm, 135, rfl⟩
abbrev main_v58_5 : Ref sig .tc := ⟨.hbm, 136, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 1 → Memref sig .tc .vmem S1x128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S1x128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S1x128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S1x128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S1x128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S1x128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]
-- ==== Reference4Ideal.lean ====
abbrev S128x1x1024 : Shape := ⟨3, ![128, 1, 1024]⟩
abbrev S128x1024 : Shape := ⟨2, ![128, 1024]⟩
abbrev S1024 : Shape := ⟨1, ![1024]⟩
abbrev S1024x3072 : Shape := ⟨2, ![1024, 3072]⟩
abbrev S1 : Shape := ⟨1, ![1]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x3072 : Shape := ⟨3, ![128, 1, 3072]⟩
abbrev S128x1x512 : Shape := ⟨3, ![128, 1, 512]⟩
abbrev S128x1x4x2x64 : Shape := ⟨5, ![128, 1, 4, 2, 64]⟩
abbrev S8 : Shape := ⟨1, ![8]⟩
abbrev S1x1 : Shape := ⟨2, ![1, 1]⟩
abbrev S1x8 : Shape := ⟨2, ![1, 8]⟩
abbrev S1x1x1x1x8 : Shape := ⟨5, ![1, 1, 1, 1, 8]⟩
abbrev S128x1x4x2x8 : Shape := ⟨5, ![128, 1, 4, 2, 8]⟩
abbrev S128x1x4x2x48 : Shape := ⟨5, ![128, 1, 4, 2, 48]⟩
abbrev S128x1x8x64 : Shape := ⟨4, ![128, 1, 8, 64]⟩
abbrev S1x1x1x8 : Shape := ⟨4, ![1, 1, 1, 8]⟩
abbrev S128x1x8x8 : Shape := ⟨4, ![128, 1, 8, 8]⟩
abbrev S128x1x8x48 : Shape := ⟨4, ![128, 1, 8, 48]⟩
abbrev S1x128x512 : Shape := ⟨3, ![1, 128, 512]⟩

abbrev nBuf : Space → Nat
  | .hbm => 187
  | .vmem => 0
  | .smem => 0
  | _ => 0

abbrev hbmTy0_0 (i : Nat) : BufTy := match i % 128 with
  | 0 => ⟨S128x1x1024, .f32⟩
  | 1 => ⟨S128x1024, .f32⟩
  | 2 => ⟨S128x1024, .f32⟩
  | 3 => ⟨S1024, .f32⟩
  | 4 => ⟨S1024x3072, .f32⟩
  | 5 => ⟨S1, .i32⟩
  | 6 => ⟨S_, .i32⟩
  | 7 => ⟨S1, .i32⟩
  | 8 => ⟨S1, .i32⟩
  | 9 => ⟨S128x1x1024, .f32⟩
  | 10 => ⟨S_, .f32⟩
  | 11 => ⟨S128x1, .f32⟩
  | 12 => ⟨S128x1x1, .f32⟩
  | 13 => ⟨S_, .f32⟩
  | 14 => ⟨S128x1x1, .f32⟩
  | 15 => ⟨S128x1x1, .f32⟩
  | 16 => ⟨S_, .f32⟩
  | 17 => ⟨S128x1x1, .f32⟩
  | 18 => ⟨S128x1x1, .f32⟩
  | 19 => ⟨S128x1x1, .f32⟩
  | 20 => ⟨S128x1x1024, .f32⟩
  | 21 => ⟨S128x1x1024, .f32⟩
  | 22 => ⟨S1x1x1024, .f32⟩
  | 23 => ⟨S128x1x1024, .f32⟩
  | 24 => ⟨S128x1x1024, .f32⟩
  | 25 => ⟨S128x1x1024, .f32⟩
  | 26 => ⟨S_, .f32⟩
  | 27 => ⟨S128x1x1024, .f32⟩
  | 28 => ⟨S128x1x1024, .f32⟩
  | 29 => ⟨S128x1x1024, .f32⟩
  | 30 => ⟨S128x1x1024, .f32⟩
  | 31 => ⟨S128x1x1024, .f32⟩
  | 32 => ⟨S128x1x3072, .f32⟩
  | 33 => ⟨S128x1x512, .f32⟩
  | 34 => ⟨S128x1x512, .f32⟩
  | 35 => ⟨S128x1x512, .f32⟩
  | 36 => ⟨S128x1x512, .f32⟩
  | 37 => ⟨S128x1x512, .f32⟩
  | 38 => ⟨S128x1x512, .f32⟩
  | 39 => ⟨S128x1x4x2x64, .f32⟩
  | 40 => ⟨S8, .f32⟩
  | 41 => ⟨S_, .f32⟩
  | 42 => ⟨S8, .f32⟩
  | 43 => ⟨S8, .f32⟩
  | 44 => ⟨S_, .f32⟩
  | 45 => ⟨S8, .f32⟩
  | 46 => ⟨S8, .f32⟩
  | 47 => ⟨S_, .f32⟩
  | 48 => ⟨S8, .f32⟩
  | 49 => ⟨S8, .f32⟩
  | 50 => ⟨S1, .f32⟩
  | 51 => ⟨S1x1, .f32⟩
  | 52 => ⟨S1x8, .f32⟩
  | 53 => ⟨S1x8, .f32⟩
  | 54 => ⟨S1x8, .f32⟩
  | 55 => ⟨S1x8, .f32⟩
  | 56 => ⟨S1x1x1x1x8, .f32⟩
  | 57 => ⟨S1x8, .f32⟩
  | 58 => ⟨S1x1x1x1x8, .f32⟩
  | 59 => ⟨S128x1x4x2x8, .f32⟩
  | 60 => ⟨S128x1x4x2x8, .f32⟩
  | 61 => ⟨S128x1x4x2x8, .f32⟩
  | 62 => ⟨S128x1x4x2x8, .f32⟩
  | 63 => ⟨S128x1x4x2x8, .f32⟩
  | 64 => ⟨S128x1x4x2x8, .f32⟩
  | 65 => ⟨S128x1x4x2x8, .f32⟩
  | 66 => ⟨S128x1x4x2x8, .f32⟩
  | 67 => ⟨S128x1x4x2x8, .f32⟩
  | 68 => ⟨S128x1x4x2x8, .f32⟩
  | 69 => ⟨S128x1x4x2x8, .f32⟩
  | 70 => ⟨S128x1x4x2x8, .f32⟩
  | 71 => ⟨S128x1x4x2x48, .f32⟩
  | 72 => ⟨S128x1x4x2x64, .f32⟩
  | 73 => ⟨S_, .f32⟩
  | 74 => ⟨S128x1x4x2x64, .f32⟩
  | 75 => ⟨S128x1x4x2x64, .f32⟩
  | 76 => ⟨S128x1x4x2x64, .f32⟩
  | 77 => ⟨S8, .f32⟩
  | 78 => ⟨S_, .f32⟩
  | 79 => ⟨S8, .f32⟩
  | 80 => ⟨S8, .f32⟩
  | 81 => ⟨S_, .f32⟩
  | 82 => ⟨S8, .f32⟩
  | 83 => ⟨S8, .f32⟩
  | 84 => ⟨S_, .f32⟩
  | 85 => ⟨S8, .f32⟩
  | 86 => ⟨S8, .f32⟩
  | 87 => ⟨S1, .f32⟩
  | 88 => ⟨S1x1, .f32⟩
  | 89 => ⟨S1x8, .f32⟩
  | 90 => ⟨S1x8, .f32⟩
  | 91 => ⟨S1x8, .f32⟩
  | 92 => ⟨S1x8, .f32⟩
  | 93 => ⟨S1x1x1x1x8, .f32⟩
  | 94 => ⟨S1x8, .f32⟩
  | 95 => ⟨S1x1x1x1x8, .f32⟩
  | 96 => ⟨S128x1x4x2x8, .f32⟩
  | 97 => ⟨S128x1x4x2x8, .f32⟩
  | 98 => ⟨S128x1x4x2x8, .f32⟩
  | 99 => ⟨S128x1x4x2x8, .f32⟩
  | 100 => ⟨S128x1x4x2x8, .f32⟩
  | 101 => ⟨S128x1x4x2x8, .f32⟩
  | 102 => ⟨S128x1x4x2x8, .f32⟩
  | 103 => ⟨S128x1x4x2x8, .f32⟩
  | 104 => ⟨S128x1x4x2x8, .f32⟩
  | 105 => ⟨S128x1x4x2x8, .f32⟩
  | 106 => ⟨S128x1x4x2x8, .f32⟩
  | 107 => ⟨S128x1x4x2x8, .f32⟩
  | 108 => ⟨S128x1x4x2x48, .f32⟩
  | 109 => ⟨S128x1x4x2x64, .f32⟩
  | 110 => ⟨S128x1x8x64, .f32⟩
  | 111 => ⟨S8, .f32⟩
  | 112 => ⟨S_, .f32⟩
  | 113 => ⟨S8, .f32⟩
  | 114 => ⟨S8, .f32⟩
  | 115 => ⟨S_, .f32⟩
  | 116 => ⟨S8, .f32⟩
  | 117 => ⟨S8, .f32⟩
  | 118 => ⟨S_, .f32⟩
  | 119 => ⟨S8, .f32⟩
  | 120 => ⟨S8, .f32⟩
  | 121 => ⟨S1, .f32⟩
  | 122 => ⟨S1x1, .f32⟩
  | 123 => ⟨S1x8, .f32⟩
  | 124 => ⟨S1x8, .f32⟩
  | 125 => ⟨S1x8, .f32⟩
  | 126 => ⟨S1x8, .f32⟩
  | 127 => ⟨S1x1x1x8, .f32⟩
  | _ => ⟨S128x1x1024, .f32⟩

abbrev hbmTy0_1 (i : Nat) : BufTy := match i % 128 with
  | 0 => ⟨S1x8, .f32⟩
  | 1 => ⟨S1x1x1x8, .f32⟩
  | 2 => ⟨S128x1x8x8, .f32⟩
  | 3 => ⟨S128x1x8x8, .f32⟩
  | 4 => ⟨S128x1x8x8, .f32⟩
  | 5 => ⟨S128x1x8x8, .f32⟩
  | 6 => ⟨S128x1x8x8, .f32⟩
  | 7 => ⟨S128x1x8x8, .f32⟩
  | 8 => ⟨S128x1x8x8, .f32⟩
  | 9 => ⟨S128x1x8x8, .f32⟩
  | 10 => ⟨S128x1x8x8, .f32⟩
  | 11 => ⟨S128x1x8x8, .f32⟩
  | 12 => ⟨S128x1x8x8, .f32⟩
  | 13 => ⟨S128x1x8x8, .f32⟩
  | 14 => ⟨S128x1x8x48, .f32⟩
  | 15 => ⟨S128x1x8x64, .f32⟩
  | 16 => ⟨S_, .f32⟩
  | 17 => ⟨S128x1x8x64, .f32⟩
  | 18 => ⟨S128x1x8x64, .f32⟩
  | 19 => ⟨S128x1x8x64, .f32⟩
  | 20 => ⟨S8, .f32⟩
  | 21 => ⟨S_, .f32⟩
  | 22 => ⟨S8, .f32⟩
  | 23 => ⟨S8, .f32⟩
  | 24 => ⟨S_, .f32⟩
  | 25 => ⟨S8, .f32⟩
  | 26 => ⟨S8, .f32⟩
  | 27 => ⟨S_, .f32⟩
  | 28 => ⟨S8, .f32⟩
  | 29 => ⟨S8, .f32⟩
  | 30 => ⟨S1, .f32⟩
  | 31 => ⟨S1x1, .f32⟩
  | 32 => ⟨S1x8, .f32⟩
  | 33 => ⟨S1x8, .f32⟩
  | 34 => ⟨S1x8, .f32⟩
  | 35 => ⟨S1x8, .f32⟩
  | 36 => ⟨S1x1x1x8, .f32⟩
  | 37 => ⟨S1x8, .f32⟩
  | 38 => ⟨S1x1x1x8, .f32⟩
  | 39 => ⟨S128x1x8x8, .f32⟩
  | 40 => ⟨S128x1x8x8, .f32⟩
  | 41 => ⟨S128x1x8x8, .f32⟩
  | 42 => ⟨S128x1x8x8, .f32⟩
  | 43 => ⟨S128x1x8x8, .f32⟩
  | 44 => ⟨S128x1x8x8, .f32⟩
  | 45 => ⟨S128x1x8x8, .f32⟩
  | 46 => ⟨S128x1x8x8, .f32⟩
  | 47 => ⟨S128x1x8x8, .f32⟩
  | 48 => ⟨S128x1x8x8, .f32⟩
  | 49 => ⟨S128x1x8x8, .f32⟩
  | 50 => ⟨S128x1x8x8, .f32⟩
  | 51 => ⟨S128x1x8x48, .f32⟩
  | 52 => ⟨S128x1x8x64, .f32⟩
  | 53 => ⟨S1x128x512, .f32⟩
  | 54 => ⟨S1x128x512, .f32⟩
  | 55 => ⟨S1x128x512, .f32⟩
  | 56 => ⟨S1x128x512, .f32⟩
  | 57 => ⟨S1x128x512, .f32⟩
  | 58 => ⟨S1x128x512, .f32⟩
  | _ => ⟨S128x1x1024, .f32⟩

abbrev hbmTy (i : Nat) : BufTy := match i / 128 with
  | 0 => hbmTy0_0 i
  | 1 => hbmTy0_1 i
  | _ => ⟨S128x1x1024, .f32⟩

abbrev bufTy : (tb : Table) → Fin (tcTables nBuf tb) → BufTy
  | .hbm, ⟨i, _⟩ => hbmTy i
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_6 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_7 : Ref sig .tc := ⟨.hbm, 78, rfl⟩
abbrev main_v64 : Ref sig .tc := ⟨.hbm, 79, rfl⟩
abbrev main_v65 : Ref sig .tc := ⟨.hbm, 80, rfl⟩
abbrev main_cst_8 : Ref sig .tc := ⟨.hbm, 81, rfl⟩
abbrev main_v66 : Ref sig .tc := ⟨.hbm, 82, rfl⟩
abbrev main_v67 : Ref sig .tc := ⟨.hbm, 83, rfl⟩
abbrev main_cst_9 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_cst_10 : Ref sig .tc := ⟨.hbm, 112, rfl⟩
abbrev main_v95 : Ref sig .tc := ⟨.hbm, 113, rfl⟩
abbrev main_v96 : Ref sig .tc := ⟨.hbm, 114, rfl⟩
abbrev main_cst_11 : Ref sig .tc := ⟨.hbm, 115, rfl⟩
abbrev main_v97 : Ref sig .tc := ⟨.hbm, 116, rfl⟩
abbrev main_v98 : Ref sig .tc := ⟨.hbm, 117, rfl⟩
abbrev main_cst_12 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_cst_13 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_cst_14 : Ref sig .tc := ⟨.hbm, 149, rfl⟩
abbrev main_v128 : Ref sig .tc := ⟨.hbm, 150, rfl⟩
abbrev main_v129 : Ref sig .tc := ⟨.hbm, 151, rfl⟩
abbrev main_cst_15 : Ref sig .tc := ⟨.hbm, 152, rfl⟩
abbrev main_v130 : Ref sig .tc := ⟨.hbm, 153, rfl⟩
abbrev main_v131 : Ref sig .tc := ⟨.hbm, 154, rfl⟩
abbrev main_cst_16 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩

abbrev nD : Nat := 1
abbrev τ : Topo := Topo.v7x

variable {F : FTy → Type} [FloatOps F]
-- ==== Kernel3.lean ====
abbrev S2116 : Shape := ⟨1, ![2116]⟩
abbrev S541696x1024 : Shape := ⟨2, ![541696, 1024]⟩
abbrev S64x1024x256 : Shape := ⟨3, ![64, 1024, 256]⟩
abbrev S64x256x1024 : Shape := ⟨3, ![64, 256, 1024]⟩
abbrev S64x1024x512 : Shape := ⟨3, ![64, 1024, 512]⟩
abbrev S4333568x128 : Shape := ⟨2, ![4333568, 128]⟩
abbrev S256x1024 : Shape := ⟨2, ![256, 1024]⟩
abbrev S1x1024x512 : Shape := ⟨3, ![1, 1024, 512]⟩
abbrev S1 : Shape := ⟨1, ![1]⟩
abbrev S1x256x1024 : Shape := ⟨3, ![1, 256, 1024]⟩
abbrev S2048x128 : Shape := ⟨2, ![2048, 128]⟩
abbrev S1024x512 : Shape := ⟨2, ![1024, 512]⟩
abbrev S256x512 : Shape := ⟨2, ![256, 512]⟩
abbrev S256x256 : Shape := ⟨2, ![256, 256]⟩
abbrev S256x128 : Shape := ⟨2, ![256, 128]⟩

abbrev nBuf : Space → Nat
  | .hbm => 8
  | .vmem => 8
  | .smem => 2
  | _ => 0

abbrev bufTy : (tb : Table) → Fin (tcTables nBuf tb) → BufTy
  | .hbm, ⟨0, _⟩ => ⟨S541696x1024, .f32⟩
  | .hbm, ⟨1, _⟩ => ⟨S64x1024x256, .f32⟩
  | .hbm, ⟨2, _⟩ => ⟨S64x1024x256, .f32⟩
  | .hbm, ⟨3, _⟩ => ⟨S64x256x1024, .f32⟩
  | .hbm, ⟨4, _⟩ => ⟨S64x1024x512, .f32⟩
  | .hbm, ⟨5, _⟩ => ⟨S64x1024x512, .bf16⟩
  | .hbm, ⟨6, _⟩ => ⟨S64x256x1024, .bf16⟩
  | .hbm, ⟨7, _⟩ => ⟨S4333568x128, .f32⟩
  | .local _ .vmem, ⟨0, _⟩ => ⟨S256x1024, .f32⟩
  | .local _ .vmem, ⟨1, _⟩ => ⟨S256x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x256x1024, .bf16⟩
  | .local _ .vmem, ⟨5, _⟩ => ⟨S1x256x1024, .bf16⟩
  | .local _ .vmem, ⟨6, _⟩ => ⟨S2048x128, .f32⟩
  | .local _ .vmem, ⟨7, _⟩ => ⟨S2048x128, .f32⟩
  | .local _ .smem, ⟨0, _⟩ => ⟨S2116, .i32⟩
  | .local _ .smem, ⟨1, _⟩ => ⟨S2116, .i32⟩
  | _, _ => ⟨S541696x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2116], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S2116.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S2116) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S2116.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S2116) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S2116 : Shape := ⟨1, ![2116]⟩
abbrev S541696x1024 : Shape := ⟨2, ![541696, 1024]⟩
abbrev S64x1024x256 : Shape := ⟨3, ![64, 1024, 256]⟩
abbrev S64x256x1024 : Shape := ⟨3, ![64, 256, 1024]⟩
abbrev S2116x256x1024 : Shape := ⟨3, ![2116, 256, 1024]⟩
abbrev S256 : Shape := ⟨1, ![256]⟩
abbrev S1x256x1 : Shape := ⟨3, ![1, 256, 1]⟩
abbrev S2116x1x1 : Shape := ⟨3, ![2116, 1, 1]⟩
abbrev S2116x256x1 : Shape := ⟨3, ![2116, 256, 1]⟩
abbrev S_ : Shape := ⟨0, ![]⟩
abbrev S2116x1 : Shape := ⟨2, ![2116, 1]⟩
abbrev S2116x1024x256 : Shape := ⟨3, ![2116, 1024, 256]⟩
abbrev S2116x256x256 : Shape := ⟨3, ![2116, 256, 256]⟩
abbrev S4333568x128 : Shape := ⟨2, ![4333568, 128]⟩

abbrev nBuf : Space → Nat
  | .hbm => 59
  | .vmem => 0
  | .smem => 0
  | _ => 0

abbrev bufTy : (tb : Table) → Fin (tcTables nBuf tb) → BufTy
  | .hbm, ⟨0, _⟩ => ⟨S2116, .i32⟩
  | .hbm, ⟨1, _⟩ => ⟨S2116, .i32⟩
  | .hbm, ⟨2, _⟩ => ⟨S541696x1024, .f32⟩
  | .hbm, ⟨3, _⟩ => ⟨S64x1024x256, .f32⟩
  | .hbm, ⟨4, _⟩ => ⟨S64x1024x256, .f32⟩
  | .hbm, ⟨5, _⟩ => ⟨S64x256x1024, .f32⟩
  | .hbm, ⟨6, _⟩ => ⟨S2116x256x1024, .f32⟩
  | .hbm, ⟨7, _⟩ => ⟨S256, .i32⟩
  | .hbm, ⟨8, _⟩ => ⟨S1x256x1, .i32⟩
  | .hbm, ⟨9, _⟩ => ⟨S2116x1x1, .i32⟩
  | .hbm, ⟨10, _⟩ => ⟨S2116x256x1, .i32⟩
  | .hbm, ⟨11, _⟩ => ⟨S2116x256x1, .i32⟩
  | .hbm, ⟨12, _⟩ => ⟨S2116x256x1, .i1⟩
  | .hbm, ⟨13, _⟩ => ⟨S_, .f32⟩
  | .hbm, ⟨14, _⟩ => ⟨S_, .f32⟩
  | .hbm, ⟨15, _⟩ => ⟨S2116x256x1024, .i1⟩
  | .hbm, ⟨16, _⟩ => ⟨S2116x256x1024, .f32⟩
  | .hbm, ⟨17, _⟩ => ⟨S2116x256x1024, .f32⟩
  | .hbm, ⟨18, _⟩ => ⟨S_, .i32⟩
  | .hbm, ⟨19, _⟩ => ⟨S2116, .i32⟩
  | .hbm, ⟨20, _⟩ => ⟨S2116, .i1⟩
  | .hbm, ⟨21, _⟩ => ⟨S_, .i32⟩
  | .hbm, ⟨22, _⟩ => ⟨S2116, .i32⟩
  | .hbm, ⟨23, _⟩ => ⟨S2116, .i32⟩
  | .hbm, ⟨24, _⟩ => ⟨S2116, .i32⟩
  | .hbm, ⟨25, _⟩ => ⟨S2116x1, .i32⟩
  | .hbm, ⟨26, _⟩ => ⟨S2116x1024x256, .f32⟩
  | .hbm, ⟨27, _⟩ => ⟨S_, .i32⟩
  | .hbm, ⟨28, _⟩ => ⟨S2116, .i32⟩
  | .hbm, ⟨29, _⟩ => ⟨S2116, .i1⟩
  | .hbm, ⟨30, _⟩ => ⟨S_, .i32⟩
  | .hbm, ⟨31, _⟩ => ⟨S2116, .i32⟩
  | .hbm, ⟨32, _⟩ => ⟨S2116, .i32⟩
  | .hbm, ⟨33, _⟩ => ⟨S2116, .i32⟩
  | .hbm, ⟨34, _⟩ => ⟨S2116x1, .i32⟩
  | .hbm, ⟨35, _⟩ => ⟨S2116x1024x256, .f32⟩
  | .hbm, ⟨36, _⟩ => ⟨S_, .i32⟩
  | .hbm, ⟨37, _⟩ => ⟨S2116, .i32⟩
  | .hbm, ⟨38, _⟩ => ⟨S2116, .i1⟩
  | .hbm, ⟨39, _⟩ => ⟨S_, .i32⟩
  | .hbm, ⟨40, _⟩ => ⟨S2116, .i32⟩
  | .hbm, ⟨41, _⟩ => ⟨S2116, .i32⟩
  | .hbm, ⟨42, _⟩ => ⟨S2116, .i32⟩
  | .hbm, ⟨43, _⟩ => ⟨S2116x1, .i32⟩
  | .hbm, ⟨44, _⟩ => ⟨S2116x256x1024, .f32⟩
  | .hbm, ⟨45, _⟩ => ⟨S2116x256x256, .f32⟩
  | .hbm, ⟨46, _⟩ => ⟨S2116x256x256, .f32⟩
  | .hbm, ⟨47, _⟩ => ⟨S2116x256x256, .f32⟩
  | .hbm, ⟨48, _⟩ => ⟨S_, .f32⟩
  | .hbm, ⟨49, _⟩ => ⟨S2116x256x256, .f32⟩
  | .hbm, ⟨50, _⟩ => ⟨S2116x256x256, .f32⟩
  | .hbm, ⟨51, _⟩ => ⟨S_, .f32⟩
  | .hbm, ⟨52, _⟩ => ⟨S2116x256x256, .f32⟩
  | .hbm, ⟨53, _⟩ => ⟨S2116x256x256, .f32⟩
  | .hbm, ⟨54, _⟩ => ⟨S2116x256x256, .f32⟩
  | .hbm, ⟨55, _⟩ => ⟨S2116x256x256, .f32⟩
  | .hbm, ⟨56, _⟩ => ⟨S2116x256x256, .f32⟩
  | .hbm, ⟨57, _⟩ => ⟨S2116x256x1024, .f32⟩
  | .hbm, ⟨58, _⟩ => ⟨S4333568x128, .f32⟩
  | _, _ => ⟨S2116, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_call1_v5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩

abbrev nD : Nat := 1
abbrev τ : Topo := Topo.v7x

variable {F : FTy → Type} [FloatOps F]
-- ==== Proof.Flash.Column.lean ====
/- One query's column of a blockwise softmax, over the extended reals.

   A pass over blocks of keys keeps, per query, a running maximum `m`, a running sum `l` of `2 ^ (score - m)` and a running
   sum `a` of `2 ^ (score - m) * value`. `Col L A m l a` says what these are: `l` and `a` are the plain sums `L` and `A` of
   the weights `2 ^ score`, scaled by `2 ^ (-m)`. Which number `m` is does not matter to the quotient `a / l`, so that nothing
   more is said of it than that it is finite, or `⊥` with nothing summed. A masked score is `⊥` and has weight zero. -/
module

public import Idealize.ShloMosaic.Lib.ValueIdx
public import Idealize.ShloMosaic.PureOps.Ideal.Laws

@[expose] public section

noncomputable section

namespace Cert.Flash

open Idealize.ShloMosaic

/-- The weight `2 ^ x` of a score; a masked score (`⊥`) weighs nothing. -/
def wt (x : EReal) : ℝ := if x = ⊥ then 0 else (2 : ℝ) ^ x.toReal

/-- The scale `2 ^ (-m)` of the sums kept beside a running maximum `m`. -/
def sc (m : EReal) : ℝ := (2 : ℝ) ^ (-m.toReal)

/-- A masked score weighs nothing. -/
@[simp] theorem wt_bot : wt ⊥ = 0 := by simp [wt]

/-- A finite score weighs its power of two. -/
@[simp] theorem wt_coe (r : ℝ) : wt (r : EReal) = (2 : ℝ) ^ r := by simp [wt]

/-- A weight is nonnegative. -/
theorem wt_nonneg (x : EReal) : 0 ≤ wt x := by
  unfold wt; split_ifs
  · exact le_refl _
  · positivity

/-- The scale is positive. -/
theorem sc_pos (m : EReal) : 0 < sc m := by unfold sc; positivity

/-- An extended real that is neither infinity is the number it holds. -/
theorem coe_of {x : EReal} (ht : x ≠ ⊤) (hb : x ≠ ⊥) : x = (x.toReal : EReal) := (EReal.coe_toReal ht hb).symm

/-- A power of two below a finite maximum is the scaled weight of its score. -/
theorem exp2_sub {x M : EReal} (hx : x ≠ ⊤) (ht : M ≠ ⊤) (hb : M ≠ ⊥) :
    Ideal.exp2 (x - M) = ((sc M * wt x : ℝ) : EReal) := by
  rw [coe_of ht hb]
  generalize M.toReal = r
  by_cases h : x = ⊥
  · subst h
    rw [EReal.bot_sub, Ideal.exp2_bot, wt_bot, mul_zero, EReal.coe_zero]
  · rw [coe_of hx h, ← EReal.coe_sub, Ideal.exp2_coe, wt_coe, EReal.coe_eq_coe_iff]
    show (2 : ℝ) ^ (x.toReal - r) = sc (r : EReal) * _
    unfold sc
    rw [EReal.toReal_coe, ← Real.rpow_add (by norm_num)]
    congr 1; ring

/-- What a column of a blockwise softmax keeps. -/
structure Col {ι : Type} (L : ℝ) (A : ι → ℝ) (m l : EReal) (a : ι → EReal) : Prop where
  /-- the running maximum is not `⊤` -/
  top : m ≠ ⊤
  /-- the running sum is the weights' sum, scaled -/
  sum : l = ((sc m * L : ℝ) : EReal)
  /-- the running value sum is the weighted values' sum, scaled -/
  val : ∀ e, a e = ((sc m * A e : ℝ) : EReal)
  /-- while no finite score was met, nothing was summed -/
  bot : m = ⊥ → L = 0 ∧ ∀ e, A e = 0

/-- Before any key: the maximum is `⊥`, the sums are zero. -/
theorem Col.init {ι : Type} : Col (ι := ι) 0 (fun _ => 0) ⊥ 0 (fun _ => 0) where
  top := bot_ne_top
  sum := by simp
  val := by simp
  bot := fun _ => ⟨rfl, fun _ => rfl⟩

/-- Rescaling a kept number to a new finite maximum. -/
theorem rescale {X : ℝ} {m M x : EReal} (hm : m ≠ ⊤) (hx : x = ((sc m * X : ℝ) : EReal)) (hz : m = ⊥ → X = 0)
    (ht : M ≠ ⊤) (hb : M ≠ ⊥) : Ideal.exp2 (m - M) * x = ((sc M * X : ℝ) : EReal) := by
  rw [exp2_sub hm ht hb, hx, ← EReal.coe_mul, EReal.coe_eq_coe_iff]
  by_cases h : m = ⊥
  · rw [hz h]; simp
  · have : wt m * sc m = 1 := by
      rw [wt, if_neg h, sc, ← Real.rpow_add (by norm_num)]; simp
    calc sc M * wt m * (sc m * X) = sc M * (wt m * sc m) * X := by ring
      _ = sc M * X := by rw [this, mul_one]

/-- A sum of coerced reals is the coerced sum. -/
theorem coe_sum {ι : Type} (s : Finset ι) (f : ι → ℝ) : (∑ i ∈ s, (f i : EReal)) = ((∑ i ∈ s, f i : ℝ) : EReal) := by
  induction s using Finset.cons_induction with
  | empty => simp
  | cons i s h ih => rw [Finset.sum_cons, Finset.sum_cons, ih, EReal.coe_add]

/-- Adding a block's powers of two to a scaled sum. -/
theorem add_block {κ : Type} [Fintype κ] {X : ℝ} {M x : EReal} (s : κ → EReal) (hs : ∀ j, s j ≠ ⊤) (ht : M ≠ ⊤) (hb : M ≠ ⊥)
    (hx : x = ((sc M * X : ℝ) : EReal)) :
    x + ∑ j, Ideal.exp2 (s j - M) = ((sc M * (X + ∑ j, wt (s j)) : ℝ) : EReal) := by
  rw [hx, Finset.sum_congr rfl fun j _ => exp2_sub (hs j) ht hb, coe_sum, ← EReal.coe_add, mul_add, Finset.mul_sum]

/-- Adding a block's weighted values to a scaled sum. -/
theorem add_values {κ : Type} [Fintype κ] {X : ℝ} {M x : EReal} (s : κ → EReal) (v : κ → EReal) (w : κ → ℝ)
    (hs : ∀ j, s j ≠ ⊤) (hv : ∀ j, v j = (w j : EReal)) (ht : M ≠ ⊤) (hb : M ≠ ⊥) (hx : x = ((sc M * X : ℝ) : EReal)) :
    x + ∑ j, v j * Ideal.exp2 (s j - M) = ((sc M * (X + ∑ j, wt (s j) * w j) : ℝ) : EReal) := by
  rw [hx, Finset.sum_congr rfl fun j _ => by rw [exp2_sub (hs j) ht hb, hv j, ← EReal.coe_mul], coe_sum, ← EReal.coe_add,
    mul_add, Finset.mul_sum]
  congr 2
  exact Finset.sum_congr rfl fun j _ => by ring

/-- The maximum of a block with a number before it. -/
def cmax {n : ℕ} (m : EReal) (s : Fin n → EReal) : EReal := max m ((Finset.univ : Finset (Fin n)).fold max ⊥ s)

/-- It is not `⊤` when nothing it covers is. -/
theorem cmax_ne_top {n : ℕ} {m : EReal} {s : Fin n → EReal} (hm : m ≠ ⊤) (hs : ∀ j, s j ≠ ⊤) : cmax m s ≠ ⊤ := by
  unfold cmax
  rw [← lt_top_iff_ne_top, max_lt_iff, Finset.fold_max_lt]
  exact ⟨lt_top_iff_ne_top.2 hm, bot_lt_top, fun j _ => lt_top_iff_ne_top.2 (hs j)⟩

/-- It is at least the number before it. -/
theorem le_cmax {n : ℕ} (m : EReal) (s : Fin n → EReal) : m ≤ cmax m s := le_max_left _ _

/-- It is at least each score of the block. -/
theorem le_cmax_of {n : ℕ} (m : EReal) (s : Fin n → EReal) (j : Fin n) : s j ≤ cmax m s :=
  le_trans ((Finset.le_fold_max _).2 (Or.inr ⟨j, Finset.mem_univ _, le_refl _⟩)) (le_max_right _ _)

/-- FOUR BLOCKS of keys folded into a column. The new maximum is over all four, the kept sums are rescaled to it once, and
    the blocks are added one after another. At least one score, the first, must be finite. -/
theorem Col.step {ι : Type} {n : ℕ} {L : ℝ} {A : ι → ℝ} {m l : EReal} {a : ι → EReal} (h : Col L A m l a)
    (s0 s1 s2 s3 : Fin n → EReal) (v0 v1 v2 v3 : ι → Fin n → EReal) (w0 w1 w2 w3 : ι → Fin n → ℝ)
    (h0 : ∀ j, s0 j ≠ ⊤) (h1 : ∀ j, s1 j ≠ ⊤) (h2 : ∀ j, s2 j ≠ ⊤) (h3 : ∀ j, s3 j ≠ ⊤) (j0 : Fin n) (hj : s0 j0 ≠ ⊥)
    (k0 : ∀ e j, v0 e j = (w0 e j : EReal)) (k1 : ∀ e j, v1 e j = (w1 e j : EReal))
    (k2 : ∀ e j, v2 e j = (w2 e j : EReal)) (k3 : ∀ e j, v3 e j = (w3 e j : EReal)) (M : EReal)
    (hM : M = cmax (cmax (cmax (cmax m s0) s1) s2) s3) :
    Col (L + ∑ j, wt (s0 j) + ∑ j, wt (s1 j) + ∑ j, wt (s2 j) + ∑ j, wt (s3 j))
      (fun e => A e + ∑ j, wt (s0 j) * w0 e j + ∑ j, wt (s1 j) * w1 e j + ∑ j, wt (s2 j) * w2 e j + ∑ j, wt (s3 j) * w3 e j)
      M
      (Ideal.exp2 (m - M) * l + ∑ j, Ideal.exp2 (s0 j - M) + ∑ j, Ideal.exp2 (s1 j - M) + ∑ j, Ideal.exp2 (s2 j - M)
        + ∑ j, Ideal.exp2 (s3 j - M))
      (fun e => Ideal.exp2 (m - M) * a e + ∑ j, v0 e j * Ideal.exp2 (s0 j - M) + ∑ j, v1 e j * Ideal.exp2 (s1 j - M)
        + ∑ j, v2 e j * Ideal.exp2 (s2 j - M) + ∑ j, v3 e j * Ideal.exp2 (s3 j - M)) := by
  have ht : M ≠ ⊤ := hM ▸ cmax_ne_top (cmax_ne_top (cmax_ne_top (cmax_ne_top h.top h0) h1) h2) h3
  have hb : M ≠ ⊥ := by
    have : s0 j0 ≤ M := hM ▸ le_trans (le_cmax_of m s0 j0) (le_trans (le_cmax _ s1) (le_trans (le_cmax _ s2) (le_cmax _ s3)))
    intro e; rw [e] at this; exact hj (le_bot_iff.1 this)
  refine ⟨ht, ?_, fun e => ?_, fun e => absurd e hb⟩
  · exact add_block s3 h3 ht hb (add_block s2 h2 ht hb (add_block s1 h1 ht hb (add_block s0 h0 ht hb
      (rescale h.top h.sum (fun e => (h.bot e).1) ht hb))))
  · exact add_values s3 _ _ h3 (k3 e) ht hb (add_values s2 _ _ h2 (k2 e) ht hb (add_values s1 _ _ h1 (k1 e) ht hb
      (add_values s0 _ _ h0 (k0 e) ht hb (rescale h.top (h.val e) (fun he => (h.bot he).2 e) ht hb))))

/-- The quotient of what a column keeps is the softmax average, whatever the maximum was. -/
theorem Col.div {ι : Type} {L : ℝ} {A : ι → ℝ} {m l : EReal} {a : ι → EReal} (h : Col L A m l a) (hL : 0 < L) (e : ι) :
    Ideal.div (a e) l = ((A e / L : ℝ) : EReal) := by
  rw [h.val e, h.sum]
  have h0 : sc m * L ≠ 0 := mul_ne_zero (sc_pos m).ne' hL.ne'
  unfold Ideal.div
  rw [if_neg (by exact_mod_cast h0), ← EReal.coe_inv, ← EReal.coe_mul, EReal.coe_eq_coe_iff, ← div_eq_mul_inv,
    mul_div_mul_left _ _ (sc_pos m).ne']

end Cert.Flash

end
-- ==== Proof.Flash.Tile.lean ====
/- The vector operations of one group of four key blocks, and what each column of their results is.

   A group takes the scores of four blocks of 256 keys against 1024 queries (`S256x1024` each), the values of those keys
   (`S1x1x128x256` each) and what is kept per query (`m`, `l : S1x1024`, `a : S128x1024`). `headStep` is the update; `VCol`
   says of every column what Column.lean's `Col` says of one, and `VCol.step` that the update keeps it. -/
module

public import proofs.«01_k».proof.Proof.Gen.KernelIdeal
public import proofs.«01_k».proof.Proof.Flash.Column
public import Idealize.ShloMosaic.Lib.ValueLayout
public import Idealize.ShloMosaic.Lib.MatmulPlain

@[expose] public section

noncomputable section

namespace Cert.Flash

open Cert.KernelIdeal Cert.KernelIdeal.Gen Idealize.ShloMosaic Idealize.ShloMosaic.ValueIdx

/-- The running maximum over one more block of scores. -/
def vmax (m : FVec Ideal S1x1024 .f32) (s : FVec Ideal S256x1024 .f32) : FVec Ideal S1x1024 .f32 :=
  maximumf m (shapeCast S1x1024 (multiReduction .maximumf [0] S1024 s 0xFF800000#32 reduces_S256x1024_S1024 (.inl rfl) rfl)
    shapeCasts_S1024_S1x1024)

/-- The running maximum over four more blocks. -/
def newM (m : FVec Ideal S1x1024 .f32) (s0 s1 s2 s3 : FVec Ideal S256x1024 .f32) : FVec Ideal S1x1024 .f32 :=
  vmax (vmax (vmax (vmax m s0) s1) s2) s3

/-- A block's powers of two below the maximum. -/
def pexp (s : FVec Ideal S256x1024 .f32) (M : FVec Ideal S1x1024 .f32) : FVec Ideal S256x1024 .f32 :=
  exp2 (subf s (broadcastTo S256x1024 M broadcasts_S1x1024_S256x1024))

/-- The running sum with one more block. -/
def ladd (l : FVec Ideal S1x1024 .f32) (s : FVec Ideal S256x1024 .f32) (M : FVec Ideal S1x1024 .f32) : FVec Ideal S1x1024 .f32 :=
  addf l (shapeCast S1x1024 (multiReduction .add [0] S1024 (pexp s M) 0x00000000#32 reduces_S256x1024_S1024 (.inl rfl) rfl)
    shapeCasts_S1024_S1x1024)

/-- The running sum with four more blocks, rescaled first. -/
def newL (m l M : FVec Ideal S1x1024 .f32) (s0 s1 s2 s3 : FVec Ideal S256x1024 .f32) : FVec Ideal S1x1024 .f32 :=
  ladd (ladd (ladd (ladd (mulf (exp2 (subf m M)) l) s0 M) s1 M) s2 M) s3 M

/-- The running value sum with one more block. -/
def aadd (a : FVec Ideal S128x1024 .f32) (v : Vec Ideal S1x1x128x256 .bf16) (s : FVec Ideal S256x1024 .f32)
    (M : FVec Ideal S1x1024 .f32) : FVec Ideal S128x1024 .f32 :=
  addf a (FloatOps.matmul (F := Ideal) (φ₁ := .bf16) (φ₂ := .bf16) dot_S128x256_S256x1024_S128x1024_1_0_0_1_n_n none (shapeCast S128x256 v shapeCasts_S1x1x128x256_S128x256)
    (truncf .bf16 (pexp s M) bitsLt_bf16_f32) (constant S128x1024 .f32 0x00000000#32))

/-- The running value sum with four more blocks, rescaled first. -/
def newA (m M : FVec Ideal S1x1024 .f32) (a : FVec Ideal S128x1024 .f32) (v0 v1 v2 v3 : Vec Ideal S1x1x128x256 .bf16)
    (s0 s1 s2 s3 : FVec Ideal S256x1024 .f32) : FVec Ideal S128x1024 .f32 :=
  aadd (aadd (aadd (aadd (mulf (broadcastTo S128x1024 (exp2 (subf m M)) broadcasts_S1x1024_S128x1024) a) v0 s0 M) v1 s1 M)
    v2 s2 M) v3 s3 M

/-- A block's scores: keys times queries. -/
def scores (q : Vec Ideal S1x64x1024 .bf16) (kb : Vec Ideal S1x1x256x64 .bf16) : FVec Ideal S256x1024 .f32 :=
  FloatOps.matmul (F := Ideal) (φ₁ := .bf16) (φ₂ := .bf16) dot_S256x64_S64x1024_S256x1024_1_0_0_1_n_n none (shapeCast S256x64 kb shapeCasts_S1x1x256x64_S256x64)
    (shapeCast S64x1024 q shapeCasts_S1x64x1024_S64x1024) (constant S256x1024 .f32 0x00000000#32)

/-- One head's update by a group of four blocks, at their scores: the new maximum, sum and value sum. -/
def headStep (s : Fin 4 → FVec Ideal S256x1024 .f32) (v : Fin 4 → Vec Ideal S1x1x128x256 .bf16)
    (m l : FVec Ideal S1x1024 .f32) (a : FVec Ideal S128x1024 .f32) :
    FVec Ideal S1x1024 .f32 × FVec Ideal S1x1024 .f32 × FVec Ideal S128x1024 .f32 :=
  (newM m (s 0) (s 1) (s 2) (s 3), newL m l (newM m (s 0) (s 1) (s 2) (s 3)) (s 0) (s 1) (s 2) (s 3),
    newA m (newM m (s 0) (s 1) (s 2) (s 3)) a (v 0) (v 1) (v 2) (v 3) (s 0) (s 1) (s 2) (s 3))

/-! ## Columns -/

/-- Dropping two leading unit axes keeps the other two coordinates. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  congrArg x (reshapeEquiv_ix2_11ab _ i j)

/-- The element of a block that a column's reduction reads at key `j`. -/
theorem lift_key (h : S256x1024.Reduces [0] S1024) (c : Fin 1024) (j : Fin 256) : h.lift (ix1 c) j = ix2 j c := by
  funext a
  match a with
  | ⟨0, _⟩ => rfl
  | ⟨1, _⟩ => rfl

/-- A column of the new maximum. -/
theorem vmax_apply (m : FVec Ideal S1x1024 .f32) (s : FVec Ideal S256x1024 .f32) (c : Fin 1024) :
    vmax m s (ix2 0 c) = cmax (m (ix2 0 c)) (fun j : Fin 256 => s (ix2 j c)) := by
  unfold vmax
  rw [maximumf_apply, shapeCast_a_1a_apply]
  refine congrArg (max _) ((Ideal.multiReduction_maximumf_single s _ _ _ _ (ix1 c)).trans ?_)
  have e : (FloatOps.ofBits FTy.f32 0xFF800000#32 : Ideal .f32) = (⊥ : EReal) := by
    simp [Ideal.ofBits, Ideal.ieee]
  rw [e]
  exact congrArg (fun f => (Finset.univ : Finset (Fin 256)).fold max (⊥ : EReal) f) (funext fun j => congrArg s (lift_key _ c j))

/-- A column of a block's powers of two. -/
theorem pexp_apply (s : FVec Ideal S256x1024 .f32) (M : FVec Ideal S1x1024 .f32) (j : Fin 256) (c : Fin 1024) :
    pexp s M (ix2 j c) = Ideal.exp2 (s (ix2 j c) - M (ix2 0 c)) := by
  unfold pexp
  show Ideal.exp2 (subf s _ (ix2 j c)) = _
  rw [subf_apply, broadcastTo_1b_ab_apply]

/-- A column of the new sum. -/
theorem ladd_apply (l : FVec Ideal S1x1024 .f32) (s : FVec Ideal S256x1024 .f32) (M : FVec Ideal S1x1024 .f32) (c : Fin 1024) :
    ladd l s M (ix2 0 c) = l (ix2 0 c) + ∑ j : Fin 256, Ideal.exp2 (s (ix2 j c) - M (ix2 0 c)) := by
  unfold ladd
  rw [addf_apply, shapeCast_a_1a_apply]
  refine congrArg (_ + ·) ((Ideal.multiReduction_add_single (pexp s M) _ _ _ _ (ix1 c)).trans ?_)
  exact Finset.sum_congr rfl fun j _ => (congrArg (pexp s M) (lift_key _ c j)).trans (pexp_apply s M j c)

/-- An element of the new value sum. -/
theorem aadd_apply (a : FVec Ideal S128x1024 .f32) (v : Vec Ideal S1x1x128x256 .bf16) (s : FVec Ideal S256x1024 .f32)
    (M : FVec Ideal S1x1024 .f32) (e : Fin 128) (c : Fin 1024) :
    aadd a v s M (ix2 e c)
      = a (ix2 e c) + ∑ j : Fin 256, v (ix4 0 0 e j) * Ideal.exp2 (s (ix2 j c) - M (ix2 0 c)) := by
  unfold aadd
  rw [addf_apply]
  refine congrArg (_ + ·) ((Ideal.matmul_plain_apply (M := 128) (K := 256) (N := 1024) none _ _ _ e c).trans ?_)
  rw [constant_apply, Ideal.ofBits_zero_f32, zero_add]
  refine Finset.sum_congr rfl fun j _ => ?_
  rw [truncf_apply, pexp_apply, shapeCast_11ab_ab_apply]

/-- A score: a key times a query. -/
theorem scores_apply (q : Vec Ideal S1x64x1024 .bf16) (kb : Vec Ideal S1x1x256x64 .bf16) (j : Fin 256) (c : Fin 1024) :
    scores q kb (ix2 j c) = ∑ d : Fin 64, (kb (ix4 0 0 j d) * q (ix3 0 d c) : EReal) := by
  unfold scores
  refine (Ideal.matmul_plain_apply (M := 256) (K := 64) (N := 1024) none _ _ _ j c).trans ?_
  rw [constant_apply, Ideal.ofBits_zero_f32, zero_add]
  refine Finset.sum_congr rfl fun d _ => ?_
  rw [shapeCast_1ab_ab_apply, shapeCast_11ab_ab_apply]

/-! ## The update of all columns -/

/-- `Col` at every column. -/
def VCol (L : Fin 1024 → ℝ) (A : Fin 128 → Fin 1024 → ℝ) (m l : FVec Ideal S1x1024 .f32) (a : FVec Ideal S128x1024 .f32) : Prop :=
  ∀ c : Fin 1024, Col (L c) (fun e => A e c) (m (ix2 0 c)) (l (ix2 0 c)) (fun e : Fin 128 => a (ix2 e c))

/-- Four blocks folded into every column. -/
theorem VCol.step {L : Fin 1024 → ℝ} {A : Fin 128 → Fin 1024 → ℝ} {m l : FVec Ideal S1x1024 .f32} {a : FVec Ideal S128x1024 .f32}
    (h : VCol L A m l a) (s : Fin 4 → FVec Ideal S256x1024 .f32) (v : Fin 4 → Vec Ideal S1x1x128x256 .bf16)
    (w : Fin 4 → Fin 128 → Fin 256 → ℝ) (hs : ∀ h j c, s h (ix2 j c) ≠ (⊤ : EReal)) (h0 : ∀ c, s 0 (ix2 0 c) ≠ (⊥ : EReal))
    (hv : ∀ h e j, v h (ix4 0 0 e j) = (w h e j : EReal)) :
    VCol (fun c => L c + ∑ h, ∑ j : Fin 256, wt (s h (ix2 j c)))
      (fun e c => A e c + ∑ h, ∑ j : Fin 256, wt (s h (ix2 j c)) * w h e j)
      (headStep s v m l a).1 (headStep s v m l a).2.1 (headStep s v m l a).2.2 := by
  dsimp only [headStep]
  intro c
  have key := (h c).step (fun j : Fin 256 => s 0 (ix2 j c)) (fun j => s 1 (ix2 j c)) (fun j => s 2 (ix2 j c)) (fun j => s 3 (ix2 j c))
    (fun e j => v 0 (ix4 0 0 e j)) (fun e j => v 1 (ix4 0 0 e j)) (fun e j => v 2 (ix4 0 0 e j)) (fun e j => v 3 (ix4 0 0 e j))
    (w 0) (w 1) (w 2) (w 3) (fun j => hs 0 j c) (fun j => hs 1 j c) (fun j => hs 2 j c) (fun j => hs 3 j c) 0 (h0 c)
    (hv 0) (hv 1) (hv 2) (hv 3) (newM m (s 0) (s 1) (s 2) (s 3) (ix2 0 c)) (by
      unfold newM; simp only [vmax_apply])
  generalize newM m (s 0) (s 1) (s 2) (s 3) = M at key ⊢
  simp only [newL, newA, ladd_apply, aadd_apply, mulf_apply, broadcastTo_1b_ab_apply]
  simp only [Fin.sum_univ_four, ← add_assoc]
  exact key

end Cert.Flash

end
-- ==== Proof.Flash.Sweep.lean ====
/- A sweep of all key groups: what every column keeps after `k` groups of 1024 keys, and the masked scores of a group that
   straddles the diagonal.

   `W c t` is key `t`'s weight for query column `c`, `V e t` the key's value at feature `e`. `Kept W V k` says that the sums run
   over the keys below `1024 k`. -/
module

public import proofs.«01_k».proof.Proof.Flash.Tile
public import Idealize.ShloMosaic.Lib.WordCmp
public import Idealize.ShloMosaic.PureOps.IdealRules

@[expose] public section

noncomputable section

namespace Cert.Flash

open Cert.KernelIdeal Cert.KernelIdeal.Gen Idealize.ShloMosaic Idealize.ShloMosaic.ValueIdx

/-- What is kept after the keys below `1024 k`. -/
def Kept (W : Fin 1024 → ℕ → ℝ) (V : Fin 128 → ℕ → ℝ) (k : ℕ) (m l : FVec Ideal S1x1024 .f32) (a : FVec Ideal S128x1024 .f32) :
    Prop :=
  VCol (fun c => ∑ t ∈ Finset.range (1024 * k), W c t) (fun e c => ∑ t ∈ Finset.range (1024 * k), W c t * V e t) m l a

/-- A sum over one more group of 1024 keys is the sum so far and the group's four blocks. -/
theorem sum_group (f : ℕ → ℝ) (k : ℕ) :
    ∑ t ∈ Finset.range (1024 * (k + 1)), f t
      = ∑ t ∈ Finset.range (1024 * k), f t + ∑ h : Fin 4, ∑ j : Fin 256, f (1024 * k + 256 * h.val + j.val) := by
  have e : 1024 * (k + 1) = 1024 * k + 256 + 256 + 256 + 256 := by ring
  rw [e]
  simp only [Finset.sum_range_add, Fin.sum_univ_four]
  have b : ∀ x : ℕ, ∑ j : Fin 256, f (x + j.val) = ∑ j ∈ Finset.range 256, f (x + j) :=
    fun x => Fin.sum_univ_eq_sum_range (fun j => f (x + j)) 256
  simp only [b]
  norm_num [add_assoc]

/-- One group more. -/
theorem Kept.advance {W : Fin 1024 → ℕ → ℝ} {V : Fin 128 → ℕ → ℝ} {k : ℕ} {m l : FVec Ideal S1x1024 .f32}
    {a : FVec Ideal S128x1024 .f32} (h : Kept W V k m l a) (s : Fin 4 → FVec Ideal S256x1024 .f32)
    (v : Fin 4 → Vec Ideal S1x1x128x256 .bf16) (hs : ∀ h j c, s h (ix2 j c) ≠ (⊤ : EReal))
    (h0 : ∀ c, s 0 (ix2 0 c) ≠ (⊥ : EReal))
    (hw : ∀ (h : Fin 4) (j : Fin 256) (c : Fin 1024), wt (s h (ix2 j c)) = W c (1024 * k + 256 * h.val + j.val))
    (hv : ∀ (h : Fin 4) (e : Fin 128) (j : Fin 256), v h (ix4 0 0 e j) = (V e (1024 * k + 256 * h.val + j.val) : EReal)) :
    Kept W V (k + 1) (headStep s v m l a).1 (headStep s v m l a).2.1 (headStep s v m l a).2.2 := by
  have := VCol.step h s v (fun h e j => V e (1024 * k + 256 * h.val + j.val)) hs h0 hv
  unfold Kept
  simp only [sum_group]
  simp only [hw] at this
  exact this

/-- The mask of a block of the straddling group, block `h`: scores of keys past the query are `⊥`. -/
def masked (h : Fin 4) (s : FVec Ideal S256x1024 .f32) : FVec Ideal S256x1024 .f32 :=
  select (cmpi .sle (addi (iota .tc S256x1024 32 [0] iota_S256x1024_d0_w32) (broadcast S256x1024 (BitVec.ofNat 32 (256 * h.val))))
    (iota .tc S256x1024 32 [1] iota_S256x1024_d1_w32)) s (broadcast S256x1024 (Named.named κ "mask" 0xF149F2CA#32))

/-- A masked score is the score where the key's place in the group is not past the query's, `⊥` elsewhere. -/
theorem masked_apply (h : Fin 4) (s : FVec Ideal S256x1024 .f32) (j : Fin 256) (c : Fin 1024) :
    masked h s (ix2 j c) = if 256 * h.val + j.val ≤ c.val then s (ix2 j c) else (⊥ : EReal) := by
  have hc : (cmpi .sle (addi (iota .tc S256x1024 32 [0] iota_S256x1024_d0_w32) (broadcast S256x1024 (BitVec.ofNat 32 (256 * h.val))))
      (iota .tc S256x1024 32 [1] iota_S256x1024_d1_w32)) (ix2 j c) = BitVec.ofBool (decide (256 * h.val + j.val ≤ c.val)) := by
    show IntOp.cmpi .sle (IntOp.addi (iota .tc S256x1024 32 [0] iota_S256x1024_d0_w32 (ix2 j c)) (BitVec.ofNat 32 (256 * h.val)))
      (iota .tc S256x1024 32 [1] iota_S256x1024_d1_w32 (ix2 j c)) = _
    rw [iota_single_apply, iota_single_apply]
    have e : IntOp.addi (BitVec.ofNat 32 j.val) (BitVec.ofNat 32 (256 * h.val)) = BitVec.ofNat 32 (256 * h.val + j.val) := by
      rw [add_comm (256 * h.val)]; exact (BitVec.ofNat_add _ _).symm
    refine (congrArg (fun x => IntOp.cmpi .sle x (BitVec.ofNat 32 c.val)) e).trans ?_
    exact WordCmp.cmpi_sle_ofNat (by have := h.isLt; have := j.isLt; omega) (by have := c.isLt; omega)
  unfold masked
  rw [select_apply, hc]
  by_cases hle : 256 * h.val + j.val ≤ c.val
  · rw [if_pos hle, decide_eq_true hle]; rfl
  · rw [if_neg hle, decide_eq_false hle]
    exact IdealRules.named_const.ideal_named_scalar Cert.KernelIdeal.κ "mask" (φ := .f32) 0xF149F2CA#32 ⊥ rfl

end Cert.Flash

end
-- ==== Proof.Flash.Point.lean ====
/- What one grid point computes, as vector operations on its blocks.

   A point holds 1024 queries of one head (two score maps), all keys and values of that head, the four lambda vectors and the
   norm's weights. It sweeps the key groups before its own unmasked, its own group masked, divides, subtracts the two maps and
   normalises. `out_eq` writes its result with the operations of Tile.lean and Sweep.lean. -/
module

public import proofs.«01_k».proof.Proof.Gen.KernelIdeal.Frame
public import proofs.«01_k».proof.Proof.Flash.Sweep
public import Idealize.ShloMosaic.Lib.Pipeline.ValueKit.Tiles

@[expose] public section

noncomputable section

namespace Cert.Flash

open Cert.KernelIdeal Cert.KernelIdeal.Gen Idealize.ShloMosaic Idealize.ShloMosaic.TcCoe Idealize.ShloMosaic.ValueIdx

/-! ## The loads -/

/-- The `n`-th block of 256 keys of score map `s`. -/
def keyBlock (x1 : Vec Ideal S1x2x8192x64 .bf16) (s : Fin 2) (n : ℕ) : Vec Ideal S1x1x256x64 .bf16 :=
  fun ix => x1 (ix4 0 s ⟨(256 * n + (ix 2).val) % 8192, Nat.mod_lt _ (by norm_num)⟩ (ix 3))

/-- The values of the `n`-th block of 256 keys. -/
def valBlock (x2 : Vec Ideal S1x32x128x256 .bf16) (n : ℕ) : Vec Ideal S1x1x128x256 .bf16 :=
  fun ix => x2 (ix4 0 ⟨n % 32, Nat.mod_lt _ (by norm_num)⟩ (ix 2) (ix 3))

/-- The queries of score map `s`. -/
def queries (x0 : Vec Ideal S1x128x1024 .bf16) (s : Fin 2) : Vec Ideal S1x64x1024 .bf16 :=
  fun ix => x0 (ix3 0 ⟨64 * s.val + (ix 1).val, by have := s.isLt; have : (ix 1).val < 64 := (ix 1).isLt; omega⟩ (ix 2))

/-- A load of 256 keys at key offset `256 n` of map `s` is the `n`-th block. -/
theorem load_keys (arg4 : Memref sig .tc .vmem S1x2x8192x64 .bf16) (harg4 : arg4.IsWhole) (x1 : Vec Ideal S1x2x8192x64 .bf16)
    (off : Fin 4 → ℕ) (inb : ∀ a, off a + S1x1x256x64.size a ≤ S1x2x8192x64.size a) (s : Fin 2) (n : ℕ)
    (h : off = ![0, s.val, 256 * n, 0]) :
    View.readAt (Elt Ideal) arg4.view (Rect.unit (s := S1x2x8192x64) off S1x1x256x64.size inb).toLoadRect (harg4.unread x1)
      = keyBlock x1 s n := by
  subst h
  have hn : 256 * n + 256 ≤ 8192 := inb 2
  rw [View.readAt_eq_ld, harg4.read_unread]
  funext ix
  have h2 : (ix 2).val < 256 := (ix 2).isLt
  refine View.ld_unit_apply_of x1 _ _ _ ix _ fun a => ?_
  match a with
  | ⟨0, _⟩ => have : (ix 0).val < 1 := (ix 0).isLt; show 0 = 0 + (ix 0).val; omega
  | ⟨1, _⟩ => have : (ix 1).val < 1 := (ix 1).isLt; show s.val = s.val + (ix 1).val; omega
  | ⟨2, _⟩ => show (256 * n + (ix 2).val) % 8192 = 256 * n + (ix 2).val; exact Nat.mod_eq_of_lt (by omega)
  | ⟨3, _⟩ => show (ix 3).val = 0 + (ix 3).val; omega

/-- A load of the `n`-th block of values. -/
theorem load_vals (arg5 : Memref sig .tc .vmem S1x32x128x256 .bf16) (harg5 : arg5.IsWhole) (x2 : Vec Ideal S1x32x128x256 .bf16)
    (off : Fin 4 → ℕ) (inb : ∀ a, off a + S1x1x128x256.size a ≤ S1x32x128x256.size a) (n : ℕ)
    (h : off = ![0, n, 0, 0]) :
    View.readAt (Elt Ideal) arg5.view (Rect.unit (s := S1x32x128x256) off S1x1x128x256.size inb).toLoadRect (harg5.unread x2)
      = valBlock x2 n := by
  subst h
  have hn : n + 1 ≤ 32 := inb 1
  rw [View.readAt_eq_ld, harg5.read_unread]
  funext ix
  refine View.ld_unit_apply_of x2 _ _ _ ix _ fun a => ?_
  match a with
  | ⟨0, _⟩ => have : (ix 0).val < 1 := (ix 0).isLt; show 0 = 0 + (ix 0).val; omega
  | ⟨1, _⟩ => have : (ix 1).val < 1 := (ix 1).isLt; show n % 32 = n + (ix 1).val; rw [Nat.mod_eq_of_lt (by omega)]; omega
  | ⟨2, _⟩ => show (ix 2).val = 0 + (ix 2).val; omega
  | ⟨3, _⟩ => show (ix 3).val = 0 + (ix 3).val; omega

/-- A load of one map's queries. -/
theorem load_queries (arg3 : Memref sig .tc .vmem S1x128x1024 .bf16) (harg3 : arg3.IsWhole) (x0 : Vec Ideal S1x128x1024 .bf16)
    (off : Fin 3 → ℕ) (inb : ∀ a, off a + S1x64x1024.size a ≤ S1x128x1024.size a) (s : Fin 2) (h : off = ![0, 64 * s.val, 0]) :
    View.readAt (Elt Ideal) arg3.view (Rect.unit (s := S1x128x1024) off S1x64x1024.size inb).toLoadRect (harg3.unread x0)
      = queries x0 s := by
  subst h
  rw [View.readAt_eq_ld, harg3.read_unread]
  funext ix
  refine View.ld_unit_apply_of x0 _ _ _ ix _ fun a => ?_
  match a with
  | ⟨0, _⟩ => have : (ix 0).val < 1 := (ix 0).isLt; show 0 = 0 + (ix 0).val; omega
  | ⟨1, _⟩ => rfl
  | ⟨2, _⟩ => show (ix 2).val = 0 + (ix 2).val; omega

/-! ## The trip counts and the offsets -/

/-- The number of a point's query block. -/
abbrev qblk (i : grid0.Coords) : ℕ := (i 2).val

/-- It is below eight. -/
theorem qblk_lt (i : grid0.Coords) : qblk i < 8 := (i 2).isLt

/-- A word of small numbers: what the offsets' arithmetic computes. -/
theorem word_small {x : ℕ} (h : x < 2 ^ 32) : (BitVec.ofNat 32 x).toNat = x := by
  rw [BitVec.toNat_ofNat]; exact Nat.mod_eq_of_lt h

/-- The unmasked loop runs once per group before the point's own. -/
theorem trips1 (i : grid0.Coords) : (k0_t1_loop i).trips = qblk i := by
  have h := qblk_lt i
  show Scf.trips (k0_t1_loop i).lb (k0_t1_loop i).ub (k0_t1_loop i).st = _
  unfold k0_t1_loop
  dsimp only
  show _ = (i 2).val
  have h' : (i 2).val < 8 := h
  revert h'
  generalize (i 2).val = n
  intro h'
  interval_cases n <;> rfl

/-- The remainder loop does not run. -/
theorem trips2 (i : grid0.Coords) : (k0_t2_loop i).trips = 0 := by
  have h' : (i 2).val < 8 := qblk_lt i
  show Scf.trips (k0_t2_loop i).lb (k0_t2_loop i).ub (k0_t2_loop i).st = _
  unfold k0_t2_loop
  dsimp only
  revert h'
  generalize (i 2).val = n
  intro h'
  interval_cases n <;> rfl

/-- The key offset of block `h` of trip `k`, first map. -/
theorem off1_eq (i : grid0.Coords) (k : Fin (k0_t1_loop i).trips) (h : Fin 4) :
    k0_off1 i k (BitVec.ofNat 32 h.val) = ![0, (0 : Fin 2).val, 256 * (4 * k.val + h.val), 0] := by
  have hk : k.val < 8 := lt_of_lt_of_le k.isLt ((trips1 i).le.trans (qblk_lt i).le)
  unfold k0_off1
  dsimp only
  revert hk
  generalize k.val = n
  intro hk
  interval_cases n <;> fin_cases h <;> rfl

/-- The key offset of block `h` of trip `k`, second map. -/
theorem off3_eq (i : grid0.Coords) (k : Fin (k0_t1_loop i).trips) (h : Fin 4) :
    k0_off3 i k (BitVec.ofNat 32 h.val) = ![0, (1 : Fin 2).val, 256 * (4 * k.val + h.val), 0] := by
  have hk : k.val < 8 := lt_of_lt_of_le k.isLt ((trips1 i).le.trans (qblk_lt i).le)
  unfold k0_off3
  dsimp only
  revert hk
  generalize k.val = n
  intro hk
  interval_cases n <;> fin_cases h <;> rfl

/-- The value block of block `h` of trip `k`. -/
theorem off2_eq (i : grid0.Coords) (k : Fin (k0_t1_loop i).trips) (h : Fin 4) :
    k0_off2 i k (BitVec.ofNat 32 h.val) = ![0, 4 * k.val + h.val, 0, 0] := by
  have hk : k.val < 8 := lt_of_lt_of_le k.isLt ((trips1 i).le.trans (qblk_lt i).le)
  unfold k0_off2
  dsimp only
  revert hk
  generalize k.val = n
  intro hk
  interval_cases n <;> fin_cases h <;> rfl

/-- The key offset of block `h` of the point's own group, first map. -/
theorem off7_eq (i : grid0.Coords) (h : Fin 4) :
    k0_off7 i (BitVec.ofNat 32 h.val) = ![0, (0 : Fin 2).val, 256 * (4 * qblk i + h.val), 0] := by
  have hk := qblk_lt i
  unfold k0_off7 qblk at *
  dsimp only
  revert hk
  generalize (i 2).val = n
  intro hk
  interval_cases n <;> fin_cases h <;> rfl

/-- The key offset of block `h` of the point's own group, second map. -/
theorem off9_eq (i : grid0.Coords) (h : Fin 4) :
    k0_off9 i (BitVec.ofNat 32 h.val) = ![0, (1 : Fin 2).val, 256 * (4 * qblk i + h.val), 0] := by
  have hk := qblk_lt i
  unfold k0_off9 qblk at *
  dsimp only
  revert hk
  generalize (i 2).val = n
  intro hk
  interval_cases n <;> fin_cases h <;> rfl

/-- The value block of block `h` of the point's own group. -/
theorem off8_eq (i : grid0.Coords) (h : Fin 4) :
    k0_off8 i (BitVec.ofNat 32 h.val) = ![0, 4 * qblk i + h.val, 0, 0] := by
  have hk := qblk_lt i
  unfold k0_off8 qblk at *
  dsimp only
  revert hk
  generalize (i 2).val = n
  intro hk
  interval_cases n <;> fin_cases h <;> rfl

/-! ## One trip, and the epilogue -/

/-- What is carried: maximum, sum and value sum of the first map, then of the second. -/
abbrev Carry : Type :=
  FVec Ideal S1x1024 .f32 × FVec Ideal S1x1024 .f32 × FVec Ideal S128x1024 .f32 × FVec Ideal S1x1024 .f32 × FVec Ideal S1x1024 .f32
    × FVec Ideal S128x1024 .f32

/-- Both maps' update by a group. -/
def bothStep (s0 s1 : Fin 4 → FVec Ideal S256x1024 .f32) (v : Fin 4 → Vec Ideal S1x1x128x256 .bf16) (st : Carry) : Carry :=
  ((headStep s0 v st.1 st.2.1 st.2.2.1).1, (headStep s0 v st.1 st.2.1 st.2.2.1).2.1, (headStep s0 v st.1 st.2.1 st.2.2.1).2.2,
    (headStep s1 v st.2.2.2.1 st.2.2.2.2.1 st.2.2.2.2.2).1, (headStep s1 v st.2.2.2.1 st.2.2.2.2.1 st.2.2.2.2.2).2.1,
    (headStep s1 v st.2.2.2.1 st.2.2.2.2.1 st.2.2.2.2.2).2.2)

/-- A trip of the unmasked loop is the update by its group. -/
theorem trip_eq (c : Dev nD) (i : grid0.Coords) (arg3 : Memref sig .tc .vmem S1x128x1024 .bf16) (harg3 : arg3.IsWhole) (arg4 : Memref sig .tc .vmem S1x2x8192x64 .bf16) (harg4 : arg4.IsWhole)
  (arg5 : Memref sig .tc .vmem S1x32x128x256 .bf16) (harg5 : arg5.IsWhole) (arg6 : Memref sig .tc .vmem S4x64 .f32) (harg6 : arg6.IsWhole)
  (arg7 : Memref sig .tc .vmem S128x1 .f32) (harg7 : arg7.IsWhole) (arg8 : Memref sig .tc .vmem S1x1024x128 .bf16) (harg8 : arg8.IsWhole)
  (v0 v2 : Vec Ideal S1x64x1024 .bf16) (x1 : Vec Ideal S1x2x8192x64 .bf16) (x2 : Vec Ideal S1x32x128x256 .bf16)
  (k : Fin (k0_t1_loop i).trips) (st : Carry) :
    tripR_k0_t1 (F := Ideal) Variants.none c none i arg3 harg3 arg4 harg4 arg5 harg5 arg6 harg6 arg7 harg7 arg8 harg8 v0 v2 (harg4.unread x1) (harg5.unread x2) k st
      = bothStep (fun h => scores v0 (keyBlock x1 0 (4 * k.val + h.val))) (fun h => scores v2 (keyBlock x1 1 (4 * k.val + h.val)))
          (fun h => valBlock x2 (4 * k.val + h.val)) st := by
  have e : tripR_k0_t1 (F := Ideal) Variants.none c none i arg3 harg3 arg4 harg4 arg5 harg5 arg6 harg6 arg7 harg7 arg8 harg8 v0 v2 (harg4.unread x1) (harg5.unread x2) k st
      = bothStep
        (fun h => scores v0 (View.readAt (Elt Ideal) arg4.view (Rect.unit (s := S1x2x8192x64) (k0_off1 i k (BitVec.ofNat 32 h.val)) S1x1x256x64.size (k0_off1_inb i k h)).toLoadRect (harg4.unread x1)))
        (fun h => scores v2 (View.readAt (Elt Ideal) arg4.view (Rect.unit (s := S1x2x8192x64) (k0_off3 i k (BitVec.ofNat 32 h.val)) S1x1x256x64.size (k0_off3_inb i k h)).toLoadRect (harg4.unread x1)))
        (fun h => View.readAt (Elt Ideal) arg5.view (Rect.unit (s := S1x32x128x256) (k0_off2 i k (BitVec.ofNat 32 h.val)) S1x1x128x256.size (k0_off2_inb i k h)).toLoadRect (harg5.unread x2))
        st := by
    unfold tripR_k0_t1 trip_k0_t1
    rfl
  rw [e]
  have e0 : ∀ h : Fin 4, _ := fun h => load_keys arg4 harg4 x1 _ (k0_off1_inb i k h) 0 (4 * k.val + h.val) (off1_eq i k h)
  have e1 : ∀ h : Fin 4, _ := fun h => load_keys arg4 harg4 x1 _ (k0_off3_inb i k h) 1 (4 * k.val + h.val) (off3_eq i k h)
  have e2 : ∀ h : Fin 4, _ := fun h => load_vals arg5 harg5 x2 _ (k0_off2_inb i k h) (4 * k.val + h.val) (off2_eq i k h)
  simp only [e0, e1, e2]

/-- The factor of the second map, from the four lambda vectors. -/
def lamV (lv : Vec Ideal S4x64 .f32) : FVec Ideal S1x1 .f32 :=
  addf (subf
    (exp (shapeCast S1x1 (multiReduction .add [1] S1 (mulf (extractStridedSlice S1x64 ![0, 0] lv slices_S4x64_o0_0_S1x64)
      (extractStridedSlice S1x64 ![1, 0] lv slices_S4x64_o1_0_S1x64)) 0x00000000#32 reduces_S1x64_S1 (.inl rfl) rfl) shapeCasts_S1_S1x1))
    (exp (shapeCast S1x1 (multiReduction .add [1] S1 (mulf (extractStridedSlice S1x64 ![2, 0] lv slices_S4x64_o2_0_S1x64)
      (extractStridedSlice S1x64 ![3, 0] lv slices_S4x64_o3_0_S1x64)) 0x00000000#32 reduces_S1x64_S1 (.inl rfl) rfl) shapeCasts_S1_S1x1)))
    (broadcast S1x1 (Scalar.ofBits .f32 0x3E4CCCCD#32))

/-- The two maps' averages, subtracted. -/
def diffO (st : Carry) (lm : FVec Ideal S1x1 .f32) : FVec Ideal S128x1024 .f32 :=
  subf (divf st.2.2.1 (broadcastTo S128x1024 st.2.1 broadcasts_S1x1024_S128x1024))
    (mulf (broadcastTo S128x1024 lm broadcasts_S1x1_S128x1024)
      (divf st.2.2.2.2.2 (broadcastTo S128x1024 st.2.2.2.2.1 broadcasts_S1x1024_S128x1024)))

/-- The reciprocal root mean square of every column. -/
def rms (o : FVec Ideal S128x1024 .f32) : FVec Ideal S1x1024 .f32 :=
  rsqrt (addf (divf (shapeCast S1x1024 (multiReduction .add [0] S1024 (mulf o o) 0x00000000#32 reduces_S128x1024_S1024 (.inl rfl) rfl)
    shapeCasts_S1024_S1x1024) (broadcast S1x1024 (Scalar.ofBits .f32 0x43000000#32))) (broadcast S1x1024 (Scalar.ofBits .f32 0x358637BD#32)))

/-- The norm, its weights, the factor 0.8 and the turn to query-major. -/
def finish (o : FVec Ideal S128x1024 .f32) (g : Vec Ideal S128x1 .f32) : FVec Ideal S1x1024x128 .bf16 :=
  shapeCast S1x1024x128 (truncf .bf16 (transpose S1024x128 [1, 0]
    (mulf (mulf (mulf o (broadcastTo S128x1024 (rms o) broadcasts_S1x1024_S128x1024))
      (broadcastTo S128x1024 (shapeCast S128x1 g shapeCasts_S128x1_S128x1) broadcasts_S128x1_S128x1024))
      (broadcast S128x1024 (Scalar.ofBits .f32 0x3F4CCCCD#32))) transposes_S128x1024_p1_0_S1024x128) bitsLt_bf16_f32)
    shapeCasts_S1024x128_S1x1024x128

/-- What is carried before any key. -/
def carry0 : Carry := (k0_pay64, k0_pay65, k0_pay66, k0_pay67, k0_pay68, k0_pay69)

/-- What is carried after the first `k` groups. -/
def carryN (x0 : Vec Ideal S1x128x1024 .bf16) (x1 : Vec Ideal S1x2x8192x64 .bf16) (x2 : Vec Ideal S1x32x128x256 .bf16) : ℕ → Carry
  | 0 => carry0
  | k + 1 => bothStep (fun h => scores (queries x0 0) (keyBlock x1 0 (4 * k + h.val)))
      (fun h => scores (queries x0 1) (keyBlock x1 1 (4 * k + h.val))) (fun h => valBlock x2 (4 * k + h.val)) (carryN x0 x1 x2 k)

/-- What is carried at the end: the point's own group folded in, masked. -/
def carryEnd (x0 : Vec Ideal S1x128x1024 .bf16) (x1 : Vec Ideal S1x2x8192x64 .bf16) (x2 : Vec Ideal S1x32x128x256 .bf16) (n : ℕ) : Carry :=
  bothStep (fun h => masked h (scores (queries x0 0) (keyBlock x1 0 (4 * n + h.val))))
    (fun h => masked h (scores (queries x0 1) (keyBlock x1 1 (4 * n + h.val)))) (fun h => valBlock x2 (4 * n + h.val)) (carryN x0 x1 x2 n)

/-- The loop's carried value after `k` trips. -/
theorem st_eq (c : Dev nD) (i : grid0.Coords) (arg3 : Memref sig .tc .vmem S1x128x1024 .bf16) (harg3 : arg3.IsWhole) (arg4 : Memref sig .tc .vmem S1x2x8192x64 .bf16) (harg4 : arg4.IsWhole)
  (arg5 : Memref sig .tc .vmem S1x32x128x256 .bf16) (harg5 : arg5.IsWhole) (arg6 : Memref sig .tc .vmem S4x64 .f32) (harg6 : arg6.IsWhole)
  (arg7 : Memref sig .tc .vmem S128x1 .f32) (harg7 : arg7.IsWhole) (arg8 : Memref sig .tc .vmem S1x1024x128 .bf16) (harg8 : arg8.IsWhole)
  (x0 : Vec Ideal S1x128x1024 .bf16) (x1 : Vec Ideal S1x2x8192x64 .bf16) (x2 : Vec Ideal S1x32x128x256 .bf16) (k : ℕ) (hk : k ≤ (k0_t1_loop i).trips) :
    st_k0_t1 (F := Ideal) Variants.none c none i arg3 harg3 arg4 harg4 arg5 harg5 arg6 harg6 arg7 harg7 arg8 harg8 (queries x0 0) (queries x0 1) (harg4.unread x1) (harg5.unread x2) carry0 k
      = carryN x0 x1 x2 k := by
  induction k with
  | zero => rfl
  | succ k ih =>
    have := st_k0_t1_succ (F := Ideal) Variants.none c none i arg3 harg3 arg4 harg4 arg5 harg5 arg6 harg6 arg7 harg7 arg8 harg8 (queries x0 0) (queries x0 1) (harg4.unread x1) (harg5.unread x2) carry0 ⟨k, hk⟩
    rw [this, ih (Nat.le_of_succ_le hk), trip_eq]
    rfl

/-- WHAT A POINT WRITES. -/
theorem out_eq (c : Dev nD) (i : grid0.Coords) (arg3 : Memref sig .tc .vmem S1x128x1024 .bf16) (harg3 : arg3.IsWhole) (arg4 : Memref sig .tc .vmem S1x2x8192x64 .bf16) (harg4 : arg4.IsWhole)
  (arg5 : Memref sig .tc .vmem S1x32x128x256 .bf16) (harg5 : arg5.IsWhole) (arg6 : Memref sig .tc .vmem S4x64 .f32) (harg6 : arg6.IsWhole)
  (arg7 : Memref sig .tc .vmem S128x1 .f32) (harg7 : arg7.IsWhole) (arg8 : Memref sig .tc .vmem S1x1024x128 .bf16) (harg8 : arg8.IsWhole)
  (x0 : Vec Ideal S1x128x1024 .bf16) (x1 : Vec Ideal S1x2x8192x64 .bf16) (x2 : Vec Ideal S1x32x128x256 .bf16)
  (x3 : Vec Ideal S4x64 .f32) (x4 : Vec Ideal S128x1 .f32) :
    out0_A_5 (F := Ideal) c i arg3 harg3 arg4 harg4 arg5 harg5 arg6 harg6 arg7 harg7 arg8 harg8 x0 x1 x2 x3 x4
      = finish (diffO (carryEnd x0 x1 x2 (qblk i)) (lamV x3)) x4 := by
  unfold out0_A_5
  rw [View.read_writes_eq_canon _ _ _ (cover0_A_5 c i arg3 harg3 arg4 harg4 arg5 harg5 arg6 harg6 arg7 harg7 arg8 harg8 x0 x1 x2 x3 x4)]
  unfold kernelRun0_A
  dsimp only
  refine (View.canon_unit_zero (by funext a; fin_cases a <;> rfl) _ _).trans ?_
  have q0 := load_queries arg3 harg3 x0 ![0, 0, 0] inb_S1x128x1024_S1x64x1024_0_0_0 0 rfl
  have q1 := load_queries arg3 harg3 x0 ![0, 64, 0] inb_S1x128x1024_S1x64x1024_0_64_0 1 rfl
  have e3 : View.readAt (Elt Ideal) arg6.view (Rect.unit (s := S4x64) ![0, 0] S4x64.size inb_S4x64_S4x64_0_0).toLoadRect (harg6.unread x3) = x3 := by
    rw [View.readAt_eq_ld, harg6.read_unread]; exact View.ld_unit_zero (by funext a; fin_cases a <;> rfl) _ _
  have e4 : View.readAt (Elt Ideal) arg7.view (Rect.unit (s := S128x1) ![0, 0] S128x1.size inb_S128x1_S128x1_0_0).toLoadRect (harg7.unread x4) = x4 := by
    rw [View.readAt_eq_ld, harg7.read_unread]; exact View.ld_unit_zero (by funext a; fin_cases a <;> rfl) _ _
  have e : ∀ z, z = st_k0_t2 (F := Ideal) Variants.none c none i arg3 harg3 arg4 harg4 arg5 harg5 arg6 harg6 arg7 harg7 arg8 harg8
        (View.readAt (Elt Ideal) arg3.view (Rect.unit (s := S1x128x1024) ![0, 0, 0] S1x64x1024.size inb_S1x128x1024_S1x64x1024_0_0_0).toLoadRect (harg3.unread x0))
        (View.readAt (Elt Ideal) arg3.view (Rect.unit (s := S1x128x1024) ![0, 64, 0] S1x64x1024.size inb_S1x128x1024_S1x64x1024_0_64_0).toLoadRect (harg3.unread x0))
        (kernelRun0_A.sl.v14 i) (harg4.unread x1) (harg5.unread x2)
        (st_k0_t1 (F := Ideal) Variants.none c none i arg3 harg3 arg4 harg4 arg5 harg5 arg6 harg6 arg7 harg7 arg8 harg8
          (View.readAt (Elt Ideal) arg3.view (Rect.unit (s := S1x128x1024) ![0, 0, 0] S1x64x1024.size inb_S1x128x1024_S1x64x1024_0_0_0).toLoadRect (harg3.unread x0))
          (View.readAt (Elt Ideal) arg3.view (Rect.unit (s := S1x128x1024) ![0, 64, 0] S1x64x1024.size inb_S1x128x1024_S1x64x1024_0_64_0).toLoadRect (harg3.unread x0))
          (harg4.unread x1) (harg5.unread x2) carry0 (k0_t1_loop i).trips) (k0_t2_loop i).trips →
      finish (diffO (bothStep
        (fun h => masked h (scores (View.readAt (Elt Ideal) arg3.view (Rect.unit (s := S1x128x1024) ![0, 0, 0] S1x64x1024.size inb_S1x128x1024_S1x64x1024_0_0_0).toLoadRect (harg3.unread x0)) (View.readAt (Elt Ideal) arg4.view (Rect.unit (s := S1x2x8192x64) (k0_off7 i (BitVec.ofNat 32 h.val)) S1x1x256x64.size (k0_off7_inb i h)).toLoadRect (harg4.unread x1))))
        (fun h => masked h (scores (View.readAt (Elt Ideal) arg3.view (Rect.unit (s := S1x128x1024) ![0, 64, 0] S1x64x1024.size inb_S1x128x1024_S1x64x1024_0_64_0).toLoadRect (harg3.unread x0)) (View.readAt (Elt Ideal) arg4.view (Rect.unit (s := S1x2x8192x64) (k0_off9 i (BitVec.ofNat 32 h.val)) S1x1x256x64.size (k0_off9_inb i h)).toLoadRect (harg4.unread x1))))
        (fun h => View.readAt (Elt Ideal) arg5.view (Rect.unit (s := S1x32x128x256) (k0_off8 i (BitVec.ofNat 32 h.val)) S1x1x128x256.size (k0_off8_inb i h)).toLoadRect (harg5.unread x2))
        z) (lamV (View.readAt (Elt Ideal) arg6.view (Rect.unit (s := S4x64) ![0, 0] S4x64.size inb_S4x64_S4x64_0_0).toLoadRect (harg6.unread x3))))
        (View.readAt (Elt Ideal) arg7.view (Rect.unit (s := S128x1) ![0, 0] S128x1.size inb_S128x1_S128x1_0_0).toLoadRect (harg7.unread x4))
      = finish (diffO (carryEnd x0 x1 x2 (qblk i)) (lamV x3)) x4 := by
    intro z hz
    have k0 : ∀ h : Fin 4, _ := fun h => load_keys arg4 harg4 x1 _ (k0_off7_inb i h) 0 (4 * qblk i + h.val) (off7_eq i h)
    have k1 : ∀ h : Fin 4, _ := fun h => load_keys arg4 harg4 x1 _ (k0_off9_inb i h) 1 (4 * qblk i + h.val) (off9_eq i h)
    have v : ∀ h : Fin 4, _ := fun h => load_vals arg5 harg5 x2 _ (k0_off8_inb i h) (4 * qblk i + h.val) (off8_eq i h)
    simp only [k0, k1, v, e3, e4, q0, q1] at hz ⊢
    rw [trips2, st_k0_t2_zero, st_eq _ _ _ _ _ _ _ _ _ _ _ _ _ _ _ _ _ _ (le_refl _), trips1] at hz
    rw [hz]
    rfl
  refine Eq.trans ?_ (e _ rfl)
  rfl

end Cert.Flash

end
-- ==== Proof.Flash.Value.lean ====
/- The value of one grid point, from its blocks' real contents.

   `Q s d c`, `K s t d` and `V e t` are the numbers in a point's blocks of queries, keys and values. Query column `c` of point
   number `n` sees the keys up to `1024 n + c`. The point writes the normalised difference of the two maps' averages. -/
module

public import proofs.«01_k».proof.Proof.Flash.Point

@[expose] public section

noncomputable section

namespace Cert.Flash

open Cert.KernelIdeal Cert.KernelIdeal.Gen Idealize.ShloMosaic Idealize.ShloMosaic.TcCoe Idealize.ShloMosaic.ValueIdx

/-- The score of key `t` for query column `c`. -/
def scoreR (K : ℕ → Fin 64 → ℝ) (Q : Fin 64 → Fin 1024 → ℝ) (c : Fin 1024) (t : ℕ) : ℝ := ∑ d, K t d * Q d c

/-- Its weight for the column of query block `n`: keys past the query weigh nothing. -/
def weightR (K : ℕ → Fin 64 → ℝ) (Q : Fin 64 → Fin 1024 → ℝ) (n : ℕ) (c : Fin 1024) (t : ℕ) : ℝ :=
  if t ≤ 1024 * n + c.val then (2 : ℝ) ^ scoreR K Q c t else 0

section Blocks

variable {x0 : Vec Ideal S1x128x1024 .bf16} {x1 : Vec Ideal S1x2x8192x64 .bf16} {x2 : Vec Ideal S1x32x128x256 .bf16}
  {Q : Fin 2 → Fin 64 → Fin 1024 → ℝ} {K : Fin 2 → ℕ → Fin 64 → ℝ} {V : Fin 128 → ℕ → ℝ}

/-- The blocks' contents are these numbers. -/
structure Holds (x0 : Vec Ideal S1x128x1024 .bf16) (x1 : Vec Ideal S1x2x8192x64 .bf16) (x2 : Vec Ideal S1x32x128x256 .bf16)
    (Q : Fin 2 → Fin 64 → Fin 1024 → ℝ) (K : Fin 2 → ℕ → Fin 64 → ℝ) (V : Fin 128 → ℕ → ℝ) : Prop where
  /-- the queries -/
  q : ∀ s d c, queries x0 s (ix3 0 d c) = (Q s d c : EReal)
  /-- the keys -/
  k : ∀ s (t : Fin 8192) d, x1 (ix4 0 s t d) = (K s t.val d : EReal)
  /-- the values -/
  v : ∀ (n : Fin 32) e (j : Fin 256), x2 (ix4 0 n e j) = (V e (256 * n.val + j.val) : EReal)

/-- A score of the `n`-th block of keys. -/
theorem Holds.score (h : Holds x0 x1 x2 Q K V) (s : Fin 2) {n : ℕ} (hn : n < 32) (j : Fin 256) (c : Fin 1024) :
    scores (queries x0 s) (keyBlock x1 s n) (ix2 j c) = (scoreR (K s) (Q s) c (256 * n + j.val) : EReal) := by
  rw [scores_apply]
  unfold scoreR
  rw [← coe_sum]
  refine Finset.sum_congr rfl fun d _ => ?_
  have hj := j.isLt
  rw [h.q, EReal.coe_mul]
  congr 1
  refine (h.k s _ d).trans ?_
  show (K s ((256 * n + j.val) % 8192) d : EReal) = _
  rw [Nat.mod_eq_of_lt (by omega)]

/-- A value of the `n`-th block. -/
theorem Holds.value (h : Holds x0 x1 x2 Q K V) {n : ℕ} (hn : n < 32) (e : Fin 128) (j : Fin 256) :
    valBlock x2 n (ix4 0 0 e j) = (V e (256 * n + j.val) : EReal) := by
  refine (h.v _ e j).trans ?_
  show (V e (256 * (n % 32) + j.val) : EReal) = _
  rw [Nat.mod_eq_of_lt hn]

/-- The mask's named constant is `⊥`. -/
theorem mask_bot : (Named.named κ "mask" 0xF149F2CA#32 : Ideal .f32) = (⊥ : EReal) :=
  IdealRules.named_const.ideal_named_scalar Cert.KernelIdeal.κ "mask" (φ := .f32) 0xF149F2CA#32 ⊥ rfl

/-- Before any key, nothing is kept. -/
theorem kept_init (W : Fin 1024 → ℕ → ℝ) (V : Fin 128 → ℕ → ℝ) {m l : FVec Ideal S1x1024 .f32} {a : FVec Ideal S128x1024 .f32}
    (hm : ∀ c, m (ix2 0 c) = (⊥ : EReal)) (hl : ∀ c, l (ix2 0 c) = (0 : EReal)) (ha : ∀ e c, a (ix2 e c) = (0 : EReal)) :
    Kept W V 0 m l a := by
  intro c
  simp only [Nat.mul_zero, Finset.range_zero, Finset.sum_empty, hm, hl, ha]
  exact Col.init

/-- What both maps keep. -/
def Kept2 (W : Fin 2 → Fin 1024 → ℕ → ℝ) (V : Fin 128 → ℕ → ℝ) (k : ℕ) (st : Carry) : Prop :=
  Kept (W 0) V k st.1 st.2.1 st.2.2.1 ∧ Kept (W 1) V k st.2.2.2.1 st.2.2.2.2.1 st.2.2.2.2.2

/-- One group more for both maps. -/
theorem Kept2.advance {W : Fin 2 → Fin 1024 → ℕ → ℝ} {V : Fin 128 → ℕ → ℝ} {k : ℕ} {st : Carry} (h : Kept2 W V k st)
    (s : Fin 2 → Fin 4 → FVec Ideal S256x1024 .f32) (v : Fin 4 → Vec Ideal S1x1x128x256 .bf16)
    (hs : ∀ m h j c, s m h (ix2 j c) ≠ (⊤ : EReal)) (h0 : ∀ m c, s m 0 (ix2 0 c) ≠ (⊥ : EReal))
    (hw : ∀ m (h : Fin 4) (j : Fin 256) (c : Fin 1024), wt (s m h (ix2 j c)) = W m c (1024 * k + 256 * h.val + j.val))
    (hv : ∀ (h : Fin 4) (e : Fin 128) (j : Fin 256), v h (ix4 0 0 e j) = (V e (1024 * k + 256 * h.val + j.val) : EReal)) :
    Kept2 W V (k + 1) (bothStep (s 0) (s 1) v st) :=
  ⟨h.1.advance (s 0) v (hs 0) (h0 0) (hw 0) hv, h.2.advance (s 1) v (hs 1) (h0 1) (hw 1) hv⟩

/-- After `k` whole groups before the point's own. -/
theorem Holds.carryN (h : Holds x0 x1 x2 Q K V) {n : ℕ} (hn : n < 8) {k : ℕ} (hk : k ≤ n) :
    Kept2 (fun s => weightR (K s) (Q s) n) V k (carryN x0 x1 x2 k) := by
  induction k with
  | zero =>
    exact ⟨kept_init _ _ (fun _ => mask_bot) (fun _ => Ideal.ofBits_zero_f32) (fun _ _ => Ideal.ofBits_zero_f32),
      kept_init _ _ (fun _ => mask_bot) (fun _ => Ideal.ofBits_zero_f32) (fun _ _ => Ideal.ofBits_zero_f32)⟩
  | succ k ih =>
    have ih := ih (Nat.le_of_succ_le hk)
    have hb : ∀ h : Fin 4, 4 * k + h.val < 32 := fun h => by have := h.isLt; omega
    have hi : ∀ (h : Fin 4) (j : Fin 256), 256 * (4 * k + h.val) + j.val = 1024 * k + 256 * h.val + j.val := fun h j => by ring
    have hv : ∀ (b : Fin 4) (e : Fin 128) (j : Fin 256), valBlock x2 (4 * k + b.val) (ix4 0 0 e j)
        = (V e (1024 * k + 256 * b.val + j.val) : EReal) := fun b e j => by rw [h.value (hb b), hi]
    have hw : ∀ (s : Fin 2) (b : Fin 4) (j : Fin 256) (c : Fin 1024),
        wt (scores (queries x0 s) (keyBlock x1 s (4 * k + b.val)) (ix2 j c))
          = weightR (K s) (Q s) n c (1024 * k + 256 * b.val + j.val) := fun s b j c => by
      rw [h.score s (hb b), hi, wt_coe, weightR, if_pos]
      have := b.isLt; have := j.isLt; omega
    have ht : ∀ (s : Fin 2) (b : Fin 4) (j : Fin 256) (c : Fin 1024),
        scores (queries x0 s) (keyBlock x1 s (4 * k + b.val)) (ix2 j c) ≠ (⊤ : EReal) := fun s b j c => by
      rw [h.score s (hb b)]; exact EReal.coe_ne_top _
    have h0 : ∀ (s : Fin 2) (c : Fin 1024),
        scores (queries x0 s) (keyBlock x1 s (4 * k + (0 : Fin 4).val)) (ix2 0 c) ≠ (⊥ : EReal) := fun s c => by
      rw [h.score s (hb 0)]; exact EReal.coe_ne_bot _
    exact ih.advance (fun s b => scores (queries x0 s) (keyBlock x1 s (4 * k + b.val))) _ ht h0 hw hv

/-- At the end: every key up to the point's own group. -/
theorem Holds.carryEnd (h : Holds x0 x1 x2 Q K V) {n : ℕ} (hn : n < 8) :
    Kept2 (fun s => weightR (K s) (Q s) n) V (n + 1) (carryEnd x0 x1 x2 n) := by
  have ih := h.carryN hn (le_refl n)
  have hb : ∀ h : Fin 4, 4 * n + h.val < 32 := fun h => by have := h.isLt; omega
  have hi : ∀ (h : Fin 4) (j : Fin 256), 256 * (4 * n + h.val) + j.val = 1024 * n + 256 * h.val + j.val := fun h j => by ring
  have hv : ∀ (b : Fin 4) (e : Fin 128) (j : Fin 256), valBlock x2 (4 * n + b.val) (ix4 0 0 e j)
      = (V e (1024 * n + 256 * b.val + j.val) : EReal) := fun b e j => by rw [h.value (hb b), hi]
  have hw : ∀ (s : Fin 2) (b : Fin 4) (j : Fin 256) (c : Fin 1024),
      wt (masked b (scores (queries x0 s) (keyBlock x1 s (4 * n + b.val))) (ix2 j c))
        = weightR (K s) (Q s) n c (1024 * n + 256 * b.val + j.val) := fun s b j c => by
    rw [masked_apply, weightR]
    by_cases hc : 256 * b.val + j.val ≤ c.val
    · rw [if_pos hc, if_pos (by omega), h.score s (hb b), hi, wt_coe]
    · rw [if_neg hc, if_neg (by omega), wt_bot]
  have ht : ∀ (s : Fin 2) (b : Fin 4) (j : Fin 256) (c : Fin 1024),
      masked b (scores (queries x0 s) (keyBlock x1 s (4 * n + b.val))) (ix2 j c) ≠ (⊤ : EReal) := fun s b j c => by
    rw [masked_apply]
    split_ifs
    · rw [h.score s (hb b)]; exact EReal.coe_ne_top _
    · exact bot_ne_top
  have h0 : ∀ (s : Fin 2) (c : Fin 1024),
      masked 0 (scores (queries x0 s) (keyBlock x1 s (4 * n + (0 : Fin 4).val))) (ix2 0 c) ≠ (⊥ : EReal) := fun s c => by
    rw [masked_apply, if_pos (show 256 * (0 : Fin 4).val + (0 : Fin 256).val ≤ c.val from Nat.zero_le _), h.score s (hb 0)]; exact EReal.coe_ne_bot _
  exact ih.advance (fun s b => masked b (scores (queries x0 s) (keyBlock x1 s (4 * n + b.val)))) _ ht h0 hw hv

end Blocks

/-! ## The averages -/

/-- The average of the values at feature `e` under one map's weights, over the keys of the whole prompt. -/
def avg (w : ℕ → ℝ) (v : ℕ → ℝ) : ℝ := (∑ t ∈ Finset.range 8192, w t * v t) / ∑ t ∈ Finset.range 8192, w t

/-- The keys past a point's own group weigh nothing. -/
theorem weight_tail {K : ℕ → Fin 64 → ℝ} {Q : Fin 64 → Fin 1024 → ℝ} {n : ℕ} (hn : n < 8) (c : Fin 1024) (f : ℕ → ℝ) :
    ∑ t ∈ Finset.range (1024 * (n + 1)), weightR K Q n c t * f t = ∑ t ∈ Finset.range 8192, weightR K Q n c t * f t := by
  refine Finset.sum_subset (Finset.range_subset_range.2 (by omega)) fun t _ ht => ?_
  rw [Finset.mem_range, not_lt] at ht
  have := c.isLt
  rw [weightR, if_neg (by omega), zero_mul]

/-- The same of the weights alone. -/
theorem weight_tail' {K : ℕ → Fin 64 → ℝ} {Q : Fin 64 → Fin 1024 → ℝ} {n : ℕ} (hn : n < 8) (c : Fin 1024) :
    ∑ t ∈ Finset.range (1024 * (n + 1)), weightR K Q n c t = ∑ t ∈ Finset.range 8192, weightR K Q n c t := by
  have := weight_tail (K := K) (Q := Q) hn c (fun _ => 1)
  simpa only [mul_one] using this

/-- A weight is nonnegative. -/
theorem weightR_nonneg (K : ℕ → Fin 64 → ℝ) (Q : Fin 64 → Fin 1024 → ℝ) (n : ℕ) (c : Fin 1024) (t : ℕ) : 0 ≤ weightR K Q n c t := by
  unfold weightR
  split_ifs
  · positivity
  · exact le_refl _

/-- The first key always weighs something. -/
theorem weight_pos (K : ℕ → Fin 64 → ℝ) (Q : Fin 64 → Fin 1024 → ℝ) (n : ℕ) (c : Fin 1024) :
    0 < ∑ t ∈ Finset.range 8192, weightR K Q n c t := by
  refine Finset.sum_pos' (fun t _ => weightR_nonneg K Q n c t) ⟨0, Finset.mem_range.2 (by norm_num), ?_⟩
  unfold weightR
  rw [if_pos (Nat.zero_le _)]
  positivity

/-- What is kept, divided: the average. -/
theorem Kept.avg {K : ℕ → Fin 64 → ℝ} {Q : Fin 64 → Fin 1024 → ℝ} {V : Fin 128 → ℕ → ℝ} {n : ℕ} (hn : n < 8)
    {m l : FVec Ideal S1x1024 .f32} {a : FVec Ideal S128x1024 .f32} (h : Kept (weightR K Q n) V (n + 1) m l a) (e : Fin 128) (c : Fin 1024) :
    Ideal.div (a (ix2 e c)) (l (ix2 0 c)) = (avg (weightR K Q n c) (V e) : EReal) := by
  have hL := weight_pos K Q n c
  rw [← weight_tail' hn] at hL
  have := (h c).div hL e
  unfold Cert.Flash.avg
  rw [← weight_tail hn, ← weight_tail' hn]
  exact this

/-! ## The epilogue -/

/-- One vector across a row of a block of 128 rows. -/
theorem broadcast_col {α : Type} (x : S128x1.Idx → α) (h : S128x1.Broadcasts S128x1024) (e : Fin 128) (c : Fin 1024) :
    broadcastTo S128x1024 x h (ix2 e c) = x (ix2 e 0) :=
  broadcastTo_apply _ _ _ _ (fun a => by match a with | ⟨0, _⟩ => rfl | ⟨1, _⟩ => rfl)

/-- One number across a block. -/
theorem broadcast_one {α : Type} (x : S1x1.Idx → α) (h : S1x1.Broadcasts S128x1024) (e : Fin 128) (c : Fin 1024) :
    broadcastTo S128x1024 x h (ix2 e c) = x (ix2 0 0) :=
  broadcastTo_apply _ _ _ _ (fun a => by match a with | ⟨0, _⟩ => rfl | ⟨1, _⟩ => rfl)

/-- The factor of the second map, from the lambda vectors. -/
def lamE (lv : Fin 4 → Fin 64 → EReal) : EReal :=
  Ideal.exp (∑ d, lv 0 d * lv 1 d) - Ideal.exp (∑ d, lv 2 d * lv 3 d) + Ideal.ofBits .f32 0x3E4CCCCD#32

/-- The element of a row that a row's reduction reads. -/
theorem lift_row (h : S1x64.Reduces [1] S1) (d : Fin 64) : h.lift (ix1 0) d = ix2 0 d := by
  funext a
  match a with
  | ⟨0, _⟩ => rfl
  | ⟨1, _⟩ => rfl

/-- The product of two rows, summed. -/
theorem rowDot_apply (x : FVec Ideal S1x64 .f32) (h : S1x64.Reduces [1] S1) (hc : S1.ShapeCasts S1x1) :
    shapeCast S1x1 (multiReduction .add [1] S1 x 0x00000000#32 h (.inl rfl) rfl) hc (ix2 0 0) = ∑ d : Fin 64, x (ix2 0 d) := by
  rw [shapeCast_a_1a_apply]
  refine (Ideal.multiReduction_add_single x _ _ _ _ (ix1 0)).trans ?_
  exact Finset.sum_congr rfl fun d _ => congrArg x (lift_row _ d)

/-- The kernel's factor is that. -/
theorem lamV_apply (lv : Vec Ideal S4x64 .f32) : lamV lv (ix2 0 0) = lamE (fun r d => lv (ix2 r d)) := by
  unfold lamV lamE
  rw [addf_apply, subf_apply]
  refine congrArg₂ (· + ·) (congrArg₂ (· - ·) (congrArg Ideal.exp ?_) (congrArg Ideal.exp ?_)) rfl
  · refine (rowDot_apply _ _ _).trans (Finset.sum_congr rfl fun d _ => ?_)
    rw [mulf_apply, slice2_axis0_apply 0 lv _ 0 d 0 rfl, slice2_axis0_apply 1 lv _ 0 d 1 rfl]
  · refine (rowDot_apply _ _ _).trans (Finset.sum_congr rfl fun d _ => ?_)
    rw [mulf_apply, slice2_axis0_apply 2 lv _ 0 d 2 rfl, slice2_axis0_apply 3 lv _ 0 d 3 rfl]

/-- A row of 128 numbers `o`, normalised by its root mean square, weighted and scaled. -/
def normed (o : Fin 128 → EReal) (g : EReal) (e : Fin 128) : EReal :=
  o e * Ideal.rsqrt (Ideal.div (∑ e', o e' * o e') (Ideal.ofBits .f32 0x43000000#32) + Ideal.ofBits .f32 0x358637BD#32) * g
    * Ideal.ofBits .f32 0x3F4CCCCD#32

/-- The element of a column that a column's reduction reads. -/
theorem lift_col (h : S128x1024.Reduces [0] S1024) (c : Fin 1024) (e : Fin 128) : h.lift (ix1 c) e = ix2 e c := by
  funext a
  match a with
  | ⟨0, _⟩ => rfl
  | ⟨1, _⟩ => rfl

/-- A column's reciprocal root mean square. -/
theorem rms_apply (o : FVec Ideal S128x1024 .f32) (c : Fin 1024) :
    rms o (ix2 0 c) = Ideal.rsqrt (Ideal.div (∑ e : Fin 128, o (ix2 e c) * o (ix2 e c)) (Ideal.ofBits .f32 0x43000000#32)
      + Ideal.ofBits .f32 0x358637BD#32) := by
  unfold rms
  refine congrArg Ideal.rsqrt ?_
  rw [addf_apply, divf_apply, shapeCast_a_1a_apply]
  refine congrArg₂ (· + ·) (congrArg₂ Ideal.div ?_ rfl) rfl
  refine (Ideal.multiReduction_add_single (mulf o o) _ _ _ _ (ix1 c)).trans ?_
  exact Finset.sum_congr rfl fun e _ => congrArg (mulf o o) (lift_col _ c e)

/-- The result of the epilogue. -/
theorem finish_apply (o : FVec Ideal S128x1024 .f32) (g : Vec Ideal S128x1 .f32) (c : Fin 1024) (e : Fin 128) :
    finish o g (ix3 0 c e) = normed (fun e => o (ix2 e c)) (g (ix2 e 0)) e := by
  unfold finish normed
  rw [shapeCast_ab_1ab_apply, truncf_apply, transpose_ix2_apply, mulf_apply, mulf_apply, mulf_apply, broadcastTo_1b_ab_apply, rms_apply,
    broadcast_col, shapeCast_self]
  rfl

/-! ## The point -/

/-- WHAT A POINT WRITES at its query `c` and feature `e`. -/
theorem point_value {x0 : Vec Ideal S1x128x1024 .bf16} {x1 : Vec Ideal S1x2x8192x64 .bf16} {x2 : Vec Ideal S1x32x128x256 .bf16}
    {Q : Fin 2 → Fin 64 → Fin 1024 → ℝ} {K : Fin 2 → ℕ → Fin 64 → ℝ} {V : Fin 128 → ℕ → ℝ} (h : Holds x0 x1 x2 Q K V)
    (x3 : Vec Ideal S4x64 .f32) (x4 : Vec Ideal S128x1 .f32) {lam : ℝ} (hl : lamE (fun r d => x3 (ix2 r d)) = (lam : EReal))
    {n : ℕ} (hn : n < 8) (c : Fin 1024) (e : Fin 128) :
    finish (diffO (carryEnd x0 x1 x2 n) (lamV x3)) x4 (ix3 0 c e)
      = normed (fun e => ((avg (weightR (K 0) (Q 0) n c) (V e) - lam * avg (weightR (K 1) (Q 1) n c) (V e) : ℝ) : EReal))
          (x4 (ix2 e 0)) e := by
  rw [finish_apply]
  congr 1
  funext e
  unfold diffO
  have hk := h.carryEnd hn
  rw [subf_apply, divf_apply, mulf_apply, divf_apply, broadcastTo_1b_ab_apply, broadcastTo_1b_ab_apply, broadcast_one, lamV_apply, hl,
    hk.1.avg hn, hk.2.avg hn, ← EReal.coe_mul, ← EReal.coe_sub]

end Cert.Flash

end
-- ==== Proof.Flash.Blocks.lean ====
/- The kernel's result array, from its arguments.

   The host lays the arguments out (the queries scaled and turned, the keys by head, the values by key block and turned), the
   grid point `(b, g, n)` reads its blocks of them and writes queries `1024 n ..` of batch `b`, features `128 g ..`. -/
module

public import proofs.«01_k».proof.Proof.Gen.KernelIdeal.Value
public import proofs.«01_k».proof.Proof.Flash.Value
public import Idealize.ShloMosaic.Lib.Pipeline.ValueKit.Geometry
public import Idealize.ShloMosaic.Lib.StableHlo.Run

@[expose] public section

noncomputable section

namespace Cert.Flash

open Cert.KernelIdeal Cert.KernelIdeal.Gen Cert.KernelIdeal.Value Idealize.ShloMosaic Idealize.ShloMosaic.TcCoe Idealize.ShloMosaic.ValueIdx

/-! ## The result, stated over numbers -/

/-- The scale of the queries: `1 / (8 log 2)`. -/
def qscale : ℝ := 1 / 8 * (1 / Real.log 2)

/-- The weight of key `t` for query `tq` in map `s` of head `g`. -/
def wAt (q k : ℕ → ℕ → ℝ) (g s tq t : ℕ) : ℝ :=
  if t ≤ tq then (2 : ℝ) ^ (∑ d : Fin 64, k t (128 * g + (64 * s + d.val)) * (q tq (128 * g + (64 * s + d.val)) * qscale)) else 0

/-- The difference of the two maps' averages at query `tq`, head `g`, feature `e`. -/
def outAt (q k v : ℕ → ℕ → ℝ) (lam : ℝ) (g tq : ℕ) (e : ℕ) : ℝ :=
  avg (wAt q k g 0 tq) (fun t => v t (128 * g + e)) - lam * avg (wAt q k g 1 tq) (fun t => v t (128 * g + e))

/-- The result at every index. -/
def result (q k v : Fin 8 → ℕ → ℕ → ℝ) (lam : ℝ) (w : Fin 128 → EReal) : S8x8192x512.Idx → EReal := fun i =>
  normed (fun e => (outAt (q (i 0)) (k (i 0)) (v (i 0)) lam ((i 2).val / 128) (i 1).val e.val : EReal))
    (w ⟨(i 2).val % 128, Nat.mod_lt _ (by norm_num)⟩) ⟨(i 2).val % 128, Nat.mod_lt _ (by norm_num)⟩

/-- An array's contents are these numbers. -/
def Reals (x : S8x8192x512.Idx → EReal) (r : Fin 8 → ℕ → ℕ → ℝ) : Prop :=
  ∀ (b : Fin 8) (t : Fin 8192) (w : Fin 512), x (ix3 b t w) = (r b t.val w.val : EReal)

/-! ## The block indices -/

/-- The batch of a grid point. -/
abbrev bat (t : Fin cfg0.N) : Fin 8 := grid0.coords t 0
/-- Its head. -/
abbrev hd (t : Fin cfg0.N) : Fin 4 := grid0.coords t 1

/-- The query block a point reads. -/
theorem index0 : ∀ t : Fin cfg0.N, win0_0.index t = ![(grid0.coords t 0).val, (grid0.coords t 1).val, (grid0.coords t 2).val] :=
  (by decide +kernel : ∀ t : Fin grid0.N, _)
/-- The key block. -/
theorem index1 : ∀ t : Fin cfg0.N, win0_1.index t = ![(grid0.coords t 0).val, (grid0.coords t 1).val, 0, 0] :=
  (by decide +kernel : ∀ t : Fin grid0.N, _)
/-- The value block. -/
theorem index2 : ∀ t : Fin cfg0.N, win0_2.index t = ![(grid0.coords t 0).val, 0, (grid0.coords t 1).val, 0] :=
  (by decide +kernel : ∀ t : Fin grid0.N, _)
/-- The lambda vectors, whole. -/
theorem index3 : ∀ t : Fin cfg0.N, win0_3.index t = ![0, 0] :=
  (by decide +kernel : ∀ t : Fin grid0.N, _)
/-- The norm's weights, whole. -/
theorem index4 : ∀ t : Fin cfg0.N, win0_4.index t = ![0, 0] :=
  (by decide +kernel : ∀ t : Fin grid0.N, _)
/-- The block a point writes. -/
theorem index5 : ∀ t : Fin cfg0.N, win0_5.index t = ![(grid0.coords t 0).val, (grid0.coords t 2).val, (grid0.coords t 1).val] :=
  (by decide +kernel : ∀ t : Fin grid0.N, _)

/-! ## The arguments as laid out -/

variable (m : (ℓ : Loc nD τ sig) → Buf (Elt Ideal) ℓ)

/-- The queries' argument. -/
abbrev argQ (c : Dev nD) : S8x8192x512.Idx → EReal := m ((c : Thread nD τ).loc main_arg0)
/-- The keys' argument. -/
abbrev argK (c : Dev nD) : S8x8192x512.Idx → EReal := m ((c : Thread nD τ).loc main_arg1)
/-- The values' argument. -/
abbrev argV (c : Dev nD) : S8x8192x512.Idx → EReal := m ((c : Thread nD τ).loc main_arg2)
/-- The lambda vectors' argument. -/
abbrev argL (c : Dev nD) : S4x64.Idx → EReal := m ((c : Thread nD τ).loc main_arg3)
/-- The norm's weights. -/
abbrev argG (c : Dev nD) : S128.Idx → EReal := m ((c : Thread nD τ).loc main_arg4)

/-- The scale computed before the call is the number `1 / (8 log 2)`. -/
theorem scale_eq : Ideal.div (Ideal.ofBits .f32 0x3E000000#32) (Ideal.log (Ideal.ofBits .f32 0x40000000#32)) = (qscale : EReal) := by
  have h8 : Ideal.ofBits .f32 0x3E000000#32 = ((1 / 8 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  rw [h8, h2, Ideal.log_coe, if_neg (by norm_num), Ideal.div_coe (Real.log_pos (by norm_num)).ne', ← EReal.coe_mul]
  rfl

/-- The queries as the call gets them. -/
theorem V_queries (c : Dev nD) (b : Fin 8) (w : Fin 512) (t : Fin 8192) :
    V m c main_v6 (ix3 b w t) = (argQ m c (ix3 b t w) * (qscale : EReal) : EReal) := by
  unfold V hostOps0
  after_results_simp
  rw [truncf_apply, transpose_ix3_021_apply, mulf_apply]
  refine congrArg (fun z : EReal => argQ m c (ix3 b t w) * z) ?_
  refine (broadcastInDim_apply _ _ _ _ (fun a => a.elim0) (fun a => a.elim0)).trans ?_
  exact scale_eq

/-- The keys. -/
theorem V_keys (c : Dev nD) (b h : Fin 8) (t : Fin 8192) (d : Fin 64) :
    V m c main_v9 (ix4 b h t d) = (argK m c (ix3 b t ⟨64 * h.val + d.val, by omega⟩) : EReal) := by
  unfold V hostOps0
  after_results_simp
  rw [truncf_apply]
  refine (transpose_apply _ _ _ _ (ix4 b t h d) (fun a => match a with | ⟨0, _⟩ => rfl | ⟨1, _⟩ => rfl | ⟨2, _⟩ => rfl | ⟨3, _⟩ => rfl)).trans ?_
  refine shapeCast_apply _ _ _ _ ?_
  show (S8x8192x512.rowMajor _).val = (S8x8192x8x64.rowMajor _).val
  rw [Shape.rowMajor_val_four, Shape.rowMajor_val_three]
  show (b.val * 8192 + t.val) * 512 + (64 * h.val + d.val) = ((b.val * 8192 + t.val) * 8 + h.val) * 64 + d.val
  ring

/-- The values. -/
theorem V_values (c : Dev nD) (b : Fin 8) (n : Fin 32) (w : Fin 512) (j : Fin 256) :
    V m c main_v12 (ix4 b n w j) = (argV m c (ix3 b ⟨256 * n.val + j.val, by omega⟩ w) : EReal) := by
  unfold V hostOps0
  after_results_simp
  rw [truncf_apply]
  refine (transpose_apply _ _ _ _ (ix4 b n j w) (fun a => match a with | ⟨0, _⟩ => rfl | ⟨1, _⟩ => rfl | ⟨2, _⟩ => rfl | ⟨3, _⟩ => rfl)).trans ?_
  refine shapeCast_apply _ _ _ _ ?_
  show (S8x8192x512.rowMajor _).val = (S8x32x256x512.rowMajor _).val
  rw [Shape.rowMajor_val_four, Shape.rowMajor_val_three]
  show (b.val * 8192 + (256 * n.val + j.val)) * 512 + w.val = ((b.val * 32 + n.val) * 256 + j.val) * 512 + w.val
  ring

/-- The norm's weights. -/
theorem V_weights (c : Dev nD) (e : Fin 128) :
    V m c main_v13 (ix2 e 0) = (argG m c (ix1 e) : EReal) := by
  unfold V hostOps0
  after_results_simp
  refine shapeCast_apply _ _ _ _ ?_
  show (S128.rowMajor _).val = (S128x1.rowMajor _).val
  rw [Shape.rowMajor_val_one, Shape.rowMajor_val_two]
  show e.val = e.val * 1 + 0
  ring

/-! ## A point's blocks -/

/-- A point's queries. -/
theorem block_queries (c : Dev nD) (t : Fin cfg0.N) (r : Fin 128) (j : Fin 1024) :
    iblk m c 0 t (ix3 0 r j) = (argQ m c
      (ix3 (bat t) ⟨1024 * qblk (grid0.coords t) + j.val, by have := qblk_lt (grid0.coords t); omega⟩
        ⟨128 * (hd t).val + r.val, by omega⟩) * (qscale : EReal) : EReal) := by
  refine Eq.trans ?_ (V_queries m c _ _ _)
  blk_simp [iblk]
  refine congrArg _ (funext fun a => Fin.ext ?_)
  match a with
  | ⟨0, _⟩ => blk_simp [index0] <;> rfl
  | ⟨1, _⟩ => blk_simp [index0]; show (grid0.coords t 1).val * 128 + r.val = 128 * (grid0.coords t 1).val + r.val; omega
  | ⟨2, _⟩ => blk_simp [index0]; show (grid0.coords t 2).val * 1024 + j.val = 1024 * (grid0.coords t 2).val + j.val; omega

/-- A point's keys. -/
theorem block_keys (c : Dev nD) (t : Fin cfg0.N) (s : Fin 2) (j : Fin 8192) (d : Fin 64) :
    iblk m c 1 t (ix4 0 s j d) = (argK m c
      (ix3 (bat t) j ⟨128 * (hd t).val + (64 * s.val + d.val), by omega⟩) : EReal) := by
  have e := V_keys m c (bat t) ⟨2 * (hd t).val + s.val, by omega⟩ j d
  refine Eq.trans ?_ (e.trans (congrArg _ ?_))
  · blk_simp [iblk]
    refine congrArg _ (funext fun a => Fin.ext ?_)
    match a with
    | ⟨0, _⟩ => blk_simp [index1] <;> rfl
    | ⟨1, _⟩ => blk_simp [index1]; show (grid0.coords t 1).val * 2 + s.val = 2 * (grid0.coords t 1).val + s.val; omega
    | ⟨2, _⟩ => blk_simp [index1] <;> rfl
    | ⟨3, _⟩ => blk_simp [index1] <;> rfl
  · congr 1
    exact Fin.ext (show 64 * (2 * (hd t).val + s.val) + d.val = _ by ring)

/-- A point's values. -/
theorem block_values (c : Dev nD) (t : Fin cfg0.N) (n : Fin 32) (e : Fin 128) (j : Fin 256) :
    iblk m c 2 t (ix4 0 n e j) = (argV m c
      (ix3 (bat t) ⟨256 * n.val + j.val, by omega⟩ ⟨128 * (hd t).val + e.val, by omega⟩) : EReal) := by
  refine Eq.trans ?_ (V_values m c _ _ _ _)
  blk_simp [iblk]
  refine congrArg _ (funext fun a => Fin.ext ?_)
  match a with
  | ⟨0, _⟩ => blk_simp [index2] <;> rfl
  | ⟨1, _⟩ => blk_simp [index2] <;> rfl
  | ⟨2, _⟩ => blk_simp [index2]; show (grid0.coords t 1).val * 128 + e.val = 128 * (grid0.coords t 1).val + e.val; omega
  | ⟨3, _⟩ => blk_simp [index2] <;> rfl

/-- The lambda vectors. -/
theorem block_lam (c : Dev nD) (t : Fin cfg0.N) (r : Fin 4) (d : Fin 64) :
    iblk m c 3 t (ix2 r d) = (argL m c (ix2 r d) : EReal) := by
  refine Eq.trans ?_ (congrFun (V_main_arg3 m c) (ix2 r d))
  blk_simp [iblk]
  refine congrArg _ (funext fun a => Fin.ext ?_)
  match a with
  | ⟨0, _⟩ => blk_simp [index3] <;> rfl
  | ⟨1, _⟩ => blk_simp [index3] <;> rfl

/-- The norm's weights. -/
theorem block_weights (c : Dev nD) (t : Fin cfg0.N) (e : Fin 128) :
    iblk m c 4 t (ix2 e 0) = (argG m c (ix1 e) : EReal) := by
  refine Eq.trans ?_ (V_weights m c _)
  blk_simp [iblk]
  refine congrArg _ (funext fun a => Fin.ext ?_)
  match a with
  | ⟨0, _⟩ => blk_simp [index4] <;> rfl
  | ⟨1, _⟩ => blk_simp [index4] <;> rfl

/-- A point's blocks hold these numbers. -/
theorem holds_point (c : Dev nD) (t : Fin cfg0.N) {q k v : Fin 8 → ℕ → ℕ → ℝ}
    (hq : Reals (argQ m c) q) (hk : Reals (argK m c) k)
    (hv : Reals (argV m c) v) :
    Holds (iblk m c 0 t) (iblk m c 1 t) (iblk m c 2 t)
      (fun s d j => q (bat t) (1024 * qblk (grid0.coords t) + j.val) (128 * (hd t).val + (64 * s.val + d.val)) * qscale)
      (fun s j d => k (bat t) j (128 * (hd t).val + (64 * s.val + d.val)))
      (fun e j => v (bat t) j (128 * (hd t).val + e.val)) where
  q := fun s d j => by
    refine (block_queries m c t ⟨64 * s.val + d.val, by omega⟩ j).trans ?_
    rw [hq, EReal.coe_mul]
  k := fun s j d => (block_keys m c t s j d).trans (hk _ _ _)
  v := fun n e j => (block_values m c t n e j).trans (hv _ _ _)

/-- THE RESULT ARRAY. -/
theorem final (c : Dev nD) {q k v : Fin 8 → ℕ → ℕ → ℝ} {lam : ℝ}
    (hq : Reals (argQ m c) q) (hk : Reals (argK m c) k)
    (hv : Reals (argV m c) v)
    (hl : lamE (fun r d => argL m c (ix2 r d)) = (lam : EReal)) :
    (dats m 0 c).arrAt 5 cfg0.N = result q k v lam (fun e => argG m c (ix1 e)) := by
  refine (dats m 0 c).arrAt_eq_of_covers 5 _ (by decide +kernel) fun t hf y => ?_
  blk_simp
  rw [after0_5]
  unfold outsAt0
  rw [out_eq]
  obtain ⟨j, e, rfl⟩ : ∃ (j : Fin 1024) (e : Fin 128), y = ix3 (0 : Fin 1) j e := by
    refine ⟨y 1, y 2, ?_⟩
    funext a
    match a with
    | ⟨0, _⟩ => exact Fin.ext (by have : (y 0).val < 1 := (y 0).isLt; show (y 0).val = 0; omega)
    | ⟨1, _⟩ => rfl
    | ⟨2, _⟩ => rfl
  have hl' : lamE (fun r d => iblk m c 3 t (ix2 r d)) = (lam : EReal) := by simp only [block_lam]; exact hl
  have hi : (win0_5.blk t).view.emb (ix3 (0 : Fin 1) j e) = ix3 (bat t)
      (⟨1024 * qblk (grid0.coords t) + j.val, by have := qblk_lt (grid0.coords t); omega⟩ : Fin 8192)
      (⟨128 * (hd t).val + e.val, by omega⟩ : Fin 512) := by
    funext a
    refine Fin.ext ?_
    match a with
    | ⟨0, _⟩ => blk_simp [index5] <;> rfl
    | ⟨1, _⟩ => blk_simp [index5]; show (grid0.coords t 2).val * 1024 + j.val = 1024 * (grid0.coords t 2).val + j.val; omega
    | ⟨2, _⟩ => blk_simp [index5]; show (grid0.coords t 1).val * 128 + e.val = 128 * (grid0.coords t 1).val + e.val; omega
  refine (point_value (holds_point m c t hq hk hv) (iblk m c 3 t) (iblk m c 4 t) hl' (qblk_lt (grid0.coords t)) j e).trans ?_
  refine Eq.trans ?_ (congrArg (result q k v lam _) hi.symm)
  have h1 : (128 * (hd t).val + e.val) / 128 = (hd t).val := by omega
  have h2 : (128 * (hd t).val + e.val) % 128 = e.val := by omega
  have h3 : (⟨(128 * (hd t).val + e.val) % 128, Nat.mod_lt _ (by norm_num)⟩ : Fin 128) = e := Fin.ext h2
  show _ = normed (fun e' => (outAt (q (bat t)) (k (bat t)) (v (bat t)) lam ((128 * (hd t).val + e.val) / 128)
    (1024 * qblk (grid0.coords t) + j.val) e'.val : EReal)) (argG m c
      (ix1 ⟨(128 * (hd t).val + e.val) % 128, Nat.mod_lt _ (by norm_num)⟩)) ⟨(128 * (hd t).val + e.val) % 128, Nat.mod_lt _ (by norm_num)⟩
  rw [h1, h3]
  exact congrArg (fun w => normed _ w e) (block_weights m c t e)

end Cert.Flash

end
-- ==== Proof.Flash.Softmax.lean ====
/- A masked softmax over the extended reals, read as a quotient of real numbers.

   The scores of the keys that are seen are real, the others are `⊥`. The maximum of the scores cancels. -/
module

public import proofs.«01_k».proof.Proof.Flash.Column

@[expose] public section

noncomputable section

namespace Cert.Flash

open Idealize.ShloMosaic

/-- The maximum of scores below `⊤`, one of them above `⊥`, is real. -/
theorem fold_max_real {n : ℕ} (s : Fin n → EReal) (hs : ∀ j, s j < ⊤) (j0 : Fin n) (h0 : ⊥ < s j0) :
    ∃ R : ℝ, (Finset.univ : Finset (Fin n)).fold max ⊥ s = (R : EReal) := by
  have h1 : (Finset.univ : Finset (Fin n)).fold max ⊥ s < ⊤ := (Finset.fold_max_lt _).2 ⟨bot_lt_top, fun j _ => hs j⟩
  have h2 : ⊥ < (Finset.univ : Finset (Fin n)).fold max ⊥ s := (Finset.lt_fold_max _).2 (Or.inr ⟨j0, Finset.mem_univ _, h0⟩)
  exact ⟨_, (EReal.coe_toReal h1.ne h2.ne').symm⟩

/-- The exponential of a masked score less the maximum. -/
theorem exp_masked (p : Prop) [Decidable p] (x R : ℝ) :
    Ideal.exp ((if p then (x : EReal) else ⊥) - (R : EReal)) = (((if p then Real.exp x else 0) * Real.exp (-R) : ℝ) : EReal) := by
  split_ifs
  · rw [← EReal.coe_sub, Ideal.exp_coe, sub_eq_add_neg, Real.exp_add]
  · rw [EReal.bot_sub, Ideal.exp_bot, zero_mul, EReal.coe_zero]

/-- THE MASKED SOFTMAX: the maximum cancels. -/
theorem softmax_masked {n : ℕ} (p : Fin n → Prop) [DecidablePred p] (x : Fin n → ℝ) (s : Fin n → EReal)
    (hs : ∀ j, s j = if p j then (x j : EReal) else ⊥) (j0 : Fin n) (h0 : p j0) (k : Fin n) :
    Ideal.div (Ideal.exp (s k - max ⊥ ((Finset.univ : Finset (Fin n)).fold max ⊥ s)))
        (∑ j, Ideal.exp (s j - max ⊥ ((Finset.univ : Finset (Fin n)).fold max ⊥ s)))
      = (((if p k then Real.exp (x k) else 0) / ∑ j, (if p j then Real.exp (x j) else 0) : ℝ) : EReal) := by
  obtain ⟨R, hR⟩ := fold_max_real s (fun j => by rw [hs]; split_ifs; exacts [EReal.coe_lt_top _, bot_lt_top]) j0
    (by rw [hs, if_pos h0]; exact EReal.bot_lt_coe _)
  rw [hR, max_eq_right bot_le]
  simp only [hs, exp_masked, coe_sum, ← Finset.sum_mul]
  have hw : 0 < ∑ j, (if p j then Real.exp (x j) else 0) :=
    Finset.sum_pos' (fun j _ => by split_ifs; exacts [(Real.exp_pos _).le, le_rfl])
      ⟨j0, Finset.mem_univ _, by rw [if_pos h0]; exact Real.exp_pos _⟩
  rw [Ideal.div_coe (mul_pos hw (Real.exp_pos _)).ne', ← EReal.coe_mul, one_div, mul_inv, div_eq_mul_inv]
  congr 1
  have he := (Real.exp_pos (-R)).ne'
  field_simp

/-- An extended real whose absolute value is below `⊤` is real. -/
theorem real_of_abs_lt {x : EReal} (h : max x (-x) < ⊤) : x = (x.toReal : EReal) := by
  refine (EReal.coe_toReal (fun e => ?_) (fun e => ?_)).symm
  · rw [e] at h; exact absurd h (by simp)
  · rw [e] at h; exact absurd h (by simp)

end Cert.Flash

end
-- ==== Proof.Flash.Ref.lean ====
/- The reference's result, read at an index: the same numbers as the kernel's. -/
module

public import proofs.«01_k».proof.Proof.Gen.ReferenceIdeal.Read
public import proofs.«01_k».proof.Proof.Flash.Blocks
public import proofs.«01_k».proof.Proof.Flash.Softmax
public import Idealize.ShloMosaic.Lib.KernelVsHost

@[expose] public section

noncomputable section

namespace Cert.Flash

open Cert.ReferenceIdeal Cert.ReferenceIdeal.Gen Cert.ReferenceIdeal.Read Idealize.ShloMosaic Idealize.ShloMosaic.TcCoe Idealize.ShloMosaic.ValueIdx

/-! ## Scores -/

/-- The queries, or the keys, by head and map. -/
theorem heads_at (x : S8x8192x512.Idx → EReal) (b : Fin 8) (t : Fin 8192) (g : Fin 4) (s : Fin 2) (d : Fin 64) :
    shapeCast S8x8192x4x2x64 x shapeCasts_S8x8192x512_S8x8192x4x2x64 (ix5 b t g s d)
      = x (ix3 b t ⟨128 * g.val + (64 * s.val + d.val), by omega⟩) := by
  refine shapeCast_apply _ _ _ _ ?_
  rw [Shape.rowMajor_val_three, Shape.rowMajor_val_five]
  show (b.val * 8192 + t.val) * 512 + (128 * g.val + (64 * s.val + d.val)) = (((b.val * 8192 + t.val) * 4 + g.val) * 2 + s.val) * 64 + d.val
  ring

/-- The values by head. -/
theorem values_at (x : S8x8192x512.Idx → EReal) (b : Fin 8) (t : Fin 8192) (g : Fin 4) (e : Fin 128) :
    val_main_v2 (F := Ideal) x (ix4 b t g e) = x (ix3 b t ⟨128 * g.val + e.val, by omega⟩) := by
  unfold val_main_v2
  refine shapeCast_apply _ _ _ _ ?_
  rw [Shape.rowMajor_val_three, Shape.rowMajor_val_four]
  show (b.val * 8192 + t.val) * 512 + (128 * g.val + e.val) = ((b.val * 8192 + t.val) * 4 + g.val) * 128 + e.val
  ring

/-- The score of key `t` for query `tq` in map `s` of head `g`. -/
def dotAt (q k : ℕ → ℕ → ℝ) (g s tq t : ℕ) : ℝ :=
  (∑ d : Fin 64, q tq (128 * g + (64 * s + d.val)) * k t (128 * g + (64 * s + d.val))) * (1 / 8)

/-- The weight is the score's exponential. -/
theorem wAt_eq (q k : ℕ → ℕ → ℝ) (g s tq t : ℕ) : wAt q k g s tq t = if t ≤ tq then Real.exp (dotAt q k g s tq t) else 0 := by
  unfold wAt
  split_ifs
  · rw [Real.rpow_def_of_pos (by norm_num)]
    refine congrArg Real.exp ?_
    have h : ∑ d : Fin 64, k t (128 * g + (64 * s + d.val)) * (q tq (128 * g + (64 * s + d.val)) * qscale)
        = (∑ d : Fin 64, q tq (128 * g + (64 * s + d.val)) * k t (128 * g + (64 * s + d.val))) * qscale := by
      rw [Finset.sum_mul]
      exact Finset.sum_congr rfl fun d _ => by ring
    rw [h, dotAt, qscale]
    have hl : Real.log 2 ≠ 0 := (Real.log_pos (by norm_num)).ne'
    field_simp
  · rfl

section Maps

variable {x0 x1 : S8x8192x512.Idx → EReal} {q k : Fin 8 → ℕ → ℕ → ℝ}

/-- A query's score with a key. -/
theorem dot_at (hq : Reals x0 q) (hk : Reals x1 k) (b : Fin 8) (g : Fin 4) (s : Fin 2) (i j : Fin 8192) :
    val_main_v21 (F := Ideal) x0 x1 (ix5 b g s i j) = (dotAt (q b) (k b) g.val s.val i.val j.val : EReal) := by
  have h8 : Ideal.ofBits .f32 0x3E000000#32 = ((1 / 8 : ℝ) : EReal) := by
    simp [Ideal.ofBits, Ideal.ieee, -EReal.coe_mul]; norm_num
  have h : val_main_v19 (F := Ideal) x0 x1 (ix5 b g s i j)
      = ((∑ d : Fin 64, q b i.val (128 * g.val + (64 * s.val + d.val)) * k b j.val (128 * g.val + (64 * s.val + d.val)) : ℝ) : EReal) := by
    rw [val_main_v19_apply, ← coe_sum]
    refine Finset.sum_congr rfl fun d _ => ?_
    have el : lidx_main_v19 (ix5 b g s i j) d = ix5 b i g s d := by
      funext a; match a with | ⟨0, _⟩ => rfl | ⟨1, _⟩ => rfl | ⟨2, _⟩ => rfl | ⟨3, _⟩ => rfl | ⟨4, _⟩ => rfl
    have er : ridx_main_v19 (ix5 b g s i j) d = ix5 b j g s d := by
      funext a; match a with | ⟨0, _⟩ => rfl | ⟨1, _⟩ => rfl | ⟨2, _⟩ => rfl | ⟨3, _⟩ => rfl | ⟨4, _⟩ => rfl
    rw [el, er, EReal.coe_mul]
    exact congrArg₂ (· * ·) ((heads_at x0 b i g s d).trans (hq _ _ _)) ((heads_at x1 b j g s d).trans (hk _ _ _))
  rw [val_main_v21_apply, h, val_main_v20_apply]
  show _ * Ideal.ofBits .f32 0x3E000000#32 = _
  rw [h8, ← EReal.coe_mul]
  rfl

/-- A masked score: keys past the query are left out. -/
theorem masked_at (hq : Reals x0 q) (hk : Reals x1 k) (b : Fin 8) (g : Fin 4) (s : Fin 2) (i j : Fin 8192) :
    val_main_v29 (F := Ideal) x0 x1 (ix5 b g s i j)
      = if j.val ≤ i.val then (dotAt (q b) (k b) g.val s.val i.val j.val : EReal) else ⊥ := by
  have hm : val_main_call0_v1 (F := Ideal) (ix5 b g s i j) = BitVec.ofBool (decide (j.val ≤ i.val)) := by
    rw [val_main_call0_v1_apply, val_main_v28_apply, val_main_v26_apply, val_main_v23_apply, val_main_v22_apply, val_main_v27_apply,
      val_main_v25_apply, val_main_v24_apply]
    exact WordCmp.cmpi_sle_ofNat (by have := j.isLt; show j.val < _; omega) (by have := i.isLt; show i.val < _; omega)
  have hb : val_main_call0_v2 (F := Ideal) (ix5 b g s i j) = (⊥ : EReal) := by
    rw [val_main_call0_v2_apply, val_main_call0_v0_apply]
    show Ideal.ofBits .f32 0xFF800000#32 = ⊥
    simp [Ideal.ofBits, Ideal.ieee]
  rw [val_main_v29_apply, hm, hb, dot_at hq hk]
  by_cases hle : j.val ≤ i.val
  · rw [if_pos hle, decide_eq_true hle]; rfl
  · rw [if_neg hle, decide_eq_false hle]; rfl

/-- The maximum over the keys. -/
theorem max_at (b : Fin 8) (g : Fin 4) (s : Fin 2) (i j : Fin 8192) :
    val_main_v34 (F := Ideal) x0 x1 (ix5 b g s i j)
      = max ⊥ ((Finset.univ : Finset (Fin 8192)).fold max (⊥ : EReal) fun j => val_main_v29 (F := Ideal) x0 x1 (ix5 b g s i j)) := by
  have hb : Ideal.ofBits .f32 0xFF800000#32 = (⊥ : EReal) := by simp [Ideal.ofBits, Ideal.ieee]
  rw [val_main_v34_apply, val_main_v33_apply, val_main_v32_apply, val_main_v31_apply]
  refine congrArg₂ max hb ?_
  unfold val_main_v30
  generalize val_main_v29 (F := Ideal) x0 x1 = y
  have e := hostReduce_maximumf_eq_multiReduction (F := Ideal) (φ := .f32) y 0xFF800000#32 reducesTo_S8x4x2x8192x8192_S8x4x2x8192_d4 h_S_
    (by decide) (by decide) (by decide)
  refine (congrFun e _).trans ((Ideal.multiReduction_maximumf_single y _ _ _ _ _).trans ?_)
  refine (congrArg (fun z => (Finset.univ : Finset (Fin 8192)).fold max z _) hb).trans ?_
  refine congrArg (fun f => (Finset.univ : Finset (Fin 8192)).fold max (⊥ : EReal) f) (funext fun j => ?_)
  exact congrArg y (funext fun a => Fin.ext (by match a with | ⟨0, _⟩ => rfl | ⟨1, _⟩ => rfl | ⟨2, _⟩ => rfl | ⟨3, _⟩ => rfl | ⟨4, _⟩ => rfl))

/-- The exponential of a score less the maximum. -/
theorem exp_at (b : Fin 8) (g : Fin 4) (s : Fin 2) (i j : Fin 8192) :
    val_main_v36 (F := Ideal) x0 x1 (ix5 b g s i j)
      = Ideal.exp (val_main_v29 (F := Ideal) x0 x1 (ix5 b g s i j)
        - max ⊥ ((Finset.univ : Finset (Fin 8192)).fold max (⊥ : EReal) fun j => val_main_v29 (F := Ideal) x0 x1 (ix5 b g s i j))) := by
  rw [val_main_v36_apply, val_main_v35_apply, max_at]
  rfl

/-- The exponentials' sum. -/
theorem sum_at (b : Fin 8) (g : Fin 4) (s : Fin 2) (i j : Fin 8192) :
    val_main_v39 (F := Ideal) x0 x1 (ix5 b g s i j) = ∑ j : Fin 8192, val_main_v36 (F := Ideal) x0 x1 (ix5 b g s i j) := by
  have hz : Ideal.ofBits .f32 0x00000000#32 = (0 : EReal) := by simp [Ideal.ofBits, Ideal.ieee]
  rw [val_main_v39_apply, val_main_v38_apply, val_main_v37_apply]
  refine (congrArg₂ (· + ·) hz (Finset.sum_congr rfl fun j _ => congrArg (val_main_v36 (F := Ideal) x0 x1) ?_)).trans (zero_add _)
  funext a; match a with | ⟨0, _⟩ => rfl | ⟨1, _⟩ => rfl | ⟨2, _⟩ => rfl | ⟨3, _⟩ => rfl | ⟨4, _⟩ => rfl

/-- A map's weight. -/
theorem map_at (hq : Reals x0 q) (hk : Reals x1 k) (b : Fin 8) (g : Fin 4) (s : Fin 2) (i j : Fin 8192) :
    val_main_v40 (F := Ideal) x0 x1 (ix5 b g s i j)
      = ((wAt (q b) (k b) g.val s.val i.val j.val / ∑ t ∈ Finset.range 8192, wAt (q b) (k b) g.val s.val i.val t : ℝ) : EReal) := by
  rw [val_main_v40_apply, sum_at]
  simp only [exp_at]
  refine (softmax_masked (fun j : Fin 8192 => j.val ≤ i.val) (fun j => dotAt (q b) (k b) g.val s.val i.val j.val)
    (fun j => val_main_v29 (F := Ideal) x0 x1 (ix5 b g s i j)) (fun j => masked_at hq hk b g s i j) ⟨0, by norm_num⟩ (Nat.zero_le _) j).trans ?_
  simp only [wAt_eq, Finset.sum_range]

end Maps

/-! ## The two maps' difference -/

/-- The first map. -/
theorem map0_at (x0 x1 : S8x8192x512.Idx → EReal) (b : Fin 8) (g : Fin 4) (i j : Fin 8192) :
    val_main_v42 (F := Ideal) x0 x1 (ix4 b g i j) = val_main_v40 (F := Ideal) x0 x1 (ix5 b g 0 i j) := by
  unfold val_main_v42
  refine (shapeCast_apply _ _ _ (ix5 b g (0 : Fin 1) i j) ?_).trans ?_
  · rw [Shape.rowMajor_val_four, Shape.rowMajor_val_five]
    show (((b.val * 4 + g.val) * 1 + 0) * 8192 + i.val) * 8192 + j.val = ((b.val * 4 + g.val) * 8192 + i.val) * 8192 + j.val
    ring
  · rw [val_main_v41_apply]
    refine congrArg _ ?_
    funext a; match a with | ⟨0, _⟩ => rfl | ⟨1, _⟩ => rfl | ⟨2, _⟩ => rfl | ⟨3, _⟩ => rfl | ⟨4, _⟩ => rfl

/-- The second map. -/
theorem map1_at (x0 x1 : S8x8192x512.Idx → EReal) (b : Fin 8) (g : Fin 4) (i j : Fin 8192) :
    val_main_v44 (F := Ideal) x0 x1 (ix4 b g i j) = val_main_v40 (F := Ideal) x0 x1 (ix5 b g 1 i j) := by
  unfold val_main_v44
  refine (shapeCast_apply _ _ _ (ix5 b g (0 : Fin 1) i j) ?_).trans ?_
  · rw [Shape.rowMajor_val_four, Shape.rowMajor_val_five]
    show (((b.val * 4 + g.val) * 1 + 0) * 8192 + i.val) * 8192 + j.val = ((b.val * 4 + g.val) * 8192 + i.val) * 8192 + j.val
    ring
  · rw [val_main_v43_apply]
    refine congrArg _ ?_
    funext a; match a with | ⟨0, _⟩ => rfl | ⟨1, _⟩ => rfl | ⟨2, _⟩ => rfl | ⟨3, _⟩ => rfl | ⟨4, _⟩ => rfl

/-- The mixing number. -/
theorem lam_at (x3 : S4x64.Idx → EReal) (i : S_.Idx) : val_main_v18 (F := Ideal) x3 i = lamE (fun r d => x3 (ix2 r d)) := by
  have hz : Ideal.ofBits .f32 0x00000000#32 = (0 : EReal) := by simp [Ideal.ofBits, Ideal.ieee]
  have row : ∀ (j : Fin 64), val_main_v4 (F := Ideal) x3 (ix1 j) = x3 (ix2 0 j) ∧ val_main_v6 (F := Ideal) x3 (ix1 j) = x3 (ix2 1 j)
      ∧ val_main_v11 (F := Ideal) x3 (ix1 j) = x3 (ix2 2 j) ∧ val_main_v13 (F := Ideal) x3 (ix1 j) = x3 (ix2 3 j) := by
    intro j
    have hj : j.val % 64 = j.val := Nat.mod_eq_of_lt j.isLt
    refine ⟨?_, ?_, ?_, ?_⟩
    · rw [val_main_v4_apply, val_main_v3_apply]
      exact congrArg x3 (funext fun a => Fin.ext (by match a with | ⟨0, _⟩ => rfl | ⟨1, _⟩ => exact hj))
    · rw [val_main_v6_apply, val_main_v5_apply]
      exact congrArg x3 (funext fun a => Fin.ext (by match a with | ⟨0, _⟩ => rfl | ⟨1, _⟩ => exact hj))
    · rw [val_main_v11_apply, val_main_v10_apply]
      exact congrArg x3 (funext fun a => Fin.ext (by match a with | ⟨0, _⟩ => rfl | ⟨1, _⟩ => exact hj))
    · rw [val_main_v13_apply, val_main_v12_apply]
      exact congrArg x3 (funext fun a => Fin.ext (by match a with | ⟨0, _⟩ => rfl | ⟨1, _⟩ => exact hj))
  have to1 : ∀ f : S64.Idx → EReal, ∑ j, f j = ∑ j : Fin 64, f (ix1 j) := fun f =>
    Fintype.sum_equiv ⟨fun y => y 0, ix1, fun y => funext fun a => match a with | ⟨0, _⟩ => rfl, fun _ => rfl⟩ _ _
      fun y => congrArg f (funext fun a => match a with | ⟨0, _⟩ => rfl)
  have h8 : ∀ i : S_.Idx, val_main_v8 (F := Ideal) x3 i = ∑ d, x3 (ix2 0 d) * x3 (ix2 1 d) := by
    intro i
    rw [val_main_v8_apply, to1]
    refine (congrArg₂ (· + ·) hz (Finset.sum_congr rfl fun j _ => ?_)).trans (zero_add _)
    rw [val_main_v7_apply, (row j).1, (row j).2.1]
    rfl
  have h15 : ∀ i : S_.Idx, val_main_v15 (F := Ideal) x3 i = ∑ d, x3 (ix2 2 d) * x3 (ix2 3 d) := by
    intro i
    rw [val_main_v15_apply, to1]
    refine (congrArg₂ (· + ·) hz (Finset.sum_congr rfl fun j _ => ?_)).trans (zero_add _)
    rw [val_main_v14_apply, (row j).2.2.1, (row j).2.2.2]
    rfl
  rw [val_main_v18_apply, val_main_v17_apply, val_main_v9_apply, val_main_v16_apply, h8, h15]
  rfl

section Result

variable {x0 x1 x2 : S8x8192x512.Idx → EReal} {x3 : S4x64.Idx → EReal} {x4 : S128.Idx → EReal} {q k v : Fin 8 → ℕ → ℕ → ℝ} {lam : ℝ}

/-- The difference's average of the values. -/
theorem out_at (hq : Reals x0 q) (hk : Reals x1 k) (hv : Reals x2 v) (hl : lamE (fun r d => x3 (ix2 r d)) = (lam : EReal))
    (b : Fin 8) (i : Fin 8192) (g : Fin 4) (e : Fin 128) :
    val_main_v49 (F := Ideal) x0 x1 x2 x3 (ix4 b i g e) = (outAt (q b) (k b) (v b) lam g.val i.val e.val : EReal) := by
  have hi : idx_main_v49 (ix4 b i g e) = ix4 b g e i := by
    funext a; match a with | ⟨0, _⟩ => rfl | ⟨1, _⟩ => rfl | ⟨2, _⟩ => rfl | ⟨3, _⟩ => rfl
  rw [val_main_v49_apply, hi, val_main_v48_apply]
  have ht : ∀ j : Fin 8192, val_main_v2 (F := Ideal) x2 (lidx_main_v48 (ix4 b g e i) j) * val_main_v47 (F := Ideal) x0 x1 x3 (ridx_main_v48 (ix4 b g e i) j)
      = ((v b j.val (128 * g.val + e.val)
        * (wAt (q b) (k b) g.val 0 i.val j.val / ∑ t ∈ Finset.range 8192, wAt (q b) (k b) g.val 0 i.val t
          - lam * (wAt (q b) (k b) g.val 1 i.val j.val / ∑ t ∈ Finset.range 8192, wAt (q b) (k b) g.val 1 i.val t)) : ℝ) : EReal) := by
    intro j
    have el : lidx_main_v48 (ix4 b g e i) j = ix4 b j g e := by
      funext a; match a with | ⟨0, _⟩ => rfl | ⟨1, _⟩ => rfl | ⟨2, _⟩ => rfl | ⟨3, _⟩ => rfl
    have er : ridx_main_v48 (ix4 b g e i) j = ix4 b g i j := by
      funext a; match a with | ⟨0, _⟩ => rfl | ⟨1, _⟩ => rfl | ⟨2, _⟩ => rfl | ⟨3, _⟩ => rfl
    rw [el, er, EReal.coe_mul, EReal.coe_sub, EReal.coe_mul]
    refine congrArg₂ (· * ·) ((values_at x2 b j g e).trans (hv _ _ _)) ?_
    rw [val_main_v47_apply, val_main_v46_apply, val_main_v45_apply, lam_at, hl, map0_at, map1_at, map_at hq hk, map_at hq hk]
    rfl
  rw [Finset.sum_congr rfl fun j _ => ht j, coe_sum]
  refine congrArg _ ?_
  unfold outAt avg
  rw [Finset.sum_range fun t => wAt (q b) (k b) g.val 0 i.val t * v b t (128 * g.val + e.val),
    Finset.sum_range fun t => wAt (q b) (k b) g.val 1 i.val t * v b t (128 * g.val + e.val), Finset.sum_div, Finset.sum_div, Finset.mul_sum,
    ← Finset.sum_sub_distrib]
  exact Finset.sum_congr rfl fun j _ => by ring

/-- The norm and the weights. -/
theorem normed_at (hq : Reals x0 q) (hk : Reals x1 k) (hv : Reals x2 v) (hl : lamE (fun r d => x3 (ix2 r d)) = (lam : EReal))
    (b : Fin 8) (i : Fin 8192) (g : Fin 4) (e : Fin 128) :
    val_main_v64 (F := Ideal) x0 x1 x2 x3 x4 (ix4 b i g e)
      = normed (fun e => (outAt (q b) (k b) (v b) lam g.val i.val e.val : EReal)) (x4 (ix1 e)) e := by
  have hz : Ideal.ofBits .f32 0x00000000#32 = (0 : EReal) := by simp [Ideal.ofBits, Ideal.ieee]
  have hs : ∀ y, val_main_v51 (F := Ideal) x0 x1 x2 x3 y = ∑ e', val_main_v50 (F := Ideal) x0 x1 x2 x3 (idx_main_v51 y e') := fun y =>
    (val_main_v51_apply x0 x1 x2 x3 y).trans ((congrArg (· + _) hz).trans (zero_add _))
  have h4 : val_main_v61 (F := Ideal) x4 (ix4 b i g e) = x4 (ix1 e) := by
    rw [val_main_v61_apply, val_main_v60_apply]
    exact congrArg x4 (funext fun a => match a with | ⟨0, _⟩ => rfl)
  rw [val_main_v64_apply, val_main_v62_apply, val_main_v59_apply, val_main_v58_apply, val_main_v57_apply, val_main_v56_apply, val_main_v54_apply,
    val_main_v52_apply, hs, h4, out_at hq hk hv hl]
  have hi : ∀ e', idx_main_v51 (idx_main_v52 (idx_main_v58 (ix4 b i g e))) e' = ix4 b i g e' := fun e' => by
    funext a; match a with | ⟨0, _⟩ => rfl | ⟨1, _⟩ => rfl | ⟨2, _⟩ => rfl | ⟨3, _⟩ => rfl
  have hp : ∀ e', val_main_v50 (F := Ideal) x0 x1 x2 x3 (idx_main_v51 (idx_main_v52 (idx_main_v58 (ix4 b i g e))) e')
      = (outAt (q b) (k b) (v b) lam g.val i.val e'.val : EReal) * (outAt (q b) (k b) (v b) lam g.val i.val e'.val : EReal) := fun e' => by
    rw [hi, val_main_v50_apply, out_at hq hk hv hl]
    rfl
  rw [Finset.sum_congr rfl fun e' _ => hp e', val_main_v53_apply, val_main_v55_apply, val_main_v63_apply]
  rfl

/-- THE REFERENCE'S RESULT. -/
theorem reference_result (hq : Reals x0 q) (hk : Reals x1 k) (hv : Reals x2 v) (hl : lamE (fun r d => x3 (ix2 r d)) = (lam : EReal)) :
    val_main_v66 (F := Ideal) x0 x1 x2 x3 x4 = result q k v lam (fun e => x4 (ix1 e)) := by
  funext y
  obtain ⟨b, i, w, rfl⟩ : ∃ (b : Fin 8) (i : Fin 8192) (w : Fin 512), y = ix3 b i w :=
    ⟨y 0, y 1, y 2, funext fun a => match a with | ⟨0, _⟩ => rfl | ⟨1, _⟩ => rfl | ⟨2, _⟩ => rfl⟩
  rw [val_main_v66_apply]
  refine Eq.trans (b := val_main_v65 (F := Ideal) x0 x1 x2 x3 x4 (ix3 b i w)) rfl ?_
  unfold val_main_v65
  refine (shapeCast_apply _ _ _ (ix4 b i (⟨w.val / 128, by omega⟩ : Fin 4) (⟨w.val % 128, Nat.mod_lt _ (by norm_num)⟩ : Fin 128)) ?_).trans
    (normed_at hq hk hv hl _ _ _ _)
  rw [Shape.rowMajor_val_three, Shape.rowMajor_val_four]
  show ((b.val * 8192 + i.val) * 4 + w.val / 128) * 128 + w.val % 128 = (b.val * 8192 + i.val) * 512 + w.val
  omega

end Result

end Cert.Flash

end
-- ==== Proof.Flash.Finite.lean ====
/- What the precondition says of the arguments: their elements are real numbers. -/
module

public import proofs.«01_k».proof.Pre_finite
public import proofs.«01_k».proof.Proof.Gen.Pre_finite
public import proofs.«01_k».proof.Proof.Flash.Blocks
public import proofs.«01_k».proof.Proof.Flash.Softmax
public import Idealize.ShloMosaic.Lib.ReduceAll

@[expose] public section

noncomputable section

namespace Cert.Flash

open Cert.Pre_finite Idealize.ShloMosaic Idealize.ShloMosaic.ValueIdx

/-- A scalar has one index. -/
theorem scalar_index (i j : S_.Idx) : i = j := funext fun a => a.elim0

/-- Both parts of a conjunction that holds. -/
theorem both_of_and : ∀ {x y : BitVec 1}, IntOp.andi x y = 1#1 → x = 1#1 ∧ y = 1#1 := by decide

/-- All of an array's absolute values are below infinity: its elements are real. -/
theorem reals_of_all {s : Shape} {axes : List (Fin s.rank)} (x : FVec Ideal s .f32) (hb : S_.BroadcastsInDim s (![] : Fin 0 → Fin s.rank))
    (h : s.ReducesTo axes S_) (hu : 0 < S_.numel)
    (e : Host.reduce IntOp.andi (cmpf .olt (Host.absf x) (broadcastInDim s ![] hb (constant S_ .f32 0x7F800000#32))) (constantI S_ 1 1#1) h hu ix0 = 1#1)
    (i : s.Idx) : (x i : EReal) = ((x i : EReal).toReal : EReal) := by
  haveI : Subsingleton S_.Idx := ⟨scalar_index⟩
  have hi := Host.reduce_andi_all _ _ h hu ix0 e i
  have ht : Ideal.ofBits .f32 0x7F800000#32 = (⊤ : EReal) := by simp [Ideal.ofBits, Ideal.ieee]
  have hb' : broadcastInDim s ![] hb (constant (F := Ideal) S_ .f32 0x7F800000#32) i = (⊤ : EReal) :=
    (broadcastInDim_apply _ hb _ i ix0 (fun a => a.elim0)).trans ht
  have hc : BitVec.ofBool (decide (max (x i : EReal) (-(x i : EReal)) < ⊤)) = 1#1 := by
    rw [← hi, ← hb']
    rfl
  by_cases hlt : max (x i : EReal) (-(x i : EReal)) < ⊤
  · exact real_of_abs_lt hlt
  · rw [decide_eq_false hlt] at hc
    exact absurd hc (by decide)

/-- THE PRECONDITION, read: the elements of the queries, keys, values and lambda vectors are real. -/
theorem reals_of_pre {x0 x1 x2 : S8x8192x512.Idx → EReal} {x3 : S4x64.Idx → EReal} {x4 : S128.Idx → EReal}
    (h : fn (F := Ideal) x0 x1 x2 x3 x4 = fun _ => 1#1) :
    (∀ i, x0 i = ((x0 i).toReal : EReal)) ∧ (∀ i, x1 i = ((x1 i).toReal : EReal)) ∧ (∀ i, x2 i = ((x2 i).toReal : EReal))
      ∧ ∀ i, x3 i = ((x3 i).toReal : EReal) := by
  have h' := congrFun h ix0
  obtain ⟨h', h3⟩ := both_of_and h'
  obtain ⟨h', h2⟩ := both_of_and h'
  obtain ⟨h0, h1⟩ := both_of_and h'
  exact ⟨reals_of_all x0 _ _ _ h0, reals_of_all x1 _ _ _ h1, reals_of_all x2 _ _ _ h2, reals_of_all x3 _ _ _ h3⟩

/-- Real elements, named by their places. -/
theorem Reals.of {x : S8x8192x512.Idx → EReal} (h : ∀ i, x i = ((x i).toReal : EReal)) : ∃ r, Reals x r :=
  ⟨fun b t w => if ht : t < 8192 then if hw : w < 512 then (x (ix3 b ⟨t, ht⟩ ⟨w, hw⟩)).toReal else 0 else 0, fun b t w => by
    beta_reduce
    rw [dif_pos t.isLt, dif_pos w.isLt]
    exact h _⟩

/-- The mixing number of real vectors is real. -/
theorem lam_real {x3 : S4x64.Idx → EReal} (h : ∀ i, x3 i = ((x3 i).toReal : EReal)) :
    ∃ lam : ℝ, lamE (fun r d => x3 (ix2 r d)) = (lam : EReal) := by
  have hs : ∀ r r' : Fin 4, ∑ d : Fin 64, x3 (ix2 r d) * x3 (ix2 r' d)
      = ((∑ d : Fin 64, (x3 (ix2 r d)).toReal * (x3 (ix2 r' d)).toReal : ℝ) : EReal) := fun r r' => by
    rw [← coe_sum]
    exact Finset.sum_congr rfl fun d _ => by rw [EReal.coe_mul, ← h, ← h]
  have hz : Ideal.ofBits .f32 0x3E4CCCCD#32 = ((13421773 / 67108864 : ℝ) : EReal) := by
    simp [Ideal.ofBits, Ideal.ieee, -EReal.coe_mul]; norm_num
  unfold lamE
  rw [hs, hs, hz, Ideal.exp_coe, Ideal.exp_coe, ← EReal.coe_sub, ← EReal.coe_add]
  exact ⟨_, rfl⟩

end Cert.Flash

end
-- ==== Proof.Experts.Named.lean ====
/- What the precondition says of the table of experts: every entry names one of the sixty-four experts. -/
module

public import proofs.«01_k».proof.Pre_known_expert
public import proofs.«01_k».proof.Proof.Gen.Pre_known_expert
public import Idealize.ShloMosaic.Lib.ReduceAll
public import Idealize.ShloMosaic.Lib.ValueIdx

@[expose] public section

noncomputable section

namespace Cert.Experts

open Cert.Pre_known_expert Idealize.ShloMosaic Idealize.ShloMosaic.ValueIdx

/-- Both halves of a conjunction of two truth values that is true. -/
theorem halves : ∀ {x y : BitVec 1}, IntOp.andi x y = 1#1 → x = 1#1 ∧ y = 1#1 := by decide

/-- A word at least zero and below sixty-four, both as signed numbers, is a number below sixty-four. -/
theorem lt_of_signed (w : BitVec 32) (h0 : IntOp.cmpi .sge w 0#32 = 1#1) (h1 : IntOp.cmpi .slt w 64#32 = 1#1) : w.toNat < 64 := by
  have one : ∀ p : Bool, BitVec.ofBool p = 1#1 → p = true := by decide
  have g0 : (0#32 : BitVec 32).toInt ≤ w.toInt := of_decide_eq_true (one _ h0)
  have g1 : w.toInt < (64#32 : BitVec 32).toInt := of_decide_eq_true (one _ h1)
  rw [show (0#32 : BitVec 32).toInt = 0 from by decide] at g0
  rw [show (64#32 : BitVec 32).toInt = 64 from by decide] at g1
  rw [BitVec.toInt_eq_toNat_cond] at g0 g1
  split at g0 <;> split at g1 <;> omega

/-- THE PRECONDITION, read: every entry of the table is below sixty-four. -/
theorem named_of_pre {F : FTy → Type} [FloatOps F] {e nv : IVec S2116 32} {x : FVec F S541696x1024 .f32}
    {wg wu : FVec F S64x1024x256 .f32} {wd : FVec F S64x256x1024 .f32}
    (h : fn e nv x wg wu wd = fun _ => 1#1) (b : S2116.Idx) : (e b).toNat < 64 := by
  haveI : Subsingleton S_.Idx := ⟨fun i j => funext fun a => a.elim0⟩
  obtain ⟨h0, h1⟩ := halves (Host.reduce_andi_all _ _ _ _ ix0 (congrFun h ix0) b)
  exact lt_of_signed (e b) h0 h1

end Cert.Experts

end
-- ==== Proof.Experts.LaunchIdeal.lean ====
/- The launch of the expert layer's program over the extended reals: one point per block of 256 rows.

   At each point the body reads its block of rows, the two weight blocks of the block's expert (the expert's number is read
   from a table before the point starts) and how many of its rows are filled, and writes the block of results as eight
   strips of 128 columns, each to every eighth row of the output block. The run follows the launch theorem of the library
   for a pipeline with tables; what is specific is the body's run (`body_run`) and that the eight strided strips cover the
   output block (`strips_cover`). Everything is under `Ok`: every expert's number names a block of the weights. -/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Kernel3Ideal.Experts

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the launch -/

/-- What the buffers of core `c` hold when the launch starts: the weights have been joined and rounded. -/
abbrev V (c : Dev nD) (b : Ref sig .tc) : Buf (Elt F) ((c : Thread nD τ).loc b) := StableHlo.after hostOps0 (fun b => m (c, b)) b

/-- The operations before the launch allocate nothing. -/
theorem host_fresh : (hostOps0 : List (HloOp τ sig (Elt F))).Forall fun op => op.fresh = ∅ := by
  simp only [List.Forall]; repeat' constructor

/-- The program is its host operations, then the launch. -/
theorem main_run : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub host_fresh main_chain

/-- A buffer none of the three host operations writes is found as it was at the start. -/
theorem V_of_ne (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.Forall, StableHlo.unary_writes, StableHlo.binary_writes, Finset.mem_singleton]
    exact ⟨StableHlo.devRef_ne_of_ne h0, StableHlo.devRef_ne_of_ne h1, StableHlo.devRef_ne_of_ne h2⟩))

/-! ## The tables -/

/-- What the two tables hold: per block, its expert and how many of its rows are filled. -/
def tbl : pre0.Contents (Elt F) := fun j => V m (0 : Dev nD) (pre0.ref j)

/-- Every core finds these tables: there is one core. -/
theorem V_pre (c : Dev nD) (j : Fin 2) : V m c (pre0.ref j) = tbl m j := by
  obtain rfl : c = 0 := Subsingleton.elim _ _; rfl

/-- Every expert's number names a block of the weights. -/
abbrev Ok : Prop := ok0 (F := F) (tbl m)
/-- The tables as contents the launch admits, -/
abbrev adm (hO : Ok m) : (pcfg0 (F := F)).Adm := ⟨tbl m, hO⟩
/-- and the pipeline at them. -/
abbrev cfgM (hO : Ok m) : Pipeline.Cfg sig Λ₀ := cfg0 (adm m hO)

/-- The experts' table and the fill counts' table, as the body is handed them. -/
abbrev tE : Memref sig .tc .smem S2116 .i32 := Memref.whole main_arg0
abbrev tN : Memref sig .tc .smem S2116 .i32 := Memref.whole main_arg1

/-- The contents of a table on core `c`, and the table held for reading: half of the share, the launch keeping the rest. -/
abbrev Tab (c : Dev nD) (M : Memref sig .tc .smem S2116 .i32) : Type := Buf (Elt F) (M.view.loc (c : Thread nD τ))
abbrev tabAt (c : Dev nD) (M : Memref sig .tc .smem S2116 .i32) (f : Tab (F := F) c M) : sProp 𝕄 :=
  M.view.loc (c : Thread nD τ) ↦{fullShare.right} f

/-- What the launch hands the body of the tables, table by table. -/
theorem tables_eq (c : Dev nD) :
    (Pipeline.ΦT pre0 (tbl m) c : sProp 𝕄) = iprop(tabAt c tE (tbl m 0) ∗ tabAt c tN (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The body's run -/

set_option maxHeartbeats 1000000 in
/-- The body, from its three input blocks, its output block at anything and the tables: it leaves the inputs and the tables
    as they were, and the output block overwritten by the listed strips, the last written first. -/
noncomputable def body_run (c : Dev nD) (i : grid0.Coords) (a3 : Memref sig .tc .vmem S256x1024 .f32) (h3 : a3.IsWhole)
    (a4 : Memref sig .tc .vmem S1x1024x512 .bf16) (h4 : a4.IsWhole) (a5 : Memref sig .tc .vmem S1x256x1024 .bf16) (h5 : a5.IsWhole)
    (a6 : Memref sig .tc .vmem S2048x128 .f32) (h6 : a6.IsWhole)
    (x : Vec F S256x1024 .f32) (wgu : Vec F S1x1024x512 .bf16) (wd : Vec F S1x256x1024 .bf16) (te : Tab (F := F) c tE) (tn : Tab (F := F) c tN) :
    { L : List (View.Piece (Elt F) S2048x128 .f32) //
      ∀ (E : Set ℕ) (K : PUnit → sProp 𝕄),
        iprop(owns (c : Thread nD τ) a3 fullShare x ∗ owns (c : Thread nD τ) a4 fullShare wgu ∗ owns (c : Thread nD τ) a5 fullShare wd
            ∗ (∃ d, owns (c : Thread nD τ) a6 fullShare d) ∗ tabAt c tE te ∗ tabAt c tN tn
            ∗ (iprop(owns (c : Thread nD τ) a3 fullShare x ∗ owns (c : Thread nD τ) a4 fullShare wgu ∗ owns (c : Thread nD τ) a5 fullShare wd
              ∗ (∃ f, a6.view.loc (c : Thread nD τ) ↦[a6.view.set]{fullShare} a6.view.writes (Elt F) f L) ∗ tabAt c tE te ∗ tabAt c tN tn) -∗ K ⟨⟩))
          ⊢ wp frame (wpE (defs₀ (F := F)) Variants.none c none) E
              (cc0__expert_kernel i tE (Memref.isWhole_whole _) tN (Memref.isWhole_whole _) a3 h3 a4 h4 a5 h5 a6 h6) K } := by
  refine ⟨?_, fun E K => ?run⟩
  case run =>
    simp only [cc0__expert_kernel_eq_skeleton]; unfold cc0__expert_kernel_skel
    simp only [k0_part1_eq_skeleton]
    unfold owns
    iintro ⟨⟨%f0, %e0, H0⟩, ⟨%f1, %e1, H1⟩, ⟨%f2, %e2, H2⟩, ⟨%d3, %f3, -, H3⟩, HT0, HT1, Hk⟩
    obtain rfl := h3.eq_unread e0; obtain rfl := h4.eq_unread e1; obtain rfl := h5.eq_unread e2
    sl_exec
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]; · iexists _; iexact H3
    isplitl [HT0]; · iexact HT0
    iexact HT1

/-! ## The strips cover the output block -/

/-- Every eighth row of the output block, from row `k`. -/
abbrev strip (k : ℕ) (h : ∀ a, S256x128.size a = 0 ∨ (![k, 0] : Fin 2 → ℕ) a + (![8, 1] : Fin 2 → ℕ) a * (S256x128.size a - 1) < S2048x128.size a) : Rect S2048x128 :=
  ⟨(⟨![k, 0], S256x128.size, ![8, 1], h⟩ : LoadRect S2048x128), spos_8_1⟩

/-- The eight strips of a block of results `X`, the last written first: columns `128 k` to `128 k + 127` go to rows
    `k, k + 8, k + 16, …`. -/
def strips (X : FVec F S256x1024 .f32) : List (View.Piece (Elt F) S2048x128 .f32) :=
  [⟨strip 7 inb_S2048x128_S256x128_7_0_s_8_1, k0_pay4 X⟩,
   ⟨strip 6 inb_S2048x128_S256x128_6_0_s_8_1, k0_pay3 X⟩,
   ⟨strip 5 inb_S2048x128_S256x128_5_0_s_8_1, k0_pay2 X⟩,
   ⟨strip 4 inb_S2048x128_S256x128_4_0_s_8_1, k0_pay1 X⟩,
   ⟨strip 3 inb_S2048x128_S256x128_3_0_s_8_1, extractStridedSlice S256x128 ![0, 384] X slices_S256x1024_o0_384_S256x128⟩,
   ⟨strip 2 inb_S2048x128_S256x128_2_0_s_8_1, extractStridedSlice S256x128 ![0, 256] X slices_S256x1024_o0_256_S256x128⟩,
   ⟨strip 1 inb_S2048x128_S256x128_1_0_s_8_1, extractStridedSlice S256x128 ![0, 128] X slices_S256x1024_o0_128_S256x128⟩,
   ⟨strip 0 inb_S2048x128_S256x128_0_0_s_8_1, extractStridedSlice S256x128 ![0, 0] X slices_S256x1024_o0_0_S256x128⟩]

/-- A row of the output block is in the strip its remainder by eight names. -/
theorem mem_strip (k : ℕ) (h) (y : S2048x128.Idx) (hy : (y 0).val % 8 = k) : y ∈ (strip k h).set := by
  refine LoadRect.mem_set (r := (strip k h).toLoadRect) |>.mpr fun a => ?_
  match a with
  | ⟨0, _⟩ =>
    refine ⟨(y 0).val / 8, ?_, ?_⟩
    · have : (y 0).val < 2048 := (y 0).isLt
      show (y 0).val / 8 < 256
      omega
    · show (y 0).val = k + 8 * ((y 0).val / 8)
      omega
  | ⟨1, _⟩ =>
    refine ⟨(y 1).val, (y 1).isLt, ?_⟩
    show (y 1).val = 0 + 1 * (y 1).val
    omega

/-- So every element of the output block is written. -/
theorem strips_cover (X : FVec F S256x1024 .f32) (y : S2048x128.Idx) : ∃ p ∈ strips X, y ∈ p.1.set := by
  have hlt : (y 0).val % 8 < 8 := Nat.mod_lt _ (by decide)
  unfold strips
  rcases (by omega : (y 0).val % 8 = 0 ∨ (y 0).val % 8 = 1 ∨ (y 0).val % 8 = 2 ∨ (y 0).val % 8 = 3 ∨ (y 0).val % 8 = 4
    ∨ (y 0).val % 8 = 5 ∨ (y 0).val % 8 = 6 ∨ (y 0).val % 8 = 7) with h | h | h | h | h | h | h | h
  · exact ⟨_, .tail _ (.tail _ (.tail _ (.tail _ (.tail _ (.tail _ (.tail _ (.head _))))))), mem_strip 0 _ y h⟩
  · exact ⟨_, .tail _ (.tail _ (.tail _ (.tail _ (.tail _ (.tail _ (.head _)))))), mem_strip 1 _ y h⟩
  · exact ⟨_, .tail _ (.tail _ (.tail _ (.tail _ (.tail _ (.head _))))), mem_strip 2 _ y h⟩
  · exact ⟨_, .tail _ (.tail _ (.tail _ (.tail _ (.head _)))), mem_strip 3 _ y h⟩
  · exact ⟨_, .tail _ (.tail _ (.tail _ (.head _))), mem_strip 4 _ y h⟩
  · exact ⟨_, .tail _ (.tail _ (.head _)), mem_strip 5 _ y h⟩
  · exact ⟨_, .tail _ (.head _), mem_strip 6 _ y h⟩
  · exact ⟨_, .head _, mem_strip 7 _ y h⟩

/-- How many rows of block `i` are filled: the word the body reads from the table. -/
def fill (c : Dev nD) (i : grid0.Coords) (tn : Tab (F := F) c tN) : Elt F .i32 :=
  View.readAt (Elt F) tN.view (Rect.unit (s := S2116) (k0_off1 i) S1.size (k0_off1_inb i)).toLoadRect tn
    (Shape.Idx.first (by rw [show (Rect.unit (s := S2116) (k0_off1 i) S1.size (k0_off1_inb i)).toLoadRect.shape = S1 from rfl, numel1_S1]; decide))

/-- What the body's run writes is the eight strips of the block of results. -/
theorem run_strips (c : Dev nD) (i : grid0.Coords) (a3 : Memref sig .tc .vmem S256x1024 .f32) (h3 : a3.IsWhole)
    (a4 : Memref sig .tc .vmem S1x1024x512 .bf16) (h4 : a4.IsWhole) (a5 : Memref sig .tc .vmem S1x256x1024 .bf16) (h5 : a5.IsWhole)
    (a6 : Memref sig .tc .vmem S2048x128 .f32) (h6 : a6.IsWhole)
    (x : Vec F S256x1024 .f32) (wgu : Vec F S1x1024x512 .bf16) (wd : Vec F S1x256x1024 .bf16) (te : Tab (F := F) c tE) (tn : Tab (F := F) c tN) :
    (body_run c i a3 h3 a4 h4 a5 h5 a6 h6 x wgu wd te tn).1 = strips (k0_pay5 x (fill c i tn) wgu wd) := by
  have e3 : View.readAt (Elt F) a3.view (Rect.unit ![0, 0] ![256, 1024] inb_S256x1024_S256x1024_0_0).toLoadRect (h3.unread x) = x :=
    (View.readAt_full a3.view (h3.unread x) inb_S256x1024_S256x1024_0_0).trans (h3.read_unread x)
  have e4 : View.readAt (Elt F) a4.view (Rect.unit ![0, 0, 0] ![1, 1024, 512] inb_S1x1024x512_S1x1024x512_0_0_0).toLoadRect (h4.unread wgu) = wgu :=
    (View.readAt_full a4.view (h4.unread wgu) inb_S1x1024x512_S1x1024x512_0_0_0).trans (h4.read_unread wgu)
  have e5 : View.readAt (Elt F) a5.view (Rect.unit ![0, 0, 0] ![1, 256, 1024] inb_S1x256x1024_S1x256x1024_0_0_0).toLoadRect (h5.unread wd) = wd :=
    (View.readAt_full a5.view (h5.unread wd) inb_S1x256x1024_S1x256x1024_0_0_0).trans (h5.read_unread wd)
  unfold body_run
  dsimp only
  unfold body_run.sl.r_1 body_run.sl.r_2
  rw [e3, e4, e5]
  rfl

/-- The output block the body leaves. -/
def outBlock (X : FVec F S256x1024 .f32) : Vec F S2048x128 .f32 := View.canon (strips X)

/-- Writing the strips leaves this block, whatever was there. -/
theorem read_strips (a : Memref sig .tc .vmem S2048x128 .f32) (f : a.view.ty.Contents (Elt F)) (X : FVec F S256x1024 .f32) :
    a.view.read (Elt F) (a.view.writes (Elt F) f (strips X)) = outBlock X :=
  funext fun y => View.read_writes_apply_eq_canon a.view f y (strips X) (strips_cover X y)

/-- So the body leaves the output block of its block of results. -/
theorem read_run (c : Dev nD) (i : grid0.Coords) (a3 : Memref sig .tc .vmem S256x1024 .f32) (h3 : a3.IsWhole)
    (a4 : Memref sig .tc .vmem S1x1024x512 .bf16) (h4 : a4.IsWhole) (a5 : Memref sig .tc .vmem S1x256x1024 .bf16) (h5 : a5.IsWhole)
    (a6 : Memref sig .tc .vmem S2048x128 .f32) (h6 : a6.IsWhole)
    (x : Vec F S256x1024 .f32) (wgu : Vec F S1x1024x512 .bf16) (wd : Vec F S1x256x1024 .bf16) (te : Tab (F := F) c tE) (tn : Tab (F := F) c tN)
    (f : a6.view.ty.Contents (Elt F)) :
    a6.view.read (Elt F) (a6.view.writes (Elt F) f (body_run c i a3 h3 a4 h4 a5 h5 a6 h6 x wgu wd te tn).1)
      = outBlock (k0_pay5 x (fill c i tn) wgu wd) := by
  rw [run_strips]
  exact read_strips _ _ _

/-! ## The launch's data -/

/-- The block of window `w` at point `t`, read off its array as the launch finds it. -/
def blk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The block of results of point `t`. -/
def resBlock (hO : Ok m) (c : Dev nD) (t : Fin (cfgM m hO).N) : FVec F S256x1024 .f32 :=
  k0_pay5 (blk m hO c 0 t) (fill c (grid0.coords t) (tbl m 1)) (blk m hO c 1 t) (blk m hO c 2 t)

/-- The arrays as found; after each point the inputs' buffers hold their blocks and the output's the block of results in
    strips; the tables are held throughout and nothing is owed. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => blk m hO c 0 t
    | ⟨1, _⟩ => blk m hO c 1 t
    | ⟨2, _⟩ => blk m hO c 2 t
    | ⟨3, _⟩ => outBlock (resBlock m hO c t)
  Φ _ := iprop(Pipeline.ΦA spec0 c ∗ Pipeline.ΦT pre0 (tbl m) c)
  q _ := fullShare
  owed _ := 0

/-- The data's arrays are the arrays as found. -/
theorem arr_eq (hO : Ok m) (c : Dev nD) (w : Fin (cfgM m hO).W) : (dats m hO 0 c).A w = V m c (Pipeline.arrRef spec0 w) := by
  dsimp only [dats]

/-- What the buffers hold after a point, window by window. -/
theorem after_x (hO : Ok m) (c : Dev nD) (t : Fin (cfgM m hO).N) : (dats m hO 0 c).after 0 t = blk m hO c 0 t := by dsimp only [dats]; rfl
theorem after_wgu (hO : Ok m) (c : Dev nD) (t : Fin (cfgM m hO).N) : (dats m hO 0 c).after 1 t = blk m hO c 1 t := by dsimp only [dats]; rfl
theorem after_wd (hO : Ok m) (c : Dev nD) (t : Fin (cfgM m hO).N) : (dats m hO 0 c).after 2 t = blk m hO c 2 t := by dsimp only [dats]; rfl
theorem after_out (hO : Ok m) (c : Dev nD) (t : Fin (cfgM m hO).N) : (dats m hO 0 c).after 3 t = outBlock (resBlock m hO c t) := by dsimp only [dats]; rfl

/-- An input's buffer holds its block at every point, whether it was fetched there or is still the one from before. -/
theorem before_x (hO : Ok m) (c : Dev nD) (t : Fin (cfgM m hO).N) (d) : (dats m hO 0 c).before 0 t d = blk m hO c 0 t :=
  ((dats m hO 0 c).before_in_eq_fetched 0 rfl (fun _ => rfl) (fun _ _ _ => rfl) (fun t => by rw [after_x]; unfold Dat.blockOf blk; rw [arr_eq]) t d).trans
    (by unfold Dat.fetched Dat.blockOf blk; rw [arr_eq]; rfl)
theorem before_wgu (hO : Ok m) (c : Dev nD) (t : Fin (cfgM m hO).N) (d) : (dats m hO 0 c).before 1 t d = blk m hO c 1 t :=
  ((dats m hO 0 c).before_in_eq_fetched 1 rfl (fun _ => rfl) (fun _ _ _ => rfl) (fun t => by rw [after_wgu]; unfold Dat.blockOf blk; rw [arr_eq]) t d).trans
    (by unfold Dat.fetched Dat.blockOf blk; rw [arr_eq]; rfl)
theorem before_wd (hO : Ok m) (c : Dev nD) (t : Fin (cfgM m hO).N) (d) : (dats m hO 0 c).before 2 t d = blk m hO c 2 t :=
  ((dats m hO 0 c).before_in_eq_fetched 2 rfl (fun _ => rfl) (fun _ _ _ => rfl) (fun t => by rw [after_wd]; unfold Dat.blockOf blk; rw [arr_eq]) t d).trans
    (by unfold Dat.fetched Dat.blockOf blk; rw [arr_eq]; rfl)

/-! ## The body at a point -/

/-- The buffers of the four windows at point `t`. -/
abbrev b0 (hO : Ok m) (t : Fin (cfgM m hO).N) : Memref sig .tc .vmem S256x1024 .f32 := spec0_0.stage ((cfgM m hO).slots t 0)
abbrev b1 (hO : Ok m) (t : Fin (cfgM m hO).N) : Memref sig .tc .vmem S1x1024x512 .bf16 := spec0_1.stage ((cfgM m hO).slots t 1)
abbrev b2 (hO : Ok m) (t : Fin (cfgM m hO).N) : Memref sig .tc .vmem S1x256x1024 .bf16 := spec0_2.stage ((cfgM m hO).slots t 2)
abbrev b3 (hO : Ok m) (t : Fin (cfgM m hO).N) : Memref sig .tc .vmem S2048x128 .f32 := spec0_3.stage ((cfgM m hO).slots t 3)

/-- The body as the launch calls it at point `t`. -/
abbrev bodyAt (hO : Ok m) (t : Fin (cfgM m hO).N) : Prog (TpuEff nD τ sig (Elt F) Λ₀ .tc) PUnit :=
  cc0__expert_kernel (grid0.coords t) tE (Memref.isWhole_whole _) tN (Memref.isWhole_whole _)
    (b0 m hO t) (hstage0_0 (((cfgM m hO).slots t 0).cast nbuf0_0)) (b1 m hO t) (hstage0_1 (((cfgM m hO).slots t 1).cast nbuf0_1))
    (b2 m hO t) (hstage0_2 (((cfgM m hO).slots t 2).cast nbuf0_2)) (b3 m hO t) (hstage0_3 (((cfgM m hO).slots t 3).cast nbuf0_3))

/-- At every point the body takes the buffers from what the launch put there to what the data says. -/
theorem body_sound (hO : Ok m) (c : Dev nD) (t : Fin (cfgM m hO).N) :
    iprop((dats m hO 0 c).Φ t.castSucc ∗ (dats m hO 0 c).owesAt () t.castSucc
        ∗ (∃ d, owns (c : Thread nD τ) (b0 m hO t) fullShare ((dats m hO 0 c).before 0 t d))
        ∗ (∃ d, owns (c : Thread nD τ) (b1 m hO t) fullShare ((dats m hO 0 c).before 1 t d))
        ∗ (∃ d, owns (c : Thread nD τ) (b2 m hO t) fullShare ((dats m hO 0 c).before 2 t d))
        ∗ (∃ d, owns (c : Thread nD τ) (b3 m hO t) fullShare ((dats m hO 0 c).before 3 t d)))
      ⊢ wp frame (wpE (defs₀ (F := F)) Variants.none c none) Set.univ (bodyAt m hO t) (fun _ =>
          iprop((dats m hO 0 c).Φ t.succ ∗ (dats m hO 0 c).owesAt () t.succ
            ∗ owns (c : Thread nD τ) (b0 m hO t) fullShare ((dats m hO 0 c).after 0 t)
            ∗ owns (c : Thread nD τ) (b1 m hO t) fullShare ((dats m hO 0 c).after 1 t)
            ∗ owns (c : Thread nD τ) (b2 m hO t) fullShare ((dats m hO 0 c).after 2 t)
            ∗ owns (c : Thread nD τ) (b3 m hO t) fullShare ((dats m hO 0 c).after 3 t))) := by
  unfold bodyAt
  simp only [before_x, before_wgu, before_wd]
  rw [show (dats m hO 0 c).Φ t.succ = (dats m hO 0 c).Φ t.castSucc from rfl,
    show (dats m hO 0 c).owesAt () t.succ = (dats m hO 0 c).owesAt () t.castSucc from rfl,
    after_x, after_wgu, after_wd, after_out]
  rw [show (dats m hO 0 c).Φ t.castSucc = iprop(Pipeline.ΦA spec0 c ∗ Pipeline.ΦT pre0 (tbl m) c) from rfl, tables_eq]
  iintro ⟨⟨HΦ, ⟨HT0, HT1⟩⟩, Ho, ⟨%d0, H0⟩, ⟨%d1, H1⟩, ⟨%d2, H2⟩, ⟨%d3, H3⟩⟩
  iapply ((body_run c (grid0.coords t) _ _ _ _ _ _ _ _ (blk m hO c 0 t) (blk m hO c 1 t) (blk m hO c 2 t) (tbl m 0) (tbl m 1)).2 Set.univ _)
  isplitl [H0]; · iexact H0
  isplitl [H1]; · iexact H1
  isplitl [H2]; · iexact H2
  isplitl [H3]; · iexists _; iexact H3
  isplitl [HT0]; · iexact HT0
  isplitl [HT1]; · iexact HT1
  iintro ⟨H0, H1, H2, ⟨%e3, H3⟩, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  unfold owns; iexists _; isplitr
  swap; · iexact H3
  ipureintro
  exact read_run c _ _ _ _ _ _ _ _ _ _ _ _ _ _ _

/-- The launch's table of bodies names this body. -/
theorem body_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- What the launch asks of the body. -/
theorem body_obligation (hO : Ok m) (c : Dev nD) : BodyObligation (dats (F := F) m hO 0 c) (defs₀ (F := F)) Variants.none () Set.univ := fun t => by
  rw [bigSep_W0, bigSep_W0, body_row m hO]
  exact triple_restated (body_sound m hO c t) rfl .rfl fun _ => .rfl

/-! ## The run -/

set_option backward.isDefEq.respectTransparency.types false in
/-- Every execution terminates, with the arrays at what the data says, every other buffer as the launch found it and every
    counter at zero. -/
theorem run (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := main_run m) (hA := arr_eq m hO) (hpf := V_pre m)
    (hΦ := fun _ _ => rfl)

/-- The run with its result named: the output array is what the points' blocks leave, the arguments are unchanged and every
    counter is zero. -/
theorem run_value (hO : Ok m) : θ_run defs (onTc (τ := τ) (main (F := F))) ⟨m, fun _ => 0, ρ⟩ (fun r => (∀ c : Dev nD,
      r.2.mem ((c : Thread nD τ).loc main_v3) = (dats m hO 0 c).arrAt 3 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
      ∧ r.2.sem = fun _ => 0) :=
  (θ_run defs _ _).mono (fun _ h => ⟨fun c => ⟨(h.1 c).1 3,
      ((h.1 c).2 main_arg0 (by decide : main_arg0 ∈ Pipeline.restRefs sig spec0)).trans (V_of_ne m c _ (by decide) (by decide) (by decide)),
      ((h.1 c).2 main_arg1 (by decide : main_arg1 ∈ Pipeline.restRefs sig spec0)).trans (V_of_ne m c _ (by decide) (by decide) (by decide)),
      ((h.1 c).1 0).trans (((dats m hO 0 c).arrAt_in 0 rfl _).trans ((arr_eq m hO c 0).trans (V_of_ne m c main_arg2 (by decide) (by decide) (by decide)))),
      ((h.1 c).2 main_arg3 (by decide : main_arg3 ∈ Pipeline.restRefs sig spec0)).trans (V_of_ne m c _ (by decide) (by decide) (by decide)),
      ((h.1 c).2 main_arg4 (by decide : main_arg4 ∈ Pipeline.restRefs sig spec0)).trans (V_of_ne m c _ (by decide) (by decide) (by decide)),
      ((h.1 c).2 main_arg5 (by decide : main_arg5 ∈ Pipeline.restRefs sig spec0)).trans (V_of_ne m c _ (by decide) (by decide) (by decide))⟩, h.2⟩)
    (run m ρ hO)

end Cert.Kernel3Ideal.Experts

end
-- ==== Proof.Experts.Spec.lean ====
/- The expert layer as a formula over the extended reals, which the kernel's proof and the reference's both arrive at.

   Block `b` holds 256 rows and belongs to expert `e b`; its first `nv b` rows are filled, the others count as zero rows. A row
   goes through the expert's gate and up projections, the gate's logistic unit, and the down projection. The result is laid out in
   rows of 128: row `8 q + j` of the result holds columns `128 j` to `128 j + 127` of row `q` of the layer. -/
module

public import Idealize.ShloMosaic.PureOps.Ideal
public import Idealize.ShloMosaic.Lib.ValueIdx

@[expose] public section

noncomputable section

namespace Cert.Experts

open Idealize.ShloMosaic Idealize.ShloMosaic.ValueIdx

/-- A number of row `r`, or zero when the row is past the block's count. -/
def rowIn (nv : BitVec 32) (r : Fin 256) (x : EReal) : EReal :=
  Scalar.select (IntOp.cmpi .slt (BitVec.ofNat 32 r.val) nv) x (Ideal.ofBits .f32 0x00000000#32)

/-- The gate through the logistic unit, times the up projection. -/
def gated (g u : EReal) : EReal :=
  FloatOps.mulf (F := Ideal) (φ := .f32) (FloatOps.mulf (F := Ideal) (φ := .f32) g
    (FloatOps.divf (F := Ideal) (φ := .f32) (Ideal.ofBits .f32 0x3F800000#32)
      (FloatOps.addf (F := Ideal) (φ := .f32) (Ideal.ofBits .f32 0x3F800000#32) (Ideal.exp (-g))))) u

/-- A row through an expert's network: `x` the row, `wg` and `wu` the two projections into the hidden layer, `wd` the column of the
    projection out of it. -/
def network (x : Fin 1024 → EReal) (wg wu : Fin 1024 → Fin 256 → EReal) (wd : Fin 256 → EReal) : EReal :=
  ∑ h : Fin 256, gated (∑ k : Fin 1024, x k * wg k h) (∑ k : Fin 1024, x k * wu k h) * wd h

/-- The expert a word names. -/
def expert (w : BitVec 32) : Fin 64 := ⟨w.toNat % 64, Nat.mod_lt _ (by decide)⟩

/-- The layer at block `b`, row `r`, column `n`. -/
def layer (e nv : (⟨1, ![2116]⟩ : Shape).Idx → BitVec 32) (x : (⟨2, ![541696, 1024]⟩ : Shape).Idx → EReal)
    (wg wu : (⟨3, ![64, 1024, 256]⟩ : Shape).Idx → EReal) (wd : (⟨3, ![64, 256, 1024]⟩ : Shape).Idx → EReal)
    (b : Fin 2116) (r : Fin 256) (n : Fin 1024) : EReal :=
  network (fun k => rowIn (nv (ix1 b)) r (x (ix2 (⟨256 * b.val + r.val, by omega⟩ : Fin 541696) k)))
    (fun k h => wg (ix3 (expert (e (ix1 b))) k h)) (fun k h => wu (ix3 (expert (e (ix1 b))) k h))
    (fun h => wd (ix3 (expert (e (ix1 b))) h n))

/-- The result, in rows of 128. -/
def result (e nv : (⟨1, ![2116]⟩ : Shape).Idx → BitVec 32) (x : (⟨2, ![541696, 1024]⟩ : Shape).Idx → EReal)
    (wg wu : (⟨3, ![64, 1024, 256]⟩ : Shape).Idx → EReal) (wd : (⟨3, ![64, 256, 1024]⟩ : Shape).Idx → EReal) :
    (⟨2, ![4333568, 128]⟩ : Shape).Idx → EReal := fun i =>
  have h0 : (i 0).val < 4333568 := (i 0).isLt
  have h1 : (i 1).val < 128 := (i 1).isLt
  layer e nv x wg wu wd ⟨(i 0).val / 2048, by omega⟩ ⟨(i 0).val % 2048 / 8, by omega⟩ ⟨128 * ((i 0).val % 8) + (i 1).val, by omega⟩

end Cert.Experts

end
-- ==== Proof.Experts.Value.lean ====
/- What the expert layer's kernel computes: the block of results of a grid point as a formula over its blocks, and the result
   array from the arguments. -/
module

public import proofs.«01_k».proof.Proof.Experts.LaunchIdeal
public import proofs.«01_k».proof.Proof.Experts.Spec
public import Idealize.ShloMosaic.Lib.Pipeline.ValueKit.Geometry
public import Idealize.ShloMosaic.Lib.Pipeline.ValueKit.Tiles
public import Idealize.ShloMosaic.Lib.StableHlo.Run
public import Idealize.ShloMosaic.Lib.MatmulPlain
public import Idealize.ShloMosaic.Lib.ValueLayout

@[expose] public section

set_option maxRecDepth 16384

noncomputable section

namespace Cert.Kernel3Ideal.Experts

open Cert.Kernel3Ideal Cert.Kernel3Ideal.Gen Cert.Experts
open Idealize.ShloMosaic Idealize.ShloMosaic.TcCoe Idealize.ShloMosaic.ValueIdx

/-! ## The output block from the block of results -/

/-- A strip holds, where it holds an index, the block of results at the index's place. -/
theorem strip_at {F : FTy → Type} (X : FVec F S256x1024 .f32) (k o : ℕ) (h) (hs) (ho : o = 128 * k) (hk : k < 8) (p : Fin 2048) (l : Fin 128) :
    View.RectAt (Val := Elt F) (e := .f32) (ix2 p l) (strip k h) (extractStridedSlice S256x128 ![0, o] X hs)
      (X (ix2 (⟨p.val / 8, by omega⟩ : Fin 256) (⟨128 * (p.val % 8) + l.val, by omega⟩ : Fin 1024))) := by
  intro x hx
  have h0 : k + 8 * (x 0).val = p.val := congrArg Fin.val (congrFun hx 0)
  have h1 : 0 + 1 * (x 1).val = l.val := congrArg Fin.val (congrFun hx 1)
  refine congrArg X (funext fun a => Fin.ext ?_)
  match a with
  | ⟨0, _⟩ => show 0 + (x 0).val = p.val / 8; omega
  | ⟨1, _⟩ => show o + (x 1).val = 128 * (p.val % 8) + l.val; omega

/-- The output block at row `p`, lane `l`: row `p / 8` of the results, column `128 (p mod 8) + l`. -/
theorem outBlock_apply {F : FTy → Type} [FloatOps F] (X : FVec F S256x1024 .f32) (p : Fin 2048) (l : Fin 128) :
    outBlock X (ix2 p l) = X (ix2 (⟨p.val / 8, by omega⟩ : Fin 256) (⟨128 * (p.val % 8) + l.val, by omega⟩ : Fin 1024)) := by
  refine View.canon_eq_of_allAt _ _ _ (strips_cover X _) ?_
  exact View.allAt_cons _ _ _ (strip_at X 7 896 _ slices_S256x1024_o0_896_S256x128 rfl (by decide) p l) <|
    View.allAt_cons _ _ _ (strip_at X 6 768 _ slices_S256x1024_o0_768_S256x128 rfl (by decide) p l) <|
    View.allAt_cons _ _ _ (strip_at X 5 640 _ slices_S256x1024_o0_640_S256x128 rfl (by decide) p l) <|
    View.allAt_cons _ _ _ (strip_at X 4 512 _ slices_S256x1024_o0_512_S256x128 rfl (by decide) p l) <|
    View.allAt_cons _ _ _ (strip_at X 3 384 _ _ rfl (by decide) p l) <|
    View.allAt_cons _ _ _ (strip_at X 2 256 _ _ rfl (by decide) p l) <|
    View.allAt_cons _ _ _ (strip_at X 1 128 _ _ rfl (by decide) p l) <|
    View.allAt_cons _ _ _ (strip_at X 0 0 _ _ rfl (by decide) p l) <| View.allAt_nil _ _

/-! ## The block of results from the point's blocks -/

section body

variable (x : FVec Ideal S256x1024 .f32) (nv : BitVec 32) (wgu : FVec Ideal S1x1024x512 .bf16) (wd : FVec Ideal S1x256x1024 .bf16)

/-- The rows, those past the count zero. -/
def rows : FVec Ideal S256x1024 .f32 :=
  select (cmpi .slt (iota .tc S256x1024 32 [0] iota_S256x1024_d0_w32) (broadcast S256x1024 nv)) x
    (broadcast S256x1024 (Scalar.ofBits (F := Ideal) .f32 0x00000000#32))

theorem rows_apply (r : Fin 256) (k : Fin 1024) : rows x nv (ix2 r k) = rowIn nv r (x (ix2 r k)) := by
  unfold rows rowIn
  show Scalar.select (IntOp.cmpi .slt (BitVec.ofNat 32 (0 * 256 + r.val)) nv) _ _ = _
  rw [Nat.zero_mul, Nat.zero_add]
  rfl

/-- Both projections into the hidden layer, side by side. -/
def both : FVec Ideal S256x512 .f32 :=
  matmul dot_S256x1024_S1024x512_S256x512_1_0_0_1_n_n none (truncf .bf16 (rows x nv) bitsLt_bf16_f32)
    (shapeCast S1024x512 wgu shapeCasts_S1x1024x512_S1024x512) (constant S256x512 .f32 0x00000000#32)

theorem both_apply (r : Fin 256) (c : Fin 512) :
    (both x nv wgu (ix2 r c) : EReal) = ∑ k : Fin 1024, rowIn nv r (x (ix2 r k)) * (wgu (ix3 (0 : Fin 1) k c) : EReal) := by
  unfold both
  refine (Ideal.matmul_plain_apply (M := 256) (K := 1024) (N := 512) none _ _ _ r c).trans ?_
  rw [constant_apply, Ideal.ofBits_zero_f32, zero_add]
  refine Finset.sum_congr rfl fun k _ => ?_
  rw [shapeCast_1ab_ab_apply]
  exact congrArg (· * _) (rows_apply x nv r k)

/-- The left half of the columns, and the right half. -/
theorem left_half (y : FVec Ideal S256x512 .f32) (r h : Fin 256) :
    extractStridedSlice S256x256 ![0, 0] y slices_S256x512_o0_0_S256x256 (ix2 r h) = y (ix2 r (⟨h.val, by omega⟩ : Fin 512)) := by
  refine congrArg y (funext fun a => Fin.ext ?_)
  match a with
  | ⟨0, _⟩ => exact Nat.zero_add _
  | ⟨1, _⟩ => exact Nat.zero_add _
theorem right_half (y : FVec Ideal S256x512 .f32) (r h : Fin 256) :
    extractStridedSlice S256x256 ![0, 256] y slices_S256x512_o0_256_S256x256 (ix2 r h) = y (ix2 r (⟨256 + h.val, by omega⟩ : Fin 512)) := by
  refine congrArg y (funext fun a => Fin.ext ?_)
  match a with
  | ⟨0, _⟩ => exact Nat.zero_add _
  | ⟨1, _⟩ => rfl

/-- The gate's exponential, written as of zero less the gate. -/
theorem gated_of_sub (g u : EReal) :
    FloatOps.mulf (F := Ideal) (φ := .f32) (FloatOps.mulf (F := Ideal) (φ := .f32) g
      (FloatOps.divf (F := Ideal) (φ := .f32) (Ideal.ofBits .f32 0x3F800000#32)
        (FloatOps.addf (F := Ideal) (φ := .f32) (Ideal.ofBits .f32 0x3F800000#32) (Ideal.exp (Ideal.ofBits .f32 0x00000000#32 - g))))) u
      = gated g u := by
  rw [Ideal.ofBits_zero_f32, zero_sub]
  rfl

/-- The hidden layer. -/
def hidden : FVec Ideal S256x256 .f32 :=
  have g : FVec Ideal S256x256 .f32 := extractStridedSlice S256x256 ![0, 0] (both x nv wgu) slices_S256x512_o0_0_S256x256
  mulf (mulf g (divf (broadcast S256x256 (Scalar.ofBits .f32 0x3F800000#32))
      (addf (broadcast S256x256 (Scalar.ofBits .f32 0x3F800000#32))
        (exp (subf (broadcast S256x256 (Scalar.ofBits .f32 0x00000000#32)) g)))))
    (extractStridedSlice S256x256 ![0, 256] (both x nv wgu) slices_S256x512_o0_256_S256x256)

theorem hidden_apply (r h : Fin 256) :
    (hidden x nv wgu (ix2 r h) : EReal) = gated (both x nv wgu (ix2 r (⟨h.val, by omega⟩ : Fin 512)))
      (both x nv wgu (ix2 r (⟨256 + h.val, by omega⟩ : Fin 512))) := by
  rw [← left_half (both x nv wgu) r h, ← right_half (both x nv wgu) r h, ← gated_of_sub]
  rfl

/-- THE BLOCK OF RESULTS at row `r`, column `n`. -/
theorem block_apply (r : Fin 256) (n : Fin 1024) :
    (k0_pay5 (F := Ideal) x nv wgu wd (ix2 r n) : EReal) = network (fun k => rowIn nv r (x (ix2 r k)))
      (fun k h => wgu (ix3 (0 : Fin 1) k (⟨h.val, by omega⟩ : Fin 512))) (fun k h => wgu (ix3 (0 : Fin 1) k (⟨256 + h.val, by omega⟩ : Fin 512)))
      (fun h => wd (ix3 (0 : Fin 1) h n)) := by
  have hp : k0_pay5 (F := Ideal) x nv wgu wd = matmul dot_S256x256_S256x1024_S256x1024_1_0_0_1_n_n none
      (truncf .bf16 (hidden x nv wgu) bitsLt_bf16_f32) (shapeCast S256x1024 wd shapeCasts_S1x256x1024_S256x1024)
      (constant S256x1024 .f32 0x00000000#32) := rfl
  rw [hp]
  refine (Ideal.matmul_plain_apply (M := 256) (K := 256) (N := 1024) none _ _ _ r n).trans ?_
  rw [constant_apply, Ideal.ofBits_zero_f32, zero_add]
  unfold network
  refine Finset.sum_congr rfl fun h _ => ?_
  rw [shapeCast_1ab_ab_apply, ← both_apply, ← both_apply]
  exact congrArg (· * _) (hidden_apply x nv wgu r h)

end body

end Cert.Kernel3Ideal.Experts

end
-- ==== Proof.Experts.Array.lean ====
/- The result array of the expert layer's kernel, from the arguments.

   Point `b` reads block `b` of the rows and, of the joined weights, the block of the expert the table names at `b`; it writes
   rows `2048 b` to `2048 b + 2047` of the result. -/
module

public import proofs.«01_k».proof.Proof.Experts.Value

@[expose] public section

set_option maxRecDepth 16384

noncomputable section

namespace Cert.Kernel3Ideal.Experts

open Cert.Kernel3Ideal Cert.Kernel3Ideal.Gen Cert.Experts
open Idealize.ShloMosaic Idealize.ShloMosaic.TcCoe Idealize.ShloMosaic.ValueIdx

variable (m : (ℓ : Loc nD τ sig) → Buf (Elt Ideal) ℓ)

/-- The arguments on core `c`: experts, counts, rows, gate, up and down projections. -/
abbrev argE (c : Dev nD) : S2116.Idx → BitVec 32 := m ((c : Thread nD τ).loc main_arg0)
abbrev argN (c : Dev nD) : S2116.Idx → BitVec 32 := m ((c : Thread nD τ).loc main_arg1)
abbrev argX (c : Dev nD) : S541696x1024.Idx → EReal := m ((c : Thread nD τ).loc main_arg2)
abbrev argG (c : Dev nD) : S64x1024x256.Idx → EReal := m ((c : Thread nD τ).loc main_arg3)
abbrev argU (c : Dev nD) : S64x1024x256.Idx → EReal := m ((c : Thread nD τ).loc main_arg4)
abbrev argD (c : Dev nD) : S64x256x1024.Idx → EReal := m ((c : Thread nD τ).loc main_arg5)

/-! ## What the launch finds -/

/-- The rows, as given. -/
theorem V_rows (c : Dev nD) : V m c main_arg2 = argX m c := V_of_ne m c main_arg2 (by decide) (by decide) (by decide)
/-- The tables, as given. -/
theorem V_experts (c : Dev nD) : V m c main_arg0 = argE m c := V_of_ne m c main_arg0 (by decide) (by decide) (by decide)
theorem V_counts (c : Dev nD) : V m c main_arg1 = argN m c := V_of_ne m c main_arg1 (by decide) (by decide) (by decide)

/-- Of the joined projections into the hidden layer, the first 256 columns are the gate's, -/
theorem V_gate (c : Dev nD) (e : Fin 64) (k : Fin 1024) (h : Fin 256) :
    V m c main_v1 (ix3 e k (⟨h.val, by omega⟩ : Fin 512)) = (argG m c (ix3 e k h) : EReal) := by
  unfold V hostOps0
  after_results_simp
  rw [truncf_apply]
  refine concatenate_pair_apply_left (s₁ := S64x1024x256) (s₂ := S64x1024x256) (t := S64x1024x512) 2 (argG m c) (argU m c) _ _ rfl (ix3 e k h) fun b => ?_
  match b with
  | ⟨0, _⟩ => rfl
  | ⟨1, _⟩ => rfl
  | ⟨2, _⟩ => rfl
/-- and the last 256 the up projection's; -/
theorem V_up (c : Dev nD) (e : Fin 64) (k : Fin 1024) (h : Fin 256) :
    V m c main_v1 (ix3 e k (⟨256 + h.val, by omega⟩ : Fin 512)) = (argU m c (ix3 e k h) : EReal) := by
  unfold V hostOps0
  after_results_simp
  rw [truncf_apply]
  refine concatenate_pair_apply_right (s₁ := S64x1024x256) (s₂ := S64x1024x256) (t := S64x1024x512) 2 (argG m c) (argU m c) _ _ rfl rfl (ix3 e k h) (fun b hb => ?_) (Nat.add_comm h.val 256)
  match b, hb with
  | ⟨0, _⟩, _ => rfl
  | ⟨1, _⟩, _ => rfl
  | ⟨2, _⟩, hb => exact absurd rfl hb
/-- the projection out of it is as given. -/
theorem V_down (c : Dev nD) (i : S64x256x1024.Idx) : V m c main_v2 i = (argD m c i : EReal) := by
  unfold V hostOps0
  after_results_simp
  rw [truncf_apply]

/-! ## A point's blocks -/

/-- A grid point is its number. -/
theorem coord : ∀ t : Fin grid0.N, (grid0.coords t 0).val = t.val := fun t => by
  have h : t.val < 2116 := t.isLt
  show t.val / 1 % 2116 = t.val
  omega

/-- A point's number, as a block. -/
abbrev pt (hO : Ok m) (t : Fin (cfgM m hO).N) : Fin 2116 := ⟨t.val, t.isLt⟩

/-- A number below 2116 as a word. -/
theorem word_of_coord (t : Fin grid0.N) : (BitVec.ofNat 32 (grid0.coords t 0).val).toNat = t.val := by
  have h : t.val < 2116 := t.isLt
  rw [coord, BitVec.toNat_ofNat]
  omega

/-- The rows a point reads. -/
theorem block_rows (hO : Ok m) (c : Dev nD) (t : Fin (cfgM m hO).N) (r : Fin 256) (k : Fin 1024) :
    blk m hO c 0 t (ix2 r k) = (argX m c (ix2 (⟨256 * t.val + r.val, by have h : t.val < 2116 := t.isLt; omega⟩ : Fin 541696) k) : EReal) := by
  refine Eq.trans ?_ (congrFun (V_rows m c) _)
  show V m c main_arg2 _ = V m c main_arg2 _
  refine congrArg _ (funext fun a => Fin.ext ?_)
  match a with
  | ⟨0, _⟩ => show (BitVec.ofNat 32 (grid0.coords t 0).val).toNat * 256 + 1 * r.val = 256 * t.val + r.val; rw [word_of_coord]; omega
  | ⟨1, _⟩ => show 0 * 1024 + 1 * k.val = k.val; omega

/-- The word the tables hold at a point. -/
theorem table_index (i : grid0.Coords) (t : Fin grid0.N) (hi : i = grid0.coords t) (x : S1.Idx) :
    (Rect.unit (s := S2116) (k0_off1 i) S1.size (k0_off1_inb i)).emb x = ix1 (⟨t.val, t.isLt⟩ : Fin 2116) := by
  subst hi
  refine funext fun a => Fin.ext ?_
  match a with
  | ⟨0, _⟩ =>
    have hx : (x 0).val < 1 := (x 0).isLt
    show (BitVec.ofNat 32 (grid0.coords t 0).val).toNat + 1 * (x 0).val = t.val
    rw [word_of_coord]; omega

/-- How many rows of a point's block are filled. -/
theorem fill_eq (hO : Ok m) (c : Dev nD) (t : Fin (cfgM m hO).N) : fill c (grid0.coords t) (tbl m 1) = argN m c (ix1 (pt m hO t)) := by
  obtain rfl : c = 0 := Subsingleton.elim _ _
  refine Eq.trans ?_ (congrFun (V_counts m 0) _)
  exact congrArg (V m 0 main_arg1) (table_index _ t rfl _)

/-- The block of the weights a point reads. -/
theorem expert_eq (hO : Ok m) (c : Dev nD) (t : Fin (cfgM m hO).N) :
    cc0_transform_1 k0_off1_inb numel1_S1 (tbl m) (grid0.coords t) 0 = (argE m c (ix1 (pt m hO t))).toNat := by
  obtain rfl : c = 0 := Subsingleton.elim _ _
  refine congrArg BitVec.toNat (Eq.trans ?_ (congrFun (V_experts m 0) _))
  exact congrArg (V m 0 main_arg0) (table_index _ t rfl _)

/-- The expert of a point, when the tables are admitted, is the one its word names. -/
theorem expert_val (hO : Ok m) (c : Dev nD) (t : Fin (cfgM m hO).N) :
    (expert (argE m c (ix1 (pt m hO t)))).val = (argE m c (ix1 (pt m hO t))).toNat := by
  obtain ⟨h, -⟩ := hO.1 (grid0.coords t)
  have h0 : (cc0_transform_1 k0_off1_inb numel1_S1 (tbl m) (grid0.coords t) 0 + 1) * 1 ≤ 64 := h 0
  rw [expert_eq m hO c t] at h0
  exact Nat.mod_eq_of_lt (by omega)

/-- The gate's and up projection's weights a point reads, as found by the launch, -/
theorem block_joined (hO : Ok m) (c : Dev nD) (t : Fin (cfgM m hO).N) (k : Fin 1024) (n : Fin 512) :
    blk m hO c 1 t (ix3 (0 : Fin 1) k n) = (V m c main_v1 (ix3 (expert (argE m c (ix1 (pt m hO t)))) k n) : EReal) := by
  show V m c main_v1 _ = V m c main_v1 _
  refine congrArg _ (funext fun a => Fin.ext ?_)
  match a with
  | ⟨0, _⟩ =>
    show cc0_transform_1 k0_off1_inb numel1_S1 (tbl m) (grid0.coords t) 0 * 1 + 1 * 0 = (expert (argE m c (ix1 (pt m hO t)))).val
    rw [expert_val m hO c t, expert_eq m hO c t]; omega
  | ⟨1, _⟩ => show 0 * 1024 + 1 * k.val = k.val; omega
  | ⟨2, _⟩ => show 0 * 512 + 1 * n.val = n.val; omega

/-- and the weights out of the hidden layer. -/
theorem block_down (hO : Ok m) (c : Dev nD) (t : Fin (cfgM m hO).N) (h : Fin 256) (n : Fin 1024) :
    blk m hO c 2 t (ix3 (0 : Fin 1) h n) = (argD m c (ix3 (expert (argE m c (ix1 (pt m hO t)))) h n) : EReal) := by
  refine Eq.trans ?_ (V_down m c _)
  show V m c main_v2 _ = V m c main_v2 _
  refine congrArg _ (funext fun a => Fin.ext ?_)
  match a with
  | ⟨0, _⟩ =>
    show cc0_transform_1 k0_off1_inb numel1_S1 (tbl m) (grid0.coords t) 0 * 1 + 1 * 0 = (expert (argE m c (ix1 (pt m hO t)))).val
    rw [expert_val m hO c t, expert_eq m hO c t]; omega
  | ⟨1, _⟩ => show 0 * 256 + 1 * h.val = h.val; omega
  | ⟨2, _⟩ => show 0 * 1024 + 1 * n.val = n.val; omega

/-- THE BLOCK OF RESULTS of a point is the layer at its block. -/
theorem res_apply (hO : Ok m) (c : Dev nD) (t : Fin (cfgM m hO).N) (r : Fin 256) (n : Fin 1024) :
    (resBlock m hO c t (ix2 r n) : EReal) = layer (argE m c) (argN m c) (argX m c) (argG m c) (argU m c) (argD m c) (pt m hO t) r n := by
  unfold resBlock
  refine (block_apply _ _ _ _ r n).trans ?_
  unfold layer
  rw [fill_eq m hO c t]
  refine congr (congr (congr (congrArg network (funext fun k => ?_)) (funext fun k => funext fun h => ?_)) (funext fun k => funext fun h => ?_)) (funext fun h => ?_)
  · exact congrArg _ (block_rows m hO c t r k)
  · exact (block_joined m hO c t k _).trans (V_gate m c _ k h)
  · exact (block_joined m hO c t k _).trans (V_up m c _ k h)
  · exact block_down m hO c t h n

/-! ## The result array -/

/-- The points' output blocks are written back and cover the result. -/
theorem out_covers (hO : Ok m) : ((cfgM m hO).win 3).Covers := by
  have hN : ∀ t : Fin grid0.N, Pipeline.Window.flushOf grid0 true cc0_transform_3 t = true := fun t => by
    have h : t.val < 2116 := t.isLt
    unfold Pipeline.Window.flushOf
    by_cases h1 : t.val + 1 = grid0.N
    · simp [h1]
    · have h2 : t.val + 1 < grid0.N := by have : t.val < grid0.N := t.isLt; omega
      have h3 : cc0_transform_3 (grid0.coords ⟨t.val + 1, h2⟩) ≠ cc0_transform_3 (grid0.coords t) := fun e => by
        have e0 : (BitVec.ofNat 32 (grid0.coords ⟨t.val + 1, h2⟩ 0).val).toNat = (BitVec.ofNat 32 (grid0.coords t 0).val).toNat := congrFun e 0
        rw [word_of_coord, word_of_coord] at e0
        exact absurd e0 (Nat.succ_ne_self _)
      rw [decide_eq_true (⟨h2, h3⟩ : ∃ h, _)]
      simp
  refine ⟨fun a => ?_, fun β => ⟨⟨(β (0 : Fin 2)).val, ?_⟩, hN _, fun a => ⟨?_, .inl rfl⟩⟩⟩
  · match a with
    | ⟨0, _⟩ => show 0 < 2048; decide
    | ⟨1, _⟩ => show 0 < 128; decide
  · have h : (β (0 : Fin 2)).val < (4333568 + 2048 - 1) / 2048 := (β (0 : Fin 2)).isLt
    show (β (0 : Fin 2)).val < 2116
    omega
  · match a with
    | ⟨0, _⟩ => exact word_of_coord _
    | ⟨1, _⟩ =>
      have h : (β (1 : Fin 2)).val < (128 + 128 - 1) / 128 := (β (1 : Fin 2)).isLt
      show 0 = (β (1 : Fin 2)).val
      omega

/-- THE RESULT ARRAY is the layer, in rows of 128. -/
theorem final (hO : Ok m) (c : Dev nD) :
    (dats m hO 0 c).arrAt 3 (cfgM m hO).N = result (argE m c) (argN m c) (argX m c) (argG m c) (argU m c) (argD m c) := by
  refine (dats m hO 0 c).arrAt_eq_of_covers 3 _ (out_covers m hO) fun t hf y => ?_
  show (dats m hO 0 c).after 3 t y = _
  rw [after_out]
  obtain ⟨p, l, rfl⟩ : ∃ (p : Fin 2048) (l : Fin 128), y = ix2 p l := ⟨y (0 : Fin 2), y (1 : Fin 2), funext fun a => match a with | ⟨0, _⟩ => rfl | ⟨1, _⟩ => rfl⟩
  have ht : t.val < 2116 := t.isLt
  have hi : (((cfgM m hO).win 3).blk t).view.emb (ix2 p l) = ix2 (⟨2048 * t.val + p.val, by omega⟩ : Fin 4333568) l := by
    funext a
    refine Fin.ext ?_
    match a with
    | ⟨0, _⟩ => show (BitVec.ofNat 32 (grid0.coords t 0).val).toNat * 2048 + 1 * p.val = 2048 * t.val + p.val; rw [word_of_coord]; omega
    | ⟨1, _⟩ => show 0 * 128 + 1 * l.val = l.val; omega
  refine (outBlock_apply _ p l).trans ((res_apply m hO c t _ _).trans (Eq.trans ?_ (congrArg _ hi.symm)))
  unfold result
  refine congr (congr (congrArg _ (Fin.ext ?_)) (Fin.ext ?_)) (Fin.ext ?_)
  · show t.val = (2048 * t.val + p.val) / 2048; omega
  · show p.val / 8 = (2048 * t.val + p.val) % 2048 / 8; omega
  · show 128 * (p.val % 8) + l.val = 128 * ((2048 * t.val + p.val) % 8) + l.val; omega

end Cert.Kernel3Ideal.Experts

end
-- ==== Proof.Experts.TablesIdeal.lean ====
/- The tables of the expert layer's program over the extended reals: the expert of every block names a block of the weights when every entry of
   the table is below sixty-four, which the precondition says. -/
module

public import proofs.«01_k».proof.Defs
public import proofs.«01_k».proof.Proof.Experts.LaunchIdeal
public import proofs.«01_k».proof.Proof.Experts.Named
public import Idealize.ShloMosaic.Lib.Affine

@[expose] public section

set_option maxRecDepth 16384

noncomputable section

namespace Cert.Kernel3Ideal.Experts

open Cert.Kernel3Ideal.Gen
open Idealize.ShloMosaic Idealize.ShloMosaic.TcCoe

/-- The weights' blocks are inside their arrays, and their transfers move whole words, when every entry of the table of
    experts is below sixty-four. -/
theorem ok_of_lt {F : FTy → Type} [FloatOps F] (pf : pre0.Contents (Elt F)) (h : ∀ b : S2116.Idx, (pf 0 b : BitVec 32).toNat < 64) :
    ok0 (F := F) pf := by
  refine ⟨fun i => ⟨fun a => ?_, .inr (Affine.block_words_dvd (of_decide_eq_true rfl) (by decide))⟩,
    fun i => ⟨fun a => ?_, .inr (Affine.block_words_dvd (of_decide_eq_true rfl) (by decide))⟩⟩
  · match a with
    | ⟨0, _⟩ => exact (Nat.mul_one _).symm ▸ Nat.succ_le_of_lt (h _)
    | ⟨1, _⟩ => show (0 + 1) * 1024 ≤ 1024; decide
    | ⟨2, _⟩ => show (0 + 1) * 512 ≤ 512; decide
  · match a with
    | ⟨0, _⟩ => exact (Nat.mul_one _).symm ▸ Nat.succ_le_of_lt (h _)
    | ⟨1, _⟩ => show (0 + 1) * 256 ≤ 256; decide
    | ⟨2, _⟩ => show (0 + 1) * 1024 ≤ 1024; decide

/-- Under the precondition the launch finds tables it admits. -/
theorem ok_of_pre (m : (ℓ : Loc nD τ sig) → Buf (Elt Ideal) ℓ) (h : Cert.Pre_Kernel3Ideal m) : Ok m :=
  ok_of_lt _ fun b => (congrArg BitVec.toNat (congrFun
    (V_of_ne m (0 : Dev nD) main_arg0 (by decide) (by decide) (by decide)) b)).trans_lt (Cert.Experts.named_of_pre (h 0) b)

end Cert.Kernel3Ideal.Experts

end
-- ==== Proof.Experts.Ref.lean ====
/- The expert layer's reference, read as the formula of the layer. -/
module

public import proofs.«01_k».proof.Proof.Experts.Spec
public import proofs.«01_k».proof.Proof.Gen.Reference3Ideal.Read

@[expose] public section

set_option maxRecDepth 16384

noncomputable section

namespace Cert.Experts

open Cert.Reference3Ideal Cert.Reference3Ideal.Gen Cert.Reference3Ideal.Read
open Idealize.ShloMosaic Idealize.ShloMosaic.TcCoe Idealize.ShloMosaic.ValueIdx

/-- A word below sixty-four, read as a signed number, is its number. -/
theorem toInt_of_lt (w : BitVec 32) (h : w.toNat < 64) : w.toInt = w.toNat := by
  rw [BitVec.toInt_eq_toNat_cond, if_pos (by omega)]

/-- The dimensions of taking pages of a table of sixty-four pages by a column of words. -/
abbrev pages (A B : Nat) (wf : GatherDims.WF (⟨3, ![64, A, B]⟩ : Shape) (⟨2, ![2116, 1]⟩ : Shape) (⟨3, ![2116, A, B]⟩ : Shape) [1, 2] [0] [] [0] [] 1 ![1, A, B]) :
    GatherDims (⟨3, ![64, A, B]⟩ : Shape) (⟨2, ![2116, 1]⟩ : Shape) (⟨3, ![2116, A, B]⟩ : Shape) := ⟨[1, 2], [0], [], [], [0], 1, ![1, A, B], wf⟩

/-- Taking a table's page by a word below sixty-four: the element read is the expert's. -/
theorem gather_page {α : Type} {A B : Nat} (wf)
    (x : (⟨3, ![64, A, B]⟩ : Shape).Idx → α) (idx : IVec (⟨2, ![2116, 1]⟩ : Shape) 32)
    (b : Fin 2116) (r : Fin A) (n : Fin B) (w : BitVec 32) (hw : idx (ix2 b (0 : Fin 1)) = w) (hlt : w.toNat < 64) :
    Host.gather (pages A B wf) x idx (ix3 b r n) = x (ix3 (expert w) r n) := by
  have hb : ∀ a : Fin 3, (pages A B wf).batchCoord (ix3 b r n) a = 0 := fun a =>
    (pages A B wf).batchCoord_eq_zero _ _ List.not_mem_nil
  have h0 : (pages A B wf).offCoord (ix3 b r n) (0 : Fin 3) = 0 :=
    (pages A B wf).offCoord_eq_zero _ _ (show (0 : Fin 3) ∉ ([1, 2] : List (Fin 3)) by decide)
  have m1 : (1 : Fin 3) ∈ (pages A B wf).sKept := show (1 : Fin 3) ∈ ([1, 2] : List (Fin 3)) by decide
  have m2 : (2 : Fin 3) ∈ (pages A B wf).sKept := show (2 : Fin 3) ∈ ([1, 2] : List (Fin 3)) by decide
  have s0 : (0 : Fin 3) ∈ (pages A B wf).startIndexMap := show (0 : Fin 3) ∈ ([0] : List (Fin 3)) by decide
  have s1 : (1 : Fin 3) ∉ (pages A B wf).startIndexMap := show (1 : Fin 3) ∉ ([0] : List (Fin 3)) by decide
  have s2 : (2 : Fin 3) ∉ (pages A B wf).startIndexMap := show (2 : Fin 3) ∉ ([0] : List (Fin 3)) by decide
  unfold Host.gather
  refine congrArg x (funext fun a => Fin.ext ?_)
  match a with
  | ⟨0, _⟩ =>
    show (pages A B wf).start (ix3 b r n) idx (0 : Fin 3) + (pages A B wf).batchCoord (ix3 b r n) (0 : Fin 3) + (pages A B wf).offCoord (ix3 b r n) (0 : Fin 3) = w.toNat % 64
    rw [hb, h0]
    unfold GatherDims.start
    rw [dif_pos s0]
    have hi : (pages A B wf).siIdx (ix3 b r n) ⟨0, Nat.one_pos⟩ = ix2 b (0 : Fin 1) := by
      funext a
      refine Fin.ext ?_
      match a with
      | ⟨0, _⟩ => rfl
      | ⟨1, _⟩ => rfl
    refine Eq.trans (b := min (idx ((pages A B wf).siIdx (ix3 b r n) ⟨0, Nat.one_pos⟩)).toInt.toNat (64 - 1)) rfl ?_
    rw [hi, hw, toInt_of_lt w hlt]
    omega
  | ⟨1, _⟩ =>
    show (pages A B wf).start (ix3 b r n) idx (1 : Fin 3) + (pages A B wf).batchCoord (ix3 b r n) (1 : Fin 3) + (pages A B wf).offCoord (ix3 b r n) (1 : Fin 3) = r.val
    rw [hb]
    unfold GatherDims.start GatherDims.offCoord
    rw [dif_neg s1, dif_pos m1, Nat.zero_add]
    rfl
  | ⟨2, _⟩ =>
    show (pages A B wf).start (ix3 b r n) idx (2 : Fin 3) + (pages A B wf).batchCoord (ix3 b r n) (2 : Fin 3) + (pages A B wf).offCoord (ix3 b r n) (2 : Fin 3) = n.val
    rw [hb]
    unfold GatherDims.start GatherDims.offCoord
    rw [dif_neg s2, dif_pos m2, Nat.zero_add]
    rfl

/-- Counting a word from the end when it is negative leaves a word below sixty-four as it is. -/
theorem wrap_of_lt (w : BitVec 32) (h : w.toNat < 64) : Scalar.select (IntOp.cmpi .slt w 0#32) (IntOp.addi w 64#32) w = w := by
  have hc : IntOp.cmpi .slt w 0#32 = 0#1 := by
    show BitVec.ofBool (decide (w.toInt < (0#32 : BitVec 32).toInt)) = 0#1
    rw [toInt_of_lt w h, decide_eq_false (by rw [show (0#32 : BitVec 32).toInt = 0 from by decide]; omega)]
    rfl
  rw [hc]
  rfl

variable (x0 x1 : S2116.Idx → BitVec 32) (x2 : S541696x1024.Idx → EReal) (x3 x4 : S64x1024x256.Idx → EReal) (x5 : S64x256x1024.Idx → EReal)

/-- The gate's weights of a block, -/
theorem gate_apply (b : Fin 2116) (k : Fin 1024) (h : Fin 256) (hw : (x0 (ix1 b)).toNat < 64) :
    val_main_v14 (F := Ideal) x0 x3 (ix3 b k h) = x3 (ix3 (expert (x0 (ix1 b))) k h) := by
  unfold val_main_v14
  refine gather_page _ x3 _ b k h (x0 (ix1 b)) ?_ hw
  rw [val_main_v13_apply]
  have hi : idx_main_v13 (ix2 b (0 : Fin 1)) = ix1 b := funext fun a => match a with | ⟨0, _⟩ => rfl
  rw [hi, val_main_v12_apply, val_main_v9_apply, val_main_v11_apply, val_main_v8_apply, val_main_v10_apply]
  exact wrap_of_lt _ hw
/-- the up projection's, -/
theorem up_apply (b : Fin 2116) (k : Fin 1024) (h : Fin 256) (hw : (x0 (ix1 b)).toNat < 64) :
    val_main_v21 (F := Ideal) x0 x4 (ix3 b k h) = x4 (ix3 (expert (x0 (ix1 b))) k h) := by
  unfold val_main_v21
  refine gather_page _ x4 _ b k h (x0 (ix1 b)) ?_ hw
  rw [val_main_v20_apply]
  have hi : idx_main_v20 (ix2 b (0 : Fin 1)) = ix1 b := funext fun a => match a with | ⟨0, _⟩ => rfl
  rw [hi, val_main_v19_apply, val_main_v16_apply, val_main_v18_apply, val_main_v15_apply, val_main_v17_apply]
  exact wrap_of_lt _ hw
/-- and the down projection's. -/
theorem down_apply (b : Fin 2116) (h : Fin 256) (n : Fin 1024) (hw : (x0 (ix1 b)).toNat < 64) :
    val_main_v28 (F := Ideal) x0 x5 (ix3 b h n) = x5 (ix3 (expert (x0 (ix1 b))) h n) := by
  unfold val_main_v28
  refine gather_page _ x5 _ b h n (x0 (ix1 b)) ?_ hw
  rw [val_main_v27_apply]
  have hi : idx_main_v27 (ix2 b (0 : Fin 1)) = ix1 b := funext fun a => match a with | ⟨0, _⟩ => rfl
  rw [hi, val_main_v26_apply, val_main_v23_apply, val_main_v25_apply, val_main_v22_apply, val_main_v24_apply]
  exact wrap_of_lt _ hw

/-- A block's rows, those past the count as zero rows. -/
theorem rows_apply (b : Fin 2116) (r : Fin 256) (k : Fin 1024) :
    (val_main_v7 (F := Ideal) x1 x2 (ix3 b r k) : EReal) = rowIn (x1 (ix1 b)) r (x2 (ix2 (⟨256 * b.val + r.val, by omega⟩ : Fin 541696) k)) := by
  rw [val_main_v7_apply, val_main_call0_v1_apply, val_main_v0_apply, val_main_call0_v2_apply, val_main_v6_apply,
    val_main_v4_apply, val_main_v5_apply, val_main_v2_apply, val_main_v3_apply, val_main_v1_apply]
  have hc : idx_main_v3 (idx_main_v5 (idx_main_call0_v1 (ix3 b r k))) = ix1 b := funext fun a => match a with | ⟨0, _⟩ => rfl
  have hx : idx_main_v0 (ix3 b r k) = ix2 (⟨256 * b.val + r.val, by omega⟩ : Fin 541696) k := by
    funext a
    refine Fin.ext ?_
    match a with
    | ⟨0, _⟩ => show ((b.val * 256 + r.val) * 1024 + k.val) / 1024 = 256 * b.val + r.val; omega
    | ⟨1, _⟩ => show ((b.val * 256 + r.val) * 1024 + k.val) % 1024 = k.val; omega
  rw [hc, hx]
  rfl

/-- The gated hidden layer. -/
theorem hidden_apply (b : Fin 2116) (r : Fin 256) (h : Fin 256) :
    (val_main_v32 (F := Ideal) x0 x1 x2 x3 x4 (ix3 b r h) : EReal)
      = gated (val_main_v29 (F := Ideal) x0 x1 x2 x3 (ix3 b r h)) (val_main_v31 (F := Ideal) x0 x1 x2 x4 (ix3 b r h)) := by
  rw [val_main_v32_apply, val_main_v30_apply, val_main_call1_v5_apply, val_main_call1_v4_apply, val_main_call1_v3_apply,
    val_main_call1_v2_apply, val_main_call1_v1_apply, val_main_call1_v0_apply]
  generalize val_main_v29 (F := Ideal) x0 x1 x2 x3 (ix3 b r h) = g
  generalize val_main_v31 (F := Ideal) x0 x1 x2 x4 (ix3 b r h) = u
  rfl

/-- A block of the reference is the layer's. -/
theorem block_ref (b : Fin 2116) (r : Fin 256) (n : Fin 1024) (hw : (x0 (ix1 b)).toNat < 64) :
    (val_main_v33 (F := Ideal) x0 x1 x2 x3 x4 x5 (ix3 b r n) : EReal) = layer x0 x1 x2 x3 x4 x5 b r n := by
  rw [val_main_v33_apply]
  unfold layer network
  refine Finset.sum_congr rfl fun h _ => ?_
  have hl : lidx_main_v33 (ix3 b r n) h = ix3 b r h := funext fun a => match a with | ⟨0, _⟩ => rfl | ⟨1, _⟩ => rfl | ⟨2, _⟩ => rfl
  have hr : ridx_main_v33 (ix3 b r n) h = ix3 b h n := funext fun a => match a with | ⟨0, _⟩ => rfl | ⟨1, _⟩ => rfl | ⟨2, _⟩ => rfl
  rw [hl, hr, hidden_apply, down_apply x0 x5 b h n hw, val_main_v29_apply, val_main_v31_apply]
  refine congrArg (· * _) (congr (congrArg gated (Finset.sum_congr rfl fun k _ => ?_)) (Finset.sum_congr rfl fun k _ => ?_))
  · have hl : lidx_main_v29 (ix3 b r h) k = ix3 b r k := funext fun a => match a with | ⟨0, _⟩ => rfl | ⟨1, _⟩ => rfl | ⟨2, _⟩ => rfl
    have hr : ridx_main_v29 (ix3 b r h) k = ix3 b k h := funext fun a => match a with | ⟨0, _⟩ => rfl | ⟨1, _⟩ => rfl | ⟨2, _⟩ => rfl
    rw [hl, hr, rows_apply, gate_apply x0 x3 b k h hw]
  · have hl : lidx_main_v31 (ix3 b r h) k = ix3 b r k := funext fun a => match a with | ⟨0, _⟩ => rfl | ⟨1, _⟩ => rfl | ⟨2, _⟩ => rfl
    have hr : ridx_main_v31 (ix3 b r h) k = ix3 b k h := funext fun a => match a with | ⟨0, _⟩ => rfl | ⟨1, _⟩ => rfl | ⟨2, _⟩ => rfl
    rw [hl, hr, rows_apply, up_apply x0 x4 b k h hw]

/-- THE REFERENCE is the layer in rows of 128, when every word names an expert. -/
theorem reference_result (hw : ∀ b, (x0 b).toNat < 64) :
    (val_main_v34 (F := Ideal) x0 x1 x2 x3 x4 x5 : S4333568x128.Idx → EReal) = result x0 x1 x2 x3 x4 x5 := by
  funext i
  rw [val_main_v34_apply]
  have h0 : (i 0).val < 4333568 := (i 0).isLt
  have h1 : (i 1).val < 128 := (i 1).isLt
  have hi : idx_main_v34 i = ix3 (⟨(i 0).val / 2048, by omega⟩ : Fin 2116) (⟨(i 0).val % 2048 / 8, by omega⟩ : Fin 256)
      (⟨128 * ((i 0).val % 8) + (i 1).val, by omega⟩ : Fin 1024) := by
    funext a
    refine Fin.ext ?_
    match a with
    | ⟨0, _⟩ => show ((i 0).val * 128 + (i 1).val) / 262144 = (i 0).val / 2048; omega
    | ⟨1, _⟩ => show ((i 0).val * 128 + (i 1).val) / 1024 % 256 = (i 0).val % 2048 / 8; omega
    | ⟨2, _⟩ => show ((i 0).val * 128 + (i 1).val) % 1024 = 128 * ((i 0).val % 8) + (i 1).val; omega
  rw [hi]
  exact block_ref x0 x1 x2 x3 x4 x5 _ _ _ (hw _)

end Cert.Experts

end
-- ==== Proof.Qkv.LaunchIdeal.lean ====
/- The launch of the projection's program over the extended reals: sixteen points of 512 rows for each of the eight sequences.

   At each point the body reads its block of rows, the sequence's scale and shift, the norm's weights, the whole projection
   matrix and its rows of the three tables of the rotation, and writes eleven output blocks: each is one or several
   rectangles of the six columns of the projection, rotated where they are queries and keys. The gated heads' keys and values are
   written as four strips of 128 columns, each to every fourth row of the block. The run follows the launch theorem of the library; what is
   specific is what the body leaves in each block (`outKd` to `outVmT`) and that the strips cover theirs (`strips_cover`). -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel2Ideal.Qkv

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the launch -/

/-- The host's operations before the launch, in their groups. -/
abbrev hostGroups : List (List (HloOp τ sig (Elt F))) := [hostOps0, hostOps0_1, hostOps0_2, hostOps0_3, hostOps0_4, hostOps0_5, hostOps0_6, hostOps0_7, hostOps0_8, hostOps0_9, hostOps0_10]

/-- What the buffers of core `c` hold when the launch starts: the tables of the rotation have been computed. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10]) (fun b => m (c, b)) b

/-- The operations before the launch allocate nothing. -/
theorem host_fresh : (hostGroups (F := F)).Forall fun l => l.Forall fun op => op.fresh = ∅ := by
  simp only [List.Forall]; repeat' constructor

set_option maxHeartbeats 800000 in
/-- The program is its host operations, then the launch. -/
theorem main_run : Pipeline.HMain (Ix := Unit) (Name := ℕ) (U := UR sig nD τ) (Lvl := ℕ) cfgs 0 defs₀ Variants.none m (main (F := F)) (V m) :=
  Pipeline.hmain_prefixes cfgs 0 defs₀ Variants.none m main [hostOps0, hostOps0_1, hostOps0_2, hostOps0_3, hostOps0_4, hostOps0_5, hostOps0_6, hostOps0_7, hostOps0_8, hostOps0_9, hostOps0_10]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩) host_fresh main_chain

/-- The host leaves argument 0 as it was. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The host leaves argument 1 as it was. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The host leaves argument 2 as it was. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The host leaves argument 3 as it was. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The host leaves argument 4 as it was. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## What the body computes -/

/-- The eight input blocks of a point: rows, scale, shift, weights of the norm, projection matrix and the three tables. -/
structure Ins (F : FTy → Type) [FloatOps F] where
  x : Vec F S1x512x1024 .f32
  sc : Vec F S1x1x1024 .f32
  sh : Vec F S1x1x1024 .f32
  g : Vec F S1x1024 .f32
  w : Vec F S1024x3072 .bf16
  tc : Vec F S512x128 .f32
  ta : Vec F S512x128 .f32
  tb : Vec F S512x128 .f32

abbrev r3 : Rect S1x512x1024 := Rect.unit (s := S1x512x1024) ![0, 0, 0] S1x512x1024.size inb_S1x512x1024_S1x512x1024_0_0_0
abbrev rg : Rect S1x1024 := Rect.unit (s := S1x1024) ![0, 0] S1x1024.size inb_S1x1024_S1x1024_0_0
abbrev rs : Rect S1x1x1024 := Rect.unit (s := S1x1x1024) ![0, 0, 0] S1x1x1024.size inb_S1x1x1024_S1x1x1024_0_0_0
abbrev rw : Rect S1024x3072 := Rect.unit (s := S1024x3072) ![0, 0] S1024x3072.size inb_S1024x3072_S1024x3072_0_0
abbrev rt : Rect S512x128 := Rect.unit (s := S512x128) ![0, 0] S512x128.size inb_S512x128_S512x128_0_0

namespace Ins
variable (B : Ins F)

/-- The projection of the point's rows: all six columns. -/
def proj : FVec F S512x3072 .f32 := k0_pay2 (View.ld B.x r3) (View.ld B.g rg) (View.ld B.sc rs) (View.ld B.sh rs) (View.ld B.w rw)
/-- The tables' rows. -/
def c : FVec F S512x128 .f32 := k0_pay3 (View.ld B.tc rt)
def sa : FVec F S512x128 .f32 := k0_pay4 (View.ld B.ta rt)
def sb : FVec F S512x128 .f32 := k0_pay5 (View.ld B.tb rt)

/-- The gated heads' queries, -/
def qd : FVec F S512x512 .f32 := k0_pay6 B.proj B.c B.sa (View.ld B.tb rt)
/-- keys -/
def kd : FVec F S512x512 .f32 := k0_pay11 B.c B.sa B.sb (k0_pay7 B.proj) (k0_pay8 B.proj B.c B.sa (View.ld B.tb rt)) (k0_pay9 B.proj) (k0_pay10 B.proj B.c)
/-- and values, -/
def vd : FVec F S512x512 .f32 := k0_pay12 B.proj
/-- and the other heads' queries, -/
def qm : FVec F S512x512 .f32 := k0_pay19 B.c B.sa B.sb (k0_pay13 B.proj) (k0_pay14 B.proj B.c B.sa B.sb) (k0_pay15 B.proj B.c B.sa B.sb) (k0_pay17 B.proj B.c B.sa) (k0_pay18 B.proj B.sb)
/-- keys -/
def km : FVec F S512x512 .f32 := k0_pay20 B.proj B.c B.sa B.sb
/-- and values. -/
def vm : FVec F S512x512 .f32 := k0_pay21 B.proj

end Ins

/-! ## What it leaves in the output blocks -/

/-- Every fourth row of a block of 2048 rows, from row `k`. -/
abbrev strip (k : ℕ) (h : ∀ a, S1x512x128.size a = 0 ∨ (![0, k, 0] : Fin 3 → ℕ) a + (![1, 4, 1] : Fin 3 → ℕ) a * (S1x512x128.size a - 1) < S1x2048x128.size a) : Rect S1x2048x128 :=
  ⟨(⟨![0, k, 0], S1x512x128.size, ![1, 4, 1], h⟩ : LoadRect S1x2048x128), spos_1_4_1⟩

/-- The four strips of a block of rows. -/
abbrev strips (p3 p2 p1 p0 : Vec F S1x512x128 .f32) : List (View.Piece (Elt F) S1x2048x128 .f32) :=
  [⟨strip 3 inb_S1x2048x128_S1x512x128_0_3_0_s_1_4_1, p3⟩, ⟨strip 2 inb_S1x2048x128_S1x512x128_0_2_0_s_1_4_1, p2⟩,
   ⟨strip 1 inb_S1x2048x128_S1x512x128_0_1_0_s_1_4_1, p1⟩, ⟨strip 0 inb_S1x2048x128_S1x512x128_0_0_0_s_1_4_1, p0⟩]

/-- A row is in the strip its remainder by four names. -/
theorem mem_strip (k : ℕ) (h) (y : S1x2048x128.Idx) (hy : (y 1).val % 4 = k) : y ∈ (strip k h).set := by
  refine LoadRect.mem_set (r := (strip k h).toLoadRect) |>.mpr fun a => ?_
  match a with
  | ⟨0, _⟩ =>
    refine ⟨(y 0).val, (y 0).isLt, ?_⟩
    show (y 0).val = 0 + 1 * (y 0).val
    omega
  | ⟨1, _⟩ =>
    refine ⟨(y 1).val / 4, ?_, ?_⟩
    · have : (y 1).val < 2048 := (y 1).isLt
      show (y 1).val / 4 < 512
      omega
    · show (y 1).val = k + 4 * ((y 1).val / 4)
      omega
  | ⟨2, _⟩ =>
    refine ⟨(y 2).val, (y 2).isLt, ?_⟩
    show (y 2).val = 0 + 1 * (y 2).val
    omega

/-- So every row is written. -/
theorem strips_cover (p3 p2 p1 p0 : Vec F S1x512x128 .f32) (y : S1x2048x128.Idx) : ∃ p ∈ strips p3 p2 p1 p0, y ∈ p.1.set := by
  have hlt : (y 1).val % 4 < 4 := Nat.mod_lt _ (by decide)
  rcases (by omega : (y 1).val % 4 = 0 ∨ (y 1).val % 4 = 1 ∨ (y 1).val % 4 = 2 ∨ (y 1).val % 4 = 3) with h | h | h | h
  · exact ⟨_, .tail _ (.tail _ (.tail _ (.head _))), mem_strip 0 _ y h⟩
  · exact ⟨_, .tail _ (.tail _ (.head _)), mem_strip 1 _ y h⟩
  · exact ⟨_, .tail _ (.head _), mem_strip 2 _ y h⟩
  · exact ⟨_, .head _, mem_strip 3 _ y h⟩

/-- The other rectangles written: a whole block, one of eight heads, one of two halves. -/
abbrev wholeSq : Rect S1x512x512 := Rect.unit (s := S1x512x512) ![0, 0, 0] S1x512x512.size inb_S1x512x512_S1x512x512_0_0_0
abbrev headRect (k : ℕ) (h : ∀ a, (![0, k, 0, 0] : Fin 4 → ℕ) a + S1x1x512x64.size a ≤ S1x8x512x64.size a) : Rect S1x8x512x64 :=
  Rect.unit (s := S1x8x512x64) ![0, k, 0, 0] S1x1x512x64.size h
abbrev halfRect (k : ℕ) (h : ∀ a, (![0, k, 0, 0] : Fin 4 → ℕ) a + S1x1x512x256.size a ≤ S1x2x512x256.size a) : Rect S1x2x512x256 :=
  Rect.unit (s := S1x2x512x256) ![0, k, 0, 0] S1x1x512x256.size h

abbrev heads (p7 p6 p5 p4 p3 p2 p1 p0 : Vec F S1x1x512x64 .bf16) : List (View.Piece (Elt F) S1x8x512x64 .bf16) :=
  [⟨headRect 7 inb_S1x8x512x64_S1x1x512x64_0_7_0_0, p7⟩,
   ⟨headRect 6 inb_S1x8x512x64_S1x1x512x64_0_6_0_0, p6⟩,
   ⟨headRect 5 inb_S1x8x512x64_S1x1x512x64_0_5_0_0, p5⟩,
   ⟨headRect 4 inb_S1x8x512x64_S1x1x512x64_0_4_0_0, p4⟩,
   ⟨headRect 3 inb_S1x8x512x64_S1x1x512x64_0_3_0_0, p3⟩,
   ⟨headRect 2 inb_S1x8x512x64_S1x1x512x64_0_2_0_0, p2⟩,
   ⟨headRect 1 inb_S1x8x512x64_S1x1x512x64_0_1_0_0, p1⟩,
   ⟨headRect 0 inb_S1x8x512x64_S1x1x512x64_0_0_0_0, p0⟩]
abbrev halves (p1 p0 : Vec F S1x1x512x256 .bf16) : List (View.Piece (Elt F) S1x2x512x256 .bf16) :=
  [⟨halfRect 1 inb_S1x2x512x256_S1x1x512x256_0_1_0_0, p1⟩, ⟨halfRect 0 inb_S1x2x512x256_S1x1x512x256_0_0_0_0, p0⟩]

/-- They too cover their blocks. -/
theorem whole_cover {e : EltTy} (p : Vec F S1x512x512 e) (y : S1x512x512.Idx) :
    ∃ pc ∈ ([⟨wholeSq, p⟩] : List (View.Piece (Elt F) S1x512x512 e)), y ∈ pc.1.set :=
  View.cover_of_tiled [⟨wholeSq, p⟩] S1x512x512.size (by rfl) y
theorem heads_cover (p7 p6 p5 p4 p3 p2 p1 p0 : Vec F S1x1x512x64 .bf16) (y : S1x8x512x64.Idx) : ∃ pc ∈ heads p7 p6 p5 p4 p3 p2 p1 p0, y ∈ pc.1.set :=
  View.cover_of_tiled (heads p7 p6 p5 p4 p3 p2 p1 p0) S1x1x512x64.size (by rfl) y
theorem halves_cover (p1 p0 : Vec F S1x1x512x256 .bf16) (y : S1x2x512x256.Idx) : ∃ pc ∈ halves p1 p0, y ∈ pc.1.set :=
  View.cover_of_tiled (halves p1 p0) S1x1x512x256.size (by rfl) y

/-- The gated heads' keys. -/
def outKd (B : Ins F) : Vec F S1x2048x128 .f32 := View.canon (strips (k0_pay29 B.kd) (k0_pay27 B.kd) (k0_pay25 B.kd) (k0_pay23 (k0_pay22 (B.kd))))
/-- The gated heads' values. -/
def outVd (B : Ins F) : Vec F S1x2048x128 .f32 := View.canon (strips (k0_pay31 (k0_pay30 B.vd)) (k0_pay28 B.vd) (k0_pay26 B.vd) (k0_pay24 B.vd))
/-- The other heads' keys. -/
def outKm (B : Ins F) : Vec F S1x512x512 .f32 := View.canon ([⟨wholeSq, k0_pay32 B.km⟩])
/-- The other heads' values. -/
def outVm (B : Ins F) : Vec F S1x512x512 .f32 := View.canon ([⟨wholeSq, k0_pay33 B.vm⟩])
/-- The other heads' queries. -/
def outQm (B : Ins F) : Vec F S1x512x512 .f32 := View.canon ([⟨wholeSq, k0_pay34 B.qm⟩])
/-- The gated heads' queries, transposed and rounded. -/
def outQdT (B : Ins F) : Vec F S1x512x512 .bf16 := View.canon ([⟨wholeSq, k0_pay35 B.qd⟩])
/-- The other heads' queries, transposed and rounded. -/
def outQmT (B : Ins F) : Vec F S1x512x512 .bf16 := View.canon ([⟨wholeSq, k0_pay36 B.qm⟩])
/-- The gated heads' keys head by head. -/
def outKdh (B : Ins F) : Vec F S1x8x512x64 .bf16 := View.canon (heads (k0_pay51 B.kd) (k0_pay49 B.kd) (k0_pay47 B.kd) (k0_pay45 B.kd) (k0_pay43 B.kd) (k0_pay41 B.kd) (k0_pay39 B.kd) (k0_pay37 B.kd))
/-- The other heads' keys head by head. -/
def outKmh (B : Ins F) : Vec F S1x8x512x64 .bf16 := View.canon (heads (k0_pay52 B.km) (k0_pay50 B.km) (k0_pay48 B.km) (k0_pay46 B.km) (k0_pay44 B.km) (k0_pay42 B.km) (k0_pay40 B.km) (k0_pay38 B.km))
/-- The gated heads' values in two halves. -/
def outVdT (B : Ins F) : Vec F S1x2x512x256 .bf16 := View.canon (halves (k0_pay55 B.vd) (k0_pay53 B.vd))
/-- The other heads' values in two halves. -/
def outVmT (B : Ins F) : Vec F S1x2x512x256 .bf16 := View.canon (halves (k0_pay1 (k0_pay56 B.vm)) (k0_pay54 B.vm))

/-! ## The body's run -/

set_option maxHeartbeats 1000000 in
/-- The body, from its input blocks and its output blocks at anything, leaves the inputs as they were and the outputs at what
    is stated above. -/
theorem body_run (c : Dev nD) (E : Set ℕ) (i : grid0.Coords) (a0 : Memref sig .tc .vmem S1x512x1024 .f32) (h0 : a0.IsWhole) (a1 : Memref sig .tc .vmem S1x1x1024 .f32) (h1 : a1.IsWhole) (a2 : Memref sig .tc .vmem S1x1x1024 .f32) (h2 : a2.IsWhole) (a3 : Memref sig .tc .vmem S1x1024 .f32) (h3 : a3.IsWhole) (a4 : Memref sig .tc .vmem S1024x3072 .bf16) (h4 : a4.IsWhole) (a5 : Memref sig .tc .vmem S512x128 .f32) (h5 : a5.IsWhole) (a6 : Memref sig .tc .vmem S512x128 .f32) (h6 : a6.IsWhole) (a7 : Memref sig .tc .vmem S512x128 .f32) (h7 : a7.IsWhole) (a8 : Memref sig .tc .vmem S1x2048x128 .f32) (h8 : a8.IsWhole) (a9 : Memref sig .tc .vmem S1x2048x128 .f32) (h9 : a9.IsWhole) (a10 : Memref sig .tc .vmem S1x512x512 .f32) (h10 : a10.IsWhole) (a11 : Memref sig .tc .vmem S1x512x512 .f32) (h11 : a11.IsWhole) (a12 : Memref sig .tc .vmem S1x512x512 .f32) (h12 : a12.IsWhole) (a13 : Memref sig .tc .vmem S1x512x512 .bf16) (h13 : a13.IsWhole) (a14 : Memref sig .tc .vmem S1x512x512 .bf16) (h14 : a14.IsWhole) (a15 : Memref sig .tc .vmem S1x8x512x64 .bf16) (h15 : a15.IsWhole) (a16 : Memref sig .tc .vmem S1x8x512x64 .bf16) (h16 : a16.IsWhole) (a17 : Memref sig .tc .vmem S1x2x512x256 .bf16) (h17 : a17.IsWhole) (a18 : Memref sig .tc .vmem S1x2x512x256 .bf16) (h18 : a18.IsWhole)
    (x0 : Vec F S1x512x1024 .f32) (x1 : Vec F S1x1x1024 .f32) (x2 : Vec F S1x1x1024 .f32) (x3 : Vec F S1x1024 .f32) (x4 : Vec F S1024x3072 .bf16) (x5 : Vec F S512x128 .f32) (x6 : Vec F S512x128 .f32) (x7 : Vec F S512x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
        ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d) ∗ (∃ d, owns (c : Thread nD τ) a18 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
          ∗ owns (c : Thread nD τ) a8 fullShare (outKd ⟨x0, x1, x2, x3, x4, x5, x6, x7⟩) ∗ owns (c : Thread nD τ) a9 fullShare (outVd ⟨x0, x1, x2, x3, x4, x5, x6, x7⟩) ∗ owns (c : Thread nD τ) a10 fullShare (outKm ⟨x0, x1, x2, x3, x4, x5, x6, x7⟩) ∗ owns (c : Thread nD τ) a11 fullShare (outVm ⟨x0, x1, x2, x3, x4, x5, x6, x7⟩) ∗ owns (c : Thread nD τ) a12 fullShare (outQm ⟨x0, x1, x2, x3, x4, x5, x6, x7⟩) ∗ owns (c : Thread nD τ) a13 fullShare (outQdT ⟨x0, x1, x2, x3, x4, x5, x6, x7⟩) ∗ owns (c : Thread nD τ) a14 fullShare (outQmT ⟨x0, x1, x2, x3, x4, x5, x6, x7⟩) ∗ owns (c : Thread nD τ) a15 fullShare (outKdh ⟨x0, x1, x2, x3, x4, x5, x6, x7⟩) ∗ owns (c : Thread nD τ) a16 fullShare (outKmh ⟨x0, x1, x2, x3, x4, x5, x6, x7⟩) ∗ owns (c : Thread nD τ) a17 fullShare (outVdT ⟨x0, x1, x2, x3, x4, x5, x6, x7⟩) ∗ owns (c : Thread nD τ) a18 fullShare (outVmT ⟨x0, x1, x2, x3, x4, x5, x6, x7⟩)) -∗ K ⟨⟩))
      ⊢ wp frame (wpE (defs₀ (F := F)) Variants.none c none) E (cc0__qkv_kernel i a0 h0 a1 h1 a2 h2 a3 h3 a4 h4 a5 h5 a6 h6 a7 h7 a8 h8 a9 h9 a10 h10 a11 h11 a12 h12 a13 h13 a14 h14 a15 h15 a16 h16 a17 h17 a18 h18) K := by
  simp only [cc0__qkv_kernel_eq_skeleton]; unfold cc0__qkv_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  subst e0 e1 e2 e3 e4 e5 e6 e7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact (View.read_writes_eq_canon _ _ _ (strips_cover _ _ _ _)).trans rfl
  isplitl [H9]
  · iexists _; isplitr
    swap; · iexact H9
    ipureintro
    exact (View.read_writes_eq_canon _ _ _ (strips_cover _ _ _ _)).trans rfl
  isplitl [H10]
  · iexists _; isplitr
    swap; · iexact H10
    ipureintro
    exact (View.read_writes_eq_canon _ _ _ (whole_cover _)).trans rfl
  isplitl [H11]
  · iexists _; isplitr
    swap; · iexact H11
    ipureintro
    exact (View.read_writes_eq_canon _ _ _ (whole_cover _)).trans rfl
  isplitl [H12]
  · iexists _; isplitr
    swap; · iexact H12
    ipureintro
    exact (View.read_writes_eq_canon _ _ _ (whole_cover _)).trans rfl
  isplitl [H13]
  · iexists _; isplitr
    swap; · iexact H13
    ipureintro
    exact (View.read_writes_eq_canon _ _ _ (whole_cover _)).trans rfl
  isplitl [H14]
  · iexists _; isplitr
    swap; · iexact H14
    ipureintro
    exact (View.read_writes_eq_canon _ _ _ (whole_cover _)).trans rfl
  isplitl [H15]
  · iexists _; isplitr
    swap; · iexact H15
    ipureintro
    exact (View.read_writes_eq_canon _ _ _ (heads_cover _ _ _ _ _ _ _ _)).trans rfl
  isplitl [H16]
  · iexists _; isplitr
    swap; · iexact H16
    ipureintro
    exact (View.read_writes_eq_canon _ _ _ (heads_cover _ _ _ _ _ _ _ _)).trans rfl
  isplitl [H17]
  · iexists _; isplitr
    swap; · iexact H17
    ipureintro
    exact (View.read_writes_eq_canon _ _ _ (halves_cover _ _)).trans rfl
  iexists _; isplitr
  swap; · iexact H18
  ipureintro
  exact (View.read_writes_eq_canon _ _ _ (halves_cover _ _)).trans rfl

/-! ## The launch's data -/

/-- The block of window `w` at point `t`, read off its array as the launch finds it. -/
def blk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input blocks of point `t`. -/
def ins (c : Dev nD) (t : Fin cfg0.N) : Ins F :=
  ⟨blk m c 0 t, blk m c 1 t, blk m c 2 t, blk m c 3 t, blk m c 4 t, blk m c 5 t, blk m c 6 t, blk m c 7 t⟩

/-- The arrays as found; after each point the inputs' buffers hold their blocks and the outputs' what the body leaves; nothing
    is owed. -/
def dats (_ : Fin 1) (c : Dev nD) : Dat τ (Elt F) Unit ℕ (UR sig nD τ) ℕ cfg0 c where
  A w := V m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => blk m c 5 t
    | ⟨6, _⟩ => blk m c 6 t
    | ⟨7, _⟩ => blk m c 7 t
    | ⟨8, _⟩ => outKd (ins m c t)
    | ⟨9, _⟩ => outVd (ins m c t)
    | ⟨10, _⟩ => outKm (ins m c t)
    | ⟨11, _⟩ => outVm (ins m c t)
    | ⟨12, _⟩ => outQm (ins m c t)
    | ⟨13, _⟩ => outQdT (ins m c t)
    | ⟨14, _⟩ => outQmT (ins m c t)
    | ⟨15, _⟩ => outKdh (ins m c t)
    | ⟨16, _⟩ => outKmh (ins m c t)
    | ⟨17, _⟩ => outVdT (ins m c t)
    | ⟨18, _⟩ => outVmT (ins m c t)
    | ⟨_ + 19, h⟩ => absurd h (Nat.not_lt.2 (Nat.le_add_left _ _))
  Φ _ := Pipeline.ΦA spec0 c
  q _ := fullShare
  owed _ := 0

/-- The data's arrays are the arrays as found. -/
theorem arr_eq (c : Dev nD) (w : Fin cfg0.W) : (dats m 0 c).A w = V m c (Pipeline.arrRef spec0 w) := by
  dsimp only [dats]

/-- What the buffers hold after a point, window by window. -/
theorem after0 (c : Dev nD) (t : Fin cfg0.N) : (dats m 0 c).after 0 t = blk m c 0 t := by dsimp only [dats]
theorem after1 (c : Dev nD) (t : Fin cfg0.N) : (dats m 0 c).after 1 t = blk m c 1 t := by dsimp only [dats]
theorem after2 (c : Dev nD) (t : Fin cfg0.N) : (dats m 0 c).after 2 t = blk m c 2 t := by dsimp only [dats]
theorem after3 (c : Dev nD) (t : Fin cfg0.N) : (dats m 0 c).after 3 t = blk m c 3 t := by dsimp only [dats]
theorem after4 (c : Dev nD) (t : Fin cfg0.N) : (dats m 0 c).after 4 t = blk m c 4 t := by dsimp only [dats]
theorem after5 (c : Dev nD) (t : Fin cfg0.N) : (dats m 0 c).after 5 t = blk m c 5 t := by dsimp only [dats]
theorem after6 (c : Dev nD) (t : Fin cfg0.N) : (dats m 0 c).after 6 t = blk m c 6 t := by dsimp only [dats]
theorem after7 (c : Dev nD) (t : Fin cfg0.N) : (dats m 0 c).after 7 t = blk m c 7 t := by dsimp only [dats]
theorem after8 (c : Dev nD) (t : Fin cfg0.N) : (dats m 0 c).after 8 t = outKd (ins m c t) := by dsimp only [dats]
theorem after9 (c : Dev nD) (t : Fin cfg0.N) : (dats m 0 c).after 9 t = outVd (ins m c t) := by dsimp only [dats]
theorem after10 (c : Dev nD) (t : Fin cfg0.N) : (dats m 0 c).after 10 t = outKm (ins m c t) := by dsimp only [dats]
theorem after11 (c : Dev nD) (t : Fin cfg0.N) : (dats m 0 c).after 11 t = outVm (ins m c t) := by dsimp only [dats]
theorem after12 (c : Dev nD) (t : Fin cfg0.N) : (dats m 0 c).after 12 t = outQm (ins m c t) := by dsimp only [dats]
theorem after13 (c : Dev nD) (t : Fin cfg0.N) : (dats m 0 c).after 13 t = outQdT (ins m c t) := by dsimp only [dats]
theorem after14 (c : Dev nD) (t : Fin cfg0.N) : (dats m 0 c).after 14 t = outQmT (ins m c t) := by dsimp only [dats]
theorem after15 (c : Dev nD) (t : Fin cfg0.N) : (dats m 0 c).after 15 t = outKdh (ins m c t) := by dsimp only [dats]
theorem after16 (c : Dev nD) (t : Fin cfg0.N) : (dats m 0 c).after 16 t = outKmh (ins m c t) := by dsimp only [dats]
theorem after17 (c : Dev nD) (t : Fin cfg0.N) : (dats m 0 c).after 17 t = outVdT (ins m c t) := by dsimp only [dats]
theorem after18 (c : Dev nD) (t : Fin cfg0.N) : (dats m 0 c).after 18 t = outVmT (ins m c t) := by dsimp only [dats]

/-- An input's buffer holds its block at every point, whether it was fetched there or is still the one from before. -/
theorem before0 (c : Dev nD) (t : Fin cfg0.N) (d) : (dats m 0 c).before 0 t d = blk m c 0 t :=
  ((dats m 0 c).before_in_eq_fetched 0 rfl (fun _ => rfl) (fun _ _ _ => rfl) (fun t => by rw [after0]; unfold Dat.blockOf blk; rw [arr_eq]) t d).trans
    (by unfold Dat.fetched Dat.blockOf blk; rw [arr_eq]; try rfl)
theorem before1 (c : Dev nD) (t : Fin cfg0.N) (d) : (dats m 0 c).before 1 t d = blk m c 1 t :=
  ((dats m 0 c).before_in_eq_fetched 1 rfl (fun _ => rfl) (fun _ _ _ => rfl) (fun t => by rw [after1]; unfold Dat.blockOf blk; rw [arr_eq]) t d).trans
    (by unfold Dat.fetched Dat.blockOf blk; rw [arr_eq]; try rfl)
theorem before2 (c : Dev nD) (t : Fin cfg0.N) (d) : (dats m 0 c).before 2 t d = blk m c 2 t :=
  ((dats m 0 c).before_in_eq_fetched 2 rfl (fun _ => rfl) (fun _ _ _ => rfl) (fun t => by rw [after2]; unfold Dat.blockOf blk; rw [arr_eq]) t d).trans
    (by unfold Dat.fetched Dat.blockOf blk; rw [arr_eq]; try rfl)
theorem before3 (c : Dev nD) (t : Fin cfg0.N) (d) : (dats m 0 c).before 3 t d = blk m c 3 t :=
  ((dats m 0 c).before_in_eq_fetched 3 rfl (fun _ => rfl) (fun _ _ _ => rfl) (fun t => by rw [after3]; unfold Dat.blockOf blk; rw [arr_eq]) t d).trans
    (by unfold Dat.fetched Dat.blockOf blk; rw [arr_eq]; try rfl)
theorem before4 (c : Dev nD) (t : Fin cfg0.N) (d) : (dats m 0 c).before 4 t d = blk m c 4 t :=
  ((dats m 0 c).before_in_eq_fetched 4 rfl (fun _ => rfl) (fun _ _ _ => rfl) (fun t => by rw [after4]; unfold Dat.blockOf blk; rw [arr_eq]) t d).trans
    (by unfold Dat.fetched Dat.blockOf blk; rw [arr_eq]; try rfl)
theorem before5 (c : Dev nD) (t : Fin cfg0.N) (d) : (dats m 0 c).before 5 t d = blk m c 5 t :=
  ((dats m 0 c).before_in_eq_fetched 5 rfl (fun _ => rfl) (fun _ _ _ => rfl) (fun t => by rw [after5]; unfold Dat.blockOf blk; rw [arr_eq]) t d).trans
    (by unfold Dat.fetched Dat.blockOf blk; rw [arr_eq]; try rfl)
theorem before6 (c : Dev nD) (t : Fin cfg0.N) (d) : (dats m 0 c).before 6 t d = blk m c 6 t :=
  ((dats m 0 c).before_in_eq_fetched 6 rfl (fun _ => rfl) (fun _ _ _ => rfl) (fun t => by rw [after6]; unfold Dat.blockOf blk; rw [arr_eq]) t d).trans
    (by unfold Dat.fetched Dat.blockOf blk; rw [arr_eq]; try rfl)
theorem before7 (c : Dev nD) (t : Fin cfg0.N) (d) : (dats m 0 c).before 7 t d = blk m c 7 t :=
  ((dats m 0 c).before_in_eq_fetched 7 rfl (fun _ => rfl) (fun _ _ _ => rfl) (fun t => by rw [after7]; unfold Dat.blockOf blk; rw [arr_eq]) t d).trans
    (by unfold Dat.fetched Dat.blockOf blk; rw [arr_eq]; try rfl)

/-! ## The body at a point -/

/-- The buffer of each window at point `t`, -/
abbrev b_0 (t : Fin cfg0.N) : Memref sig .tc .vmem S1x512x1024 .f32 := (cfg0.win 0).stage (cfg0.slots t 0)
abbrev b_1 (t : Fin cfg0.N) : Memref sig .tc .vmem S1x1x1024 .f32 := (cfg0.win 1).stage (cfg0.slots t 1)
abbrev b_2 (t : Fin cfg0.N) : Memref sig .tc .vmem S1x1x1024 .f32 := (cfg0.win 2).stage (cfg0.slots t 2)
abbrev b_3 (t : Fin cfg0.N) : Memref sig .tc .vmem S1x1024 .f32 := (cfg0.win 3).stage (cfg0.slots t 3)
abbrev b_4 (t : Fin cfg0.N) : Memref sig .tc .vmem S1024x3072 .bf16 := (cfg0.win 4).stage (cfg0.slots t 4)
abbrev b_5 (t : Fin cfg0.N) : Memref sig .tc .vmem S512x128 .f32 := (cfg0.win 5).stage (cfg0.slots t 5)
abbrev b_6 (t : Fin cfg0.N) : Memref sig .tc .vmem S512x128 .f32 := (cfg0.win 6).stage (cfg0.slots t 6)
abbrev b_7 (t : Fin cfg0.N) : Memref sig .tc .vmem S512x128 .f32 := (cfg0.win 7).stage (cfg0.slots t 7)
abbrev b_8 (t : Fin cfg0.N) : Memref sig .tc .vmem S1x2048x128 .f32 := (cfg0.win 8).stage (cfg0.slots t 8)
abbrev b_9 (t : Fin cfg0.N) : Memref sig .tc .vmem S1x2048x128 .f32 := (cfg0.win 9).stage (cfg0.slots t 9)
abbrev b_10 (t : Fin cfg0.N) : Memref sig .tc .vmem S1x512x512 .f32 := (cfg0.win 10).stage (cfg0.slots t 10)
abbrev b_11 (t : Fin cfg0.N) : Memref sig .tc .vmem S1x512x512 .f32 := (cfg0.win 11).stage (cfg0.slots t 11)
abbrev b_12 (t : Fin cfg0.N) : Memref sig .tc .vmem S1x512x512 .f32 := (cfg0.win 12).stage (cfg0.slots t 12)
abbrev b_13 (t : Fin cfg0.N) : Memref sig .tc .vmem S1x512x512 .bf16 := (cfg0.win 13).stage (cfg0.slots t 13)
abbrev b_14 (t : Fin cfg0.N) : Memref sig .tc .vmem S1x512x512 .bf16 := (cfg0.win 14).stage (cfg0.slots t 14)
abbrev b_15 (t : Fin cfg0.N) : Memref sig .tc .vmem S1x8x512x64 .bf16 := (cfg0.win 15).stage (cfg0.slots t 15)
abbrev b_16 (t : Fin cfg0.N) : Memref sig .tc .vmem S1x8x512x64 .bf16 := (cfg0.win 16).stage (cfg0.slots t 16)
abbrev b_17 (t : Fin cfg0.N) : Memref sig .tc .vmem S1x2x512x256 .bf16 := (cfg0.win 17).stage (cfg0.slots t 17)
abbrev b_18 (t : Fin cfg0.N) : Memref sig .tc .vmem S1x2x512x256 .bf16 := (cfg0.win 18).stage (cfg0.slots t 18)

/-- and the body as the launch calls it. -/
abbrev bodyAt0 (t : Fin cfg0.N) : Prog (TpuEff nD τ sig (Elt F) Λ₀ .tc) PUnit :=
  cc0__qkv_kernel (grid0.coords t) (b_0 t) (hstage0_0 ((cfg0.slots t 0).cast nbuf0_0)) (b_1 t) (hstage0_1 ((cfg0.slots t 1).cast nbuf0_1)) (b_2 t) (hstage0_2 ((cfg0.slots t 2).cast nbuf0_2)) (b_3 t) (hstage0_3 ((cfg0.slots t 3).cast nbuf0_3)) (b_4 t) (hstage0_4 ((cfg0.slots t 4).cast nbuf0_4)) (b_5 t) (hstage0_5 ((cfg0.slots t 5).cast nbuf0_5)) (b_6 t) (hstage0_6 ((cfg0.slots t 6).cast nbuf0_6)) (b_7 t) (hstage0_7 ((cfg0.slots t 7).cast nbuf0_7)) (b_8 t) (hstage0_8 ((cfg0.slots t 8).cast nbuf0_8)) (b_9 t) (hstage0_9 ((cfg0.slots t 9).cast nbuf0_9)) (b_10 t) (hstage0_10 ((cfg0.slots t 10).cast nbuf0_10)) (b_11 t) (hstage0_11 ((cfg0.slots t 11).cast nbuf0_11)) (b_12 t) (hstage0_12 ((cfg0.slots t 12).cast nbuf0_12)) (b_13 t) (hstage0_13 ((cfg0.slots t 13).cast nbuf0_13)) (b_14 t) (hstage0_14 ((cfg0.slots t 14).cast nbuf0_14)) (b_15 t) (hstage0_15 ((cfg0.slots t 15).cast nbuf0_15)) (b_16 t) (hstage0_16 ((cfg0.slots t 16).cast nbuf0_16)) (b_17 t) (hstage0_17 ((cfg0.slots t 17).cast nbuf0_17)) (b_18 t) (hstage0_18 ((cfg0.slots t 18).cast nbuf0_18))

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (b_0 t) fullShare ((dats m 0 c).before 0 t d)) ∗ (∃ d, owns (c : Thread nD τ) (b_1 t) fullShare ((dats m 0 c).before 1 t d)) ∗ (∃ d, owns (c : Thread nD τ) (b_2 t) fullShare ((dats m 0 c).before 2 t d)) ∗ (∃ d, owns (c : Thread nD τ) (b_3 t) fullShare ((dats m 0 c).before 3 t d)) ∗ (∃ d, owns (c : Thread nD τ) (b_4 t) fullShare ((dats m 0 c).before 4 t d)) ∗ (∃ d, owns (c : Thread nD τ) (b_5 t) fullShare ((dats m 0 c).before 5 t d)) ∗ (∃ d, owns (c : Thread nD τ) (b_6 t) fullShare ((dats m 0 c).before 6 t d)) ∗ (∃ d, owns (c : Thread nD τ) (b_7 t) fullShare ((dats m 0 c).before 7 t d)) ∗ (∃ d, owns (c : Thread nD τ) (b_8 t) fullShare ((dats m 0 c).before 8 t d)) ∗ (∃ d, owns (c : Thread nD τ) (b_9 t) fullShare ((dats m 0 c).before 9 t d)) ∗ (∃ d, owns (c : Thread nD τ) (b_10 t) fullShare ((dats m 0 c).before 10 t d)) ∗ (∃ d, owns (c : Thread nD τ) (b_11 t) fullShare ((dats m 0 c).before 11 t d)) ∗ (∃ d, owns (c : Thread nD τ) (b_12 t) fullShare ((dats m 0 c).before 12 t d)) ∗ (∃ d, owns (c : Thread nD τ) (b_13 t) fullShare ((dats m 0 c).before 13 t d)) ∗ (∃ d, owns (c : Thread nD τ) (b_14 t) fullShare ((dats m 0 c).before 14 t d)) ∗ (∃ d, owns (c : Thread nD τ) (b_15 t) fullShare ((dats m 0 c).before 15 t d)) ∗ (∃ d, owns (c : Thread nD τ) (b_16 t) fullShare ((dats m 0 c).before 16 t d)) ∗ (∃ d, owns (c : Thread nD τ) (b_17 t) fullShare ((dats m 0 c).before 17 t d)) ∗ (∃ d, owns (c : Thread nD τ) (b_18 t) fullShare ((dats m 0 c).before 18 t d)))

/-- and what it leaves. -/
def bodyPost (c : Dev nD) (t : Fin cfg0.N) : sProp 𝕄 :=
  iprop((dats m 0 c).Φ t.succ ∗ (dats m 0 c).owesAt () t.succ
    ∗ owns (c : Thread nD τ) (b_0 t) fullShare ((dats m 0 c).after 0 t) ∗ owns (c : Thread nD τ) (b_1 t) fullShare ((dats m 0 c).after 1 t) ∗ owns (c : Thread nD τ) (b_2 t) fullShare ((dats m 0 c).after 2 t) ∗ owns (c : Thread nD τ) (b_3 t) fullShare ((dats m 0 c).after 3 t) ∗ owns (c : Thread nD τ) (b_4 t) fullShare ((dats m 0 c).after 4 t) ∗ owns (c : Thread nD τ) (b_5 t) fullShare ((dats m 0 c).after 5 t) ∗ owns (c : Thread nD τ) (b_6 t) fullShare ((dats m 0 c).after 6 t) ∗ owns (c : Thread nD τ) (b_7 t) fullShare ((dats m 0 c).after 7 t) ∗ owns (c : Thread nD τ) (b_8 t) fullShare ((dats m 0 c).after 8 t) ∗ owns (c : Thread nD τ) (b_9 t) fullShare ((dats m 0 c).after 9 t) ∗ owns (c : Thread nD τ) (b_10 t) fullShare ((dats m 0 c).after 10 t) ∗ owns (c : Thread nD τ) (b_11 t) fullShare ((dats m 0 c).after 11 t) ∗ owns (c : Thread nD τ) (b_12 t) fullShare ((dats m 0 c).after 12 t) ∗ owns (c : Thread nD τ) (b_13 t) fullShare ((dats m 0 c).after 13 t) ∗ owns (c : Thread nD τ) (b_14 t) fullShare ((dats m 0 c).after 14 t) ∗ owns (c : Thread nD τ) (b_15 t) fullShare ((dats m 0 c).after 15 t) ∗ owns (c : Thread nD τ) (b_16 t) fullShare ((dats m 0 c).after 16 t) ∗ owns (c : Thread nD τ) (b_17 t) fullShare ((dats m 0 c).after 17 t) ∗ owns (c : Thread nD τ) (b_18 t) fullShare ((dats m 0 c).after 18 t))

/-- At every point the body takes the buffers from what the launch put there to what the data says. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18]
  unfold ins
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (body_run c Set.univ (grid0.coords t) _ _ _ _ _ _ _ _ _ _ _ _ _ _ _ _ _ _ _ _ _ _ _ _ _ _ _ _ _ _ _ _ _ _ _ _ _ _ (blk m c 0 t) (blk m c 1 t) (blk m c 2 t) (blk m c 3 t) (blk m c 4 t) (blk m c 5 t) (blk m c 6 t) (blk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The launch's table of bodies names this body. -/
theorem body_row (t : Fin cfg0.N) : defs₀ (F := F) .tc cfg0.body (cfg0.bodyArgs t (cfg0.slots t)) = bodyAt0 t := by
  unfold defs₀; rw [Defs.onTc_tc]

/-- What the launch asks of the body. -/
theorem body_obligation (c : Dev nD) : BodyObligation (dats (F := F) m 0 c) (defs₀ (F := F)) Variants.none () Set.univ := fun t => by
  rw [bigSep_W0, bigSep_W0, body_row]
  exact triple_restated (body_sound m c t) rfl .rfl fun _ => .rfl

/-! ## The run -/

set_option backward.isDefEq.respectTransparency.types false in
set_option maxHeartbeats 800000 in
/-- Every execution terminates, with the arrays at what the data says, every other buffer as the launch found it and every
    counter at zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := main_run m) (hA := arr_eq m) (hΦ := fun _ _ => rfl)

set_option maxHeartbeats 1200000 in
/-- The run with its results named: the returned arrays are what the points' blocks leave, the arguments are unchanged and every
    counter is zero. -/
theorem run_value : θ_run defs (onTc (τ := τ) (main (F := F))) ⟨m, fun _ => 0, ρ⟩ (fun r => (∀ c : Dev nD,
      r.2.mem ((c : Thread nD τ).loc main_v57_0) = (dats m 0 c).arrAt 8 cfg0.N ∧ r.2.mem ((c : Thread nD τ).loc main_v57_1) = (dats m 0 c).arrAt 9 cfg0.N ∧ r.2.mem ((c : Thread nD τ).loc main_v57_2) = (dats m 0 c).arrAt 10 cfg0.N ∧ r.2.mem ((c : Thread nD τ).loc main_v57_3) = (dats m 0 c).arrAt 11 cfg0.N ∧ r.2.mem ((c : Thread nD τ).loc main_v57_4) = (dats m 0 c).arrAt 12 cfg0.N ∧ r.2.mem ((c : Thread nD τ).loc main_v57_5) = (dats m 0 c).arrAt 13 cfg0.N
      ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4))
      ∧ r.2.sem = fun _ => 0) :=
  (θ_run defs _ _).mono (fun _ h => ⟨fun c => ⟨(h.1 c).1 8, (h.1 c).1 9, (h.1 c).1 10, (h.1 c).1 11, (h.1 c).1 12, (h.1 c).1 13,
      ((h.1 c).1 0).trans (((dats m 0 c).arrAt_in 0 rfl _).trans ((arr_eq m c 0).trans (V_arg0 m c))),
      ((h.1 c).2 main_arg1 (Pipeline.mem_restRefs_of main_arg1 (by decide) (by decide))).trans (V_arg1 m c), ((h.1 c).2 main_arg2 (Pipeline.mem_restRefs_of main_arg2 (by decide) (by decide))).trans (V_arg2 m c), ((h.1 c).2 main_arg3 (Pipeline.mem_restRefs_of main_arg3 (by decide) (by decide))).trans (V_arg3 m c), ((h.1 c).2 main_arg4 (Pipeline.mem_restRefs_of main_arg4 (by decide) (by decide))).trans (V_arg4 m c)⟩, h.2⟩)
    (run m ρ)

end Cert.Kernel2Ideal.Qkv

end
-- ==== Proof.Qkv.Spec.lean ====
/- The projection of the layer as formulas over the extended reals, which the kernel's proof and the reference's both arrive at.

   A row of a sequence is divided by the root of its mean square, weighted, scaled by one plus the sequence's scale and shifted;
   the projection matrix takes it to six columns of 512 numbers. In the columns of queries and keys each head of 64 numbers turns its
   first 16 by the angles of the row's position: number `j` with number `j + 8`, for `j` below 8. Queries are then scaled. -/
module

public import Idealize.ShloMosaic.PureOps.Ideal
public import Idealize.ShloMosaic.Lib.ValueIdx

@[expose] public section

noncomputable section

namespace Cert.Qkv

open Idealize.ShloMosaic Idealize.ShloMosaic.ValueIdx

/-- A number of the normed, weighted and modulated row. -/
def modulated (x g sc sh : Fin 1024 → EReal) (k : Fin 1024) : EReal :=
  x k * Ideal.rsqrt (Ideal.div (∑ j : Fin 1024, x j * x j) (Ideal.ofBits .f32 0x44800000#32) + Ideal.ofBits .f32 0x358637BD#32) * g k
    * (Ideal.ofBits .f32 0x3F800000#32 + sc k) + sh k

/-- A number of the projected row. -/
def projected (x g sc sh : Fin 1024 → EReal) (w : Fin 1024 → EReal) : EReal := ∑ k : Fin 1024, modulated x g sc sh k * w k

/-- The angle of position `l` for the pair `j`: the position times the theta to the power `-2 j / 16`. -/
def angle (l : Fin 8192) (j : Fin 8) : EReal :=
  FloatOps.sitofp (F := Ideal) (w := 32) .f32 (BitVec.ofNat 32 l.val)
    * Ideal.pow (Ideal.ofBits .f32 0x48F42400#32)
        (Ideal.div (Ideal.ofBits .f32 0xC0000000#32 * FloatOps.sitofp (F := Ideal) (w := 32) .f32 (BitVec.ofNat 32 j.val)) (Ideal.ofBits .f32 0x41800000#32))

/-- Its cosine and sine. -/
def cosine (l : Fin 8192) (j : Fin 8) : EReal := Ideal.hostUnary .cos (angle l j)
def sine (l : Fin 8192) (j : Fin 8) : EReal := Ideal.hostUnary .sin (angle l j)

/-- A column of 512 numbers turned, at its number `n`. -/
def turned (y : Fin 512 → EReal) (cs sn : Fin 8 → EReal) (n : Fin 512) : EReal :=
  if h : n.val % 64 < 8 then y n * cs ⟨n.val % 64, h⟩ - y ⟨n.val + 8, by omega⟩ * sn ⟨n.val % 64, h⟩
  else if h' : n.val % 64 < 16 then
    y n * cs ⟨n.val % 64 - 8, by omega⟩ + y ⟨n.val - 8, by omega⟩ * sn ⟨n.val % 64 - 8, by omega⟩
  else y n

/-- The scale of the scores. -/
def scale : EReal := Ideal.ofBits .f32 0x3E38AA3B#32

section layer

variable (x : (⟨3, ![8, 8192, 1024]⟩ : Shape).Idx → EReal) (sc sh : (⟨2, ![8, 1024]⟩ : Shape).Idx → EReal)
  (g : (⟨1, ![1024]⟩ : Shape).Idx → EReal) (w : (⟨2, ![1024, 3072]⟩ : Shape).Idx → EReal)

/-- Row `l` of sequence `b` projected, at column `n`. -/
def proj (b : Fin 8) (l : Fin 8192) (n : Fin 3072) : EReal :=
  projected (fun k => x (ix3 b l k)) (fun k => g (ix1 k)) (fun k => sc (ix2 b k)) (fun k => sh (ix2 b k)) (fun k => w (ix2 k n))

/-- The six columns of it: the column from `o`, plain, -/
def plain (o : ℕ) (ho : o ≤ 2560) (b : Fin 8) (l : Fin 8192) (n : Fin 512) : EReal := proj x sc sh g w b l ⟨o + n.val, by omega⟩
/-- and turned. -/
def rotated (o : ℕ) (ho : o ≤ 2560) (b : Fin 8) (l : Fin 8192) (n : Fin 512) : EReal :=
  turned (plain x sc sh g w o ho b l) (cosine l) (sine l) n

/-- A column's result in rows of 128: row `4 l + h` holds numbers `128 h` to `128 h + 127` of row `l`. -/
def inStrips (f : Fin 8 → Fin 8192 → Fin 512 → EReal) : (⟨3, ![8, 32768, 128]⟩ : Shape).Idx → EReal := fun i =>
  have h1 : (i 1).val < 32768 := (i 1).isLt
  have h2 : (i 2).val < 128 := (i 2).isLt
  f (i 0) ⟨(i 1).val / 4, by omega⟩ ⟨128 * ((i 1).val % 4) + (i 2).val, by omega⟩
/-- In rows of 512, -/
def inRows (f : Fin 8 → Fin 8192 → Fin 512 → EReal) : (⟨3, ![8, 8192, 512]⟩ : Shape).Idx → EReal := fun i => f (i 0) (i 1) (i 2)
/-- and in columns of 512. -/
def inColumns (f : Fin 8 → Fin 8192 → Fin 512 → EReal) : (⟨3, ![8, 512, 8192]⟩ : Shape).Idx → EReal := fun i => f (i 0) (i 2) (i 1)

/-- THE SIX RESULTS: the gated heads' keys and values, the other heads' keys, values and queries, the gated heads' queries. -/
def keysD := inStrips (rotated x sc sh g w 512 (by decide))
def valuesD := inStrips (plain x sc sh g w 1024 (by decide))
def keysM := inRows (rotated x sc sh g w 2048 (by decide))
def valuesM := inRows (plain x sc sh g w 2560 (by decide))
def queriesM := inRows fun b l n => rotated x sc sh g w 1536 (by decide) b l n * scale
def queriesD := inColumns fun b l n => rotated x sc sh g w 0 (by decide) b l n * scale

end layer

end Cert.Qkv

end
-- ==== Proof.Qkv.Tables.lean ====
/- The tables of the rotation, as the launch finds them: for each position and each of 128 lanes a factor of the number itself
   (`V_c`), of the number eight lanes after it (`V_sa`) and of the number eight lanes before it (`V_sb`). The host computes them in
   groups of operations; each group is read from whatever the buffers held before it. -/
module

public import proofs.«01_k».proof.Proof.Qkv.LaunchIdeal
public import proofs.«01_k».proof.Proof.Qkv.Spec
public import Idealize.ShloMosaic.Lib.Pipeline.ValueKit.Geometry
public import Idealize.ShloMosaic.Lib.Pipeline.ValueKit.Tiles
public import Idealize.ShloMosaic.Lib.StableHlo.Run
public import Idealize.ShloMosaic.Lib.ValueLayout

@[expose] public section

set_option maxRecDepth 16384

noncomputable section

namespace Cert.Kernel2Ideal.Qkv

open Cert.Kernel2Ideal Cert.Kernel2Ideal.Gen Cert.Qkv
open Idealize.ShloMosaic Idealize.ShloMosaic.TcCoe Idealize.ShloMosaic.ValueIdx
open Idealize.ShloMosaic.StableHlo (after)

/-! ## Words -/

/-- The remainder of a word, with the divisor's sign, as the host computes it. -/
def rem (w d : BitVec 32) : BitVec 32 :=
  Scalar.select (IntOp.andi (IntOp.cmpi .ne (IntOp.cmpi .slt (IntOp.remsi .host w (Scalar.select (IntOp.cmpi .eq d 0#32) 1#32 d)) 0#32)
        (IntOp.cmpi .slt (Scalar.select (IntOp.cmpi .eq d 0#32) 1#32 d) 0#32))
      (IntOp.cmpi .ne (IntOp.remsi .host w (Scalar.select (IntOp.cmpi .eq d 0#32) 1#32 d)) 0#32))
    (IntOp.addi (IntOp.remsi .host w (Scalar.select (IntOp.cmpi .eq d 0#32) 1#32 d)) (Scalar.select (IntOp.cmpi .eq d 0#32) 1#32 d))
    (IntOp.remsi .host w (Scalar.select (IntOp.cmpi .eq d 0#32) 1#32 d))

/-- The same of every word of a row, by one divisor. -/
def remRow (x : IVec S128 32) (d : IVec S_ 32) : IVec S128 32 :=
  select
    (andi
      (cmpi .ne
        (cmpi .slt (Host.remsi x (broadcastInDim S128 ![] bcast_S_S128 (select (cmpi .eq d (constantI S_ 32 0#32)) (constantI S_ 32 1#32) d)))
          (broadcastInDim S128 ![] bcast_S_S128 (constantI S_ 32 0#32)))
        (broadcastInDim S128 ![] bcast_S_S128
          (cmpi .slt (select (cmpi .eq d (constantI S_ 32 0#32)) (constantI S_ 32 1#32) d) (constantI S_ 32 0#32))))
      (cmpi .ne (Host.remsi x (broadcastInDim S128 ![] bcast_S_S128 (select (cmpi .eq d (constantI S_ 32 0#32)) (constantI S_ 32 1#32) d)))
        (broadcastInDim S128 ![] bcast_S_S128 (constantI S_ 32 0#32))))
    (addi (Host.remsi x (broadcastInDim S128 ![] bcast_S_S128 (select (cmpi .eq d (constantI S_ 32 0#32)) (constantI S_ 32 1#32) d)))
      (broadcastInDim S128 ![] bcast_S_S128 (select (cmpi .eq d (constantI S_ 32 0#32)) (constantI S_ 32 1#32) d)))
    (Host.remsi x (broadcastInDim S128 ![] bcast_S_S128 (select (cmpi .eq d (constantI S_ 32 0#32)) (constantI S_ 32 1#32) d)))

theorem remRow_apply (x : IVec S128 32) (d : IVec S_ 32) (i : S128.Idx) : remRow x d i = rem (x i) (d ix0) := by
  have e : ∀ j : S_.Idx, d j = d ix0 := fun j => congrArg d (funext fun a => a.elim0)
  unfold remRow rem
  simp only [select, andi, addi, cmpi, Host.remsi, broadcastInDim, constantI, e]

set_option maxHeartbeats 2000000 in
/-- A lane in its head, -/
theorem rem_head : ∀ n : Fin 128, rem (BitVec.ofNat 32 n.val) 64#32 = BitVec.ofNat 32 (n.val % 64) := by decide
set_option maxHeartbeats 2000000 in
/-- and the pair of numbers it belongs to. -/
theorem rem_pair : ∀ n : Fin 128, rem (BitVec.ofNat 32 (n.val % 64)) 8#32 = BitVec.ofNat 32 (n.val % 8) := by decide

/-- Counting a pair from the end when it is negative leaves it as it is. -/
theorem wrap_pair : ∀ k : Fin 8, Scalar.select (IntOp.cmpi .slt (BitVec.ofNat 32 k.val) 0#32) (IntOp.addi (BitVec.ofNat 32 k.val) 8#32) (BitVec.ofNat 32 k.val)
    = BitVec.ofNat 32 k.val := by decide

/-- The pair of a lane. -/
abbrev pair (n : Fin 128) : Fin 8 := ⟨n.val % 8, Nat.mod_lt _ (by decide)⟩

/-- Taking columns of a table of eight by words that name pairs. -/
theorem gather_pairs (f : S8192x8.Idx → EReal) (idx : IVec S128x1 32) (l : Fin 8192) (n : Fin 128)
    (hi : idx (ix2 n (0 : Fin 1)) = BitVec.ofNat 32 (n.val % 8)) :
    Host.gather gather_S8192x8_S128x1_S8192x128_0_1_n_n_1_1_81921 f idx (ix2 l n) = f (ix2 l (pair n)) := by
  generalize hd : gather_S8192x8_S128x1_S8192x128_0_1_n_n_1_1_81921 = d
  have hb : ∀ a : Fin 2, d.batchCoord (ix2 l n) a = 0 := fun a => d.batchCoord_eq_zero _ _ (by subst hd; exact List.not_mem_nil)
  have h1 : d.offCoord (ix2 l n) (1 : Fin 2) = 0 :=
    d.offCoord_eq_zero _ _ (by subst hd; exact show (1 : Fin 2) ∉ ([0] : List (Fin 2)) by decide)
  have m0 : (0 : Fin 2) ∈ d.sKept := by subst hd; exact show (0 : Fin 2) ∈ ([0] : List (Fin 2)) by decide
  have s1 : (1 : Fin 2) ∈ d.startIndexMap := by subst hd; exact show (1 : Fin 2) ∈ ([1] : List (Fin 2)) by decide
  have s0 : (0 : Fin 2) ∉ d.startIndexMap := by subst hd; exact show (0 : Fin 2) ∉ ([1] : List (Fin 2)) by decide
  unfold Host.gather
  refine congrArg f (funext fun a => Fin.ext ?_)
  match a with
  | ⟨0, _⟩ =>
    show d.start (ix2 l n) idx (0 : Fin 2) + d.batchCoord (ix2 l n) (0 : Fin 2) + d.offCoord (ix2 l n) (0 : Fin 2) = l.val
    rw [hb]
    unfold GatherDims.start GatherDims.offCoord
    rw [dif_neg s0, dif_pos m0, Nat.zero_add]
    subst hd
    rfl
  | ⟨1, _⟩ =>
    show d.start (ix2 l n) idx (1 : Fin 2) + d.batchCoord (ix2 l n) (1 : Fin 2) + d.offCoord (ix2 l n) (1 : Fin 2) = n.val % 8
    rw [hb, h1]
    unfold GatherDims.start
    rw [dif_pos s1]
    subst hd
    have hx : gather_S8192x8_S128x1_S8192x128_0_1_n_n_1_1_81921.siIdx (ix2 l n) ⟨0, Nat.one_pos⟩ = ix2 n (0 : Fin 1) := by
      funext a
      refine Fin.ext ?_
      match a with
      | ⟨0, _⟩ => rfl
      | ⟨1, _⟩ => rfl
    refine Eq.trans (b := min (idx (gather_S8192x8_S128x1_S8192x128_0_1_n_n_1_1_81921.siIdx (ix2 l n) ⟨0, Nat.one_pos⟩)).toInt.toNat (8 - 1)) rfl ?_
    rw [hx, hi]
    have : ∀ k : Fin 8, min (BitVec.ofNat 32 k.val).toInt.toNat (8 - 1) = k.val := by decide
    exact this (pair n)

/-! ## The groups of host operations -/

section groups

variable (W : Valuation τ sig (Elt Ideal))

/-- The first group: cosines and sines of the angles, and the lanes. -/
theorem group0_cos (l : Fin 8192) (j : Fin 8) : (after hostOps0 W (Proc.devRef .tc main_v14) : S8192x8.Idx → EReal) (ix2 l j) = cosine l j := by
  unfold hostOps0
  after_results_simp
  rfl
theorem group0_sin (l : Fin 8192) (j : Fin 8) : (after hostOps0 W (Proc.devRef .tc main_v15) : S8192x8.Idx → EReal) (ix2 l j) = sine l j := by
  unfold hostOps0
  after_results_simp
  rfl
theorem group0_lane (n : Fin 128) : (after hostOps0 W (Proc.devRef .tc main_v16) : S128.Idx → BitVec 32) (ix1 n) = BitVec.ofNat 32 n.val := by
  unfold hostOps0
  after_results_simp
  rfl
theorem group0_head (i : S_.Idx) : (after hostOps0 W (Proc.devRef .tc main_c) : S_.Idx → BitVec 32) i = 64#32 := by
  unfold hostOps0
  after_results_simp
  rfl

/-- The second: remainders by 64. -/
theorem group1 : (after hostOps0_1 W (Proc.devRef .tc main_v17) : S128.Idx → BitVec 32)
    = remRow (W (Proc.devRef .tc main_v16)) (W (Proc.devRef .tc main_c)) := by
  unfold hostOps0_1
  after_results_simp
  simp only [StableHlo.TRef.ofBuf_toBuf, id_eq]
  change StableHlo.TRef.toBuf (Val := Elt Ideal) (.of main_v17 : StableHlo.TRef sig ⟨S128, .i32⟩)
    (remRow (StableHlo.TRef.ofBuf (Val := Elt Ideal) (.of main_v16 : StableHlo.TRef sig ⟨S128, .i32⟩) (W (Proc.devRef .tc main_v16)))
      (StableHlo.TRef.ofBuf (Val := Elt Ideal) (.of main_c : StableHlo.TRef sig ⟨S_, .i32⟩) (W (Proc.devRef .tc main_c)))) = _
  rfl

/-- The third: the number eight. -/
theorem group2 : (after hostOps0_2 W (Proc.devRef .tc main_c_2) : S_.Idx → BitVec 32) = constantI S_ 32 8#32 := by
  unfold hostOps0_2
  after_results_simp

/-- The fourth: remainders by it. -/
theorem group3 : (after hostOps0_3 W (Proc.devRef .tc main_v18) : S128.Idx → BitVec 32)
    = remRow (W (Proc.devRef .tc main_v17)) (W (Proc.devRef .tc main_c_2)) := by
  unfold hostOps0_3
  after_results_simp
  simp only [StableHlo.TRef.ofBuf_toBuf, id_eq]
  change StableHlo.TRef.toBuf (Val := Elt Ideal) (.of main_v18 : StableHlo.TRef sig ⟨S128, .i32⟩)
    (remRow (StableHlo.TRef.ofBuf (Val := Elt Ideal) (.of main_v17 : StableHlo.TRef sig ⟨S128, .i32⟩) (W (Proc.devRef .tc main_v17)))
      (StableHlo.TRef.ofBuf (Val := Elt Ideal) (.of main_c_2 : StableHlo.TRef sig ⟨S_, .i32⟩) (W (Proc.devRef .tc main_c_2)))) = _
  rfl

/-- The words that name the columns to take, from the pairs. -/
def columns (y : IVec S128 32) : IVec S128x1 32 :=
  broadcastInDim S128x1 ![0] bcast_S128_S128x1_0 (select (cmpi .slt y (broadcastInDim S128 ![] bcast_S_S128 (constantI S_ 32 0#32)))
    (addi y (broadcastInDim S128 ![] bcast_S_S128 (constantI S_ 32 8#32))) y)

theorem columns_apply (y : IVec S128 32) (n : Fin 128) (h : y (ix1 n) = BitVec.ofNat 32 (n.val % 8)) :
    columns y (ix2 n (0 : Fin 1)) = BitVec.ofNat 32 (n.val % 8) := by
  have e : columns y (ix2 n (0 : Fin 1)) = Scalar.select (IntOp.cmpi .slt (y (ix1 n)) 0#32) (IntOp.addi (y (ix1 n)) 8#32) (y (ix1 n)) := by
    unfold columns
    rw [broadcastInDim_apply _ _ _ _ (ix1 n) (fun a => by match a with | ⟨0, _⟩ => exact rfl)]
    rfl
  rw [e, h]
  exact wrap_pair (pair n)

/-- One entry where a row of bits is set, another elsewhere. -/
def choose (b : IVec S128 1) (x : FVec Ideal S8192x128 .f32) (z : FVec Ideal S_ .f32) : FVec Ideal S8192x128 .f32 :=
  select (broadcastInDim S8192x128 ![1] bcast_S128_S8192x128_1 b) x (broadcastInDim S8192x128 ![] bcast_S_S8192x128 z)

theorem choose_apply (b : IVec S128 1) (x : FVec Ideal S8192x128 .f32) (z : FVec Ideal S_ .f32) (l : Fin 8192) (n : Fin 128) :
    choose b x z (ix2 l n) = Scalar.select (b (ix1 n)) (x (ix2 l n)) (z ix0) := by
  unfold choose
  show Scalar.select (broadcastInDim S8192x128 ![1] bcast_S128_S8192x128_1 b (ix2 l n)) (x (ix2 l n))
    (broadcastInDim S8192x128 ![] bcast_S_S8192x128 z (ix2 l n)) = _
  rw [broadcastInDim_apply _ _ b _ (ix1 n) (fun a => by match a with | ⟨0, _⟩ => exact rfl),
    broadcastInDim_apply _ _ z _ ix0 (fun a => a.elim0)]

/-- The bits of the lanes whose place in the head is below a bound. -/
def below (y : IVec S128 32) (w : BitVec 32) : IVec S128 1 := cmpi .slt y (broadcastInDim S128 ![] bcast_S_S128 (constantI S_ 32 w))
/-- The bits of the lanes whose place in the head is not below a bound. -/
def above (y : IVec S128 32) (w : BitVec 32) : IVec S128 1 := cmpi .sge y (broadcastInDim S128 ![] bcast_S_S128 (constantI S_ 32 w))

/-- The lanes that turn. -/
theorem group4_v20 : (after hostOps0_4 W (Proc.devRef .tc main_v20) : IVec S128 1) = below (W (Proc.devRef .tc main_v17)) 16#32 := by
  unfold hostOps0_4
  after_results_simp
  rfl

/-- Their cosines. -/
theorem group4_v27 : (after hostOps0_4 W (Proc.devRef .tc main_v27) : FVec Ideal S8192x128 .f32) = Host.gather gather_S8192x8_S128x1_S8192x128_0_1_n_n_1_1_81921 (W (Proc.devRef .tc main_v14) : FVec Ideal S8192x8 .f32) (columns (W (Proc.devRef .tc main_v18))) := by
  unfold hostOps0_4
  after_results_simp
  rfl

/-- The factor of the others. -/
theorem group4_cst_6 : (after hostOps0_4 W (Proc.devRef .tc main_cst_6) : FVec Ideal S_ .f32) = (constant S_ .f32 0x3F800000#32 : FVec Ideal S_ .f32) := by
  unfold hostOps0_4
  after_results_simp

/-- The factors of the number itself. -/
theorem group5_v28 : (after hostOps0_5 W (Proc.devRef .tc main_v28) : FVec Ideal S8192x128 .f32) = choose (W (Proc.devRef .tc main_v20)) (W (Proc.devRef .tc main_v27)) (W (Proc.devRef .tc main_cst_6)) := by
  unfold hostOps0_5
  after_results_simp
  simp only [StableHlo.TRef.ofBuf_toBuf, id_eq]
  change StableHlo.TRef.toBuf (Val := Elt Ideal) (.of main_v28 : StableHlo.TRef sig ⟨S8192x128, .f32⟩)
    (choose (StableHlo.TRef.ofBuf (Val := Elt Ideal) (.of main_v20 : StableHlo.TRef sig ⟨S128, .i1⟩) (W (Proc.devRef .tc main_v20)))
      (StableHlo.TRef.ofBuf (Val := Elt Ideal) (.of main_v27 : StableHlo.TRef sig ⟨S8192x128, .f32⟩) (W (Proc.devRef .tc main_v27)))
      (StableHlo.TRef.ofBuf (Val := Elt Ideal) (.of main_cst_6 : StableHlo.TRef sig ⟨S_, .f32⟩) (W (Proc.devRef .tc main_cst_6)))) = _
  rfl

/-- The first half of the lanes that turn. -/
theorem group6_v30 : (after hostOps0_6 W (Proc.devRef .tc main_v30) : IVec S128 1) = below (W (Proc.devRef .tc main_v17)) 8#32 := by
  unfold hostOps0_6
  after_results_simp
  rfl

/-- Their sines, with the sign turned. -/
theorem group6_v38 : (after hostOps0_6 W (Proc.devRef .tc main_v38) : FVec Ideal S8192x128 .f32) = (Host.negf (Host.gather gather_S8192x8_S128x1_S8192x128_0_1_n_n_1_1_81921 (W (Proc.devRef .tc main_v15) : FVec Ideal S8192x8 .f32) (columns (W (Proc.devRef .tc main_v18)))) : FVec Ideal S8192x128 .f32) := by
  unfold hostOps0_6
  after_results_simp
  rfl

/-- The factor of the others. -/
theorem group6_cst_10 : (after hostOps0_6 W (Proc.devRef .tc main_cst_10) : FVec Ideal S_ .f32) = (constant S_ .f32 0x00000000#32 : FVec Ideal S_ .f32) := by
  unfold hostOps0_6
  after_results_simp

/-- The factors of the number eight lanes after. -/
theorem group7_v39 : (after hostOps0_7 W (Proc.devRef .tc main_v39) : FVec Ideal S8192x128 .f32) = choose (W (Proc.devRef .tc main_v30)) (W (Proc.devRef .tc main_v38)) (W (Proc.devRef .tc main_cst_10)) := by
  unfold hostOps0_7
  after_results_simp
  simp only [StableHlo.TRef.ofBuf_toBuf, id_eq]
  change StableHlo.TRef.toBuf (Val := Elt Ideal) (.of main_v39 : StableHlo.TRef sig ⟨S8192x128, .f32⟩)
    (choose (StableHlo.TRef.ofBuf (Val := Elt Ideal) (.of main_v30 : StableHlo.TRef sig ⟨S128, .i1⟩) (W (Proc.devRef .tc main_v30)))
      (StableHlo.TRef.ofBuf (Val := Elt Ideal) (.of main_v38 : StableHlo.TRef sig ⟨S8192x128, .f32⟩) (W (Proc.devRef .tc main_v38)))
      (StableHlo.TRef.ofBuf (Val := Elt Ideal) (.of main_cst_10 : StableHlo.TRef sig ⟨S_, .f32⟩) (W (Proc.devRef .tc main_cst_10)))) = _
  rfl

/-- The second half of the lanes that turn. -/
theorem group8_v44 : (after hostOps0_8 W (Proc.devRef .tc main_v44) : IVec S128 1) = andi (above (W (Proc.devRef .tc main_v17)) 8#32) (below (W (Proc.devRef .tc main_v17)) 16#32) := by
  unfold hostOps0_8
  after_results_simp
  rfl

/-- Their sines. -/
theorem group8_v51 : (after hostOps0_8 W (Proc.devRef .tc main_v51) : FVec Ideal S8192x128 .f32) = Host.gather gather_S8192x8_S128x1_S8192x128_0_1_n_n_1_1_81921 (W (Proc.devRef .tc main_v15) : FVec Ideal S8192x8 .f32) (columns (W (Proc.devRef .tc main_v18))) := by
  unfold hostOps0_8
  after_results_simp
  rfl

/-- The factor of the others. -/
theorem group8_cst_15 : (after hostOps0_8 W (Proc.devRef .tc main_cst_15) : FVec Ideal S_ .f32) = (constant S_ .f32 0x00000000#32 : FVec Ideal S_ .f32) := by
  unfold hostOps0_8
  after_results_simp

/-- The factors of the number eight lanes before. -/
theorem group9_v52 : (after hostOps0_9 W (Proc.devRef .tc main_v52) : FVec Ideal S8192x128 .f32) = choose (W (Proc.devRef .tc main_v44)) (W (Proc.devRef .tc main_v51)) (W (Proc.devRef .tc main_cst_15)) := by
  unfold hostOps0_9
  after_results_simp
  simp only [StableHlo.TRef.ofBuf_toBuf, id_eq]
  change StableHlo.TRef.toBuf (Val := Elt Ideal) (.of main_v52 : StableHlo.TRef sig ⟨S8192x128, .f32⟩)
    (choose (StableHlo.TRef.ofBuf (Val := Elt Ideal) (.of main_v44 : StableHlo.TRef sig ⟨S128, .i1⟩) (W (Proc.devRef .tc main_v44)))
      (StableHlo.TRef.ofBuf (Val := Elt Ideal) (.of main_v51 : StableHlo.TRef sig ⟨S8192x128, .f32⟩) (W (Proc.devRef .tc main_v51)))
      (StableHlo.TRef.ofBuf (Val := Elt Ideal) (.of main_cst_15 : StableHlo.TRef sig ⟨S_, .f32⟩) (W (Proc.devRef .tc main_cst_15)))) = _
  rfl

/-- What group 1 writes, -/
def written1 : List (Ref sig .tc) := [main_call0_v0, main_call0_c, main_call0_v1, main_call0_c_0, main_call0_v2, main_call0_v3, main_call0_v4, main_call0_c_1, main_call0_v5, main_call0_v6, main_call0_c_2, main_call0_v7, main_call0_v8, main_call0_c_3, main_call0_v9, main_call0_v10, main_call0_v11, main_call0_v12, main_call0_v13, main_call0_v14, main_v17]
/-- and it leaves the rest. -/
theorem keep1 {r : Ref sig .tc} (hr : r ∉ written1) : after hostOps0_1 W (Proc.devRef .tc r) = W (Proc.devRef .tc r) :=
  StableHlo.after_of_writes_sub hostOps0_1 W (StableHlo.forall_writes_sub_of_map (W := written1) rfl) hr

/-- What group 2 writes, -/
def written2 : List (Ref sig .tc) := [main_c_2]
/-- and it leaves the rest. -/
theorem keep2 {r : Ref sig .tc} (hr : r ∉ written2) : after hostOps0_2 W (Proc.devRef .tc r) = W (Proc.devRef .tc r) :=
  StableHlo.after_of_writes_sub hostOps0_2 W (StableHlo.forall_writes_sub_of_map (W := written2) rfl) hr

/-- What group 3 writes, -/
def written3 : List (Ref sig .tc) := [main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v18]
/-- and it leaves the rest. -/
theorem keep3 {r : Ref sig .tc} (hr : r ∉ written3) : after hostOps0_3 W (Proc.devRef .tc r) = W (Proc.devRef .tc r) :=
  StableHlo.after_of_writes_sub hostOps0_3 W (StableHlo.forall_writes_sub_of_map (W := written3) rfl) hr

/-- What group 4 writes, -/
def written4 : List (Ref sig .tc) := [main_c_3, main_v19, main_v20, main_c_4, main_v21, main_v22, main_c_5, main_v23, main_v24, main_v25, main_v26, main_v27, main_cst_6]
/-- and it leaves the rest. -/
theorem keep4 {r : Ref sig .tc} (hr : r ∉ written4) : after hostOps0_4 W (Proc.devRef .tc r) = W (Proc.devRef .tc r) :=
  StableHlo.after_of_writes_sub hostOps0_4 W (StableHlo.forall_writes_sub_of_map (W := written4) rfl) hr

/-- What group 5 writes, -/
def written5 : List (Ref sig .tc) := [main_call2_v0, main_call2_v1, main_call2_v2, main_v28]
/-- and it leaves the rest. -/
theorem keep5 {r : Ref sig .tc} (hr : r ∉ written5) : after hostOps0_5 W (Proc.devRef .tc r) = W (Proc.devRef .tc r) :=
  StableHlo.after_of_writes_sub hostOps0_5 W (StableHlo.forall_writes_sub_of_map (W := written5) rfl) hr

/-- What group 6 writes, -/
def written6 : List (Ref sig .tc) := [main_c_7, main_v29, main_v30, main_c_8, main_v31, main_v32, main_c_9, main_v33, main_v34, main_v35, main_v36, main_v37, main_v38, main_cst_10]
/-- and it leaves the rest. -/
theorem keep6 {r : Ref sig .tc} (hr : r ∉ written6) : after hostOps0_6 W (Proc.devRef .tc r) = W (Proc.devRef .tc r) :=
  StableHlo.after_of_writes_sub hostOps0_6 W (StableHlo.forall_writes_sub_of_map (W := written6) rfl) hr

/-- What group 7 writes, -/
def written7 : List (Ref sig .tc) := [main_call3_v0, main_call3_v1, main_call3_v2, main_v39]
/-- and it leaves the rest. -/
theorem keep7 {r : Ref sig .tc} (hr : r ∉ written7) : after hostOps0_7 W (Proc.devRef .tc r) = W (Proc.devRef .tc r) :=
  StableHlo.after_of_writes_sub hostOps0_7 W (StableHlo.forall_writes_sub_of_map (W := written7) rfl) hr

/-- What group 8 writes, -/
def written8 : List (Ref sig .tc) := [main_c_11, main_v40, main_v41, main_c_12, main_v42, main_v43, main_v44, main_c_13, main_v45, main_v46, main_c_14, main_v47, main_v48, main_v49, main_v50, main_v51, main_cst_15]
/-- and it leaves the rest. -/
theorem keep8 {r : Ref sig .tc} (hr : r ∉ written8) : after hostOps0_8 W (Proc.devRef .tc r) = W (Proc.devRef .tc r) :=
  StableHlo.after_of_writes_sub hostOps0_8 W (StableHlo.forall_writes_sub_of_map (W := written8) rfl) hr

/-- What group 9 writes, -/
def written9 : List (Ref sig .tc) := [main_call4_v0, main_call4_v1, main_call4_v2, main_v52]
/-- and it leaves the rest. -/
theorem keep9 {r : Ref sig .tc} (hr : r ∉ written9) : after hostOps0_9 W (Proc.devRef .tc r) = W (Proc.devRef .tc r) :=
  StableHlo.after_of_writes_sub hostOps0_9 W (StableHlo.forall_writes_sub_of_map (W := written9) rfl) hr

/-- What group 10 writes, -/
def written10 : List (Ref sig .tc) := [main_v53, main_v54, main_v55, main_v56]
/-- and it leaves the rest. -/
theorem keep10 {r : Ref sig .tc} (hr : r ∉ written10) : after hostOps0_10 W (Proc.devRef .tc r) = W (Proc.devRef .tc r) :=
  StableHlo.after_of_writes_sub hostOps0_10 W (StableHlo.forall_writes_sub_of_map (W := written10) rfl) hr

end groups

/-! ## The tables -/

section tables

variable (m : (ℓ : Loc nD τ sig) → Buf (Elt Ideal) ℓ) (c : Dev nD)

/-- The buffers after each group of host operations. -/
def U0 : Valuation τ sig (Elt Ideal) := after hostOps0 fun b => m (c, b)
def U1 : Valuation τ sig (Elt Ideal) := after hostOps0_1 (U0 m c)
def U2 : Valuation τ sig (Elt Ideal) := after hostOps0_2 (U1 m c)
def U3 : Valuation τ sig (Elt Ideal) := after hostOps0_3 (U2 m c)
def U4 : Valuation τ sig (Elt Ideal) := after hostOps0_4 (U3 m c)
def U5 : Valuation τ sig (Elt Ideal) := after hostOps0_5 (U4 m c)
def U6 : Valuation τ sig (Elt Ideal) := after hostOps0_6 (U5 m c)
def U7 : Valuation τ sig (Elt Ideal) := after hostOps0_7 (U6 m c)
def U8 : Valuation τ sig (Elt Ideal) := after hostOps0_8 (U7 m c)
def U9 : Valuation τ sig (Elt Ideal) := after hostOps0_9 (U8 m c)

/-- What the launch finds is what the last group leaves. -/
theorem V_eq (b : Ref sig .tc) : V m c b = after hostOps0_10 (U9 m c) (Proc.devRef .tc b) := by
  unfold V U9 U8 U7 U6 U5 U4 U3 U2 U1 U0
  simp only [List.flatten_cons, List.flatten_nil, List.append_nil, Idealize.ShloMosaic.StableHlo.after_append]

/-- Groups one to three leave the table. -/
theorem U3_v14 : U3 m c (Proc.devRef .tc main_v14) = U0 m c (Proc.devRef .tc main_v14) :=
  ((keep3 _ (r := main_v14) (by decide)).trans (keep2 _ (r := main_v14) (by decide))).trans (keep1 _ (r := main_v14) (by decide))
/-- Groups one to three leave the table. -/
theorem U3_v15 : U3 m c (Proc.devRef .tc main_v15) = U0 m c (Proc.devRef .tc main_v15) :=
  ((keep3 _ (r := main_v15) (by decide)).trans (keep2 _ (r := main_v15) (by decide))).trans (keep1 _ (r := main_v15) (by decide))
/-- Groups two and three leave the lanes' places. -/
theorem U3_v17 : U3 m c (Proc.devRef .tc main_v17) = U1 m c (Proc.devRef .tc main_v17) :=
  (keep3 _ (r := main_v17) (by decide)).trans (keep2 _ (r := main_v17) (by decide))
/-- So does group two alone. -/
theorem U2_v17 : U2 m c (Proc.devRef .tc main_v17) = U1 m c (Proc.devRef .tc main_v17) :=
  keep2 _ (r := main_v17) (by decide)
/-- Groups four and five leave it. -/
theorem U5_v15 : U5 m c (Proc.devRef .tc main_v15) = U3 m c (Proc.devRef .tc main_v15) :=
  (keep5 _ (r := main_v15) (by decide)).trans (keep4 _ (r := main_v15) (by decide))
/-- And groups six and seven. -/
theorem U7_v15 : U7 m c (Proc.devRef .tc main_v15) = U3 m c (Proc.devRef .tc main_v15) :=
  (((keep7 _ (r := main_v15) (by decide)).trans (keep6 _ (r := main_v15) (by decide))).trans (keep5 _ (r := main_v15) (by decide))).trans (keep4 _ (r := main_v15) (by decide))
/-- Groups four and five leave it. -/
theorem U5_v17 : U5 m c (Proc.devRef .tc main_v17) = U3 m c (Proc.devRef .tc main_v17) :=
  (keep5 _ (r := main_v17) (by decide)).trans (keep4 _ (r := main_v17) (by decide))
/-- And groups six and seven. -/
theorem U7_v17 : U7 m c (Proc.devRef .tc main_v17) = U3 m c (Proc.devRef .tc main_v17) :=
  (((keep7 _ (r := main_v17) (by decide)).trans (keep6 _ (r := main_v17) (by decide))).trans (keep5 _ (r := main_v17) (by decide))).trans (keep4 _ (r := main_v17) (by decide))
/-- Groups four and five leave it. -/
theorem U5_v18 : U5 m c (Proc.devRef .tc main_v18) = U3 m c (Proc.devRef .tc main_v18) :=
  (keep5 _ (r := main_v18) (by decide)).trans (keep4 _ (r := main_v18) (by decide))
/-- And groups six and seven. -/
theorem U7_v18 : U7 m c (Proc.devRef .tc main_v18) = U3 m c (Proc.devRef .tc main_v18) :=
  (((keep7 _ (r := main_v18) (by decide)).trans (keep6 _ (r := main_v18) (by decide))).trans (keep5 _ (r := main_v18) (by decide))).trans (keep4 _ (r := main_v18) (by decide))

/-- The place of a lane in its head, -/
theorem place (n : Fin 128) : (U3 m c (Proc.devRef .tc main_v17) : IVec S128 32) (ix1 n) = BitVec.ofNat 32 (n.val % 64) := by
  rw [U3_v17]
  unfold U1
  rw [group1, remRow_apply]
  unfold U0
  rw [group0_lane, group0_head]
  exact rem_head n
/-- and its pair. -/
theorem pairWord (n : Fin 128) : (U3 m c (Proc.devRef .tc main_v18) : IVec S128 32) (ix1 n) = BitVec.ofNat 32 (n.val % 8) := by
  have h := place m c n
  rw [U3_v17, ← U2_v17] at h
  unfold U3
  rw [group3, remRow_apply]
  refine (congrArg₂ rem h ?_).trans (rem_pair n)
  unfold U2
  rw [group2]
  rfl

/-- The cosines of a lane's pair, -/
theorem cosines (l : Fin 8192) (n : Fin 128) : (U4 m c (Proc.devRef .tc main_v27) : FVec Ideal S8192x128 .f32) (ix2 l n) = cosine l (pair n) := by
  unfold U4
  rw [group4_v27]
  rw [gather_pairs _ _ l n (columns_apply _ n (pairWord m c n)), U3_v14]
  exact group0_cos _ l _
/-- and the sines. -/
theorem sines (l : Fin 8192) (n : Fin 128) :
    Host.gather gather_S8192x8_S128x1_S8192x128_0_1_n_n_1_1_81921 (U3 m c (Proc.devRef .tc main_v15) : FVec Ideal S8192x8 .f32)
      (columns (U3 m c (Proc.devRef .tc main_v18))) (ix2 l n) = sine l (pair n) := by
  rw [gather_pairs _ _ l n (columns_apply _ n (pairWord m c n)), U3_v15]
  exact group0_sin _ l _

theorem below16 : ∀ k : Fin 64, IntOp.cmpi .slt (BitVec.ofNat 32 k.val) 16#32 = if k.val < 16 then 1#1 else 0#1 := by decide
theorem below8 : ∀ k : Fin 64, IntOp.cmpi .slt (BitVec.ofNat 32 k.val) 8#32 = if k.val < 8 then 1#1 else 0#1 := by decide
theorem between : ∀ k : Fin 64, IntOp.andi (IntOp.cmpi .sge (BitVec.ofNat 32 k.val) 8#32) (IntOp.cmpi .slt (BitVec.ofNat 32 k.val) 16#32)
    = if 8 ≤ k.val ∧ k.val < 16 then 1#1 else 0#1 := by decide

/-- Choosing by a bit that a condition sets. -/
theorem select_bit {p : Prop} [Decidable p] (x y : EReal) : Scalar.select (if p then 1#1 else 0#1) x y = if p then x else y := by
  by_cases h : p
  · rw [if_pos h, if_pos h]; rfl
  · rw [if_neg h, if_neg h]; rfl

/-- The place of a lane as an index. -/
abbrev spot (n : Fin 128) : Fin 64 := ⟨n.val % 64, Nat.mod_lt _ (by decide)⟩

/-- The factors of the number itself: the cosine on the lanes that turn, one on the others. -/
theorem V_c (l : Fin 8192) (n : Fin 128) : (V m c main_v28 : S8192x128.Idx → EReal) (ix2 l n)
    = if n.val % 64 < 16 then cosine l (pair n) else Ideal.ofBits .f32 0x3F800000#32 := by
  rw [V_eq, show after hostOps0_10 (U9 m c) (Proc.devRef .tc main_v28) = U5 m c (Proc.devRef .tc main_v28) from ((((keep10 _ (r := main_v28) (by decide)).trans (keep9 _ (r := main_v28) (by decide))).trans (keep8 _ (r := main_v28) (by decide))).trans (keep7 _ (r := main_v28) (by decide))).trans (keep6 _ (r := main_v28) (by decide))]
  unfold U5
  rw [group5_v28, choose_apply]
  have hb : (U4 m c (Proc.devRef .tc main_v20) : IVec S128 1) (ix1 n) = if n.val % 64 < 16 then 1#1 else 0#1 := by
    unfold U4
    rw [group4_v20]
    exact (congrArg (IntOp.cmpi .slt · 16#32) (place m c n)).trans (below16 (spot n))
  have hz : (U4 m c (Proc.devRef .tc main_cst_6) : FVec Ideal S_ .f32) ix0 = Ideal.ofBits .f32 0x3F800000#32 := by
    unfold U4
    rw [group4_cst_6]
    rfl
  rw [hb, hz, cosines]
  exact select_bit _ _

/-- The factors of the number eight lanes after: minus the sine on the first half of them, zero on the others. -/
theorem V_sa (l : Fin 8192) (n : Fin 128) : (V m c main_v39 : S8192x128.Idx → EReal) (ix2 l n)
    = if n.val % 64 < 8 then -sine l (pair n) else Ideal.ofBits .f32 0x00000000#32 := by
  rw [V_eq, show after hostOps0_10 (U9 m c) (Proc.devRef .tc main_v39) = U7 m c (Proc.devRef .tc main_v39) from ((keep10 _ (r := main_v39) (by decide)).trans (keep9 _ (r := main_v39) (by decide))).trans (keep8 _ (r := main_v39) (by decide))]
  unfold U7
  rw [group7_v39, choose_apply]
  have hb : (U6 m c (Proc.devRef .tc main_v30) : IVec S128 1) (ix1 n) = if n.val % 64 < 8 then 1#1 else 0#1 := by
    unfold U6
    rw [group6_v30, U5_v17]
    exact (congrArg (IntOp.cmpi .slt · 8#32) (place m c n)).trans (below8 (spot n))
  have hz : (U6 m c (Proc.devRef .tc main_cst_10) : FVec Ideal S_ .f32) ix0 = Ideal.ofBits .f32 0x00000000#32 := by
    unfold U6
    rw [group6_cst_10]
    rfl
  have hx : (U6 m c (Proc.devRef .tc main_v38) : FVec Ideal S8192x128 .f32) (ix2 l n) = -sine l (pair n) := by
    unfold U6
    rw [group6_v38, U5_v15, U5_v18]
    exact congrArg (fun y : EReal => -y) (sines m c l n)
  rw [hb, hz, hx]
  exact select_bit _ _

/-- The factors of the number eight lanes before: the sine on the second half, zero on the others. -/
theorem V_sb (l : Fin 8192) (n : Fin 128) : (V m c main_v52 : S8192x128.Idx → EReal) (ix2 l n)
    = if 8 ≤ n.val % 64 ∧ n.val % 64 < 16 then sine l (pair n) else Ideal.ofBits .f32 0x00000000#32 := by
  rw [V_eq, show after hostOps0_10 (U9 m c) (Proc.devRef .tc main_v52) = U9 m c (Proc.devRef .tc main_v52) from keep10 _ (r := main_v52) (by decide)]
  unfold U9
  rw [group9_v52, choose_apply]
  have hb : (U8 m c (Proc.devRef .tc main_v44) : IVec S128 1) (ix1 n) = if 8 ≤ n.val % 64 ∧ n.val % 64 < 16 then 1#1 else 0#1 := by
    unfold U8
    rw [group8_v44, U7_v17]
    exact (congrArg (fun w => IntOp.andi (IntOp.cmpi .sge w 8#32) (IntOp.cmpi .slt w 16#32)) (place m c n)).trans (between (spot n))
  have hz : (U8 m c (Proc.devRef .tc main_cst_15) : FVec Ideal S_ .f32) ix0 = Ideal.ofBits .f32 0x00000000#32 := by
    unfold U8
    rw [group8_cst_15]
    rfl
  have hx : (U8 m c (Proc.devRef .tc main_v51) : FVec Ideal S8192x128 .f32) (ix2 l n) = sine l (pair n) := by
    unfold U8
    rw [group8_v51, U7_v15, U7_v18]
    exact sines m c l n
  rw [hb, hz, hx]
  exact select_bit _ _

/-- An argument before the last group. -/
theorem U9_arg {r : Ref sig .tc} (hr : r ∉ written10) : U9 m c (Proc.devRef .tc r) = V m c r :=
  ((V_eq m c r).trans (keep10 _ hr)).symm

/-- The scale and the shift, the norm's weights and the projection matrix are the arguments. -/
theorem V_sc (b : Fin 8) (k : Fin 1024) : (V m c main_v53 : S8x1x1024.Idx → EReal) (ix3 b (0 : Fin 1) k)
    = (V m c main_arg1 : S8x1024.Idx → EReal) (ix2 b k) := by
  rw [← U9_arg m c (r := main_arg1) (by decide), V_eq]
  unfold hostOps0_10
  after_results_simp
  rw [broadcastInDim_apply _ _ _ _ (ix2 b k) (fun a => by match a with | ⟨0, _⟩ => exact rfl | ⟨1, _⟩ => exact rfl)]
theorem V_sh (b : Fin 8) (k : Fin 1024) : (V m c main_v54 : S8x1x1024.Idx → EReal) (ix3 b (0 : Fin 1) k)
    = (V m c main_arg2 : S8x1024.Idx → EReal) (ix2 b k) := by
  rw [← U9_arg m c (r := main_arg2) (by decide), V_eq]
  unfold hostOps0_10
  after_results_simp
  rw [broadcastInDim_apply _ _ _ _ (ix2 b k) (fun a => by match a with | ⟨0, _⟩ => exact rfl | ⟨1, _⟩ => exact rfl)]
theorem V_g (k : Fin 1024) : (V m c main_v56 : S1x1024.Idx → EReal) (ix2 (0 : Fin 1) k) = (V m c main_arg3 : S1024.Idx → EReal) (ix1 k) := by
  rw [← U9_arg m c (r := main_arg3) (by decide), V_eq]
  unfold hostOps0_10
  after_results_simp
  refine shapeCast_apply (s := S1024) (t := S1x1024) _ _ _ (ix1 k) ?_
  refine (Shape.rowMajor_val_one _).trans (Eq.trans ?_ (Shape.rowMajor_val_two (d := ![1, 1024]) _).symm)
  show k.val = 0 * 1024 + k.val
  omega
theorem V_w (i : S1024x3072.Idx) : (V m c main_v55 : S1024x3072.Idx → EReal) i = (V m c main_arg4 : S1024x3072.Idx → EReal) i := by
  rw [← U9_arg m c (r := main_arg4) (by decide), V_eq]
  unfold hostOps0_10
  after_results_simp
  rfl

end tables

end Cert.Kernel2Ideal.Qkv

end
-- ==== Proof.Qkv.Value.lean ====
/- What the projection's body computes, at an index: the projected rows (`proj_apply`), a column of 512 numbers turned by the
   three tables (`turnBlock_apply`), and the six results' blocks (`outKd_apply` to `outQdT_apply`). -/
module

public import proofs.«01_k».proof.Proof.Qkv.LaunchIdeal
public import proofs.«01_k».proof.Proof.Qkv.Spec
public import Idealize.ShloMosaic.Lib.KernelVsHost
public import Idealize.ShloMosaic.Lib.MatmulPlain
public import Idealize.ShloMosaic.Lib.Pipeline.ValueKit.Geometry
public import Idealize.ShloMosaic.Lib.Pipeline.ValueKit.Tiles
public import Idealize.ShloMosaic.Lib.ValueLayout
public import Idealize.ShloMosaic.Lib.ValueLayoutCasts
public import Idealize.ShloMosaic.PureOps.Ideal.Laws

@[expose] public section

set_option maxRecDepth 16384

noncomputable section

namespace Cert.Kernel2Ideal.Qkv

open Cert.Kernel2Ideal Cert.Kernel2Ideal.Gen Cert.Qkv
open Idealize.ShloMosaic Idealize.ShloMosaic.TcCoe Idealize.ShloMosaic.ValueIdx

/-! ## The projection -/

section rows

variable (x : Vec Ideal S1x512x1024 .f32) (g : Vec Ideal S1x1024 .f32) (sc sh : Vec Ideal S1x1x1024 .f32)

/-- The rows' mean squares. -/
def squares : FVec Ideal S512 .f32 :=
  multiReduction .add [1] S512 (mulf (shapeCast S512x1024 x shapeCasts_S1x512x1024_S512x1024 : FVec Ideal S512x1024 .f32) (shapeCast S512x1024 x shapeCasts_S1x512x1024_S512x1024))
    0x00000000#32 reduces_S512x1024_S512 (.inl rfl) rfl

theorem squares_apply (r : Fin 512) : (squares x (ix1 r) : EReal) = ∑ j : Fin 1024, (x (ix3 (0 : Fin 1) r j) : EReal) * x (ix3 (0 : Fin 1) r j) := by
  unfold squares
  refine (Ideal.multiReduction_add_single (mulf (shapeCast S512x1024 x shapeCasts_S1x512x1024_S512x1024 : FVec Ideal S512x1024 .f32) (shapeCast S512x1024 x shapeCasts_S1x512x1024_S512x1024)) _ _ _ _ (ix1 r)).trans ?_
  refine Finset.sum_congr rfl fun (k : Fin 1024) _ => ?_
  have e : reduces_S512x1024_S512.lift (ix1 r) k = ix2 r k := by
    funext a
    match a with
    | ⟨0, _⟩ => exact Fin.ext rfl
    | ⟨1, _⟩ => exact Fin.ext rfl
  rw [e]
  show (shapeCast S512x1024 x shapeCasts_S1x512x1024_S512x1024 (ix2 r k) : EReal) * shapeCast S512x1024 x shapeCasts_S1x512x1024_S512x1024 (ix2 r k) = _
  rw [shapeCast_1ab_ab_apply]

/-- The rows' factors. -/
def factors : FVec Ideal S512x1 .f32 :=
  rsqrt (addf (divf (shapeCast S512x1 (squares x) shapeCasts_S512_S512x1) (broadcast S512x1 (Scalar.ofBits .f32 0x44800000#32))) (broadcast S512x1 (Scalar.ofBits .f32 0x358637BD#32)))

theorem factors_apply (r : Fin 512) : (factors x (ix2 r (0 : Fin 1)) : EReal)
    = Ideal.rsqrt (Ideal.div (∑ j : Fin 1024, (x (ix3 (0 : Fin 1) r j) : EReal) * x (ix3 (0 : Fin 1) r j)) (Ideal.ofBits .f32 0x44800000#32) + Ideal.ofBits .f32 0x358637BD#32) := by
  rw [← squares_apply, ← shapeCast_a_a1_apply (squares x) shapeCasts_S512_S512x1 r (0 : Fin 1)]
  rfl

/-- The normed, weighted and modulated rows. -/
def inputs : FVec Ideal S512x1024 .f32 :=
  addf (mulf (mulf (mulf (shapeCast S512x1024 x shapeCasts_S1x512x1024_S512x1024) (broadcastTo S512x1024 (factors x) broadcasts_S512x1_S512x1024))
      (broadcastTo S512x1024 (shapeCast S1x1024 g shapeCasts_S1x1024_S1x1024) broadcasts_S1x1024_S512x1024))
      (broadcastTo S512x1024 (addf (broadcast S1x1024 (Scalar.ofBits .f32 0x3F800000#32)) (shapeCast S1x1024 sc shapeCasts_S1x1x1024_S1x1024)) broadcasts_S1x1024_S512x1024))
    (broadcastTo S512x1024 (shapeCast S1x1024 sh shapeCasts_S1x1x1024_S1x1024) broadcasts_S1x1024_S512x1024)

/-- One column spread over the rows. -/
theorem spread_apply (v : FVec Ideal S512x1 .f32) (r : Fin 512) (k : Fin 1024) :
    broadcastTo S512x1024 v broadcasts_S512x1_S512x1024 (ix2 r k) = v (ix2 r (0 : Fin 1)) :=
  broadcastTo_apply v broadcasts_S512x1_S512x1024 (ix2 r k) (ix2 r (0 : Fin 1)) fun a => by
    match a with
    | ⟨0, _⟩ => exact rfl
    | ⟨1, _⟩ => exact rfl

theorem inputs_apply (r : Fin 512) (k : Fin 1024) : (inputs x g sc sh (ix2 r k) : EReal)
    = modulated (fun j => x (ix3 (0 : Fin 1) r j)) (fun j => g (ix2 (0 : Fin 1) j)) (fun j => sc (ix3 (0 : Fin 1) (0 : Fin 1) j)) (fun j => sh (ix3 (0 : Fin 1) (0 : Fin 1) j)) k := by
  unfold inputs modulated
  show (shapeCast S512x1024 x shapeCasts_S1x512x1024_S512x1024 (ix2 r k) : EReal) * broadcastTo S512x1024 (factors x) broadcasts_S512x1_S512x1024 (ix2 r k)
      * broadcastTo S512x1024 (shapeCast S1x1024 g shapeCasts_S1x1024_S1x1024) broadcasts_S1x1024_S512x1024 (ix2 r k)
      * broadcastTo S512x1024 (addf (broadcast S1x1024 (Scalar.ofBits .f32 0x3F800000#32)) (shapeCast S1x1024 sc shapeCasts_S1x1x1024_S1x1024) : FVec Ideal S1x1024 .f32) broadcasts_S1x1024_S512x1024 (ix2 r k)
      + broadcastTo S512x1024 (shapeCast S1x1024 sh shapeCasts_S1x1x1024_S1x1024) broadcasts_S1x1024_S512x1024 (ix2 r k) = _
  rw [spread_apply, factors_apply, shapeCast_self g, broadcastTo_1b_ab_apply, broadcastTo_1b_ab_apply, broadcastTo_1b_ab_apply, shapeCast_1ab_ab_apply, shapeCast_1ab_ab_apply]
  show _ * _ * _ * ((Ideal.ofBits .f32 0x3F800000#32 : EReal) + shapeCast S1x1024 sc shapeCasts_S1x1x1024_S1x1024 (ix2 (0 : Fin 1) k)) + _ = _
  rw [shapeCast_1ab_ab_apply]

end rows

/-- The projected rows of a point. -/
theorem proj_apply (B : Ins Ideal) (r : Fin 512) (n : Fin 3072) : (B.proj (ix2 r n) : EReal)
    = projected (fun j => B.x (ix3 (0 : Fin 1) r j)) (fun j => B.g (ix2 (0 : Fin 1) j)) (fun j => B.sc (ix3 (0 : Fin 1) (0 : Fin 1) j))
        (fun j => B.sh (ix3 (0 : Fin 1) (0 : Fin 1) j)) (fun k => B.w (ix2 k n)) := by
  have l0 : View.ld B.x r3 = B.x := View.ld_unit_lit (S := S1x512x1024) inb_S1x512x1024_S1x512x1024_0_0_0 B.x (by decide)
  have l1 : View.ld B.g rg = B.g := View.ld_unit_lit (S := S1x1024) inb_S1x1024_S1x1024_0_0 B.g (by decide)
  have l2 : View.ld B.sc rs = B.sc := View.ld_unit_lit (S := S1x1x1024) inb_S1x1x1024_S1x1x1024_0_0_0 B.sc (by decide)
  have l3 : View.ld B.sh rs = B.sh := View.ld_unit_lit (S := S1x1x1024) inb_S1x1x1024_S1x1x1024_0_0_0 B.sh (by decide)
  have l4 : View.ld B.w rw = B.w := View.ld_unit_lit (S := S1024x3072) inb_S1024x3072_S1024x3072_0_0 B.w (by decide)
  unfold Ins.proj
  rw [l0, l1, l2, l3, l4]
  have hp : k0_pay2 B.x B.g B.sc B.sh B.w = matmul dot_S512x1024_S1024x3072_S512x3072_1_0_0_1_n_n none
      (truncf .bf16 (inputs B.x B.g B.sc B.sh) bitsLt_bf16_f32) (shapeCast S1024x3072 B.w shapeCasts_S1024x3072_S1024x3072)
      (constant S512x3072 .f32 0x00000000#32) := rfl
  rw [hp]
  refine (Ideal.matmul_plain_apply (M := 512) (K := 1024) (N := 3072) none _ _ _ r n).trans ?_
  rw [constant_apply, Ideal.ofBits_zero_f32, zero_add]
  unfold projected
  refine Finset.sum_congr rfl fun k _ => ?_
  rw [shapeCast_self]
  exact congrArg (· * _) (inputs_apply B.x B.g B.sc B.sh r k)

/-! ## The rotation -/

/-- The float one is the number one. -/
theorem one_eq : Ideal.ofBits .f32 0x3F800000#32 = 1 := by
  have h : (8388608 : ℝ) * (2 ^ 23)⁻¹ = 1 := by norm_num
  simp only [Ideal.ofBits, Ideal.ieee]
  simp
  rw [← EReal.coe_mul]
  exact_mod_cast h

section turn

variable (y : FVec Ideal S512x512 .f32) (p c sa sb : FVec Ideal S512x128 .f32)

/-- Lanes 128 at a time: each number by its factor, plus its neighbours eight lanes after and before by theirs. -/
def turnPiece : FVec Ideal S512x128 .f32 :=
  addf (addf (mulf p c) (mulf (dynamicRotate 1 120#32 none p rotates_S512x128_d1) sa)) (mulf (dynamicRotate 1 8#32 none p rotates_S512x128_d1) sb)

/-- The four pieces of a column side by side. -/
def turnBlock : FVec Ideal S512x512 .f32 :=
  concatenate S512x512 1
    [⟨S512x128, turnPiece (extractStridedSlice S512x128 ![0, 0] y slices_S512x512_o0_0_S512x128) c sa sb⟩,
     ⟨S512x128, turnPiece (extractStridedSlice S512x128 ![0, 128] y slices_S512x512_o0_128_S512x128) c sa sb⟩,
     ⟨S512x128, turnPiece (extractStridedSlice S512x128 ![0, 256] y slices_S512x512_o0_256_S512x128) c sa sb⟩,
     ⟨S512x128, turnPiece (extractStridedSlice S512x128 ![0, 384] y slices_S512x512_o0_384_S512x128) c sa sb⟩]
    concatenates_S512x128_S512x128_S512x128_S512x128_S512x512_d1

theorem turnPiece_apply (r : Fin 512) (l : Fin 128) : (turnPiece p c sa sb (ix2 r l) : EReal)
    = (p (ix2 r l) : EReal) * c (ix2 r l) + p (ix2 r ⟨(l.val + 8) % 128, Nat.mod_lt _ (by decide)⟩) * sa (ix2 r l)
      + p (ix2 r ⟨(l.val + 120) % 128, Nat.mod_lt _ (by decide)⟩) * sb (ix2 r l) := by
  unfold turnPiece
  show (p (ix2 r l) : EReal) * c (ix2 r l) + dynamicRotate 1 120#32 none p rotates_S512x128_d1 (ix2 r l) * sa (ix2 r l)
      + dynamicRotate 1 8#32 none p rotates_S512x128_d1 (ix2 r l) * sb (ix2 r l) = _
  rw [Idealize.ShloMosaic.dynamicRotate_apply (1 : Fin 2) 120#32 p rotates_S512x128_d1 (ix2 r l) (ix2 r ⟨(l.val + 8) % 128, Nat.mod_lt _ (by decide)⟩)
      (fun b => by
        match b with
        | ⟨0, _⟩ => exact rfl
        | ⟨1, _⟩ => exact show (l.val + 8) % 128 = (l.val + 128 - 120 % 128) % 128 by omega),
    Idealize.ShloMosaic.dynamicRotate_apply (1 : Fin 2) 8#32 p rotates_S512x128_d1 (ix2 r l) (ix2 r ⟨(l.val + 120) % 128, Nat.mod_lt _ (by decide)⟩)
      (fun b => by
        match b with
        | ⟨0, _⟩ => exact rfl
        | ⟨1, _⟩ => exact show (l.val + 120) % 128 = (l.val + 128 - 8 % 128) % 128 by omega)]

/-- The tables' rows at one position, with its cosines and sines: what `turned` needs of them. -/
structure Turns (r : Fin 512) (cs sn : Fin 8 → EReal) : Prop where
  own : ∀ l : Fin 128, (c (ix2 r l) : EReal) = if l.val % 64 < 16 then cs ⟨l.val % 8, Nat.mod_lt _ (by decide)⟩ else Ideal.ofBits .f32 0x3F800000#32
  after : ∀ l : Fin 128, (sa (ix2 r l) : EReal) = if l.val % 64 < 8 then -sn ⟨l.val % 8, Nat.mod_lt _ (by decide)⟩ else Ideal.ofBits .f32 0x00000000#32
  before : ∀ l : Fin 128, (sb (ix2 r l) : EReal)
    = if 8 ≤ l.val % 64 ∧ l.val % 64 < 16 then sn ⟨l.val % 8, Nat.mod_lt _ (by decide)⟩ else Ideal.ofBits .f32 0x00000000#32

variable {c sa sb}

/-- A piece of a column is that piece of the column turned. -/
theorem turnPiece_eq {r : Fin 512} {cs sn : Fin 8 → EReal} (T : Turns c sa sb r cs sn) (h : ℕ) (hh : h < 4)
    (hp : ∀ l : Fin 128, p (ix2 r l) = y (ix2 r ⟨128 * h + l.val, by omega⟩)) (l : Fin 128) :
    (turnPiece p c sa sb (ix2 r l) : EReal) = turned (fun n => y (ix2 r n)) cs sn ⟨128 * h + l.val, by omega⟩ := by
  have hl : l.val < 128 := l.isLt
  rw [turnPiece_apply, T.own, T.after, T.before, hp, hp, hp, Ideal.ofBits_zero_f32, one_eq]
  unfold turned
  by_cases h8 : l.val % 64 < 8
  · rw [if_pos (by omega), if_pos h8, if_neg (by omega), dif_pos (show (128 * h + l.val) % 64 < 8 by omega), mul_zero, add_zero, mul_neg, ← sub_eq_add_neg]
    have e1 : (⟨128 * h + (l.val + 8) % 128, by omega⟩ : Fin 512) = ⟨128 * h + l.val + 8, by omega⟩ := Fin.ext (by show 128 * h + (l.val + 8) % 128 = 128 * h + l.val + 8; omega)
    have e2 : (⟨l.val % 8, Nat.mod_lt _ (by decide)⟩ : Fin 8) = ⟨(128 * h + l.val) % 64, by omega⟩ := Fin.ext (by show l.val % 8 = (128 * h + l.val) % 64; omega)
    rw [e1, e2]
  · rw [if_neg h8, dif_neg (show ¬ (128 * h + l.val) % 64 < 8 by omega), mul_zero, add_zero]
    by_cases h16 : l.val % 64 < 16
    · rw [if_pos h16, if_pos ⟨by omega, h16⟩, dif_pos (show (128 * h + l.val) % 64 < 16 by omega)]
      have e1 : (⟨128 * h + (l.val + 120) % 128, by omega⟩ : Fin 512) = ⟨128 * h + l.val - 8, by omega⟩ := Fin.ext (by show 128 * h + (l.val + 120) % 128 = 128 * h + l.val - 8; omega)
      have e2 : (⟨l.val % 8, Nat.mod_lt _ (by decide)⟩ : Fin 8) = ⟨(128 * h + l.val) % 64 - 8, by omega⟩ := Fin.ext (by show l.val % 8 = (128 * h + l.val) % 64 - 8; omega)
      rw [e1, e2]
    · rw [if_neg h16, if_neg (by omega), dif_neg (show ¬ (128 * h + l.val) % 64 < 16 by omega), mul_one, mul_zero, add_zero]

/-- A slice of a column. -/
theorem piece_apply (o : ℕ) (hs : S512x512.Slices ![0, o] S512x128) (r : Fin 512) (l : Fin 128) (ho : o + l.val < 512) :
    extractStridedSlice S512x128 ![0, o] y hs (ix2 r l) = y (ix2 r ⟨o + l.val, ho⟩) :=
  extractStridedSlice_apply _ _ _ _ _ (fun a => by
    match a with
    | ⟨0, _⟩ => exact show r.val = 0 + r.val by omega
    | ⟨1, _⟩ => exact rfl)

/-- A column turned by the tables is the column turned. -/
theorem turnBlock_apply {r : Fin 512} {cs sn : Fin 8 → EReal} (T : Turns c sa sb r cs sn) (n : Fin 512) :
    (turnBlock y c sa sb (ix2 r n) : EReal) = turned (fun n => y (ix2 r n)) cs sn n := by
  unfold turnBlock
  have hn : n.val < 512 := n.isLt
  have hk : n.val / 128 = 0 ∨ n.val / 128 = 1 ∨ n.val / 128 = 2 ∨ n.val / 128 = 3 := by omega
  rcases hk with h | h | h | h
  · refine (concatenate_apply_piece (t := S512x512) (1 : Fin 2) _ _ (ix2 r n) 0 (by exact show 0 < 4 by decide) S512x128
      (turnPiece (extractStridedSlice S512x128 ![0, 0] y slices_S512x512_o0_0_S512x128) c sa sb) (by rfl) rfl 0 (by rfl)
      (ix2 r (⟨n.val % 128, Nat.mod_lt _ (by decide)⟩ : Fin 128)) (fun b hb => ?_) ?_).trans ?_
    · match b, hb with
      | ⟨0, _⟩, _ => exact rfl
      | ⟨1, _⟩, hb => exact absurd rfl hb
    · show 0 + n.val % 128 = n.val
      omega
    · refine (turnPiece_eq y _ T 0 (by decide) (fun l => piece_apply y 0 _ r l (by have := l.isLt; omega)) _).trans ?_
      exact congrArg (turned _ cs sn) (Fin.ext (by show 128 * 0 + n.val % 128 = n.val; omega))
  · refine (concatenate_apply_piece (t := S512x512) (1 : Fin 2) _ _ (ix2 r n) 1 (by exact show 1 < 4 by decide) S512x128
      (turnPiece (extractStridedSlice S512x128 ![0, 128] y slices_S512x512_o0_128_S512x128) c sa sb) (by rfl) rfl 128 (by rfl)
      (ix2 r (⟨n.val % 128, Nat.mod_lt _ (by decide)⟩ : Fin 128)) (fun b hb => ?_) ?_).trans ?_
    · match b, hb with
      | ⟨0, _⟩, _ => exact rfl
      | ⟨1, _⟩, hb => exact absurd rfl hb
    · show 128 + n.val % 128 = n.val
      omega
    · refine (turnPiece_eq y _ T 1 (by decide) (fun l => piece_apply y 128 _ r l (by have := l.isLt; omega)) _).trans ?_
      exact congrArg (turned _ cs sn) (Fin.ext (by show 128 * 1 + n.val % 128 = n.val; omega))
  · refine (concatenate_apply_piece (t := S512x512) (1 : Fin 2) _ _ (ix2 r n) 2 (by exact show 2 < 4 by decide) S512x128
      (turnPiece (extractStridedSlice S512x128 ![0, 256] y slices_S512x512_o0_256_S512x128) c sa sb) (by rfl) rfl 256 (by rfl)
      (ix2 r (⟨n.val % 128, Nat.mod_lt _ (by decide)⟩ : Fin 128)) (fun b hb => ?_) ?_).trans ?_
    · match b, hb with
      | ⟨0, _⟩, _ => exact rfl
      | ⟨1, _⟩, hb => exact absurd rfl hb
    · show 256 + n.val % 128 = n.val
      omega
    · refine (turnPiece_eq y _ T 2 (by decide) (fun l => piece_apply y 256 _ r l (by have := l.isLt; omega)) _).trans ?_
      exact congrArg (turned _ cs sn) (Fin.ext (by show 128 * 2 + n.val % 128 = n.val; omega))
  · refine (concatenate_apply_piece (t := S512x512) (1 : Fin 2) _ _ (ix2 r n) 3 (by exact show 3 < 4 by decide) S512x128
      (turnPiece (extractStridedSlice S512x128 ![0, 384] y slices_S512x512_o0_384_S512x128) c sa sb) (by rfl) rfl 384 (by rfl)
      (ix2 r (⟨n.val % 128, Nat.mod_lt _ (by decide)⟩ : Fin 128)) (fun b hb => ?_) ?_).trans ?_
    · match b, hb with
      | ⟨0, _⟩, _ => exact rfl
      | ⟨1, _⟩, hb => exact absurd rfl hb
    · show 384 + n.val % 128 = n.val
      omega
    · refine (turnPiece_eq y _ T 3 (by decide) (fun l => piece_apply y 384 _ r l (by have := l.isLt; omega)) _).trans ?_
      exact congrArg (turned _ cs sn) (Fin.ext (by show 128 * 3 + n.val % 128 = n.val; omega))

end turn

/-! ## The six columns -/

variable (B : Ins Ideal)

/-- A column of 512 of the projection. -/
theorem column_apply (o : ℕ) (hs : S512x3072.Slices ![0, o] S512x512) (y : FVec Ideal S512x3072 .f32) (r n : Fin 512) (ho : o + n.val < 3072) :
    extractStridedSlice S512x512 ![0, o] y hs (ix2 r n) = y (ix2 r ⟨o + n.val, ho⟩) :=
  extractStridedSlice_apply _ _ _ _ _ (fun a => by
    match a with
    | ⟨0, _⟩ => exact show r.val = 0 + r.val by omega
    | ⟨1, _⟩ => exact rfl)

/-- The rotated columns are columns turned, the queries scaled after it. -/
theorem kd_eq : B.kd = turnBlock (extractStridedSlice S512x512 ![0, 512] B.proj slices_S512x3072_o0_512_S512x512) B.c B.sa B.sb := rfl
theorem km_eq : B.km = turnBlock (extractStridedSlice S512x512 ![0, 2048] B.proj slices_S512x3072_o0_2048_S512x512) B.c B.sa B.sb := rfl
theorem qd_eq : B.qd = mulf (turnBlock (extractStridedSlice S512x512 ![0, 0] B.proj slices_S512x3072_o0_0_S512x512) B.c B.sa B.sb)
    (broadcast S512x512 (Scalar.ofBits .f32 0x3E38AA3B#32)) := rfl
theorem qm_eq : B.qm = mulf (turnBlock (extractStridedSlice S512x512 ![0, 1536] B.proj slices_S512x3072_o0_1536_S512x512) B.c B.sa B.sb)
    (broadcast S512x512 (Scalar.ofBits .f32 0x3E38AA3B#32)) := rfl

section columns

variable {B} {r : Fin 512} {cs sn : Fin 8 → EReal} (T : Turns B.c B.sa B.sb r cs sn) (f : Fin 3072 → EReal) (hf : ∀ n, (B.proj (ix2 r n) : EReal) = f n)
include hf

/-- Any column turned, from the projected row. -/
theorem block_apply (T : Turns B.c B.sa B.sb r cs sn) (o : ℕ) (ho : o ≤ 2560) (hs : S512x3072.Slices ![0, o] S512x512) (n : Fin 512) :
    (turnBlock (extractStridedSlice S512x512 ![0, o] B.proj hs) B.c B.sa B.sb (ix2 r n) : EReal) = turned (fun n => f ⟨o + n.val, by omega⟩) cs sn n := by
  rw [turnBlock_apply _ T]
  refine congrArg (turned · cs sn n) (funext fun n => ?_)
  rw [column_apply o hs _ r n (by omega), hf]

include T
theorem kd_apply (n : Fin 512) : (B.kd (ix2 r n) : EReal) = turned (fun n => f ⟨512 + n.val, by omega⟩) cs sn n := by
  rw [kd_eq]
  exact block_apply f hf T 512 (by decide) _ n
theorem km_apply (n : Fin 512) : (B.km (ix2 r n) : EReal) = turned (fun n => f ⟨2048 + n.val, by omega⟩) cs sn n := by
  rw [km_eq]
  exact block_apply f hf T 2048 (by decide) _ n
theorem qd_apply (n : Fin 512) : (B.qd (ix2 r n) : EReal) = turned (fun n => f ⟨0 + n.val, by omega⟩) cs sn n * scale := by
  rw [qd_eq]
  exact congrArg (· * scale) (block_apply f hf T 0 (by decide) _ n)
theorem qm_apply (n : Fin 512) : (B.qm (ix2 r n) : EReal) = turned (fun n => f ⟨1536 + n.val, by omega⟩) cs sn n * scale := by
  rw [qm_eq]
  exact congrArg (· * scale) (block_apply f hf T 1536 (by decide) _ n)
omit T
theorem vd_apply (n : Fin 512) : (B.vd (ix2 r n) : EReal) = f ⟨1024 + n.val, by omega⟩ := by
  have e : B.vd = extractStridedSlice S512x512 ![0, 1024] B.proj slices_S512x3072_o0_1024_S512x512 := rfl
  rw [e, column_apply 1024 _ _ r n (by omega), hf]
theorem vm_apply (n : Fin 512) : (B.vm (ix2 r n) : EReal) = f ⟨2560 + n.val, by omega⟩ := by
  have e : B.vm = extractStridedSlice S512x512 ![0, 2560] B.proj slices_S512x3072_o0_2560_S512x512 := rfl
  rw [e, column_apply 2560 _ _ r n (by omega), hf]

end columns

/-! ## The blocks written -/

/-- A piece of a column as a strip. -/
theorem strip_apply (y : FVec Ideal S512x512 .f32) (o : ℕ) (hs : S512x512.Slices ![0, o] S512x128) (x : S1x512x128.Idx) (ho : o + (x 2).val < 512) :
    shapeCast S1x512x128 (extractStridedSlice S512x128 ![0, o] y hs) shapeCasts_S512x128_S1x512x128 x = y (ix2 (x 1) ⟨o + (x 2).val, ho⟩) := by
  refine (congrArg (shapeCast S1x512x128 (extractStridedSlice S512x128 ![0, o] y hs) shapeCasts_S512x128_S1x512x128) (eq_ix3 x)).trans ?_
  refine (shapeCast_ab_1ab_apply (a := 512) (b := 128) (extractStridedSlice S512x128 ![0, o] y hs) shapeCasts_S512x128_S1x512x128 (x 0) (x 1) (x 2)).trans ?_
  exact piece_apply y o hs (x 1) (x 2) ho

/-- Four strips of a column read, at a row of 128: number `128 h + l` of row `q`, for row `4 q + h`. -/
theorem strips_apply (y : FVec Ideal S512x512 .f32) (i : S1x2048x128.Idx) :
    View.canon (Val := Elt Ideal) (e := .f32) (strips (F := Ideal) (shapeCast S1x512x128 (extractStridedSlice S512x128 ![0, 384] y slices_S512x512_o0_384_S512x128) shapeCasts_S512x128_S1x512x128)
      (shapeCast S1x512x128 (extractStridedSlice S512x128 ![0, 256] y slices_S512x512_o0_256_S512x128) shapeCasts_S512x128_S1x512x128)
      (shapeCast S1x512x128 (extractStridedSlice S512x128 ![0, 128] y slices_S512x512_o0_128_S512x128) shapeCasts_S512x128_S1x512x128)
      (shapeCast S1x512x128 (extractStridedSlice S512x128 ![0, 0] y slices_S512x512_o0_0_S512x128) shapeCasts_S512x128_S1x512x128)) i
    = (y : S512x512.Idx → Elt Ideal .f32) (ix2 (⟨(i 1).val / 4, by have : (i 1).val < 2048 := (i 1).isLt; omega⟩ : Fin 512)
        (⟨128 * ((i 1).val % 4) + (i 2).val, by have : (i 2).val < 128 := (i 2).isLt; omega⟩ : Fin 512)) := by
  refine View.canon_eq_of_allAt _ i _ (strips_cover _ _ _ _ i) ?_
  have one : ∀ (k : ℕ) (hk : k < 4) (h) (hs : S512x512.Slices ![0, 128 * k] S512x128),
      View.RectAt (Val := Elt Ideal) (e := .f32) i (strip k h) (shapeCast S1x512x128 (extractStridedSlice S512x128 ![0, 128 * k] y hs) shapeCasts_S512x128_S1x512x128)
        (y (ix2 (⟨(i 1).val / 4, by have : (i 1).val < 2048 := (i 1).isLt; omega⟩ : Fin 512)
          (⟨128 * ((i 1).val % 4) + (i 2).val, by have : (i 2).val < 128 := (i 2).isLt; omega⟩ : Fin 512))) := by
    intro k hk h hs x hx
    have x1 : (x 1).val < 512 := (x 1).isLt
    have x2 : (x 2).val < 128 := (x 2).isLt
    have e1 : (i 1).val = k + 4 * (x 1).val := by rw [← hx]; rfl
    have e2 : (i 2).val = 0 + 1 * (x 2).val := by rw [← hx]; rfl
    refine (strip_apply y (128 * k) hs x (by omega)).trans (congrArg y ?_)
    have a1 : (x 1 : Fin 512) = ⟨(i 1).val / 4, by omega⟩ := Fin.ext (by show (x 1).val = (i 1).val / 4; omega)
    have a2 : (⟨128 * k + (x 2).val, by omega⟩ : Fin 512) = ⟨128 * ((i 1).val % 4) + (i 2).val, by omega⟩ :=
      Fin.ext (by show 128 * k + (x 2).val = 128 * ((i 1).val % 4) + (i 2).val; omega)
    exact congrArg₂ ix2 a1 a2
  exact View.allAt_cons _ _ _ (one 3 (by decide) _ _) (View.allAt_cons _ _ _ (one 2 (by decide) _ _)
    (View.allAt_cons _ _ _ (one 1 (by decide) _ _) (View.allAt_cons _ _ _ (one 0 (by decide) _ _) (View.allAt_nil _ _))))

/-- The gated heads' keys and values, -/
theorem outKd_apply (i : S1x2048x128.Idx) : outKd B i
    = B.kd (ix2 (⟨(i 1).val / 4, by have : (i 1).val < 2048 := (i 1).isLt; omega⟩ : Fin 512)
        (⟨128 * ((i 1).val % 4) + (i 2).val, by have : (i 2).val < 128 := (i 2).isLt; omega⟩ : Fin 512)) := strips_apply B.kd i
theorem outVd_apply (i : S1x2048x128.Idx) : outVd B i
    = B.vd (ix2 (⟨(i 1).val / 4, by have : (i 1).val < 2048 := (i 1).isLt; omega⟩ : Fin 512)
        (⟨128 * ((i 1).val % 4) + (i 2).val, by have : (i 2).val < 128 := (i 2).isLt; omega⟩ : Fin 512)) := strips_apply B.vd i

/-- the other heads' keys, values and queries, -/
theorem outKm_apply (u : Fin 1) (r n : Fin 512) : outKm B (ix3 u r n) = B.km (ix2 r n) := by
  have e : outKm B = k0_pay32 B.km := by
    unfold outKm
    exact View.canon_cons_unit_lit (Val := Elt Ideal) (S := S1x512x512) (e := .f32) (off := ![0, 0, 0]) inb_S1x512x512_S1x512x512_0_0_0 (k0_pay32 B.km) [] (by decide)
  rw [e]
  exact shapeCast_ab_1ab_apply (a := 512) (b := 512) B.km shapeCasts_S512x512_S1x512x512 u r n
theorem outVm_apply (u : Fin 1) (r n : Fin 512) : outVm B (ix3 u r n) = B.vm (ix2 r n) := by
  have e : outVm B = k0_pay33 B.vm := by
    unfold outVm
    exact View.canon_cons_unit_lit (Val := Elt Ideal) (S := S1x512x512) (e := .f32) (off := ![0, 0, 0]) inb_S1x512x512_S1x512x512_0_0_0 (k0_pay33 B.vm) [] (by decide)
  rw [e]
  exact shapeCast_ab_1ab_apply (a := 512) (b := 512) B.vm shapeCasts_S512x512_S1x512x512 u r n
theorem outQm_apply (u : Fin 1) (r n : Fin 512) : outQm B (ix3 u r n) = B.qm (ix2 r n) := by
  have e : outQm B = k0_pay34 B.qm := by
    unfold outQm
    exact View.canon_cons_unit_lit (Val := Elt Ideal) (S := S1x512x512) (e := .f32) (off := ![0, 0, 0]) inb_S1x512x512_S1x512x512_0_0_0 (k0_pay34 B.qm) [] (by decide)
  rw [e]
  exact shapeCast_ab_1ab_apply (a := 512) (b := 512) B.qm shapeCasts_S512x512_S1x512x512 u r n

/-- and the gated heads' queries, in columns. -/
theorem outQdT_apply (u : Fin 1) (n r : Fin 512) : (outQdT B (ix3 u n r) : EReal) = B.qd (ix2 r n) := by
  have e : outQdT B = k0_pay35 B.qd := by
    unfold outQdT
    exact View.canon_cons_unit_lit (Val := Elt Ideal) (S := S1x512x512) (e := .bf16) (off := ![0, 0, 0]) inb_S1x512x512_S1x512x512_0_0_0 (k0_pay35 B.qd) [] (by decide)
  rw [e]
  refine (shapeCast_ab_1ab_apply (a := 512) (b := 512) (truncf .bf16 (transpose S512x512 [1, 0] B.qd transposes_S512x512_p1_0_S512x512) bitsLt_bf16_f32 : FVec Ideal S512x512 .bf16)
    shapeCasts_S512x512_S1x512x512 u n r).trans ?_
  exact transpose_apply [1, 0] B.qd transposes_S512x512_p1_0_S512x512 (ix2 n r) (ix2 r n) (fun b => by
    match b with
    | ⟨0, _⟩ => exact rfl
    | ⟨1, _⟩ => exact rfl)

end Cert.Kernel2Ideal.Qkv

end
-- ==== Proof.Qkv.Array.lean ====
/- The projection's result arrays, from the arguments.

   Point `t` reads, of sequence `t / 16`, the rows `512 (t % 16)` to `512 (t % 16) + 511` and the same rows of the tables, and
   writes those rows of each result. -/
module

public import proofs.«01_k».proof.Proof.Qkv.Tables
public import proofs.«01_k».proof.Proof.Qkv.Value

@[expose] public section

set_option maxRecDepth 16384

noncomputable section

namespace Cert.Kernel2Ideal.Qkv

open Cert.Kernel2Ideal Cert.Kernel2Ideal.Gen Cert.Qkv
open Idealize.ShloMosaic Idealize.ShloMosaic.TcCoe Idealize.ShloMosaic.ValueIdx

variable (m : (ℓ : Loc nD τ sig) → Buf (Elt Ideal) ℓ)

/-- The arguments on core `c`: rows, scale, shift, the norm's weights, the projection matrix. -/
abbrev argX (c : Dev nD) : S8x8192x1024.Idx → EReal := m ((c : Thread nD τ).loc main_arg0)
abbrev argS (c : Dev nD) : S8x1024.Idx → EReal := m ((c : Thread nD τ).loc main_arg1)
abbrev argH (c : Dev nD) : S8x1024.Idx → EReal := m ((c : Thread nD τ).loc main_arg2)
abbrev argG (c : Dev nD) : S1024.Idx → EReal := m ((c : Thread nD τ).loc main_arg3)
abbrev argW (c : Dev nD) : S1024x3072.Idx → EReal := m ((c : Thread nD τ).loc main_arg4)

/-! ## A point's blocks -/

theorem lt_N (t : Fin cfg0.N) : t.val < 128 := t.isLt

/-- A point's sequence, and its place in it. -/
theorem coord0 (t : Fin grid0.N) : (grid0.coords t 0).val = t.val / 16 := by
  have h : t.val < 128 := t.isLt
  show t.val / 16 % 8 = t.val / 16
  omega
theorem coord1 (t : Fin grid0.N) : (grid0.coords t 1).val = t.val % 16 := by
  show t.val / 1 % 16 = t.val % 16
  omega

/-- The same as words. -/
theorem word0 (t : Fin grid0.N) : (BitVec.ofNat 32 (grid0.coords t 0).val).toNat = t.val / 16 := by
  have h : t.val < 128 := t.isLt
  rw [coord0, BitVec.toNat_ofNat]
  omega
theorem word1 (t : Fin grid0.N) : (BitVec.ofNat 32 (grid0.coords t 1).val).toNat = t.val % 16 := by
  rw [coord1, BitVec.toNat_ofNat]
  omega

/-- A point's sequence. -/
abbrev seq (t : Fin cfg0.N) : Fin 8 := ⟨t.val / 16, by have := lt_N t; omega⟩
/-- The position of a row of its block. -/
abbrev pos (t : Fin cfg0.N) (r : Fin 512) : Fin 8192 := ⟨512 * (t.val % 16) + r.val, by omega⟩

/-- The rows a point reads, -/
theorem block_x (c : Dev nD) (t : Fin cfg0.N) (r : Fin 512) (k : Fin 1024) :
    ((ins m c t).x (ix3 (0 : Fin 1) r k) : EReal) = argX m c (ix3 (seq t) (pos t r) k) := by
  refine Eq.trans ?_ (congrFun (V_arg0 m c) _)
  show V m c main_arg0 _ = V m c main_arg0 _
  refine congrArg _ (funext fun a => Fin.ext ?_)
  match a with
  | ⟨0, _⟩ => show (BitVec.ofNat 32 (grid0.coords t 0).val).toNat * 1 + 1 * 0 = t.val / 16; rw [word0]; omega
  | ⟨1, _⟩ => show (BitVec.ofNat 32 (grid0.coords t 1).val).toNat * 512 + 1 * r.val = 512 * (t.val % 16) + r.val; rw [word1]; omega
  | ⟨2, _⟩ => show 0 * 1024 + 1 * k.val = k.val; omega
/-- the sequence's scale, -/
theorem block_sc (c : Dev nD) (t : Fin cfg0.N) (k : Fin 1024) :
    ((ins m c t).sc (ix3 (0 : Fin 1) (0 : Fin 1) k) : EReal) = argS m c (ix2 (seq t) k) := by
  refine Eq.trans (b := (V m c main_v53 : S8x1x1024.Idx → EReal) (ix3 (seq t) (0 : Fin 1) k)) ?_ ((V_sc m c (seq t) k).trans (congrFun (V_arg1 m c) _))
  show V m c main_v53 _ = V m c main_v53 _
  refine congrArg _ (funext fun a => Fin.ext ?_)
  match a with
  | ⟨0, _⟩ => show (BitVec.ofNat 32 (grid0.coords t 0).val).toNat * 1 + 1 * 0 = t.val / 16; rw [word0]; omega
  | ⟨1, _⟩ => show 0 * 1 + 1 * 0 = 0; omega
  | ⟨2, _⟩ => show 0 * 1024 + 1 * k.val = k.val; omega
/-- the sequence's shift, -/
theorem block_sh (c : Dev nD) (t : Fin cfg0.N) (k : Fin 1024) :
    ((ins m c t).sh (ix3 (0 : Fin 1) (0 : Fin 1) k) : EReal) = argH m c (ix2 (seq t) k) := by
  refine Eq.trans (b := (V m c main_v54 : S8x1x1024.Idx → EReal) (ix3 (seq t) (0 : Fin 1) k)) ?_ ((V_sh m c (seq t) k).trans (congrFun (V_arg2 m c) _))
  show V m c main_v54 _ = V m c main_v54 _
  refine congrArg _ (funext fun a => Fin.ext ?_)
  match a with
  | ⟨0, _⟩ => show (BitVec.ofNat 32 (grid0.coords t 0).val).toNat * 1 + 1 * 0 = t.val / 16; rw [word0]; omega
  | ⟨1, _⟩ => show 0 * 1 + 1 * 0 = 0; omega
  | ⟨2, _⟩ => show 0 * 1024 + 1 * k.val = k.val; omega
/-- the norm's weights, -/
theorem block_g (c : Dev nD) (t : Fin cfg0.N) (k : Fin 1024) : ((ins m c t).g (ix2 (0 : Fin 1) k) : EReal) = argG m c (ix1 k) := by
  refine Eq.trans (b := (V m c main_v56 : S1x1024.Idx → EReal) (ix2 (0 : Fin 1) k)) ?_ ((V_g m c k).trans (congrFun (V_arg3 m c) _))
  show V m c main_v56 _ = V m c main_v56 _
  refine congrArg _ (funext fun a => Fin.ext ?_)
  match a with
  | ⟨0, _⟩ => show 0 * 1 + 1 * 0 = 0; omega
  | ⟨1, _⟩ => show 0 * 1024 + 1 * k.val = k.val; omega
/-- the projection matrix, -/
theorem block_w (c : Dev nD) (t : Fin cfg0.N) (k : Fin 1024) (n : Fin 3072) : ((ins m c t).w (ix2 k n) : EReal) = argW m c (ix2 k n) := by
  refine Eq.trans (b := (V m c main_v55 : S1024x3072.Idx → EReal) (ix2 k n)) ?_ ((V_w m c _).trans (congrFun (V_arg4 m c) _))
  show V m c main_v55 _ = V m c main_v55 _
  refine congrArg _ (funext fun a => Fin.ext ?_)
  match a with
  | ⟨0, _⟩ => show 0 * 1024 + 1 * k.val = k.val; omega
  | ⟨1, _⟩ => show 0 * 3072 + 1 * n.val = n.val; omega
/-- and its rows of the tables. -/
theorem block_tc (c : Dev nD) (t : Fin cfg0.N) (r : Fin 512) (l : Fin 128) :
    ((ins m c t).tc (ix2 r l) : EReal) = (V m c main_v28 : S8192x128.Idx → EReal) (ix2 (pos t r) l) := by
  have h : ∀ T : S8192x128.Idx → EReal, ((((cfg0.win 5).blk t).view.read (Elt Ideal) T : S512x128.Idx → EReal) (ix2 r l)) = T (ix2 (pos t r) l) := fun T => by
    show T _ = T _
    refine congrArg _ (funext fun a => Fin.ext ?_)
    match a with
    | ⟨0, _⟩ => show (BitVec.ofNat 32 (grid0.coords t 1).val).toNat * 512 + 1 * r.val = 512 * (t.val % 16) + r.val; rw [word1]; omega
    | ⟨1, _⟩ => show 0 * 128 + 1 * l.val = l.val; omega
  exact h (V m c main_v28)
theorem block_ta (c : Dev nD) (t : Fin cfg0.N) (r : Fin 512) (l : Fin 128) :
    ((ins m c t).ta (ix2 r l) : EReal) = (V m c main_v39 : S8192x128.Idx → EReal) (ix2 (pos t r) l) := by
  have h : ∀ T : S8192x128.Idx → EReal, ((((cfg0.win 6).blk t).view.read (Elt Ideal) T : S512x128.Idx → EReal) (ix2 r l)) = T (ix2 (pos t r) l) := fun T => by
    show T _ = T _
    refine congrArg _ (funext fun a => Fin.ext ?_)
    match a with
    | ⟨0, _⟩ => show (BitVec.ofNat 32 (grid0.coords t 1).val).toNat * 512 + 1 * r.val = 512 * (t.val % 16) + r.val; rw [word1]; omega
    | ⟨1, _⟩ => show 0 * 128 + 1 * l.val = l.val; omega
  exact h (V m c main_v39)
theorem block_tb (c : Dev nD) (t : Fin cfg0.N) (r : Fin 512) (l : Fin 128) :
    ((ins m c t).tb (ix2 r l) : EReal) = (V m c main_v52 : S8192x128.Idx → EReal) (ix2 (pos t r) l) := by
  have h : ∀ T : S8192x128.Idx → EReal, ((((cfg0.win 7).blk t).view.read (Elt Ideal) T : S512x128.Idx → EReal) (ix2 r l)) = T (ix2 (pos t r) l) := fun T => by
    show T _ = T _
    refine congrArg _ (funext fun a => Fin.ext ?_)
    match a with
    | ⟨0, _⟩ => show (BitVec.ofNat 32 (grid0.coords t 1).val).toNat * 512 + 1 * r.val = 512 * (t.val % 16) + r.val; rw [word1]; omega
    | ⟨1, _⟩ => show 0 * 128 + 1 * l.val = l.val; omega
  exact h (V m c main_v52)

/-- A row of the tables' blocks turns by the row's position. -/
theorem turns (c : Dev nD) (t : Fin cfg0.N) (r : Fin 512) :
    Turns (ins m c t).c (ins m c t).sa (ins m c t).sb r (cosine (pos t r)) (sine (pos t r)) := by
  have e : ∀ T : Vec Ideal S512x128 .f32, View.ld T rt = T := fun T => View.ld_unit_lit (S := S512x128) inb_S512x128_S512x128_0_0 T (by decide)
  have ec : (ins m c t).c = (ins m c t).tc := by unfold Ins.c k0_pay3; exact Eq.trans (shapeCast_self (s := S512x128) _ _) (e _)
  have ea : (ins m c t).sa = (ins m c t).ta := by unfold Ins.sa k0_pay4; exact Eq.trans (shapeCast_self (s := S512x128) _ _) (e _)
  have eb : (ins m c t).sb = (ins m c t).tb := by unfold Ins.sb k0_pay5; exact Eq.trans (shapeCast_self (s := S512x128) _ _) (e _)
  refine ⟨fun l => ?_, fun l => ?_, fun l => ?_⟩
  · rw [ec]; exact (block_tc m c t r l).trans (V_c m c _ l)
  · rw [ea]; exact (block_ta m c t r l).trans (V_sa m c _ l)
  · rw [eb]; exact (block_tb m c t r l).trans (V_sb m c _ l)

/-- A row of a point's projection is the projection of the row. -/
theorem point_proj (c : Dev nD) (t : Fin cfg0.N) (r : Fin 512) (n : Fin 3072) :
    ((ins m c t).proj (ix2 r n) : EReal) = proj (argX m c) (argS m c) (argH m c) (argG m c) (argW m c) (seq t) (pos t r) n := by
  refine (proj_apply (ins m c t) r n).trans ?_
  unfold proj
  refine congr (congr (congr (congr (congrArg projected (funext fun k => ?_)) (funext fun k => ?_)) (funext fun k => ?_)) (funext fun k => ?_)) (funext fun k => ?_)
  · exact block_x m c t r k
  · exact block_g m c t k
  · exact block_sc m c t k
  · exact block_sh m c t k
  · exact block_w m c t k n

/-! ## The points cover the results -/

/-- A window whose block changes from point to point is written back at each. -/
theorem flush_all (f : grid0.Coords → Fin 3 → ℕ) (hf : ∀ t t' : Fin grid0.N, f (grid0.coords t) = f (grid0.coords t') → t.val = t'.val) (t : Fin grid0.N) :
    Pipeline.Window.flushOf grid0 true f t = true := by
  unfold Pipeline.Window.flushOf
  by_cases h1 : t.val + 1 = grid0.N
  · simp [h1]
  · have h2 : t.val + 1 < grid0.N := by have : t.val < grid0.N := t.isLt; omega
    have h3 : f (grid0.coords ⟨t.val + 1, h2⟩) ≠ f (grid0.coords t) := fun e => absurd (hf _ _ e) (Nat.succ_ne_self _)
    rw [decide_eq_true (⟨h2, h3⟩ : ∃ h, _)]
    simp

/-- A point by its sequence and its place. -/
theorem point_lt {b i : ℕ} (hb : b < 8) (hi : i < 16) : 16 * b + i < grid0.N := by
  show 16 * b + i < 128
  omega

/-- Each result's blocks are written back and cover it. -/
theorem covers8 : (cfg0.win 8).Covers := by
  have hinj : ∀ t t' : Fin grid0.N, cc0_transform_8 (grid0.coords t) = cc0_transform_8 (grid0.coords t') → t.val = t'.val := fun t t' e => by
    have e0 : (BitVec.ofNat 32 (grid0.coords t 0).val).toNat = (BitVec.ofNat 32 (grid0.coords t' 0).val).toNat := congrFun e 0
    have e1 : (BitVec.ofNat 32 (grid0.coords t 1).val).toNat = (BitVec.ofNat 32 (grid0.coords t' 1).val).toNat := congrFun e 1
    rw [word0, word0] at e0
    rw [word1, word1] at e1
    omega
  refine ⟨fun a => ?_, fun β => ?_⟩
  · match a with
    | ⟨0, _⟩ => show 0 < 1; decide
    | ⟨1, _⟩ => show 0 < 2048; decide
    | ⟨2, _⟩ => show 0 < 128; decide
  have h0 : (β (0 : Fin 3)).val < (8 + 1 - 1) / 1 := (β (0 : Fin 3)).isLt
  have h1 : (β (1 : Fin 3)).val < (32768 + 2048 - 1) / 2048 := (β (1 : Fin 3)).isLt
  have h2 : (β (2 : Fin 3)).val < (128 + 128 - 1) / 128 := (β (2 : Fin 3)).isLt
  have hb : (β (0 : Fin 3)).val < 8 := by omega
  have hi : (β (1 : Fin 3)).val < 16 := by omega
  refine ⟨⟨16 * (β (0 : Fin 3)).val + (β (1 : Fin 3)).val, point_lt hb hi⟩, flush_all cc0_transform_8 hinj _, fun a => ⟨?_, .inl rfl⟩⟩
  · match a with
    | ⟨0, _⟩ => exact (word0 _).trans (show (16 * (β (0 : Fin 3)).val + (β (1 : Fin 3)).val) / 16 = (β (0 : Fin 3)).val by omega)
    | ⟨1, _⟩ => exact (word1 _).trans (show (16 * (β (0 : Fin 3)).val + (β (1 : Fin 3)).val) % 16 = (β (1 : Fin 3)).val by omega)
    | ⟨2, _⟩ => exact show 0 = (β (2 : Fin 3)).val by omega

theorem covers9 : (cfg0.win 9).Covers := by
  have hinj : ∀ t t' : Fin grid0.N, cc0_transform_9 (grid0.coords t) = cc0_transform_9 (grid0.coords t') → t.val = t'.val := fun t t' e => by
    have e0 : (BitVec.ofNat 32 (grid0.coords t 0).val).toNat = (BitVec.ofNat 32 (grid0.coords t' 0).val).toNat := congrFun e 0
    have e1 : (BitVec.ofNat 32 (grid0.coords t 1).val).toNat = (BitVec.ofNat 32 (grid0.coords t' 1).val).toNat := congrFun e 1
    rw [word0, word0] at e0
    rw [word1, word1] at e1
    omega
  refine ⟨fun a => ?_, fun β => ?_⟩
  · match a with
    | ⟨0, _⟩ => show 0 < 1; decide
    | ⟨1, _⟩ => show 0 < 2048; decide
    | ⟨2, _⟩ => show 0 < 128; decide
  have h0 : (β (0 : Fin 3)).val < (8 + 1 - 1) / 1 := (β (0 : Fin 3)).isLt
  have h1 : (β (1 : Fin 3)).val < (32768 + 2048 - 1) / 2048 := (β (1 : Fin 3)).isLt
  have h2 : (β (2 : Fin 3)).val < (128 + 128 - 1) / 128 := (β (2 : Fin 3)).isLt
  have hb : (β (0 : Fin 3)).val < 8 := by omega
  have hi : (β (1 : Fin 3)).val < 16 := by omega
  refine ⟨⟨16 * (β (0 : Fin 3)).val + (β (1 : Fin 3)).val, point_lt hb hi⟩, flush_all cc0_transform_9 hinj _, fun a => ⟨?_, .inl rfl⟩⟩
  · match a with
    | ⟨0, _⟩ => exact (word0 _).trans (show (16 * (β (0 : Fin 3)).val + (β (1 : Fin 3)).val) / 16 = (β (0 : Fin 3)).val by omega)
    | ⟨1, _⟩ => exact (word1 _).trans (show (16 * (β (0 : Fin 3)).val + (β (1 : Fin 3)).val) % 16 = (β (1 : Fin 3)).val by omega)
    | ⟨2, _⟩ => exact show 0 = (β (2 : Fin 3)).val by omega

theorem covers10 : (cfg0.win 10).Covers := by
  have hinj : ∀ t t' : Fin grid0.N, cc0_transform_10 (grid0.coords t) = cc0_transform_10 (grid0.coords t') → t.val = t'.val := fun t t' e => by
    have e0 : (BitVec.ofNat 32 (grid0.coords t 0).val).toNat = (BitVec.ofNat 32 (grid0.coords t' 0).val).toNat := congrFun e 0
    have e1 : (BitVec.ofNat 32 (grid0.coords t 1).val).toNat = (BitVec.ofNat 32 (grid0.coords t' 1).val).toNat := congrFun e 1
    rw [word0, word0] at e0
    rw [word1, word1] at e1
    omega
  refine ⟨fun a => ?_, fun β => ?_⟩
  · match a with
    | ⟨0, _⟩ => show 0 < 1; decide
    | ⟨1, _⟩ => show 0 < 512; decide
    | ⟨2, _⟩ => show 0 < 512; decide
  have h0 : (β (0 : Fin 3)).val < (8 + 1 - 1) / 1 := (β (0 : Fin 3)).isLt
  have h1 : (β (1 : Fin 3)).val < (8192 + 512 - 1) / 512 := (β (1 : Fin 3)).isLt
  have h2 : (β (2 : Fin 3)).val < (512 + 512 - 1) / 512 := (β (2 : Fin 3)).isLt
  have hb : (β (0 : Fin 3)).val < 8 := by omega
  have hi : (β (1 : Fin 3)).val < 16 := by omega
  refine ⟨⟨16 * (β (0 : Fin 3)).val + (β (1 : Fin 3)).val, point_lt hb hi⟩, flush_all cc0_transform_10 hinj _, fun a => ⟨?_, .inl rfl⟩⟩
  · match a with
    | ⟨0, _⟩ => exact (word0 _).trans (show (16 * (β (0 : Fin 3)).val + (β (1 : Fin 3)).val) / 16 = (β (0 : Fin 3)).val by omega)
    | ⟨1, _⟩ => exact (word1 _).trans (show (16 * (β (0 : Fin 3)).val + (β (1 : Fin 3)).val) % 16 = (β (1 : Fin 3)).val by omega)
    | ⟨2, _⟩ => exact show 0 = (β (2 : Fin 3)).val by omega

theorem covers11 : (cfg0.win 11).Covers := by
  have hinj : ∀ t t' : Fin grid0.N, cc0_transform_11 (grid0.coords t) = cc0_transform_11 (grid0.coords t') → t.val = t'.val := fun t t' e => by
    have e0 : (BitVec.ofNat 32 (grid0.coords t 0).val).toNat = (BitVec.ofNat 32 (grid0.coords t' 0).val).toNat := congrFun e 0
    have e1 : (BitVec.ofNat 32 (grid0.coords t 1).val).toNat = (BitVec.ofNat 32 (grid0.coords t' 1).val).toNat := congrFun e 1
    rw [word0, word0] at e0
    rw [word1, word1] at e1
    omega
  refine ⟨fun a => ?_, fun β => ?_⟩
  · match a with
    | ⟨0, _⟩ => show 0 < 1; decide
    | ⟨1, _⟩ => show 0 < 512; decide
    | ⟨2, _⟩ => show 0 < 512; decide
  have h0 : (β (0 : Fin 3)).val < (8 + 1 - 1) / 1 := (β (0 : Fin 3)).isLt
  have h1 : (β (1 : Fin 3)).val < (8192 + 512 - 1) / 512 := (β (1 : Fin 3)).isLt
  have h2 : (β (2 : Fin 3)).val < (512 + 512 - 1) / 512 := (β (2 : Fin 3)).isLt
  have hb : (β (0 : Fin 3)).val < 8 := by omega
  have hi : (β (1 : Fin 3)).val < 16 := by omega
  refine ⟨⟨16 * (β (0 : Fin 3)).val + (β (1 : Fin 3)).val, point_lt hb hi⟩, flush_all cc0_transform_11 hinj _, fun a => ⟨?_, .inl rfl⟩⟩
  · match a with
    | ⟨0, _⟩ => exact (word0 _).trans (show (16 * (β (0 : Fin 3)).val + (β (1 : Fin 3)).val) / 16 = (β (0 : Fin 3)).val by omega)
    | ⟨1, _⟩ => exact (word1 _).trans (show (16 * (β (0 : Fin 3)).val + (β (1 : Fin 3)).val) % 16 = (β (1 : Fin 3)).val by omega)
    | ⟨2, _⟩ => exact show 0 = (β (2 : Fin 3)).val by omega

theorem covers12 : (cfg0.win 12).Covers := by
  have hinj : ∀ t t' : Fin grid0.N, cc0_transform_12 (grid0.coords t) = cc0_transform_12 (grid0.coords t') → t.val = t'.val := fun t t' e => by
    have e0 : (BitVec.ofNat 32 (grid0.coords t 0).val).toNat = (BitVec.ofNat 32 (grid0.coords t' 0).val).toNat := congrFun e 0
    have e1 : (BitVec.ofNat 32 (grid0.coords t 1).val).toNat = (BitVec.ofNat 32 (grid0.coords t' 1).val).toNat := congrFun e 1
    rw [word0, word0] at e0
    rw [word1, word1] at e1
    omega
  refine ⟨fun a => ?_, fun β => ?_⟩
  · match a with
    | ⟨0, _⟩ => show 0 < 1; decide
    | ⟨1, _⟩ => show 0 < 512; decide
    | ⟨2, _⟩ => show 0 < 512; decide
  have h0 : (β (0 : Fin 3)).val < (8 + 1 - 1) / 1 := (β (0 : Fin 3)).isLt
  have h1 : (β (1 : Fin 3)).val < (8192 + 512 - 1) / 512 := (β (1 : Fin 3)).isLt
  have h2 : (β (2 : Fin 3)).val < (512 + 512 - 1) / 512 := (β (2 : Fin 3)).isLt
  have hb : (β (0 : Fin 3)).val < 8 := by omega
  have hi : (β (1 : Fin 3)).val < 16 := by omega
  refine ⟨⟨16 * (β (0 : Fin 3)).val + (β (1 : Fin 3)).val, point_lt hb hi⟩, flush_all cc0_transform_12 hinj _, fun a => ⟨?_, .inl rfl⟩⟩
  · match a with
    | ⟨0, _⟩ => exact (word0 _).trans (show (16 * (β (0 : Fin 3)).val + (β (1 : Fin 3)).val) / 16 = (β (0 : Fin 3)).val by omega)
    | ⟨1, _⟩ => exact (word1 _).trans (show (16 * (β (0 : Fin 3)).val + (β (1 : Fin 3)).val) % 16 = (β (1 : Fin 3)).val by omega)
    | ⟨2, _⟩ => exact show 0 = (β (2 : Fin 3)).val by omega

theorem covers13 : (cfg0.win 13).Covers := by
  have hinj : ∀ t t' : Fin grid0.N, cc0_transform_13 (grid0.coords t) = cc0_transform_13 (grid0.coords t') → t.val = t'.val := fun t t' e => by
    have e0 : (BitVec.ofNat 32 (grid0.coords t 0).val).toNat = (BitVec.ofNat 32 (grid0.coords t' 0).val).toNat := congrFun e 0
    have e1 : (BitVec.ofNat 32 (grid0.coords t 1).val).toNat = (BitVec.ofNat 32 (grid0.coords t' 1).val).toNat := congrFun e 2
    rw [word0, word0] at e0
    rw [word1, word1] at e1
    omega
  refine ⟨fun a => ?_, fun β => ?_⟩
  · match a with
    | ⟨0, _⟩ => show 0 < 1; decide
    | ⟨1, _⟩ => show 0 < 512; decide
    | ⟨2, _⟩ => show 0 < 512; decide
  have h0 : (β (0 : Fin 3)).val < (8 + 1 - 1) / 1 := (β (0 : Fin 3)).isLt
  have h1 : (β (1 : Fin 3)).val < (512 + 512 - 1) / 512 := (β (1 : Fin 3)).isLt
  have h2 : (β (2 : Fin 3)).val < (8192 + 512 - 1) / 512 := (β (2 : Fin 3)).isLt
  have hb : (β (0 : Fin 3)).val < 8 := by omega
  have hi : (β (2 : Fin 3)).val < 16 := by omega
  refine ⟨⟨16 * (β (0 : Fin 3)).val + (β (2 : Fin 3)).val, point_lt hb hi⟩, flush_all cc0_transform_13 hinj _, fun a => ⟨?_, .inl rfl⟩⟩
  · match a with
    | ⟨0, _⟩ => exact (word0 _).trans (show (16 * (β (0 : Fin 3)).val + (β (2 : Fin 3)).val) / 16 = (β (0 : Fin 3)).val by omega)
    | ⟨1, _⟩ => exact show 0 = (β (1 : Fin 3)).val by omega
    | ⟨2, _⟩ => exact (word1 _).trans (show (16 * (β (0 : Fin 3)).val + (β (2 : Fin 3)).val) % 16 = (β (2 : Fin 3)).val by omega)

/-! ## The result arrays -/

section finals

variable (c : Dev nD)

/-- The point's projection, as the columns' lemmas take it. -/
theorem point_row (t : Fin cfg0.N) (r : Fin 512) : ∀ n, ((ins m c t).proj (ix2 r n) : EReal)
    = (fun n => proj (argX m c) (argS m c) (argH m c) (argG m c) (argW m c) (seq t) (pos t r) n) n := fun n => point_proj m c t r n

/-- THE GATED HEADS' KEYS. -/
theorem final8 : (dats m 0 c).arrAt 8 cfg0.N = keysD (argX m c) (argS m c) (argH m c) (argG m c) (argW m c) := by
  refine (dats m 0 c).arrAt_eq_of_covers 8 _ covers8 fun t hf y => ?_
  show (dats m 0 c).after 8 t y = _
  rw [after8]
  obtain ⟨u, p, l, rfl⟩ : ∃ (u : Fin 1) (p : Fin 2048) (l : Fin 128), y = ix3 u p l := ⟨y (0 : Fin 3), y (1 : Fin 3), y (2 : Fin 3), eq_ix3 y⟩
  have ht : t.val < 128 := lt_N t
  have hu : u.val = 0 := by omega
  have hi : ((cfg0.win 8).blk t).view.emb (ix3 u p l) = ix3 (seq t) (⟨2048 * (t.val % 16) + p.val, by omega⟩ : Fin 32768) l := by
    funext a
    refine Fin.ext ?_
    match a with
    | ⟨0, _⟩ => show (BitVec.ofNat 32 (grid0.coords t 0).val).toNat * 1 + 1 * u.val = t.val / 16; rw [word0]; omega
    | ⟨1, _⟩ => show (BitVec.ofNat 32 (grid0.coords t 1).val).toNat * 2048 + 1 * p.val = 2048 * (t.val % 16) + p.val; rw [word1]; omega
    | ⟨2, _⟩ => show 0 * 128 + 1 * l.val = l.val; omega
  refine (outKd_apply _ _).trans ((kd_apply (turns m c t _) _ (point_row m c t _) _).trans (Eq.trans ?_ (congrArg _ hi.symm)))
  unfold keysD inStrips
  show rotated (argX m c) (argS m c) (argH m c) (argG m c) (argW m c) 512 (by decide) (seq t) (pos t (⟨p.val / 4, by omega⟩ : Fin 512)) (⟨128 * (p.val % 4) + l.val, by omega⟩ : Fin 512) = rotated (argX m c) (argS m c) (argH m c) (argG m c) (argW m c) 512 (by decide) (seq t) _ _
  have e1 : pos t (⟨p.val / 4, by omega⟩ : Fin 512) = (⟨(2048 * (t.val % 16) + p.val) / 4, by omega⟩ : Fin 8192) :=
    Fin.ext (by show 512 * (t.val % 16) + p.val / 4 = (2048 * (t.val % 16) + p.val) / 4; omega)
  have e2 : (⟨128 * (p.val % 4) + l.val, by omega⟩ : Fin 512) = ⟨128 * ((2048 * (t.val % 16) + p.val) % 4) + l.val, by omega⟩ :=
    Fin.ext (by show 128 * (p.val % 4) + l.val = 128 * ((2048 * (t.val % 16) + p.val) % 4) + l.val; omega)
  rw [e1, e2]

/-- THE GATED HEADS' VALUES. -/
theorem final9 : (dats m 0 c).arrAt 9 cfg0.N = valuesD (argX m c) (argS m c) (argH m c) (argG m c) (argW m c) := by
  refine (dats m 0 c).arrAt_eq_of_covers 9 _ covers9 fun t hf y => ?_
  show (dats m 0 c).after 9 t y = _
  rw [after9]
  obtain ⟨u, p, l, rfl⟩ : ∃ (u : Fin 1) (p : Fin 2048) (l : Fin 128), y = ix3 u p l := ⟨y (0 : Fin 3), y (1 : Fin 3), y (2 : Fin 3), eq_ix3 y⟩
  have ht : t.val < 128 := lt_N t
  have hu : u.val = 0 := by omega
  have hi : ((cfg0.win 9).blk t).view.emb (ix3 u p l) = ix3 (seq t) (⟨2048 * (t.val % 16) + p.val, by omega⟩ : Fin 32768) l := by
    funext a
    refine Fin.ext ?_
    match a with
    | ⟨0, _⟩ => show (BitVec.ofNat 32 (grid0.coords t 0).val).toNat * 1 + 1 * u.val = t.val / 16; rw [word0]; omega
    | ⟨1, _⟩ => show (BitVec.ofNat 32 (grid0.coords t 1).val).toNat * 2048 + 1 * p.val = 2048 * (t.val % 16) + p.val; rw [word1]; omega
    | ⟨2, _⟩ => show 0 * 128 + 1 * l.val = l.val; omega
  refine (outVd_apply _ _).trans ((vd_apply _ (point_row m c t _) _).trans (Eq.trans ?_ (congrArg _ hi.symm)))
  unfold valuesD inStrips
  show plain (argX m c) (argS m c) (argH m c) (argG m c) (argW m c) 1024 (by decide) (seq t) (pos t (⟨p.val / 4, by omega⟩ : Fin 512)) (⟨128 * (p.val % 4) + l.val, by omega⟩ : Fin 512) = plain (argX m c) (argS m c) (argH m c) (argG m c) (argW m c) 1024 (by decide) (seq t) _ _
  have e1 : pos t (⟨p.val / 4, by omega⟩ : Fin 512) = (⟨(2048 * (t.val % 16) + p.val) / 4, by omega⟩ : Fin 8192) :=
    Fin.ext (by show 512 * (t.val % 16) + p.val / 4 = (2048 * (t.val % 16) + p.val) / 4; omega)
  have e2 : (⟨128 * (p.val % 4) + l.val, by omega⟩ : Fin 512) = ⟨128 * ((2048 * (t.val % 16) + p.val) % 4) + l.val, by omega⟩ :=
    Fin.ext (by show 128 * (p.val % 4) + l.val = 128 * ((2048 * (t.val % 16) + p.val) % 4) + l.val; omega)
  rw [e1, e2]

/-- THE OTHER HEADS' KEYS. -/
theorem final10 : (dats m 0 c).arrAt 10 cfg0.N = keysM (argX m c) (argS m c) (argH m c) (argG m c) (argW m c) := by
  refine (dats m 0 c).arrAt_eq_of_covers 10 _ covers10 fun t hf y => ?_
  show (dats m 0 c).after 10 t y = _
  rw [after10]
  obtain ⟨u, p, q, rfl⟩ : ∃ (u : Fin 1) (p q : Fin 512), y = ix3 u p q := ⟨y (0 : Fin 3), y (1 : Fin 3), y (2 : Fin 3), eq_ix3 y⟩
  have hi : ((cfg0.win 10).blk t).view.emb (ix3 u p q) = ix3 (seq t) (pos t p) q := by
    have hu : u.val = 0 := by omega
    funext a
    refine Fin.ext ?_
    match a with
    | ⟨0, _⟩ => show (BitVec.ofNat 32 (grid0.coords t 0).val).toNat * 1 + 1 * u.val = t.val / 16; rw [word0]; omega
    | ⟨1, _⟩ => show (BitVec.ofNat 32 (grid0.coords t 1).val).toNat * 512 + 1 * p.val = 512 * (t.val % 16) + p.val; rw [word1]; omega
    | ⟨2, _⟩ => show 0 * 512 + 1 * q.val = q.val; omega
  refine (outKm_apply _ u p q).trans ((km_apply (turns m c t _) _ (point_row m c t _) _).trans (Eq.trans ?_ (congrArg _ hi.symm)))
  rfl

/-- THE OTHER HEADS' VALUES. -/
theorem final11 : (dats m 0 c).arrAt 11 cfg0.N = valuesM (argX m c) (argS m c) (argH m c) (argG m c) (argW m c) := by
  refine (dats m 0 c).arrAt_eq_of_covers 11 _ covers11 fun t hf y => ?_
  show (dats m 0 c).after 11 t y = _
  rw [after11]
  obtain ⟨u, p, q, rfl⟩ : ∃ (u : Fin 1) (p q : Fin 512), y = ix3 u p q := ⟨y (0 : Fin 3), y (1 : Fin 3), y (2 : Fin 3), eq_ix3 y⟩
  have hi : ((cfg0.win 11).blk t).view.emb (ix3 u p q) = ix3 (seq t) (pos t p) q := by
    have hu : u.val = 0 := by omega
    funext a
    refine Fin.ext ?_
    match a with
    | ⟨0, _⟩ => show (BitVec.ofNat 32 (grid0.coords t 0).val).toNat * 1 + 1 * u.val = t.val / 16; rw [word0]; omega
    | ⟨1, _⟩ => show (BitVec.ofNat 32 (grid0.coords t 1).val).toNat * 512 + 1 * p.val = 512 * (t.val % 16) + p.val; rw [word1]; omega
    | ⟨2, _⟩ => show 0 * 512 + 1 * q.val = q.val; omega
  refine (outVm_apply _ u p q).trans ((vm_apply _ (point_row m c t _) _).trans (Eq.trans ?_ (congrArg _ hi.symm)))
  rfl

/-- THE OTHER HEADS' QUERIES. -/
theorem final12 : (dats m 0 c).arrAt 12 cfg0.N = queriesM (argX m c) (argS m c) (argH m c) (argG m c) (argW m c) := by
  refine (dats m 0 c).arrAt_eq_of_covers 12 _ covers12 fun t hf y => ?_
  show (dats m 0 c).after 12 t y = _
  rw [after12]
  obtain ⟨u, p, q, rfl⟩ : ∃ (u : Fin 1) (p q : Fin 512), y = ix3 u p q := ⟨y (0 : Fin 3), y (1 : Fin 3), y (2 : Fin 3), eq_ix3 y⟩
  have hi : ((cfg0.win 12).blk t).view.emb (ix3 u p q) = ix3 (seq t) (pos t p) q := by
    have hu : u.val = 0 := by omega
    funext a
    refine Fin.ext ?_
    match a with
    | ⟨0, _⟩ => show (BitVec.ofNat 32 (grid0.coords t 0).val).toNat * 1 + 1 * u.val = t.val / 16; rw [word0]; omega
    | ⟨1, _⟩ => show (BitVec.ofNat 32 (grid0.coords t 1).val).toNat * 512 + 1 * p.val = 512 * (t.val % 16) + p.val; rw [word1]; omega
    | ⟨2, _⟩ => show 0 * 512 + 1 * q.val = q.val; omega
  refine (outQm_apply _ u p q).trans ((qm_apply (turns m c t _) _ (point_row m c t _) _).trans (Eq.trans ?_ (congrArg _ hi.symm)))
  rfl

/-- THE GATED HEADS' QUERIES, in columns. -/
theorem final13 : (dats m 0 c).arrAt 13 cfg0.N = queriesD (argX m c) (argS m c) (argH m c) (argG m c) (argW m c) := by
  refine (dats m 0 c).arrAt_eq_of_covers 13 _ covers13 fun t hf y => ?_
  show (dats m 0 c).after 13 t y = _
  rw [after13]
  obtain ⟨u, p, q, rfl⟩ : ∃ (u : Fin 1) (p q : Fin 512), y = ix3 u p q := ⟨y (0 : Fin 3), y (1 : Fin 3), y (2 : Fin 3), eq_ix3 y⟩
  have hi : ((cfg0.win 13).blk t).view.emb (ix3 u p q) = ix3 (seq t) p (pos t q) := by
    have hu : u.val = 0 := by omega
    funext a
    refine Fin.ext ?_
    match a with
    | ⟨0, _⟩ => show (BitVec.ofNat 32 (grid0.coords t 0).val).toNat * 1 + 1 * u.val = t.val / 16; rw [word0]; omega
    | ⟨1, _⟩ => show 0 * 512 + 1 * p.val = p.val; omega
    | ⟨2, _⟩ => show (BitVec.ofNat 32 (grid0.coords t 1).val).toNat * 512 + 1 * q.val = 512 * (t.val % 16) + q.val; rw [word1]; omega
  refine (outQdT_apply _ u p q).trans ((qd_apply (turns m c t _) _ (point_row m c t _) _).trans (Eq.trans ?_ (congrArg _ hi.symm)))
  rfl

end finals

end Cert.Kernel2Ideal.Qkv

end
-- ==== Proof.Qkv.Ref.lean ====
/- The reference's results as the projection's formulas.

   The reference projects all rows at once, turns the heads of each column as one array, four groups of two heads for the gated ones
   and eight heads for the others, and lays the columns out as results. -/
module

public import proofs.«01_k».proof.Proof.Gen.Reference2Ideal.Read
public import proofs.«01_k».proof.Proof.Qkv.Spec

@[expose] public section

set_option maxRecDepth 16384

noncomputable section

namespace Cert.Reference2Ideal.Qkv

open Cert.Reference2Ideal Cert.Reference2Ideal.Gen Cert.Reference2Ideal.Read Cert.Qkv
open Idealize.ShloMosaic Idealize.ShloMosaic.TcCoe Idealize.ShloMosaic.ValueIdx

/-! ## The angles -/

/-- The table of angles, -/
theorem angles_apply (l : Fin 8192) (j : Fin 8) : (val_main_v42 (F := Ideal) : S8192x8.Idx → EReal) (ix2 l j) = angle l j := by
  have h1 : idx_main_v38 (idx_main_v40 (ix2 l j)) = ix1 l := funext fun a => match a with | ⟨0, _⟩ => rfl
  have h2 : idx_main_v39 (idx_main_v41 (ix2 l j)) = ix1 j := funext fun a => match a with | ⟨0, _⟩ => rfl
  rw [val_main_v42_apply, val_main_v40_apply, val_main_v38_apply, val_main_v41_apply, val_main_v39_apply, h1, h2,
    val_main_v37_apply, val_main_v36_apply, val_main_v35_apply, val_main_v34_apply, val_main_v33_apply, val_main_v32_apply, val_main_v31_apply]
  rfl

/-- made four times over. -/
theorem angles76 : val_main_v76 (F := Ideal) = val_main_v42 (F := Ideal) := rfl
theorem angles108 : val_main_v108 (F := Ideal) = val_main_v42 (F := Ideal) := rfl
theorem angles142 : val_main_v142 (F := Ideal) = val_main_v42 (F := Ideal) := rfl

/-! ## Turning a column -/

section turn

variable (y : FVec Ideal S8x8192x512 .f32) (t : FVec Ideal S8192x8 .f32)

/-- For the gated heads: the column by heads, -/
def headsD : FVec Ideal S8x8192x4x2x64 .f32 := shapeCast S8x8192x4x2x64 y shapeCasts_S8x8192x512_S8x8192x4x2x64
/-- the first and second eight numbers of each head, and the rest, -/
def firstD : FVec Ideal S8x8192x4x2x8 .f32 := extractStridedSlice S8x8192x4x2x8 ![0, 0, 0, 0, 0] (headsD y) slices_S8x8192x4x2x64_S8x8192x4x2x8_0_0_0_0_0
def secondD : FVec Ideal S8x8192x4x2x8 .f32 := extractStridedSlice S8x8192x4x2x8 ![0, 0, 0, 0, 8] (headsD y) slices_S8x8192x4x2x64_S8x8192x4x2x8_0_0_0_0_8
def restD : FVec Ideal S8x8192x4x2x48 .f32 := extractStridedSlice S8x8192x4x2x48 ![0, 0, 0, 0, 16] (headsD y) slices_S8x8192x4x2x64_S8x8192x4x2x48_0_0_0_0_16
/-- a table spread over sequences and heads, -/
def spreadD : FVec Ideal S8x8192x4x2x8 .f32 := broadcastInDim S8x8192x4x2x8 ![0, 1, 2, 3, 4] bcast_S1x8192x1x1x8_S8x8192x4x2x8_0_1_2_3_4 (shapeCast S1x8192x1x1x8 t shapeCasts_S8192x8_S1x8192x1x1x8)
/-- the new first and second eights, -/
def frontD : FVec Ideal S8x8192x4x2x8 .f32 := subf (mulf (firstD y) (spreadD (Host.cos t))) (mulf (secondD y) (spreadD (Host.sin t)))
def backD : FVec Ideal S8x8192x4x2x8 .f32 := addf (mulf (secondD y) (spreadD (Host.cos t))) (mulf (firstD y) (spreadD (Host.sin t)))
/-- and all three joined. -/
def turnD : FVec Ideal S8x8192x4x2x64 .f32 :=
  concatenate S8x8192x4x2x64 4 [⟨S8x8192x4x2x8, frontD y t⟩, ⟨S8x8192x4x2x8, backD y t⟩, ⟨S8x8192x4x2x48, restD y⟩] concatenates_S8x8192x4x2x8_S8x8192x4x2x8_S8x8192x4x2x48_S8x8192x4x2x64_d4

theorem headsD_apply (b : Fin 8) (l : Fin 8192) (h : Fin 4) (d : Fin 2) (k : Fin 64) :
    headsD y (ix5 b l h d k) = y (ix3 b l (⟨128 * h.val + 64 * d.val + k.val, by omega⟩ : Fin 512)) := by
  unfold headsD
  refine shapeCast_apply (s := S8x8192x512) (t := S8x8192x4x2x64) y _ _ _ ?_
  refine (Shape.rowMajor_val_three (d := ![8, 8192, 512]) _).trans (Eq.trans ?_ (Shape.rowMajor_val_five (d := ![8, 8192, 4, 2, 64]) _).symm)
  show (b.val * 8192 + l.val) * 512 + (128 * h.val + 64 * d.val + k.val) = ((((b.val * 8192 + l.val) * 4 + h.val) * 2 + d.val) * 64 + k.val)
  omega
theorem firstD_apply (b : Fin 8) (l : Fin 8192) (h : Fin 4) (d : Fin 2) (j : Fin 8) :
    firstD y (ix5 b l h d j) = y (ix3 b l (⟨128 * h.val + 64 * d.val + (0 + j.val), by omega⟩ : Fin 512)) := by
  unfold firstD
  refine (extractStridedSlice_apply ![0, 0, 0, 0, 0] (headsD y) slices_S8x8192x4x2x64_S8x8192x4x2x8_0_0_0_0_0 _ (ix5 b l h d (⟨0 + j.val, by omega⟩ : Fin 64)) (fun a => match a with
    | ⟨0, _⟩ => by show b.val = 0 + b.val; omega
    | ⟨1, _⟩ => by show l.val = 0 + l.val; omega
    | ⟨2, _⟩ => by show h.val = 0 + h.val; omega
    | ⟨3, _⟩ => by show d.val = 0 + d.val; omega
    | ⟨4, _⟩ => rfl)
    ).trans ?_
  exact headsD_apply y b l h d _
theorem secondD_apply (b : Fin 8) (l : Fin 8192) (h : Fin 4) (d : Fin 2) (j : Fin 8) :
    secondD y (ix5 b l h d j) = y (ix3 b l (⟨128 * h.val + 64 * d.val + (8 + j.val), by omega⟩ : Fin 512)) := by
  unfold secondD
  refine (extractStridedSlice_apply ![0, 0, 0, 0, 8] (headsD y) slices_S8x8192x4x2x64_S8x8192x4x2x8_0_0_0_0_8 _ (ix5 b l h d (⟨8 + j.val, by omega⟩ : Fin 64)) (fun a => match a with
    | ⟨0, _⟩ => by show b.val = 0 + b.val; omega
    | ⟨1, _⟩ => by show l.val = 0 + l.val; omega
    | ⟨2, _⟩ => by show h.val = 0 + h.val; omega
    | ⟨3, _⟩ => by show d.val = 0 + d.val; omega
    | ⟨4, _⟩ => rfl)
    ).trans ?_
  exact headsD_apply y b l h d _
theorem restD_apply (b : Fin 8) (l : Fin 8192) (h : Fin 4) (d : Fin 2) (j : Fin 48) :
    restD y (ix5 b l h d j) = y (ix3 b l (⟨128 * h.val + 64 * d.val + (16 + j.val), by omega⟩ : Fin 512)) := by
  unfold restD
  refine (extractStridedSlice_apply ![0, 0, 0, 0, 16] (headsD y) slices_S8x8192x4x2x64_S8x8192x4x2x48_0_0_0_0_16 _ (ix5 b l h d (⟨16 + j.val, by omega⟩ : Fin 64)) (fun a => match a with
    | ⟨0, _⟩ => by show b.val = 0 + b.val; omega
    | ⟨1, _⟩ => by show l.val = 0 + l.val; omega
    | ⟨2, _⟩ => by show h.val = 0 + h.val; omega
    | ⟨3, _⟩ => by show d.val = 0 + d.val; omega
    | ⟨4, _⟩ => rfl)
    ).trans ?_
  exact headsD_apply y b l h d _
theorem spreadD_apply (b : Fin 8) (l : Fin 8192) (h : Fin 4) (d : Fin 2) (j : Fin 8) : spreadD t (ix5 b l h d j) = t (ix2 l j) := by
  unfold spreadD
  refine (broadcastInDim_apply ![0, 1, 2, 3, 4] bcast_S1x8192x1x1x8_S8x8192x4x2x8_0_1_2_3_4 (shapeCast S1x8192x1x1x8 t shapeCasts_S8192x8_S1x8192x1x1x8) (ix5 b l h d j) (ix5 (0 : Fin 1) l (0 : Fin 1) (0 : Fin 1) j) (fun a => match a with
    | ⟨0, _⟩ => by show 0 = if (1 : Nat) = 1 then 0 else b.val; rw [if_pos rfl]
    | ⟨1, _⟩ => by show l.val = if (8192 : Nat) = 1 then 0 else l.val; rw [if_neg (by decide)]
    | ⟨2, _⟩ => by show 0 = if (1 : Nat) = 1 then 0 else h.val; rw [if_pos rfl]
    | ⟨3, _⟩ => by show 0 = if (1 : Nat) = 1 then 0 else d.val; rw [if_pos rfl]
    | ⟨4, _⟩ => by show j.val = if (8 : Nat) = 1 then 0 else j.val; rw [if_neg (by decide)])
    ).trans ?_
  refine shapeCast_apply (s := S8192x8) (t := S1x8192x1x1x8) t _ _ _ ?_
  refine (Shape.rowMajor_val_two (d := ![8192, 8]) _).trans (Eq.trans ?_ (Shape.rowMajor_val_five (d := ![1, 8192, 1, 1, 8]) _).symm)
  show l.val * 8 + j.val = ((((0 * 8192 + l.val) * 1 + 0) * 1 + 0) * 8 + j.val)
  omega

/-- A number of the turned column. -/
theorem turnD_apply (b : Fin 8) (l : Fin 8192) (n : Fin 512) :
    (turnD y t (ix5 b l (⟨n.val / 128, by omega⟩ : Fin 4) (⟨n.val / 64 % 2, by omega⟩ : Fin 2) (⟨n.val % 64, by omega⟩ : Fin 64)) : EReal)
      = turned (fun n => y (ix3 b l n)) (fun j => Ideal.hostUnary .cos (t (ix2 l j))) (fun j => Ideal.hostUnary .sin (t (ix2 l j))) n := by
  unfold turned
  unfold turnD
  by_cases h : n.val % 64 < 8
  · rw [dif_pos h]
    refine (concatenate_apply_piece (t := S8x8192x4x2x64) (4 : Fin 5) _ _ _ 0 (by exact show 0 < 3 by decide) S8x8192x4x2x8 (frontD y t) (by rfl) rfl 0 (by rfl)
      (ix5 b l (⟨n.val / 128, by omega⟩ : Fin 4) (⟨n.val / 64 % 2, by omega⟩ : Fin 2) (⟨n.val % 64, h⟩ : Fin 8)) (fun b hb => ?_) ?_).trans ?_
    · match b, hb with
    | ⟨0, _⟩, _ => exact rfl
    | ⟨1, _⟩, _ => exact rfl
    | ⟨2, _⟩, _ => exact rfl
    | ⟨3, _⟩, _ => exact rfl
    | ⟨4, _⟩, hb => exact absurd rfl hb
    · show 0 + n.val % 64 = n.val % 64
      omega
    · show firstD y _ * spreadD (Host.cos t) _ - secondD y _ * spreadD (Host.sin t) _ = _
      rw [firstD_apply, secondD_apply, spreadD_apply, spreadD_apply]
      have e1 : (⟨128 * (n.val / 128) + 64 * (n.val / 64 % 2) + (0 + n.val % 64), by omega⟩ : Fin 512) = n := Fin.ext (by show 128 * (n.val / 128) + 64 * (n.val / 64 % 2) + (0 + n.val % 64) = n.val; omega)
      have e2 : (⟨128 * (n.val / 128) + 64 * (n.val / 64 % 2) + (8 + n.val % 64), by omega⟩ : Fin 512) = ⟨n.val + 8, by omega⟩ :=
        Fin.ext (by show 128 * (n.val / 128) + 64 * (n.val / 64 % 2) + (8 + n.val % 64) = n.val + 8; omega)
      exact congr (congrArg _ (congrArg (fun p => y (ix3 b l p) * _) e1)) (congrArg (fun p => y (ix3 b l p) * _) e2)
  rw [dif_neg h]
  by_cases h' : n.val % 64 < 16
  · rw [dif_pos h']
    refine (concatenate_apply_piece (t := S8x8192x4x2x64) (4 : Fin 5) _ _ _ 1 (by exact show 1 < 3 by decide) S8x8192x4x2x8 (backD y t) (by rfl) rfl 8 (by rfl)
      (ix5 b l (⟨n.val / 128, by omega⟩ : Fin 4) (⟨n.val / 64 % 2, by omega⟩ : Fin 2) (⟨n.val % 64 - 8, by omega⟩ : Fin 8)) (fun b hb => ?_) ?_).trans ?_
    · match b, hb with
    | ⟨0, _⟩, _ => exact rfl
    | ⟨1, _⟩, _ => exact rfl
    | ⟨2, _⟩, _ => exact rfl
    | ⟨3, _⟩, _ => exact rfl
    | ⟨4, _⟩, hb => exact absurd rfl hb
    · show 8 + (n.val % 64 - 8) = n.val % 64
      omega
    · show secondD y _ * spreadD (Host.cos t) _ + firstD y _ * spreadD (Host.sin t) _ = _
      rw [firstD_apply, secondD_apply, spreadD_apply, spreadD_apply]
      have e1 : (⟨128 * (n.val / 128) + 64 * (n.val / 64 % 2) + (8 + (n.val % 64 - 8)), by omega⟩ : Fin 512) = n := Fin.ext (by show 128 * (n.val / 128) + 64 * (n.val / 64 % 2) + (8 + (n.val % 64 - 8)) = n.val; omega)
      have e2 : (⟨128 * (n.val / 128) + 64 * (n.val / 64 % 2) + (0 + (n.val % 64 - 8)), by omega⟩ : Fin 512) = ⟨n.val - 8, by omega⟩ :=
        Fin.ext (by show 128 * (n.val / 128) + 64 * (n.val / 64 % 2) + (0 + (n.val % 64 - 8)) = n.val - 8; omega)
      exact congr (congrArg _ (congrArg (fun p => y (ix3 b l p) * _) e1)) (congrArg (fun p => y (ix3 b l p) * _) e2)
  rw [dif_neg h']
  refine (concatenate_apply_piece (t := S8x8192x4x2x64) (4 : Fin 5) _ _ _ 2 (by exact show 2 < 3 by decide) S8x8192x4x2x48 (restD y) (by rfl) rfl 16 (by rfl)
    (ix5 b l (⟨n.val / 128, by omega⟩ : Fin 4) (⟨n.val / 64 % 2, by omega⟩ : Fin 2) (⟨n.val % 64 - 16, by omega⟩ : Fin 48)) (fun b hb => ?_) ?_).trans ?_
  · match b, hb with
    | ⟨0, _⟩, _ => exact rfl
    | ⟨1, _⟩, _ => exact rfl
    | ⟨2, _⟩, _ => exact rfl
    | ⟨3, _⟩, _ => exact rfl
    | ⟨4, _⟩, hb => exact absurd rfl hb
  · show 16 + (n.val % 64 - 16) = n.val % 64
    omega
  · rw [restD_apply]
    exact congrArg (fun p => y (ix3 b l p)) (Fin.ext (by show 128 * (n.val / 128) + 64 * (n.val / 64 % 2) + (16 + (n.val % 64 - 16)) = n.val; omega))

/-- For the other heads: the column by heads, -/
def headsM : FVec Ideal S8x8192x8x64 .f32 := shapeCast S8x8192x8x64 y shapeCasts_S8x8192x512_S8x8192x8x64
/-- the first and second eight numbers of each head, and the rest, -/
def firstM : FVec Ideal S8x8192x8x8 .f32 := extractStridedSlice S8x8192x8x8 ![0, 0, 0, 0] (headsM y) slices_S8x8192x8x64_S8x8192x8x8_0_0_0_0
def secondM : FVec Ideal S8x8192x8x8 .f32 := extractStridedSlice S8x8192x8x8 ![0, 0, 0, 8] (headsM y) slices_S8x8192x8x64_S8x8192x8x8_0_0_0_8
def restM : FVec Ideal S8x8192x8x48 .f32 := extractStridedSlice S8x8192x8x48 ![0, 0, 0, 16] (headsM y) slices_S8x8192x8x64_S8x8192x8x48_0_0_0_16
/-- a table spread over sequences and heads, -/
def spreadM : FVec Ideal S8x8192x8x8 .f32 := broadcastInDim S8x8192x8x8 ![0, 1, 2, 3] bcast_S1x8192x1x8_S8x8192x8x8_0_1_2_3 (shapeCast S1x8192x1x8 t shapeCasts_S8192x8_S1x8192x1x8)
/-- the new first and second eights, -/
def frontM : FVec Ideal S8x8192x8x8 .f32 := subf (mulf (firstM y) (spreadM (Host.cos t))) (mulf (secondM y) (spreadM (Host.sin t)))
def backM : FVec Ideal S8x8192x8x8 .f32 := addf (mulf (secondM y) (spreadM (Host.cos t))) (mulf (firstM y) (spreadM (Host.sin t)))
/-- and all three joined. -/
def turnM : FVec Ideal S8x8192x8x64 .f32 :=
  concatenate S8x8192x8x64 3 [⟨S8x8192x8x8, frontM y t⟩, ⟨S8x8192x8x8, backM y t⟩, ⟨S8x8192x8x48, restM y⟩] concatenates_S8x8192x8x8_S8x8192x8x8_S8x8192x8x48_S8x8192x8x64_d3

theorem headsM_apply (b : Fin 8) (l : Fin 8192) (h : Fin 8) (k : Fin 64) :
    headsM y (ix4 b l h k) = y (ix3 b l (⟨64 * h.val + k.val, by omega⟩ : Fin 512)) := by
  unfold headsM
  refine shapeCast_apply (s := S8x8192x512) (t := S8x8192x8x64) y _ _ _ ?_
  refine (Shape.rowMajor_val_three (d := ![8, 8192, 512]) _).trans (Eq.trans ?_ (Shape.rowMajor_val_four (d := ![8, 8192, 8, 64]) _).symm)
  show (b.val * 8192 + l.val) * 512 + (64 * h.val + k.val) = (((b.val * 8192 + l.val) * 8 + h.val) * 64 + k.val)
  omega
theorem firstM_apply (b : Fin 8) (l : Fin 8192) (h : Fin 8) (j : Fin 8) :
    firstM y (ix4 b l h j) = y (ix3 b l (⟨64 * h.val + (0 + j.val), by omega⟩ : Fin 512)) := by
  unfold firstM
  refine (extractStridedSlice_apply ![0, 0, 0, 0] (headsM y) slices_S8x8192x8x64_S8x8192x8x8_0_0_0_0 _ (ix4 b l h (⟨0 + j.val, by omega⟩ : Fin 64)) (fun a => match a with
    | ⟨0, _⟩ => by show b.val = 0 + b.val; omega
    | ⟨1, _⟩ => by show l.val = 0 + l.val; omega
    | ⟨2, _⟩ => by show h.val = 0 + h.val; omega
    | ⟨3, _⟩ => rfl)
    ).trans ?_
  exact headsM_apply y b l h _
theorem secondM_apply (b : Fin 8) (l : Fin 8192) (h : Fin 8) (j : Fin 8) :
    secondM y (ix4 b l h j) = y (ix3 b l (⟨64 * h.val + (8 + j.val), by omega⟩ : Fin 512)) := by
  unfold secondM
  refine (extractStridedSlice_apply ![0, 0, 0, 8] (headsM y) slices_S8x8192x8x64_S8x8192x8x8_0_0_0_8 _ (ix4 b l h (⟨8 + j.val, by omega⟩ : Fin 64)) (fun a => match a with
    | ⟨0, _⟩ => by show b.val = 0 + b.val; omega
    | ⟨1, _⟩ => by show l.val = 0 + l.val; omega
    | ⟨2, _⟩ => by show h.val = 0 + h.val; omega
    | ⟨3, _⟩ => rfl)
    ).trans ?_
  exact headsM_apply y b l h _
theorem restM_apply (b : Fin 8) (l : Fin 8192) (h : Fin 8) (j : Fin 48) :
    restM y (ix4 b l h j) = y (ix3 b l (⟨64 * h.val + (16 + j.val), by omega⟩ : Fin 512)) := by
  unfold restM
  refine (extractStridedSlice_apply ![0, 0, 0, 16] (headsM y) slices_S8x8192x8x64_S8x8192x8x48_0_0_0_16 _ (ix4 b l h (⟨16 + j.val, by omega⟩ : Fin 64)) (fun a => match a with
    | ⟨0, _⟩ => by show b.val = 0 + b.val; omega
    | ⟨1, _⟩ => by show l.val = 0 + l.val; omega
    | ⟨2, _⟩ => by show h.val = 0 + h.val; omega
    | ⟨3, _⟩ => rfl)
    ).trans ?_
  exact headsM_apply y b l h _
theorem spreadM_apply (b : Fin 8) (l : Fin 8192) (h : Fin 8) (j : Fin 8) : spreadM t (ix4 b l h j) = t (ix2 l j) := by
  unfold spreadM
  refine (broadcastInDim_apply ![0, 1, 2, 3] bcast_S1x8192x1x8_S8x8192x8x8_0_1_2_3 (shapeCast S1x8192x1x8 t shapeCasts_S8192x8_S1x8192x1x8) (ix4 b l h j) (ix4 (0 : Fin 1) l (0 : Fin 1) j) (fun a => match a with
    | ⟨0, _⟩ => by show 0 = if (1 : Nat) = 1 then 0 else b.val; rw [if_pos rfl]
    | ⟨1, _⟩ => by show l.val = if (8192 : Nat) = 1 then 0 else l.val; rw [if_neg (by decide)]
    | ⟨2, _⟩ => by show 0 = if (1 : Nat) = 1 then 0 else h.val; rw [if_pos rfl]
    | ⟨3, _⟩ => by show j.val = if (8 : Nat) = 1 then 0 else j.val; rw [if_neg (by decide)])
    ).trans ?_
  refine shapeCast_apply (s := S8192x8) (t := S1x8192x1x8) t _ _ _ ?_
  refine (Shape.rowMajor_val_two (d := ![8192, 8]) _).trans (Eq.trans ?_ (Shape.rowMajor_val_four (d := ![1, 8192, 1, 8]) _).symm)
  show l.val * 8 + j.val = (((0 * 8192 + l.val) * 1 + 0) * 8 + j.val)
  omega

/-- A number of the turned column. -/
theorem turnM_apply (b : Fin 8) (l : Fin 8192) (n : Fin 512) :
    (turnM y t (ix4 b l (⟨n.val / 64, by omega⟩ : Fin 8) (⟨n.val % 64, by omega⟩ : Fin 64)) : EReal)
      = turned (fun n => y (ix3 b l n)) (fun j => Ideal.hostUnary .cos (t (ix2 l j))) (fun j => Ideal.hostUnary .sin (t (ix2 l j))) n := by
  unfold turned
  unfold turnM
  by_cases h : n.val % 64 < 8
  · rw [dif_pos h]
    refine (concatenate_apply_piece (t := S8x8192x8x64) (3 : Fin 4) _ _ _ 0 (by exact show 0 < 3 by decide) S8x8192x8x8 (frontM y t) (by rfl) rfl 0 (by rfl)
      (ix4 b l (⟨n.val / 64, by omega⟩ : Fin 8) (⟨n.val % 64, h⟩ : Fin 8)) (fun b hb => ?_) ?_).trans ?_
    · match b, hb with
    | ⟨0, _⟩, _ => exact rfl
    | ⟨1, _⟩, _ => exact rfl
    | ⟨2, _⟩, _ => exact rfl
    | ⟨3, _⟩, hb => exact absurd rfl hb
    · show 0 + n.val % 64 = n.val % 64
      omega
    · show firstM y _ * spreadM (Host.cos t) _ - secondM y _ * spreadM (Host.sin t) _ = _
      rw [firstM_apply, secondM_apply, spreadM_apply, spreadM_apply]
      have e1 : (⟨64 * (n.val / 64) + (0 + n.val % 64), by omega⟩ : Fin 512) = n := Fin.ext (by show 64 * (n.val / 64) + (0 + n.val % 64) = n.val; omega)
      have e2 : (⟨64 * (n.val / 64) + (8 + n.val % 64), by omega⟩ : Fin 512) = ⟨n.val + 8, by omega⟩ :=
        Fin.ext (by show 64 * (n.val / 64) + (8 + n.val % 64) = n.val + 8; omega)
      exact congr (congrArg _ (congrArg (fun p => y (ix3 b l p) * _) e1)) (congrArg (fun p => y (ix3 b l p) * _) e2)
  rw [dif_neg h]
  by_cases h' : n.val % 64 < 16
  · rw [dif_pos h']
    refine (concatenate_apply_piece (t := S8x8192x8x64) (3 : Fin 4) _ _ _ 1 (by exact show 1 < 3 by decide) S8x8192x8x8 (backM y t) (by rfl) rfl 8 (by rfl)
      (ix4 b l (⟨n.val / 64, by omega⟩ : Fin 8) (⟨n.val % 64 - 8, by omega⟩ : Fin 8)) (fun b hb => ?_) ?_).trans ?_
    · match b, hb with
    | ⟨0, _⟩, _ => exact rfl
    | ⟨1, _⟩, _ => exact rfl
    | ⟨2, _⟩, _ => exact rfl
    | ⟨3, _⟩, hb => exact absurd rfl hb
    · show 8 + (n.val % 64 - 8) = n.val % 64
      omega
    · show secondM y _ * spreadM (Host.cos t) _ + firstM y _ * spreadM (Host.sin t) _ = _
      rw [firstM_apply, secondM_apply, spreadM_apply, spreadM_apply]
      have e1 : (⟨64 * (n.val / 64) + (8 + (n.val % 64 - 8)), by omega⟩ : Fin 512) = n := Fin.ext (by show 64 * (n.val / 64) + (8 + (n.val % 64 - 8)) = n.val; omega)
      have e2 : (⟨64 * (n.val / 64) + (0 + (n.val % 64 - 8)), by omega⟩ : Fin 512) = ⟨n.val - 8, by omega⟩ :=
        Fin.ext (by show 64 * (n.val / 64) + (0 + (n.val % 64 - 8)) = n.val - 8; omega)
      exact congr (congrArg _ (congrArg (fun p => y (ix3 b l p) * _) e1)) (congrArg (fun p => y (ix3 b l p) * _) e2)
  rw [dif_neg h']
  refine (concatenate_apply_piece (t := S8x8192x8x64) (3 : Fin 4) _ _ _ 2 (by exact show 2 < 3 by decide) S8x8192x8x48 (restM y) (by rfl) rfl 16 (by rfl)
    (ix4 b l (⟨n.val / 64, by omega⟩ : Fin 8) (⟨n.val % 64 - 16, by omega⟩ : Fin 48)) (fun b hb => ?_) ?_).trans ?_
  · match b, hb with
    | ⟨0, _⟩, _ => exact rfl
    | ⟨1, _⟩, _ => exact rfl
    | ⟨2, _⟩, _ => exact rfl
    | ⟨3, _⟩, hb => exact absurd rfl hb
  · show 16 + (n.val % 64 - 16) = n.val % 64
    omega
  · rw [restM_apply]
    exact congrArg (fun p => y (ix3 b l p)) (Fin.ext (by show 64 * (n.val / 64) + (16 + (n.val % 64 - 16)) = n.val; omega))

end turn

/-! ## The projection -/

section args

variable (x : S8x8192x1024.Idx → EReal) (sc sh : S8x1024.Idx → EReal) (g : S1024.Idx → EReal) (w : S1024x3072.Idx → EReal)

/-- A number of the modulated rows, -/
theorem modulated_apply (b : Fin 8) (l : Fin 8192) (k : Fin 1024) : (val_main_v21 (F := Ideal) x sc sh g : S8x8192x1024.Idx → EReal) (ix3 b l k)
    = modulated (fun k => x (ix3 b l k)) (fun k => g (ix1 k)) (fun k => sc (ix2 b k)) (fun k => sh (ix2 b k)) k := by
  have h1 : idx_main_v3 (idx_main_v9 (ix3 b l k)) = ix2 b l := funext fun a => match a with | ⟨0, _⟩ => rfl | ⟨1, _⟩ => rfl
  have h2 : idx_main_v11 (idx_main_v12 (ix3 b l k)) = ix1 k := funext fun a => match a with | ⟨0, _⟩ => rfl
  have h3 : idx_main_v14 (idx_main_v17 (ix3 b l k)) = ix2 b k := funext fun a => match a with | ⟨0, _⟩ => rfl | ⟨1, _⟩ => rfl
  have h4 : idx_main_v19 (idx_main_v20 (ix3 b l k)) = ix2 b k := funext fun a => match a with | ⟨0, _⟩ => rfl | ⟨1, _⟩ => rfl
  have h5 : ∀ j : Fin 1024, idx_main_v2 (ix2 b l) j = ix3 b l j := fun j => funext fun a => match a with | ⟨0, _⟩ => rfl | ⟨1, _⟩ => rfl | ⟨2, _⟩ => rfl
  have hs : val_main_v2 (F := Ideal) x (ix2 b l) = ∑ j : Fin 1024, x (ix3 b l j) * x (ix3 b l j) := by
    rw [val_main_v2_apply, val_main_cst_apply]
    refine (congrArg (· + _) Ideal.ofBits_zero_f32).trans ((zero_add _).trans (Finset.sum_congr rfl fun j _ => ?_))
    rw [h5 j]
    rfl
  rw [val_main_v21_apply, val_main_v18_apply, val_main_v13_apply, val_main_v10_apply, val_main_v9_apply, val_main_v8_apply, val_main_v7_apply,
    val_main_v5_apply, val_main_v3_apply, h1, hs, val_main_v12_apply, val_main_v11_apply, h2, val_main_v17_apply, val_main_v16_apply, val_main_v14_apply, h3,
    val_main_v20_apply, val_main_v19_apply, h4, val_main_v4_apply, val_main_v6_apply, val_main_v15_apply]
  rfl

/-- and of the projected ones. -/
theorem projected_apply (b : Fin 8) (l : Fin 8192) (n : Fin 3072) :
    (val_main_v22 (F := Ideal) x sc sh g w : S8x8192x3072.Idx → EReal) (ix3 b l n) = proj x sc sh g w b l n := by
  have h1 : ∀ k : Fin 1024, lidx_main_v22 (ix3 b l n) k = ix3 b l k := fun k => funext fun a => match a with | ⟨0, _⟩ => rfl | ⟨1, _⟩ => rfl | ⟨2, _⟩ => rfl
  have h2 : ∀ k : Fin 1024, ridx_main_v22 (ix3 b l n) k = ix2 k n := fun k => funext fun a => match a with | ⟨0, _⟩ => rfl | ⟨1, _⟩ => rfl
  rw [val_main_v22_apply]
  unfold proj projected
  refine Finset.sum_congr rfl fun k _ => ?_
  rw [h1 k, h2 k, modulated_apply]

/-- The six columns. -/
theorem column23_apply (b : Fin 8) (l : Fin 8192) (n : Fin 512) :
    (val_main_v23 (F := Ideal) x sc sh g w : S8x8192x512.Idx → EReal) (ix3 b l n) = plain x sc sh g w 0 (by decide) b l n := by
  unfold val_main_v23
  refine (extractStridedSlice_apply ![0, 0, 0] (val_main_v22 (F := Ideal) x sc sh g w) slices_S8x8192x3072_S8x8192x512_0_0_0 _
    (ix3 b l (⟨0 + n.val, by omega⟩ : Fin 3072)) (fun a => match a with
    | ⟨0, _⟩ => by show b.val = 0 + b.val; omega
    | ⟨1, _⟩ => by show l.val = 0 + l.val; omega
    | ⟨2, _⟩ => rfl)).trans ?_
  exact projected_apply x sc sh g w b l _
theorem column24_apply (b : Fin 8) (l : Fin 8192) (n : Fin 512) :
    (val_main_v24 (F := Ideal) x sc sh g w : S8x8192x512.Idx → EReal) (ix3 b l n) = plain x sc sh g w 512 (by decide) b l n := by
  unfold val_main_v24
  refine (extractStridedSlice_apply ![0, 0, 512] (val_main_v22 (F := Ideal) x sc sh g w) slices_S8x8192x3072_S8x8192x512_0_0_512 _
    (ix3 b l (⟨512 + n.val, by omega⟩ : Fin 3072)) (fun a => match a with
    | ⟨0, _⟩ => by show b.val = 0 + b.val; omega
    | ⟨1, _⟩ => by show l.val = 0 + l.val; omega
    | ⟨2, _⟩ => rfl)).trans ?_
  exact projected_apply x sc sh g w b l _
theorem column25_apply (b : Fin 8) (l : Fin 8192) (n : Fin 512) :
    (val_main_v25 (F := Ideal) x sc sh g w : S8x8192x512.Idx → EReal) (ix3 b l n) = plain x sc sh g w 1024 (by decide) b l n := by
  unfold val_main_v25
  refine (extractStridedSlice_apply ![0, 0, 1024] (val_main_v22 (F := Ideal) x sc sh g w) slices_S8x8192x3072_S8x8192x512_0_0_1024 _
    (ix3 b l (⟨1024 + n.val, by omega⟩ : Fin 3072)) (fun a => match a with
    | ⟨0, _⟩ => by show b.val = 0 + b.val; omega
    | ⟨1, _⟩ => by show l.val = 0 + l.val; omega
    | ⟨2, _⟩ => rfl)).trans ?_
  exact projected_apply x sc sh g w b l _
theorem column26_apply (b : Fin 8) (l : Fin 8192) (n : Fin 512) :
    (val_main_v26 (F := Ideal) x sc sh g w : S8x8192x512.Idx → EReal) (ix3 b l n) = plain x sc sh g w 1536 (by decide) b l n := by
  unfold val_main_v26
  refine (extractStridedSlice_apply ![0, 0, 1536] (val_main_v22 (F := Ideal) x sc sh g w) slices_S8x8192x3072_S8x8192x512_0_0_1536 _
    (ix3 b l (⟨1536 + n.val, by omega⟩ : Fin 3072)) (fun a => match a with
    | ⟨0, _⟩ => by show b.val = 0 + b.val; omega
    | ⟨1, _⟩ => by show l.val = 0 + l.val; omega
    | ⟨2, _⟩ => rfl)).trans ?_
  exact projected_apply x sc sh g w b l _
theorem column27_apply (b : Fin 8) (l : Fin 8192) (n : Fin 512) :
    (val_main_v27 (F := Ideal) x sc sh g w : S8x8192x512.Idx → EReal) (ix3 b l n) = plain x sc sh g w 2048 (by decide) b l n := by
  unfold val_main_v27
  refine (extractStridedSlice_apply ![0, 0, 2048] (val_main_v22 (F := Ideal) x sc sh g w) slices_S8x8192x3072_S8x8192x512_0_0_2048 _
    (ix3 b l (⟨2048 + n.val, by omega⟩ : Fin 3072)) (fun a => match a with
    | ⟨0, _⟩ => by show b.val = 0 + b.val; omega
    | ⟨1, _⟩ => by show l.val = 0 + l.val; omega
    | ⟨2, _⟩ => rfl)).trans ?_
  exact projected_apply x sc sh g w b l _
theorem column28_apply (b : Fin 8) (l : Fin 8192) (n : Fin 512) :
    (val_main_v28 (F := Ideal) x sc sh g w : S8x8192x512.Idx → EReal) (ix3 b l n) = plain x sc sh g w 2560 (by decide) b l n := by
  unfold val_main_v28
  refine (extractStridedSlice_apply ![0, 0, 2560] (val_main_v22 (F := Ideal) x sc sh g w) slices_S8x8192x3072_S8x8192x512_0_0_2560 _
    (ix3 b l (⟨2560 + n.val, by omega⟩ : Fin 3072)) (fun a => match a with
    | ⟨0, _⟩ => by show b.val = 0 + b.val; omega
    | ⟨1, _⟩ => by show l.val = 0 + l.val; omega
    | ⟨2, _⟩ => rfl)).trans ?_
  exact projected_apply x sc sh g w b l _

/-! ## The results -/

/-- The turned columns are the program's. -/
theorem turned60 : val_main_v60 (F := Ideal) x sc sh g w = turnD (val_main_v23 (F := Ideal) x sc sh g w) (val_main_v42 (F := Ideal)) := rfl
theorem turned60_apply (b : Fin 8) (l : Fin 8192) (n : Fin 512) :
    (val_main_v60 (F := Ideal) x sc sh g w : S8x8192x4x2x64.Idx → EReal) (ix5 b l (⟨n.val / 128, by omega⟩ : Fin 4) (⟨n.val / 64 % 2, by omega⟩ : Fin 2) (⟨n.val % 64, by omega⟩ : Fin 64)) = rotated x sc sh g w 0 (by decide) b l n := by
  rw [turned60]
  refine (turnD_apply _ _ b l n).trans ?_
  unfold rotated
  refine congr (congr (congr (congrArg turned (funext fun n => ?_)) (funext fun j => ?_)) (funext fun j => ?_)) rfl
  · exact column23_apply x sc sh g w b l n
  · exact congrArg _ (angles_apply l j)
  · exact congrArg _ (angles_apply l j)
theorem turned94 : val_main_v94 (F := Ideal) x sc sh g w = turnD (val_main_v24 (F := Ideal) x sc sh g w) (val_main_v76 (F := Ideal)) := rfl
theorem turned94_apply (b : Fin 8) (l : Fin 8192) (n : Fin 512) :
    (val_main_v94 (F := Ideal) x sc sh g w : S8x8192x4x2x64.Idx → EReal) (ix5 b l (⟨n.val / 128, by omega⟩ : Fin 4) (⟨n.val / 64 % 2, by omega⟩ : Fin 2) (⟨n.val % 64, by omega⟩ : Fin 64)) = rotated x sc sh g w 512 (by decide) b l n := by
  rw [turned94]
  rw [angles76]
  refine (turnD_apply _ _ b l n).trans ?_
  unfold rotated
  refine congr (congr (congr (congrArg turned (funext fun n => ?_)) (funext fun j => ?_)) (funext fun j => ?_)) rfl
  · exact column24_apply x sc sh g w b l n
  · exact congrArg _ (angles_apply l j)
  · exact congrArg _ (angles_apply l j)
theorem turned126 : val_main_v126 (F := Ideal) x sc sh g w = turnM (val_main_v26 (F := Ideal) x sc sh g w) (val_main_v108 (F := Ideal)) := rfl
theorem turned126_apply (b : Fin 8) (l : Fin 8192) (n : Fin 512) :
    (val_main_v126 (F := Ideal) x sc sh g w : S8x8192x8x64.Idx → EReal) (ix4 b l (⟨n.val / 64, by omega⟩ : Fin 8) (⟨n.val % 64, by omega⟩ : Fin 64)) = rotated x sc sh g w 1536 (by decide) b l n := by
  rw [turned126]
  rw [angles108]
  refine (turnM_apply _ _ b l n).trans ?_
  unfold rotated
  refine congr (congr (congr (congrArg turned (funext fun n => ?_)) (funext fun j => ?_)) (funext fun j => ?_)) rfl
  · exact column26_apply x sc sh g w b l n
  · exact congrArg _ (angles_apply l j)
  · exact congrArg _ (angles_apply l j)
theorem turned160 : val_main_v160 (F := Ideal) x sc sh g w = turnM (val_main_v27 (F := Ideal) x sc sh g w) (val_main_v142 (F := Ideal)) := rfl
theorem turned160_apply (b : Fin 8) (l : Fin 8192) (n : Fin 512) :
    (val_main_v160 (F := Ideal) x sc sh g w : S8x8192x8x64.Idx → EReal) (ix4 b l (⟨n.val / 64, by omega⟩ : Fin 8) (⟨n.val % 64, by omega⟩ : Fin 64)) = rotated x sc sh g w 2048 (by decide) b l n := by
  rw [turned160]
  rw [angles142]
  refine (turnM_apply _ _ b l n).trans ?_
  unfold rotated
  refine congr (congr (congr (congrArg turned (funext fun n => ?_)) (funext fun j => ?_)) (funext fun j => ?_)) rfl
  · exact column27_apply x sc sh g w b l n
  · exact congrArg _ (angles_apply l j)
  · exact congrArg _ (angles_apply l j)

/-- Keys of the gated heads, -/
theorem result_keysD : val_main_v161 (F := Ideal) x sc sh g w = keysD x sc sh g w := by
  funext i
  obtain ⟨b, p, l, rfl⟩ : ∃ (b : Fin 8) (p : Fin 32768) (l : Fin 128), i = ix3 b p l := ⟨i (0 : Fin 3), i (1 : Fin 3), i (2 : Fin 3), eq_ix3 i⟩
  have h := turned94_apply x sc sh g w b (⟨p.val / 4, by omega⟩ : Fin 8192) (⟨128 * (p.val % 4) + l.val, by omega⟩ : Fin 512)
  refine Eq.trans ?_ h
  unfold val_main_v161
  refine shapeCast_apply (s := S8x8192x4x2x64) (t := S8x32768x128) _ _ _ _ ?_
  refine (Shape.rowMajor_val_five (d := ![8, 8192, 4, 2, 64]) _).trans (Eq.trans ?_ (Shape.rowMajor_val_three (d := ![8, 32768, 128]) _).symm)
  show (((b.val * 8192 + p.val / 4) * 4 + (128 * (p.val % 4) + l.val) / 128) * 2 + (128 * (p.val % 4) + l.val) / 64 % 2) * 64 + (128 * (p.val % 4) + l.val) % 64
    = (b.val * 32768 + p.val) * 128 + l.val
  omega
/-- their values, -/
theorem result_valuesD : val_main_v162 (F := Ideal) x sc sh g w = valuesD x sc sh g w := by
  funext i
  obtain ⟨b, p, l, rfl⟩ : ∃ (b : Fin 8) (p : Fin 32768) (l : Fin 128), i = ix3 b p l := ⟨i (0 : Fin 3), i (1 : Fin 3), i (2 : Fin 3), eq_ix3 i⟩
  have h := column25_apply x sc sh g w b (⟨p.val / 4, by omega⟩ : Fin 8192) (⟨128 * (p.val % 4) + l.val, by omega⟩ : Fin 512)
  refine Eq.trans ?_ h
  unfold val_main_v162
  refine shapeCast_apply (s := S8x8192x512) (t := S8x32768x128) _ _ _ _ ?_
  refine (Shape.rowMajor_val_three (d := ![8, 8192, 512]) _).trans (Eq.trans ?_ (Shape.rowMajor_val_three (d := ![8, 32768, 128]) _).symm)
  show (b.val * 8192 + p.val / 4) * 512 + (128 * (p.val % 4) + l.val) = (b.val * 32768 + p.val) * 128 + l.val
  omega
/-- keys of the other heads, -/
theorem result_keysM : val_main_v163 (F := Ideal) x sc sh g w = keysM x sc sh g w := by
  funext i
  obtain ⟨b, l, n, rfl⟩ : ∃ (b : Fin 8) (l : Fin 8192) (n : Fin 512), i = ix3 b l n := ⟨i (0 : Fin 3), i (1 : Fin 3), i (2 : Fin 3), eq_ix3 i⟩
  refine Eq.trans ?_ (turned160_apply x sc sh g w b l n)
  unfold val_main_v163
  refine shapeCast_apply (s := S8x8192x8x64) (t := S8x8192x512) _ _ _ _ ?_
  refine (Shape.rowMajor_val_four (d := ![8, 8192, 8, 64]) _).trans (Eq.trans ?_ (Shape.rowMajor_val_three (d := ![8, 8192, 512]) _).symm)
  show ((b.val * 8192 + l.val) * 8 + n.val / 64) * 64 + n.val % 64 = (b.val * 8192 + l.val) * 512 + n.val
  omega
/-- their values, -/
theorem result_valuesM : val_main_v28 (F := Ideal) x sc sh g w = valuesM x sc sh g w := by
  funext i
  obtain ⟨b, l, n, rfl⟩ : ∃ (b : Fin 8) (l : Fin 8192) (n : Fin 512), i = ix3 b l n := ⟨i (0 : Fin 3), i (1 : Fin 3), i (2 : Fin 3), eq_ix3 i⟩
  exact column28_apply x sc sh g w b l n
/-- their queries -/
theorem result_queriesM : val_main_v164 (F := Ideal) x sc sh g w = queriesM x sc sh g w := by
  funext i
  obtain ⟨b, l, n, rfl⟩ : ∃ (b : Fin 8) (l : Fin 8192) (n : Fin 512), i = ix3 b l n := ⟨i (0 : Fin 3), i (1 : Fin 3), i (2 : Fin 3), eq_ix3 i⟩
  refine Eq.trans (b := val_main_v128 (F := Ideal) x sc sh g w (ix4 b l (⟨n.val / 64, by omega⟩ : Fin 8) (⟨n.val % 64, by omega⟩ : Fin 64))) ?_ ?_
  · unfold val_main_v164
    refine shapeCast_apply (s := S8x8192x8x64) (t := S8x8192x512) _ _ _ _ ?_
    refine (Shape.rowMajor_val_four (d := ![8, 8192, 8, 64]) _).trans (Eq.trans ?_ (Shape.rowMajor_val_three (d := ![8, 8192, 512]) _).symm)
    show ((b.val * 8192 + l.val) * 8 + n.val / 64) * 64 + n.val % 64 = (b.val * 8192 + l.val) * 512 + n.val
    omega
  · rw [val_main_v128_apply, val_main_v127_apply]
    exact congrArg (· * scale) (turned126_apply x sc sh g w b l n)
/-- and those of the gated heads, in columns. -/
theorem result_queriesD : val_main_v167 (F := Ideal) x sc sh g w = queriesD x sc sh g w := by
  funext i
  obtain ⟨b, n, l, rfl⟩ : ∃ (b : Fin 8) (n : Fin 512) (l : Fin 8192), i = ix3 b n l := ⟨i (0 : Fin 3), i (1 : Fin 3), i (2 : Fin 3), eq_ix3 i⟩
  refine Eq.trans (b := val_main_v62 (F := Ideal) x sc sh g w (ix5 b l (⟨n.val / 128, by omega⟩ : Fin 4) (⟨n.val / 64 % 2, by omega⟩ : Fin 2) (⟨n.val % 64, by omega⟩ : Fin 64))) ?_ ?_
  · have h : idx_main_v166 (ix3 b n l) = ix3 b l n := funext fun a => match a with | ⟨0, _⟩ => rfl | ⟨1, _⟩ => rfl | ⟨2, _⟩ => rfl
    refine Eq.trans (b := val_main_v166 (F := Ideal) x sc sh g w (ix3 b n l)) rfl ?_
    rw [val_main_v166_apply, h]
    unfold val_main_v165
    refine shapeCast_apply (s := S8x8192x4x2x64) (t := S8x8192x512) _ _ _ _ ?_
    refine (Shape.rowMajor_val_five (d := ![8, 8192, 4, 2, 64]) _).trans (Eq.trans ?_ (Shape.rowMajor_val_three (d := ![8, 8192, 512]) _).symm)
    show (((b.val * 8192 + l.val) * 4 + n.val / 128) * 2 + n.val / 64 % 2) * 64 + n.val % 64 = (b.val * 8192 + l.val) * 512 + n.val
    omega
  · rw [val_main_v62_apply, val_main_v61_apply]
    exact congrArg (· * scale) (turned60_apply x sc sh g w b l n)

end args

end Cert.Reference2Ideal.Qkv

end
-- ==== Proof.Sample.Spec.lean ====
/- The sample's projection as formulas over the extended reals, which the kernel's proof and the reference's both arrive at.

   Each of the 128 rows of the sample has a scale and a shift of its own and stands at position 8192, after its 8192 earlier rows. -/
module

public import proofs.«01_k».proof.Proof.Qkv.Spec

@[expose] public section

noncomputable section

namespace Cert.Sample

open Idealize.ShloMosaic Idealize.ShloMosaic.ValueIdx Cert.Qkv

/-- The angle of position 8192 for the pair `j`: the position times the theta to the power `-2 j / 16`. -/
def pastAngle (j : Fin 8) : EReal :=
  FloatOps.sitofp (F := Ideal) (w := 32) .f32 8192#32
    * Ideal.pow (Ideal.ofBits .f32 0x48F42400#32)
        (Ideal.div (Ideal.ofBits .f32 0xC0000000#32 * FloatOps.sitofp (F := Ideal) (w := 32) .f32 (BitVec.ofNat 32 j.val)) (Ideal.ofBits .f32 0x41800000#32))

/-- Its cosine and sine. -/
def pastCosine (j : Fin 8) : EReal := Ideal.hostUnary .cos (pastAngle j)
def pastSine (j : Fin 8) : EReal := Ideal.hostUnary .sin (pastAngle j)

/-- The scale of the scores, an eighth. -/
def eighth : EReal := Ideal.ofBits .f32 0x3E000000#32

section layer

variable (x : (⟨3, ![128, 1, 1024]⟩ : Shape).Idx → EReal) (sc sh : (⟨2, ![128, 1024]⟩ : Shape).Idx → EReal)
  (g : (⟨1, ![1024]⟩ : Shape).Idx → EReal) (w : (⟨2, ![1024, 3072]⟩ : Shape).Idx → EReal)

/-- Row `r` projected, at column `n`. -/
def proj (r : Fin 128) (n : Fin 3072) : EReal :=
  projected (fun k => x (ix3 r (0 : Fin 1) k)) (fun k => g (ix1 k)) (fun k => sc (ix2 r k)) (fun k => sh (ix2 r k)) (fun k => w (ix2 k n))

/-- The six columns of it: the column from `o`, plain, -/
def plain (o : ℕ) (ho : o ≤ 2560) (r : Fin 128) (n : Fin 512) : EReal := proj x sc sh g w r ⟨o + n.val, by omega⟩
/-- and turned. -/
def rotated (o : ℕ) (ho : o ≤ 2560) (r : Fin 128) (n : Fin 512) : EReal := turned (plain x sc sh g w o ho r) pastCosine pastSine n

/-- A column's result. -/
def inRows (f : Fin 128 → Fin 512 → EReal) : (⟨3, ![1, 128, 512]⟩ : Shape).Idx → EReal := fun i => f (i 1) (i 2)

/-- THE SIX RESULTS: the gated heads' queries, keys and values, and the other heads'. -/
def queriesD := inRows fun r n => rotated x sc sh g w 0 (by decide) r n * eighth
def keysD := inRows (rotated x sc sh g w 512 (by decide))
def valuesD := inRows (plain x sc sh g w 1024 (by decide))
def queriesM := inRows fun r n => rotated x sc sh g w 1536 (by decide) r n * eighth
def keysM := inRows (rotated x sc sh g w 2048 (by decide))
def valuesM := inRows (plain x sc sh g w 2560 (by decide))

end layer

end Cert.Sample

end
-- ==== Proof.Sample.Tables.lean ====
/- The tables of the sample's rotation, as the launch finds them: every row's position is 8192, and each of 128 lanes has a factor of
   the number itself (`V_c`), of the number eight lanes after it (`V_sa`) and of the number eight lanes before it (`V_sb`). The host's
   groups of operations are those of the prompt's tables, whose lemmas about words serve here too. -/
module

public import proofs.«01_k».proof.Proof.Gen.Kernel4Ideal.Frame
public import proofs.«01_k».proof.Proof.Qkv.Tables
public import proofs.«01_k».proof.Proof.Sample.Spec
public import Idealize.ShloMosaic.Lib.Pipeline.ValueKit.Geometry
public import Idealize.ShloMosaic.Lib.Pipeline.ValueKit.Tiles
public import Idealize.ShloMosaic.Lib.StableHlo.Run
public import Idealize.ShloMosaic.Lib.ValueLayout

@[expose] public section

set_option maxRecDepth 16384

noncomputable section

namespace Cert.Kernel4Ideal.Sample

open Cert.Kernel4Ideal Cert.Kernel4Ideal.Gen Cert.Qkv Cert.Sample
open Cert.Kernel2Ideal.Qkv (rem remRow remRow_apply rem_head rem_pair pair columns columns_apply below above below16 below8 between select_bit spot)
open Idealize.ShloMosaic Idealize.ShloMosaic.TcCoe Idealize.ShloMosaic.ValueIdx
open Idealize.ShloMosaic.StableHlo (after)

/-! ## The groups of host operations -/

/-- Taking columns of a table of eight by words that name pairs. -/
theorem gather_pairs (f : S128x8.Idx → EReal) (idx : IVec S128x1 32) (l : Fin 128) (n : Fin 128)
    (hi : idx (ix2 n (0 : Fin 1)) = BitVec.ofNat 32 (n.val % 8)) :
    Host.gather gather_S128x8_S128x1_S128x128_0_1_n_n_1_1_1281 f idx (ix2 l n) = f (ix2 l (pair n)) := by
  generalize hd : gather_S128x8_S128x1_S128x128_0_1_n_n_1_1_1281 = d
  have hb : ∀ a : Fin 2, d.batchCoord (ix2 l n) a = 0 := fun a => d.batchCoord_eq_zero _ _ (by subst hd; exact List.not_mem_nil)
  have h1 : d.offCoord (ix2 l n) (1 : Fin 2) = 0 :=
    d.offCoord_eq_zero _ _ (by subst hd; exact show (1 : Fin 2) ∉ ([0] : List (Fin 2)) by decide)
  have m0 : (0 : Fin 2) ∈ d.sKept := by subst hd; exact show (0 : Fin 2) ∈ ([0] : List (Fin 2)) by decide
  have s1 : (1 : Fin 2) ∈ d.startIndexMap := by subst hd; exact show (1 : Fin 2) ∈ ([1] : List (Fin 2)) by decide
  have s0 : (0 : Fin 2) ∉ d.startIndexMap := by subst hd; exact show (0 : Fin 2) ∉ ([1] : List (Fin 2)) by decide
  unfold Host.gather
  refine congrArg f (funext fun a => Fin.ext ?_)
  match a with
  | ⟨0, _⟩ =>
    show d.start (ix2 l n) idx (0 : Fin 2) + d.batchCoord (ix2 l n) (0 : Fin 2) + d.offCoord (ix2 l n) (0 : Fin 2) = l.val
    rw [hb]
    unfold GatherDims.start GatherDims.offCoord
    rw [dif_neg s0, dif_pos m0, Nat.zero_add]
    subst hd
    rfl
  | ⟨1, _⟩ =>
    show d.start (ix2 l n) idx (1 : Fin 2) + d.batchCoord (ix2 l n) (1 : Fin 2) + d.offCoord (ix2 l n) (1 : Fin 2) = n.val % 8
    rw [hb, h1]
    unfold GatherDims.start
    rw [dif_pos s1]
    subst hd
    have hx : gather_S128x8_S128x1_S128x128_0_1_n_n_1_1_1281.siIdx (ix2 l n) ⟨0, Nat.one_pos⟩ = ix2 n (0 : Fin 1) := by
      funext a
      refine Fin.ext ?_
      match a with
      | ⟨0, _⟩ => rfl
      | ⟨1, _⟩ => rfl
    refine Eq.trans (b := min (idx (gather_S128x8_S128x1_S128x128_0_1_n_n_1_1_1281.siIdx (ix2 l n) ⟨0, Nat.one_pos⟩)).toInt.toNat (8 - 1)) rfl ?_
    rw [hx, hi]
    have : ∀ k : Fin 8, min (BitVec.ofNat 32 k.val).toInt.toNat (8 - 1) = k.val := by decide
    exact this (pair n)

section groups

variable (W : Valuation τ sig (Elt Ideal))

/-- The first group: cosines and sines of the angles, and the lanes. -/
theorem group0_cos (l : Fin 128) (j : Fin 8) : (after hostOps0 W (Proc.devRef .tc main_v14) : S128x8.Idx → EReal) (ix2 l j) = pastCosine j := by
  unfold hostOps0
  after_results_simp
  rfl
theorem group0_sin (l : Fin 128) (j : Fin 8) : (after hostOps0 W (Proc.devRef .tc main_v15) : S128x8.Idx → EReal) (ix2 l j) = pastSine j := by
  unfold hostOps0
  after_results_simp
  rfl
theorem group0_lane (n : Fin 128) : (after hostOps0 W (Proc.devRef .tc main_v16) : S128.Idx → BitVec 32) (ix1 n) = BitVec.ofNat 32 n.val := by
  unfold hostOps0
  after_results_simp
  rfl
theorem group0_head (i : S_.Idx) : (after hostOps0 W (Proc.devRef .tc main_c_2) : S_.Idx → BitVec 32) i = 64#32 := by
  unfold hostOps0
  after_results_simp
  rfl

/-- The second: remainders by 64. -/
theorem group1 : (after hostOps0_1 W (Proc.devRef .tc main_v17) : S128.Idx → BitVec 32)
    = remRow (W (Proc.devRef .tc main_v16)) (W (Proc.devRef .tc main_c_2)) := by
  unfold hostOps0_1
  after_results_simp
  simp only [StableHlo.TRef.ofBuf_toBuf, id_eq]
  change StableHlo.TRef.toBuf (Val := Elt Ideal) (.of main_v17 : StableHlo.TRef sig ⟨S128, .i32⟩)
    (remRow (StableHlo.TRef.ofBuf (Val := Elt Ideal) (.of main_v16 : StableHlo.TRef sig ⟨S128, .i32⟩) (W (Proc.devRef .tc main_v16)))
      (StableHlo.TRef.ofBuf (Val := Elt Ideal) (.of main_c_2 : StableHlo.TRef sig ⟨S_, .i32⟩) (W (Proc.devRef .tc main_c_2)))) = _
  rfl

/-- The third: the number eight. -/
theorem group2 : (after hostOps0_2 W (Proc.devRef .tc main_c_3) : S_.Idx → BitVec 32) = constantI S_ 32 8#32 := by
  unfold hostOps0_2
  after_results_simp

/-- The fourth: remainders by it. -/
theorem group3 : (after hostOps0_3 W (Proc.devRef .tc main_v18) : S128.Idx → BitVec 32)
    = remRow (W (Proc.devRef .tc main_v17)) (W (Proc.devRef .tc main_c_3)) := by
  unfold hostOps0_3
  after_results_simp
  simp only [StableHlo.TRef.ofBuf_toBuf, id_eq]
  change StableHlo.TRef.toBuf (Val := Elt Ideal) (.of main_v18 : StableHlo.TRef sig ⟨S128, .i32⟩)
    (remRow (StableHlo.TRef.ofBuf (Val := Elt Ideal) (.of main_v17 : StableHlo.TRef sig ⟨S128, .i32⟩) (W (Proc.devRef .tc main_v17)))
      (StableHlo.TRef.ofBuf (Val := Elt Ideal) (.of main_c_3 : StableHlo.TRef sig ⟨S_, .i32⟩) (W (Proc.devRef .tc main_c_3)))) = _
  rfl

/-- One entry where a row of bits is set, another elsewhere. -/
def choose (b : IVec S128 1) (x : FVec Ideal S128x128 .f32) (z : FVec Ideal S_ .f32) : FVec Ideal S128x128 .f32 :=
  select (broadcastInDim S128x128 ![1] bcast_S128_S128x128_1 b) x (broadcastInDim S128x128 ![] bcast_S_S128x128 z)

theorem choose_apply (b : IVec S128 1) (x : FVec Ideal S128x128 .f32) (z : FVec Ideal S_ .f32) (l : Fin 128) (n : Fin 128) :
    choose b x z (ix2 l n) = Scalar.select (b (ix1 n)) (x (ix2 l n)) (z ix0) := by
  unfold choose
  show Scalar.select (broadcastInDim S128x128 ![1] bcast_S128_S128x128_1 b (ix2 l n)) (x (ix2 l n))
    (broadcastInDim S128x128 ![] bcast_S_S128x128 z (ix2 l n)) = _
  rw [broadcastInDim_apply _ _ b _ (ix1 n) (fun a => by match a with | ⟨0, _⟩ => exact rfl),
    broadcastInDim_apply _ _ z _ ix0 (fun a => a.elim0)]

/-- The lanes that turn. -/
theorem group4_v20 : (after hostOps0_4 W (Proc.devRef .tc main_v20) : IVec S128 1) = below (W (Proc.devRef .tc main_v17)) 16#32 := by
  unfold hostOps0_4
  after_results_simp
  rfl

/-- Their cosines. -/
theorem group4_v27 : (after hostOps0_4 W (Proc.devRef .tc main_v27) : FVec Ideal S128x128 .f32) = Host.gather gather_S128x8_S128x1_S128x128_0_1_n_n_1_1_1281 (W (Proc.devRef .tc main_v14) : FVec Ideal S128x8 .f32) (columns (W (Proc.devRef .tc main_v18))) := by
  unfold hostOps0_4
  after_results_simp
  rfl

/-- The factor of the others. -/
theorem group4_cst_7 : (after hostOps0_4 W (Proc.devRef .tc main_cst_7) : FVec Ideal S_ .f32) = (constant S_ .f32 0x3F800000#32 : FVec Ideal S_ .f32) := by
  unfold hostOps0_4
  after_results_simp

/-- The factors of the number itself. -/
theorem group5_v28 : (after hostOps0_5 W (Proc.devRef .tc main_v28) : FVec Ideal S128x128 .f32) = choose (W (Proc.devRef .tc main_v20)) (W (Proc.devRef .tc main_v27)) (W (Proc.devRef .tc main_cst_7)) := by
  unfold hostOps0_5
  after_results_simp
  simp only [StableHlo.TRef.ofBuf_toBuf, id_eq]
  change StableHlo.TRef.toBuf (Val := Elt Ideal) (.of main_v28 : StableHlo.TRef sig ⟨S128x128, .f32⟩)
    (choose (StableHlo.TRef.ofBuf (Val := Elt Ideal) (.of main_v20 : StableHlo.TRef sig ⟨S128, .i1⟩) (W (Proc.devRef .tc main_v20)))
      (StableHlo.TRef.ofBuf (Val := Elt Ideal) (.of main_v27 : StableHlo.TRef sig ⟨S128x128, .f32⟩) (W (Proc.devRef .tc main_v27)))
      (StableHlo.TRef.ofBuf (Val := Elt Ideal) (.of main_cst_7 : StableHlo.TRef sig ⟨S_, .f32⟩) (W (Proc.devRef .tc main_cst_7)))) = _
  rfl

/-- The first half of the lanes that turn. -/
theorem group6_v30 : (after hostOps0_6 W (Proc.devRef .tc main_v30) : IVec S128 1) = below (W (Proc.devRef .tc main_v17)) 8#32 := by
  unfold hostOps0_6
  after_results_simp
  rfl

/-- Their sines, with the sign turned. -/
theorem group6_v38 : (after hostOps0_6 W (Proc.devRef .tc main_v38) : FVec Ideal S128x128 .f32) = (Host.negf (Host.gather gather_S128x8_S128x1_S128x128_0_1_n_n_1_1_1281 (W (Proc.devRef .tc main_v15) : FVec Ideal S128x8 .f32) (columns (W (Proc.devRef .tc main_v18)))) : FVec Ideal S128x128 .f32) := by
  unfold hostOps0_6
  after_results_simp
  rfl

/-- The factor of the others. -/
theorem group6_cst_11 : (after hostOps0_6 W (Proc.devRef .tc main_cst_11) : FVec Ideal S_ .f32) = (constant S_ .f32 0x00000000#32 : FVec Ideal S_ .f32) := by
  unfold hostOps0_6
  after_results_simp

/-- The factors of the number eight lanes after. -/
theorem group7_v39 : (after hostOps0_7 W (Proc.devRef .tc main_v39) : FVec Ideal S128x128 .f32) = choose (W (Proc.devRef .tc main_v30)) (W (Proc.devRef .tc main_v38)) (W (Proc.devRef .tc main_cst_11)) := by
  unfold hostOps0_7
  after_results_simp
  simp only [StableHlo.TRef.ofBuf_toBuf, id_eq]
  change StableHlo.TRef.toBuf (Val := Elt Ideal) (.of main_v39 : StableHlo.TRef sig ⟨S128x128, .f32⟩)
    (choose (StableHlo.TRef.ofBuf (Val := Elt Ideal) (.of main_v30 : StableHlo.TRef sig ⟨S128, .i1⟩) (W (Proc.devRef .tc main_v30)))
      (StableHlo.TRef.ofBuf (Val := Elt Ideal) (.of main_v38 : StableHlo.TRef sig ⟨S128x128, .f32⟩) (W (Proc.devRef .tc main_v38)))
      (StableHlo.TRef.ofBuf (Val := Elt Ideal) (.of main_cst_11 : StableHlo.TRef sig ⟨S_, .f32⟩) (W (Proc.devRef .tc main_cst_11)))) = _
  rfl

/-- The second half of the lanes that turn. -/
theorem group8_v44 : (after hostOps0_8 W (Proc.devRef .tc main_v44) : IVec S128 1) = andi (above (W (Proc.devRef .tc main_v17)) 8#32) (below (W (Proc.devRef .tc main_v17)) 16#32) := by
  unfold hostOps0_8
  after_results_simp
  rfl

/-- Their sines. -/
theorem group8_v51 : (after hostOps0_8 W (Proc.devRef .tc main_v51) : FVec Ideal S128x128 .f32) = Host.gather gather_S128x8_S128x1_S128x128_0_1_n_n_1_1_1281 (W (Proc.devRef .tc main_v15) : FVec Ideal S128x8 .f32) (columns (W (Proc.devRef .tc main_v18))) := by
  unfold hostOps0_8
  after_results_simp
  rfl

/-- The factor of the others. -/
theorem group8_cst_16 : (after hostOps0_8 W (Proc.devRef .tc main_cst_16) : FVec Ideal S_ .f32) = (constant S_ .f32 0x00000000#32 : FVec Ideal S_ .f32) := by
  unfold hostOps0_8
  after_results_simp

/-- The factors of the number eight lanes before. -/
theorem group9_v52 : (after hostOps0_9 W (Proc.devRef .tc main_v52) : FVec Ideal S128x128 .f32) = choose (W (Proc.devRef .tc main_v44)) (W (Proc.devRef .tc main_v51)) (W (Proc.devRef .tc main_cst_16)) := by
  unfold hostOps0_9
  after_results_simp
  simp only [StableHlo.TRef.ofBuf_toBuf, id_eq]
  change StableHlo.TRef.toBuf (Val := Elt Ideal) (.of main_v52 : StableHlo.TRef sig ⟨S128x128, .f32⟩)
    (choose (StableHlo.TRef.ofBuf (Val := Elt Ideal) (.of main_v44 : StableHlo.TRef sig ⟨S128, .i1⟩) (W (Proc.devRef .tc main_v44)))
      (StableHlo.TRef.ofBuf (Val := Elt Ideal) (.of main_v51 : StableHlo.TRef sig ⟨S128x128, .f32⟩) (W (Proc.devRef .tc main_v51)))
      (StableHlo.TRef.ofBuf (Val := Elt Ideal) (.of main_cst_16 : StableHlo.TRef sig ⟨S_, .f32⟩) (W (Proc.devRef .tc main_cst_16)))) = _
  rfl

/-- What group 1 writes, -/
def written1 : List (Ref sig .tc) := [main_call0_v0, main_call0_c, main_call0_v1, main_call0_c_0, main_call0_v2, main_call0_v3, main_call0_v4, main_call0_c_1, main_call0_v5, main_call0_v6, main_call0_c_2, main_call0_v7, main_call0_v8, main_call0_c_3, main_call0_v9, main_call0_v10, main_call0_v11, main_call0_v12, main_call0_v13, main_call0_v14, main_v17]
/-- and it leaves the rest. -/
theorem keep1 {r : Ref sig .tc} (hr : r ∉ written1) : after hostOps0_1 W (Proc.devRef .tc r) = W (Proc.devRef .tc r) :=
  StableHlo.after_of_writes_sub hostOps0_1 W (StableHlo.forall_writes_sub_of_map (W := written1) rfl) hr

/-- What group 2 writes, -/
def written2 : List (Ref sig .tc) := [main_c_3]
/-- and it leaves the rest. -/
theorem keep2 {r : Ref sig .tc} (hr : r ∉ written2) : after hostOps0_2 W (Proc.devRef .tc r) = W (Proc.devRef .tc r) :=
  StableHlo.after_of_writes_sub hostOps0_2 W (StableHlo.forall_writes_sub_of_map (W := written2) rfl) hr

/-- What group 3 writes, -/
def written3 : List (Ref sig .tc) := [main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v18]
/-- and it leaves the rest. -/
theorem keep3 {r : Ref sig .tc} (hr : r ∉ written3) : after hostOps0_3 W (Proc.devRef .tc r) = W (Proc.devRef .tc r) :=
  StableHlo.after_of_writes_sub hostOps0_3 W (StableHlo.forall_writes_sub_of_map (W := written3) rfl) hr

/-- What group 4 writes, -/
def written4 : List (Ref sig .tc) := [main_c_4, main_v19, main_v20, main_c_5, main_v21, main_v22, main_c_6, main_v23, main_v24, main_v25, main_v26, main_v27, main_cst_7]
/-- and it leaves the rest. -/
theorem keep4 {r : Ref sig .tc} (hr : r ∉ written4) : after hostOps0_4 W (Proc.devRef .tc r) = W (Proc.devRef .tc r) :=
  StableHlo.after_of_writes_sub hostOps0_4 W (StableHlo.forall_writes_sub_of_map (W := written4) rfl) hr

/-- What group 5 writes, -/
def written5 : List (Ref sig .tc) := [main_call2_v0, main_call2_v1, main_call2_v2, main_v28]
/-- and it leaves the rest. -/
theorem keep5 {r : Ref sig .tc} (hr : r ∉ written5) : after hostOps0_5 W (Proc.devRef .tc r) = W (Proc.devRef .tc r) :=
  StableHlo.after_of_writes_sub hostOps0_5 W (StableHlo.forall_writes_sub_of_map (W := written5) rfl) hr

/-- What group 6 writes, -/
def written6 : List (Ref sig .tc) := [main_c_8, main_v29, main_v30, main_c_9, main_v31, main_v32, main_c_10, main_v33, main_v34, main_v35, main_v36, main_v37, main_v38, main_cst_11]
/-- and it leaves the rest. -/
theorem keep6 {r : Ref sig .tc} (hr : r ∉ written6) : after hostOps0_6 W (Proc.devRef .tc r) = W (Proc.devRef .tc r) :=
  StableHlo.after_of_writes_sub hostOps0_6 W (StableHlo.forall_writes_sub_of_map (W := written6) rfl) hr

/-- What group 7 writes, -/
def written7 : List (Ref sig .tc) := [main_call3_v0, main_call3_v1, main_call3_v2, main_v39]
/-- and it leaves the rest. -/
theorem keep7 {r : Ref sig .tc} (hr : r ∉ written7) : after hostOps0_7 W (Proc.devRef .tc r) = W (Proc.devRef .tc r) :=
  StableHlo.after_of_writes_sub hostOps0_7 W (StableHlo.forall_writes_sub_of_map (W := written7) rfl) hr

/-- What group 8 writes, -/
def written8 : List (Ref sig .tc) := [main_c_12, main_v40, main_v41, main_c_13, main_v42, main_v43, main_v44, main_c_14, main_v45, main_v46, main_c_15, main_v47, main_v48, main_v49, main_v50, main_v51, main_cst_16]
/-- and it leaves the rest. -/
theorem keep8 {r : Ref sig .tc} (hr : r ∉ written8) : after hostOps0_8 W (Proc.devRef .tc r) = W (Proc.devRef .tc r) :=
  StableHlo.after_of_writes_sub hostOps0_8 W (StableHlo.forall_writes_sub_of_map (W := written8) rfl) hr

/-- What group 9 writes, -/
def written9 : List (Ref sig .tc) := [main_call4_v0, main_call4_v1, main_call4_v2, main_v52]
/-- and it leaves the rest. -/
theorem keep9 {r : Ref sig .tc} (hr : r ∉ written9) : after hostOps0_9 W (Proc.devRef .tc r) = W (Proc.devRef .tc r) :=
  StableHlo.after_of_writes_sub hostOps0_9 W (StableHlo.forall_writes_sub_of_map (W := written9) rfl) hr

/-- What group 10 writes, -/
def written10 : List (Ref sig .tc) := [main_v53, main_v54, main_v55, main_v56, main_v57]
/-- and it leaves the rest. -/
theorem keep10 {r : Ref sig .tc} (hr : r ∉ written10) : after hostOps0_10 W (Proc.devRef .tc r) = W (Proc.devRef .tc r) :=
  StableHlo.after_of_writes_sub hostOps0_10 W (StableHlo.forall_writes_sub_of_map (W := written10) rfl) hr

end groups

/-! ## The tables -/

section tables

variable (m : (ℓ : Loc nD τ sig) → Buf (Elt Ideal) ℓ) (c : Dev nD)

/-- The buffers after each group of host operations. -/
def U0 : Valuation τ sig (Elt Ideal) := after hostOps0 fun b => m (c, b)
def U1 : Valuation τ sig (Elt Ideal) := after hostOps0_1 (U0 m c)
def U2 : Valuation τ sig (Elt Ideal) := after hostOps0_2 (U1 m c)
def U3 : Valuation τ sig (Elt Ideal) := after hostOps0_3 (U2 m c)
def U4 : Valuation τ sig (Elt Ideal) := after hostOps0_4 (U3 m c)
def U5 : Valuation τ sig (Elt Ideal) := after hostOps0_5 (U4 m c)
def U6 : Valuation τ sig (Elt Ideal) := after hostOps0_6 (U5 m c)
def U7 : Valuation τ sig (Elt Ideal) := after hostOps0_7 (U6 m c)
def U8 : Valuation τ sig (Elt Ideal) := after hostOps0_8 (U7 m c)
def U9 : Valuation τ sig (Elt Ideal) := after hostOps0_9 (U8 m c)

/-- What the launch finds is what the last group leaves. -/
theorem V_eq (b : Ref sig .tc) : V m c b = after hostOps0_10 (U9 m c) (Proc.devRef .tc b) := by
  unfold V U9 U8 U7 U6 U5 U4 U3 U2 U1 U0
  simp only [List.flatten_cons, List.flatten_nil, List.append_nil, Idealize.ShloMosaic.StableHlo.after_append]

/-- Groups one to three leave the table. -/
theorem U3_v14 : U3 m c (Proc.devRef .tc main_v14) = U0 m c (Proc.devRef .tc main_v14) :=
  ((keep3 _ (r := main_v14) (by decide)).trans (keep2 _ (r := main_v14) (by decide))).trans (keep1 _ (r := main_v14) (by decide))
/-- Groups one to three leave the table. -/
theorem U3_v15 : U3 m c (Proc.devRef .tc main_v15) = U0 m c (Proc.devRef .tc main_v15) :=
  ((keep3 _ (r := main_v15) (by decide)).trans (keep2 _ (r := main_v15) (by decide))).trans (keep1 _ (r := main_v15) (by decide))
/-- Groups two and three leave the lanes' places. -/
theorem U3_v17 : U3 m c (Proc.devRef .tc main_v17) = U1 m c (Proc.devRef .tc main_v17) :=
  (keep3 _ (r := main_v17) (by decide)).trans (keep2 _ (r := main_v17) (by decide))
/-- So does group two alone. -/
theorem U2_v17 : U2 m c (Proc.devRef .tc main_v17) = U1 m c (Proc.devRef .tc main_v17) :=
  keep2 _ (r := main_v17) (by decide)
/-- Groups four and five leave it. -/
theorem U5_v15 : U5 m c (Proc.devRef .tc main_v15) = U3 m c (Proc.devRef .tc main_v15) :=
  (keep5 _ (r := main_v15) (by decide)).trans (keep4 _ (r := main_v15) (by decide))
/-- And groups six and seven. -/
theorem U7_v15 : U7 m c (Proc.devRef .tc main_v15) = U3 m c (Proc.devRef .tc main_v15) :=
  (((keep7 _ (r := main_v15) (by decide)).trans (keep6 _ (r := main_v15) (by decide))).trans (keep5 _ (r := main_v15) (by decide))).trans (keep4 _ (r := main_v15) (by decide))
/-- Groups four and five leave it. -/
theorem U5_v17 : U5 m c (Proc.devRef .tc main_v17) = U3 m c (Proc.devRef .tc main_v17) :=
  (keep5 _ (r := main_v17) (by decide)).trans (keep4 _ (r := main_v17) (by decide))
/-- And groups six and seven. -/
theorem U7_v17 : U7 m c (Proc.devRef .tc main_v17) = U3 m c (Proc.devRef .tc main_v17) :=
  (((keep7 _ (r := main_v17) (by decide)).trans (keep6 _ (r := main_v17) (by decide))).trans (keep5 _ (r := main_v17) (by decide))).trans (keep4 _ (r := main_v17) (by decide))
/-- Groups four and five leave it. -/
theorem U5_v18 : U5 m c (Proc.devRef .tc main_v18) = U3 m c (Proc.devRef .tc main_v18) :=
  (keep5 _ (r := main_v18) (by decide)).trans (keep4 _ (r := main_v18) (by decide))
/-- And groups six and seven. -/
theorem U7_v18 : U7 m c (Proc.devRef .tc main_v18) = U3 m c (Proc.devRef .tc main_v18) :=
  (((keep7 _ (r := main_v18) (by decide)).trans (keep6 _ (r := main_v18) (by decide))).trans (keep5 _ (r := main_v18) (by decide))).trans (keep4 _ (r := main_v18) (by decide))

/-- The place of a lane in its head, -/
theorem place (n : Fin 128) : (U3 m c (Proc.devRef .tc main_v17) : IVec S128 32) (ix1 n) = BitVec.ofNat 32 (n.val % 64) := by
  rw [U3_v17]
  unfold U1
  rw [group1, remRow_apply]
  unfold U0
  rw [group0_lane, group0_head]
  exact rem_head n
/-- and its pair. -/
theorem pairWord (n : Fin 128) : (U3 m c (Proc.devRef .tc main_v18) : IVec S128 32) (ix1 n) = BitVec.ofNat 32 (n.val % 8) := by
  have h := place m c n
  rw [U3_v17, ← U2_v17] at h
  unfold U3
  rw [group3, remRow_apply]
  refine (congrArg₂ rem h ?_).trans (rem_pair n)
  unfold U2
  rw [group2]
  rfl

/-- The cosines of a lane's pair, -/
theorem cosines (l : Fin 128) (n : Fin 128) : (U4 m c (Proc.devRef .tc main_v27) : FVec Ideal S128x128 .f32) (ix2 l n) = pastCosine (pair n) := by
  unfold U4
  rw [group4_v27]
  rw [gather_pairs _ _ l n (columns_apply _ n (pairWord m c n)), U3_v14]
  exact group0_cos _ l _
/-- and the sines. -/
theorem sines (l : Fin 128) (n : Fin 128) :
    Host.gather gather_S128x8_S128x1_S128x128_0_1_n_n_1_1_1281 (U3 m c (Proc.devRef .tc main_v15) : FVec Ideal S128x8 .f32)
      (columns (U3 m c (Proc.devRef .tc main_v18))) (ix2 l n) = pastSine (pair n) := by
  rw [gather_pairs _ _ l n (columns_apply _ n (pairWord m c n)), U3_v15]
  exact group0_sin _ l _

/-- The factors of the number itself: the cosine on the lanes that turn, one on the others. -/
theorem V_c (l : Fin 128) (n : Fin 128) : (V m c main_v28 : S128x128.Idx → EReal) (ix2 l n)
    = if n.val % 64 < 16 then pastCosine (pair n) else Ideal.ofBits .f32 0x3F800000#32 := by
  rw [V_eq, show after hostOps0_10 (U9 m c) (Proc.devRef .tc main_v28) = U5 m c (Proc.devRef .tc main_v28) from ((((keep10 _ (r := main_v28) (by decide)).trans (keep9 _ (r := main_v28) (by decide))).trans (keep8 _ (r := main_v28) (by decide))).trans (keep7 _ (r := main_v28) (by decide))).trans (keep6 _ (r := main_v28) (by decide))]
  unfold U5
  rw [group5_v28, choose_apply]
  have hb : (U4 m c (Proc.devRef .tc main_v20) : IVec S128 1) (ix1 n) = if n.val % 64 < 16 then 1#1 else 0#1 := by
    unfold U4
    rw [group4_v20]
    exact (congrArg (IntOp.cmpi .slt · 16#32) (place m c n)).trans (below16 (spot n))
  have hz : (U4 m c (Proc.devRef .tc main_cst_7) : FVec Ideal S_ .f32) ix0 = Ideal.ofBits .f32 0x3F800000#32 := by
    unfold U4
    rw [group4_cst_7]
    rfl
  rw [hb, hz, cosines]
  exact select_bit _ _

/-- The factors of the number eight lanes after: minus the sine on the first half of them, zero on the others. -/
theorem V_sa (l : Fin 128) (n : Fin 128) : (V m c main_v39 : S128x128.Idx → EReal) (ix2 l n)
    = if n.val % 64 < 8 then -pastSine (pair n) else Ideal.ofBits .f32 0x00000000#32 := by
  rw [V_eq, show after hostOps0_10 (U9 m c) (Proc.devRef .tc main_v39) = U7 m c (Proc.devRef .tc main_v39) from ((keep10 _ (r := main_v39) (by decide)).trans (keep9 _ (r := main_v39) (by decide))).trans (keep8 _ (r := main_v39) (by decide))]
  unfold U7
  rw [group7_v39, choose_apply]
  have hb : (U6 m c (Proc.devRef .tc main_v30) : IVec S128 1) (ix1 n) = if n.val % 64 < 8 then 1#1 else 0#1 := by
    unfold U6
    rw [group6_v30, U5_v17]
    exact (congrArg (IntOp.cmpi .slt · 8#32) (place m c n)).trans (below8 (spot n))
  have hz : (U6 m c (Proc.devRef .tc main_cst_11) : FVec Ideal S_ .f32) ix0 = Ideal.ofBits .f32 0x00000000#32 := by
    unfold U6
    rw [group6_cst_11]
    rfl
  have hx : (U6 m c (Proc.devRef .tc main_v38) : FVec Ideal S128x128 .f32) (ix2 l n) = -pastSine (pair n) := by
    unfold U6
    rw [group6_v38, U5_v15, U5_v18]
    exact congrArg (fun y : EReal => -y) (sines m c l n)
  rw [hb, hz, hx]
  exact select_bit _ _

/-- The factors of the number eight lanes before: the sine on the second half, zero on the others. -/
theorem V_sb (l : Fin 128) (n : Fin 128) : (V m c main_v52 : S128x128.Idx → EReal) (ix2 l n)
    = if 8 ≤ n.val % 64 ∧ n.val % 64 < 16 then pastSine (pair n) else Ideal.ofBits .f32 0x00000000#32 := by
  rw [V_eq, show after hostOps0_10 (U9 m c) (Proc.devRef .tc main_v52) = U9 m c (Proc.devRef .tc main_v52) from keep10 _ (r := main_v52) (by decide)]
  unfold U9
  rw [group9_v52, choose_apply]
  have hb : (U8 m c (Proc.devRef .tc main_v44) : IVec S128 1) (ix1 n) = if 8 ≤ n.val % 64 ∧ n.val % 64 < 16 then 1#1 else 0#1 := by
    unfold U8
    rw [group8_v44, U7_v17]
    exact (congrArg (fun w => IntOp.andi (IntOp.cmpi .sge w 8#32) (IntOp.cmpi .slt w 16#32)) (place m c n)).trans (between (spot n))
  have hz : (U8 m c (Proc.devRef .tc main_cst_16) : FVec Ideal S_ .f32) ix0 = Ideal.ofBits .f32 0x00000000#32 := by
    unfold U8
    rw [group8_cst_16]
    rfl
  have hx : (U8 m c (Proc.devRef .tc main_v51) : FVec Ideal S128x128 .f32) (ix2 l n) = pastSine (pair n) := by
    unfold U8
    rw [group8_v51, U7_v15, U7_v18]
    exact sines m c l n
  rw [hb, hz, hx]
  exact select_bit _ _

/-- An argument before the last group. -/
theorem U9_arg {r : Ref sig .tc} (hr : r ∉ written10) : U9 m c (Proc.devRef .tc r) = V m c r :=
  ((V_eq m c r).trans (keep10 _ hr)).symm

/-- The rows, their scales and shifts, the norm's weights and the projection matrix are the arguments. -/
theorem V_x (r : Fin 128) (k : Fin 1024) : (V m c main_v53 : S1x128x1024.Idx → EReal) (ix3 (0 : Fin 1) r k)
    = (V m c main_arg0 : S128x1x1024.Idx → EReal) (ix3 r (0 : Fin 1) k) := by
  rw [← U9_arg m c (r := main_arg0) (by decide), V_eq]
  unfold hostOps0_10
  after_results_simp
  refine shapeCast_apply (s := S128x1x1024) (t := S1x128x1024) _ _ _ (ix3 r (0 : Fin 1) k) ?_
  refine (Shape.rowMajor_val_three (d := ![128, 1, 1024]) _).trans (Eq.trans ?_ (Shape.rowMajor_val_three (d := ![1, 128, 1024]) _).symm)
  show (r.val * 1 + 0) * 1024 + k.val = (0 * 128 + r.val) * 1024 + k.val
  omega
theorem V_sc (r : Fin 128) (k : Fin 1024) : (V m c main_v54 : S1x128x1024.Idx → EReal) (ix3 (0 : Fin 1) r k)
    = (V m c main_arg1 : S128x1024.Idx → EReal) (ix2 r k) := by
  rw [← U9_arg m c (r := main_arg1) (by decide), V_eq]
  unfold hostOps0_10
  after_results_simp
  rw [broadcastInDim_apply _ _ _ _ (ix2 r k) (fun a => by match a with | ⟨0, _⟩ => exact rfl | ⟨1, _⟩ => exact rfl)]
theorem V_sh (r : Fin 128) (k : Fin 1024) : (V m c main_v55 : S1x128x1024.Idx → EReal) (ix3 (0 : Fin 1) r k)
    = (V m c main_arg2 : S128x1024.Idx → EReal) (ix2 r k) := by
  rw [← U9_arg m c (r := main_arg2) (by decide), V_eq]
  unfold hostOps0_10
  after_results_simp
  rw [broadcastInDim_apply _ _ _ _ (ix2 r k) (fun a => by match a with | ⟨0, _⟩ => exact rfl | ⟨1, _⟩ => exact rfl)]
theorem V_g (k : Fin 1024) : (V m c main_v57 : S1x1024.Idx → EReal) (ix2 (0 : Fin 1) k) = (V m c main_arg3 : S1024.Idx → EReal) (ix1 k) := by
  rw [← U9_arg m c (r := main_arg3) (by decide), V_eq]
  unfold hostOps0_10
  after_results_simp
  refine shapeCast_apply (s := S1024) (t := S1x1024) _ _ _ (ix1 k) ?_
  refine (Shape.rowMajor_val_one _).trans (Eq.trans ?_ (Shape.rowMajor_val_two (d := ![1, 1024]) _).symm)
  show k.val = 0 * 1024 + k.val
  omega
theorem V_w (i : S1024x3072.Idx) : (V m c main_v56 : S1024x3072.Idx → EReal) i = (V m c main_arg4 : S1024x3072.Idx → EReal) i := by
  rw [← U9_arg m c (r := main_arg4) (by decide), V_eq]
  unfold hostOps0_10
  after_results_simp
  rfl

end tables

end Cert.Kernel4Ideal.Sample

end
-- ==== Proof.Sample.Value.lean ====
/- What the sample's projection's body computes, at an index: the projected rows (`rows_apply`), a column of 512 numbers turned by the
   three tables (`turnBlock_apply`), and the six results' blocks (`out8_apply` to `out13_apply`). -/
module

public import proofs.«01_k».proof.Proof.Gen.Kernel4Ideal.Frame
public import proofs.«01_k».proof.Proof.Qkv.Value
public import proofs.«01_k».proof.Proof.Sample.Spec
public import Idealize.ShloMosaic.Lib.KernelVsHost
public import Idealize.ShloMosaic.Lib.MatmulPlain
public import Idealize.ShloMosaic.Lib.Pipeline.ValueKit.Geometry
public import Idealize.ShloMosaic.Lib.Pipeline.ValueKit.Tiles
public import Idealize.ShloMosaic.Lib.ValueLayout
public import Idealize.ShloMosaic.Lib.ValueLayoutCasts
public import Idealize.ShloMosaic.PureOps.Ideal.Laws

@[expose] public section

set_option maxRecDepth 16384

noncomputable section

namespace Cert.Kernel4Ideal.Sample

open Cert.Kernel4Ideal Cert.Kernel4Ideal.Gen Cert.Qkv Cert.Sample
open Cert.Kernel2Ideal.Qkv (one_eq)
open Idealize.ShloMosaic Idealize.ShloMosaic.TcCoe Idealize.ShloMosaic.ValueIdx

/-! ## The projection -/

section rows

variable (x : Vec Ideal S1x128x1024 .f32) (g : Vec Ideal S1x1024 .f32) (sc sh : Vec Ideal S1x128x1024 .f32)

/-- The rows' mean squares. -/
def squares : FVec Ideal S128 .f32 :=
  multiReduction .add [1] S128 (mulf (shapeCast S128x1024 x shapeCasts_S1x128x1024_S128x1024 : FVec Ideal S128x1024 .f32) (shapeCast S128x1024 x shapeCasts_S1x128x1024_S128x1024))
    0x00000000#32 reduces_S128x1024_S128 (.inl rfl) rfl

theorem squares_apply (r : Fin 128) : (squares x (ix1 r) : EReal) = ∑ j : Fin 1024, (x (ix3 (0 : Fin 1) r j) : EReal) * x (ix3 (0 : Fin 1) r j) := by
  unfold squares
  refine (Ideal.multiReduction_add_single (mulf (shapeCast S128x1024 x shapeCasts_S1x128x1024_S128x1024 : FVec Ideal S128x1024 .f32) (shapeCast S128x1024 x shapeCasts_S1x128x1024_S128x1024)) _ _ _ _ (ix1 r)).trans ?_
  refine Finset.sum_congr rfl fun (k : Fin 1024) _ => ?_
  have e : reduces_S128x1024_S128.lift (ix1 r) k = ix2 r k := by
    funext a
    match a with
    | ⟨0, _⟩ => exact Fin.ext rfl
    | ⟨1, _⟩ => exact Fin.ext rfl
  rw [e]
  show (shapeCast S128x1024 x shapeCasts_S1x128x1024_S128x1024 (ix2 r k) : EReal) * shapeCast S128x1024 x shapeCasts_S1x128x1024_S128x1024 (ix2 r k) = _
  rw [shapeCast_1ab_ab_apply]

/-- The rows' factors. -/
def factors : FVec Ideal S128x1 .f32 :=
  rsqrt (addf (divf (shapeCast S128x1 (squares x) shapeCasts_S128_S128x1) (broadcast S128x1 (Scalar.ofBits .f32 0x44800000#32))) (broadcast S128x1 (Scalar.ofBits .f32 0x358637BD#32)))

theorem factors_apply (r : Fin 128) : (factors x (ix2 r (0 : Fin 1)) : EReal)
    = Ideal.rsqrt (Ideal.div (∑ j : Fin 1024, (x (ix3 (0 : Fin 1) r j) : EReal) * x (ix3 (0 : Fin 1) r j)) (Ideal.ofBits .f32 0x44800000#32) + Ideal.ofBits .f32 0x358637BD#32) := by
  rw [← squares_apply, ← shapeCast_a_a1_apply (squares x) shapeCasts_S128_S128x1 r (0 : Fin 1)]
  rfl

/-- The normed, weighted and modulated rows, each with its own scale and shift. -/
def inputs : FVec Ideal S128x1024 .f32 :=
  addf (mulf (mulf (mulf (shapeCast S128x1024 x shapeCasts_S1x128x1024_S128x1024) (broadcastTo S128x1024 (factors x) broadcasts_S128x1_S128x1024))
      (broadcastTo S128x1024 (shapeCast S1x1024 g shapeCasts_S1x1024_S1x1024) broadcasts_S1x1024_S128x1024))
      (addf (broadcast S128x1024 (Scalar.ofBits .f32 0x3F800000#32)) (shapeCast S128x1024 sc shapeCasts_S1x128x1024_S128x1024)))
    (shapeCast S128x1024 sh shapeCasts_S1x128x1024_S128x1024)

/-- One column spread over the rows. -/
theorem spread_apply (v : FVec Ideal S128x1 .f32) (r : Fin 128) (k : Fin 1024) :
    broadcastTo S128x1024 v broadcasts_S128x1_S128x1024 (ix2 r k) = v (ix2 r (0 : Fin 1)) :=
  broadcastTo_apply v broadcasts_S128x1_S128x1024 (ix2 r k) (ix2 r (0 : Fin 1)) fun a => by
    match a with
    | ⟨0, _⟩ => exact rfl
    | ⟨1, _⟩ => exact rfl

theorem inputs_apply (r : Fin 128) (k : Fin 1024) : (inputs x g sc sh (ix2 r k) : EReal)
    = modulated (fun j => x (ix3 (0 : Fin 1) r j)) (fun j => g (ix2 (0 : Fin 1) j)) (fun j => sc (ix3 (0 : Fin 1) r j)) (fun j => sh (ix3 (0 : Fin 1) r j)) k := by
  unfold inputs modulated
  show (shapeCast S128x1024 x shapeCasts_S1x128x1024_S128x1024 (ix2 r k) : EReal) * broadcastTo S128x1024 (factors x) broadcasts_S128x1_S128x1024 (ix2 r k)
      * broadcastTo S128x1024 (shapeCast S1x1024 g shapeCasts_S1x1024_S1x1024) broadcasts_S1x1024_S128x1024 (ix2 r k)
      * ((Ideal.ofBits .f32 0x3F800000#32 : EReal) + shapeCast S128x1024 sc shapeCasts_S1x128x1024_S128x1024 (ix2 r k))
      + shapeCast S128x1024 sh shapeCasts_S1x128x1024_S128x1024 (ix2 r k) = _
  rw [spread_apply, factors_apply, shapeCast_self g, broadcastTo_1b_ab_apply, shapeCast_1ab_ab_apply, shapeCast_1ab_ab_apply, shapeCast_1ab_ab_apply]

end rows

/-- The projected rows. -/
theorem rows_apply (x sc sh : Vec Ideal S1x128x1024 .f32) (g : Vec Ideal S1x1024 .f32) (w : Vec Ideal S1024x3072 .bf16) (r : Fin 128) (n : Fin 3072) :
    (k0_pay7 x g sc sh w (ix2 r n) : EReal)
    = projected (fun j => x (ix3 (0 : Fin 1) r j)) (fun j => g (ix2 (0 : Fin 1) j)) (fun j => sc (ix3 (0 : Fin 1) r j))
        (fun j => sh (ix3 (0 : Fin 1) r j)) (fun k => w (ix2 k n)) := by
  have hp : k0_pay7 x g sc sh w = matmul dot_S128x1024_S1024x3072_S128x3072_1_0_0_1_n_n none
      (truncf .bf16 (inputs x g sc sh) bitsLt_bf16_f32) (shapeCast S1024x3072 w shapeCasts_S1024x3072_S1024x3072)
      (constant S128x3072 .f32 0x00000000#32) := rfl
  rw [hp]
  refine (Ideal.matmul_plain_apply (M := 128) (K := 1024) (N := 3072) none _ _ _ r n).trans ?_
  rw [constant_apply, Ideal.ofBits_zero_f32, zero_add]
  unfold projected
  refine Finset.sum_congr rfl fun k _ => ?_
  rw [shapeCast_self]
  exact congrArg (· * _) (inputs_apply x g sc sh r k)

/-! ## The rotation -/

section turn

variable (y : FVec Ideal S128x512 .f32) (p c sa sb : FVec Ideal S128x128 .f32)

/-- Lanes 128 at a time: each number by its factor, plus its neighbours eight lanes after and before by theirs. -/
def turnPiece : FVec Ideal S128x128 .f32 :=
  addf (addf (mulf p c) (mulf (dynamicRotate 1 120#32 none p rotates_S128x128_d1) sa)) (mulf (dynamicRotate 1 8#32 none p rotates_S128x128_d1) sb)

/-- The four pieces of a column side by side. -/
def turnBlock : FVec Ideal S128x512 .f32 :=
  concatenate S128x512 1
    [⟨S128x128, turnPiece (extractStridedSlice S128x128 ![0, 0] y slices_S128x512_o0_0_S128x128) c sa sb⟩,
     ⟨S128x128, turnPiece (extractStridedSlice S128x128 ![0, 128] y slices_S128x512_o0_128_S128x128) c sa sb⟩,
     ⟨S128x128, turnPiece (extractStridedSlice S128x128 ![0, 256] y slices_S128x512_o0_256_S128x128) c sa sb⟩,
     ⟨S128x128, turnPiece (extractStridedSlice S128x128 ![0, 384] y slices_S128x512_o0_384_S128x128) c sa sb⟩]
    concatenates_S128x128_S128x128_S128x128_S128x128_S128x512_d1

theorem turnPiece_apply (r : Fin 128) (l : Fin 128) : (turnPiece p c sa sb (ix2 r l) : EReal)
    = (p (ix2 r l) : EReal) * c (ix2 r l) + p (ix2 r ⟨(l.val + 8) % 128, Nat.mod_lt _ (by decide)⟩) * sa (ix2 r l)
      + p (ix2 r ⟨(l.val + 120) % 128, Nat.mod_lt _ (by decide)⟩) * sb (ix2 r l) := by
  unfold turnPiece
  show (p (ix2 r l) : EReal) * c (ix2 r l) + dynamicRotate 1 120#32 none p rotates_S128x128_d1 (ix2 r l) * sa (ix2 r l)
      + dynamicRotate 1 8#32 none p rotates_S128x128_d1 (ix2 r l) * sb (ix2 r l) = _
  rw [Idealize.ShloMosaic.dynamicRotate_apply (1 : Fin 2) 120#32 p rotates_S128x128_d1 (ix2 r l) (ix2 r ⟨(l.val + 8) % 128, Nat.mod_lt _ (by decide)⟩)
      (fun b => by
        match b with
        | ⟨0, _⟩ => exact rfl
        | ⟨1, _⟩ => exact show (l.val + 8) % 128 = (l.val + 128 - 120 % 128) % 128 by omega),
    Idealize.ShloMosaic.dynamicRotate_apply (1 : Fin 2) 8#32 p rotates_S128x128_d1 (ix2 r l) (ix2 r ⟨(l.val + 120) % 128, Nat.mod_lt _ (by decide)⟩)
      (fun b => by
        match b with
        | ⟨0, _⟩ => exact rfl
        | ⟨1, _⟩ => exact show (l.val + 120) % 128 = (l.val + 128 - 8 % 128) % 128 by omega)]

/-- The tables' rows at one position, with its cosines and sines: what `turned` needs of them. -/
structure Turns (r : Fin 128) (cs sn : Fin 8 → EReal) : Prop where
  own : ∀ l : Fin 128, (c (ix2 r l) : EReal) = if l.val % 64 < 16 then cs ⟨l.val % 8, Nat.mod_lt _ (by decide)⟩ else Ideal.ofBits .f32 0x3F800000#32
  after : ∀ l : Fin 128, (sa (ix2 r l) : EReal) = if l.val % 64 < 8 then -sn ⟨l.val % 8, Nat.mod_lt _ (by decide)⟩ else Ideal.ofBits .f32 0x00000000#32
  before : ∀ l : Fin 128, (sb (ix2 r l) : EReal)
    = if 8 ≤ l.val % 64 ∧ l.val % 64 < 16 then sn ⟨l.val % 8, Nat.mod_lt _ (by decide)⟩ else Ideal.ofBits .f32 0x00000000#32

variable {c sa sb}

/-- A piece of a column is that piece of the column turned. -/
theorem turnPiece_eq {r : Fin 128} {cs sn : Fin 8 → EReal} (T : Turns c sa sb r cs sn) (h : ℕ) (hh : h < 4)
    (hp : ∀ l : Fin 128, p (ix2 r l) = y (ix2 r ⟨128 * h + l.val, by omega⟩)) (l : Fin 128) :
    (turnPiece p c sa sb (ix2 r l) : EReal) = turned (fun n => y (ix2 r n)) cs sn ⟨128 * h + l.val, by omega⟩ := by
  have hl : l.val < 128 := l.isLt
  rw [turnPiece_apply, T.own, T.after, T.before, hp, hp, hp, Ideal.ofBits_zero_f32, one_eq]
  unfold turned
  by_cases h8 : l.val % 64 < 8
  · rw [if_pos (by omega), if_pos h8, if_neg (by omega), dif_pos (show (128 * h + l.val) % 64 < 8 by omega), mul_zero, add_zero, mul_neg, ← sub_eq_add_neg]
    have e1 : (⟨128 * h + (l.val + 8) % 128, by omega⟩ : Fin 512) = ⟨128 * h + l.val + 8, by omega⟩ := Fin.ext (by show 128 * h + (l.val + 8) % 128 = 128 * h + l.val + 8; omega)
    have e2 : (⟨l.val % 8, Nat.mod_lt _ (by decide)⟩ : Fin 8) = ⟨(128 * h + l.val) % 64, by omega⟩ := Fin.ext (by show l.val % 8 = (128 * h + l.val) % 64; omega)
    rw [e1, e2]
  · rw [if_neg h8, dif_neg (show ¬ (128 * h + l.val) % 64 < 8 by omega), mul_zero, add_zero]
    by_cases h16 : l.val % 64 < 16
    · rw [if_pos h16, if_pos ⟨by omega, h16⟩, dif_pos (show (128 * h + l.val) % 64 < 16 by omega)]
      have e1 : (⟨128 * h + (l.val + 120) % 128, by omega⟩ : Fin 512) = ⟨128 * h + l.val - 8, by omega⟩ := Fin.ext (by show 128 * h + (l.val + 120) % 128 = 128 * h + l.val - 8; omega)
      have e2 : (⟨l.val % 8, Nat.mod_lt _ (by decide)⟩ : Fin 8) = ⟨(128 * h + l.val) % 64 - 8, by omega⟩ := Fin.ext (by show l.val % 8 = (128 * h + l.val) % 64 - 8; omega)
      rw [e1, e2]
    · rw [if_neg h16, if_neg (by omega), dif_neg (show ¬ (128 * h + l.val) % 64 < 16 by omega), mul_one, mul_zero, add_zero]

/-- A slice of a column. -/
theorem piece_apply (o : ℕ) (hs : S128x512.Slices ![0, o] S128x128) (r : Fin 128) (l : Fin 128) (ho : o + l.val < 512) :
    extractStridedSlice S128x128 ![0, o] y hs (ix2 r l) = y (ix2 r ⟨o + l.val, ho⟩) :=
  extractStridedSlice_apply _ _ _ _ _ (fun a => by
    match a with
    | ⟨0, _⟩ => exact show r.val = 0 + r.val by omega
    | ⟨1, _⟩ => exact rfl)

/-- A column turned by the tables is the column turned. -/
theorem turnBlock_apply {r : Fin 128} {cs sn : Fin 8 → EReal} (T : Turns c sa sb r cs sn) (n : Fin 512) :
    (turnBlock y c sa sb (ix2 r n) : EReal) = turned (fun n => y (ix2 r n)) cs sn n := by
  unfold turnBlock
  have hn : n.val < 512 := n.isLt
  have hk : n.val / 128 = 0 ∨ n.val / 128 = 1 ∨ n.val / 128 = 2 ∨ n.val / 128 = 3 := by omega
  rcases hk with h | h | h | h
  · refine (concatenate_apply_piece (t := S128x512) (1 : Fin 2) _ _ (ix2 r n) 0 (by exact show 0 < 4 by decide) S128x128
      (turnPiece (extractStridedSlice S128x128 ![0, 0] y slices_S128x512_o0_0_S128x128) c sa sb) (by rfl) rfl 0 (by rfl)
      (ix2 r (⟨n.val % 128, Nat.mod_lt _ (by decide)⟩ : Fin 128)) (fun b hb => ?_) ?_).trans ?_
    · match b, hb with
      | ⟨0, _⟩, _ => exact rfl
      | ⟨1, _⟩, hb => exact absurd rfl hb
    · show 0 + n.val % 128 = n.val
      omega
    · refine (turnPiece_eq y _ T 0 (by decide) (fun l => piece_apply y 0 _ r l (by have := l.isLt; omega)) _).trans ?_
      exact congrArg (turned _ cs sn) (Fin.ext (by show 128 * 0 + n.val % 128 = n.val; omega))
  · refine (concatenate_apply_piece (t := S128x512) (1 : Fin 2) _ _ (ix2 r n) 1 (by exact show 1 < 4 by decide) S128x128
      (turnPiece (extractStridedSlice S128x128 ![0, 128] y slices_S128x512_o0_128_S128x128) c sa sb) (by rfl) rfl 128 (by rfl)
      (ix2 r (⟨n.val % 128, Nat.mod_lt _ (by decide)⟩ : Fin 128)) (fun b hb => ?_) ?_).trans ?_
    · match b, hb with
      | ⟨0, _⟩, _ => exact rfl
      | ⟨1, _⟩, hb => exact absurd rfl hb
    · show 128 + n.val % 128 = n.val
      omega
    · refine (turnPiece_eq y _ T 1 (by decide) (fun l => piece_apply y 128 _ r l (by have := l.isLt; omega)) _).trans ?_
      exact congrArg (turned _ cs sn) (Fin.ext (by show 128 * 1 + n.val % 128 = n.val; omega))
  · refine (concatenate_apply_piece (t := S128x512) (1 : Fin 2) _ _ (ix2 r n) 2 (by exact show 2 < 4 by decide) S128x128
      (turnPiece (extractStridedSlice S128x128 ![0, 256] y slices_S128x512_o0_256_S128x128) c sa sb) (by rfl) rfl 256 (by rfl)
      (ix2 r (⟨n.val % 128, Nat.mod_lt _ (by decide)⟩ : Fin 128)) (fun b hb => ?_) ?_).trans ?_
    · match b, hb with
      | ⟨0, _⟩, _ => exact rfl
      | ⟨1, _⟩, hb => exact absurd rfl hb
    · show 256 + n.val % 128 = n.val
      omega
    · refine (turnPiece_eq y _ T 2 (by decide) (fun l => piece_apply y 256 _ r l (by have := l.isLt; omega)) _).trans ?_
      exact congrArg (turned _ cs sn) (Fin.ext (by show 128 * 2 + n.val % 128 = n.val; omega))
  · refine (concatenate_apply_piece (t := S128x512) (1 : Fin 2) _ _ (ix2 r n) 3 (by exact show 3 < 4 by decide) S128x128
      (turnPiece (extractStridedSlice S128x128 ![0, 384] y slices_S128x512_o0_384_S128x128) c sa sb) (by rfl) rfl 384 (by rfl)
      (ix2 r (⟨n.val % 128, Nat.mod_lt _ (by decide)⟩ : Fin 128)) (fun b hb => ?_) ?_).trans ?_
    · match b, hb with
      | ⟨0, _⟩, _ => exact rfl
      | ⟨1, _⟩, hb => exact absurd rfl hb
    · show 384 + n.val % 128 = n.val
      omega
    · refine (turnPiece_eq y _ T 3 (by decide) (fun l => piece_apply y 384 _ r l (by have := l.isLt; omega)) _).trans ?_
      exact congrArg (turned _ cs sn) (Fin.ext (by show 128 * 3 + n.val % 128 = n.val; omega))

end turn

/-! ## The six columns -/

/-- A column of 512 of the projection. -/
theorem column_apply (o : ℕ) (hs : S128x3072.Slices ![0, o] S128x512) (y : FVec Ideal S128x3072 .f32) (r : Fin 128) (n : Fin 512) (ho : o + n.val < 3072) :
    extractStridedSlice S128x512 ![0, o] y hs (ix2 r n) = y (ix2 r ⟨o + n.val, ho⟩) :=
  extractStridedSlice_apply _ _ _ _ _ (fun a => by
    match a with
    | ⟨0, _⟩ => exact show r.val = 0 + r.val by omega
    | ⟨1, _⟩ => exact rfl)

/-- Any column turned, from the projected row. -/
theorem block_apply (y : FVec Ideal S128x3072 .f32) {c sa sb : FVec Ideal S128x128 .f32} {r : Fin 128} {cs sn : Fin 8 → EReal} (T : Turns c sa sb r cs sn)
    (f : Fin 3072 → EReal) (hf : ∀ n, (y (ix2 r n) : EReal) = f n) (o : ℕ) (ho : o ≤ 2560) (hs : S128x3072.Slices ![0, o] S128x512) (n : Fin 512) :
    (turnBlock (extractStridedSlice S128x512 ![0, o] y hs) c sa sb (ix2 r n) : EReal) = turned (fun n => f ⟨o + n.val, by omega⟩) cs sn n := by
  rw [turnBlock_apply _ T]
  refine congrArg (turned · cs sn n) (funext fun n => ?_)
  rw [column_apply o hs _ r n (by omega), hf]

/-- The rotated columns are columns turned, the queries scaled after it. -/
theorem queriesD_eq (y : FVec Ideal S128x3072 .f32) (c sa sb : FVec Ideal S128x128 .f32) : k0_pay11 y c sa sb
    = mulf (turnBlock (extractStridedSlice S128x512 ![0, 0] y slices_S128x3072_o0_0_S128x512) c sa sb) (broadcast S128x512 (Scalar.ofBits .f32 0x3E000000#32)) := rfl
theorem keysD_eq (y : FVec Ideal S128x3072 .f32) (c sa sb : FVec Ideal S128x128 .f32) :
    k0_pay17 c sa sb (k0_pay12 y) (k0_pay13 y c sa sb) (k0_pay14 y) (k0_pay15 y c) (k0_pay16 y)
    = turnBlock (extractStridedSlice S128x512 ![0, 512] y slices_S128x3072_o0_512_S128x512) c sa sb := rfl
theorem valuesD_eq (y : FVec Ideal S128x3072 .f32) : k0_pay18 y = extractStridedSlice S128x512 ![0, 1024] y slices_S128x3072_o0_1024_S128x512 := rfl
theorem queriesM_eq (y : FVec Ideal S128x3072 .f32) (c sa sb : FVec Ideal S128x128 .f32) :
    k0_pay24 c sa sb (k0_pay20 y c sa sb) (k0_pay21 y c sa sb) (k0_pay22 y c sa sb) (k0_pay23 y)
    = mulf (turnBlock (extractStridedSlice S128x512 ![0, 1536] y slices_S128x3072_o0_1536_S128x512) c sa sb) (broadcast S128x512 (Scalar.ofBits .f32 0x3E000000#32)) := rfl
theorem keysM_eq (y : FVec Ideal S128x3072 .f32) (c sa sb : FVec Ideal S128x128 .f32) : k0_pay25 y c sa sb
    = turnBlock (extractStridedSlice S128x512 ![0, 2048] y slices_S128x3072_o0_2048_S128x512) c sa sb := rfl
theorem valuesM_eq (y : FVec Ideal S128x3072 .f32) : k0_pay26 y = extractStridedSlice S128x512 ![0, 2560] y slices_S128x3072_o0_2560_S128x512 := rfl

/-- One store over the whole block leaves what it stores, -/
theorem whole (p : Vec Ideal S1x128x512 .f32) : View.canon (Val := Elt Ideal) [⟨r0_4, p⟩] = p :=
  View.canon_cons_unit_lit (Val := Elt Ideal) (S := S1x128x512) (e := .f32) (off := ![0, 0, 0]) inb_S1x128x512_S1x128x512_0_0_0 p [] (by decide)
/-- read at a row and a number of it. -/
theorem whole_apply (y : FVec Ideal S128x512 .f32) (u : Fin 1) (r : Fin 128) (n : Fin 512) :
    View.canon (Val := Elt Ideal) [⟨r0_4, (shapeCast S1x128x512 y shapeCasts_S128x512_S1x128x512 : Vec Ideal S1x128x512 .f32)⟩] (ix3 u r n) = y (ix2 r n) :=
  (congrFun (whole _) _).trans (shapeCast_ab_1ab_apply (a := 128) (b := 512) y shapeCasts_S128x512_S1x128x512 u r n)

section blocks

variable (x sc sh : Vec Ideal S1x128x1024 .f32) (g : Vec Ideal S1x1024 .f32) (w : Vec Ideal S1024x3072 .bf16) (tc ta tb : Vec Ideal S128x128 .f32)

/-- What the body reads whole: the projection's operands and the three tables. -/
theorem rows_eq : k0_pay27 x sc sh g w tc ta tb = k0_pay7 x g sc sh w := by
  have l0 : ∀ T : Vec Ideal S1x128x1024 .f32, View.ld T r0_0 = T := fun T => View.ld_unit_lit (S := S1x128x1024) inb_S1x128x1024_S1x128x1024_0_0_0 T (by decide)
  have l1 : View.ld g r0_1 = g := View.ld_unit_lit (S := S1x1024) inb_S1x1024_S1x1024_0_0 g (by decide)
  have l2 : View.ld w r0_2 = w := View.ld_unit_lit (S := S1024x3072) inb_S1024x3072_S1024x3072_0_0 w (by decide)
  unfold k0_pay27
  rw [l0, l0, l0, l1, l2]
theorem table_eq (T : Vec Ideal S128x128 .f32) : shapeCast S128x128 (View.ld T r0_3) shapeCasts_S128x128_S128x128 = T :=
  Eq.trans (shapeCast_self (s := S128x128) _ _) (View.ld_unit_lit (S := S128x128) inb_S128x128_S128x128_0_0 T (by decide))
theorem own_eq : k0_pay28 x sc sh g w tc ta tb = tc := table_eq tc
theorem after_eq : k0_pay29 x sc sh g w tc ta tb = ta := table_eq ta
theorem before_eq : k0_pay30 x sc sh g w tc ta tb = tb := table_eq tb

variable {x sc sh g w tc ta tb} {r : Fin 128} {cs sn : Fin 8 → EReal} (f : Fin 3072 → EReal)
  (hf : ∀ n, (k0_pay7 x g sc sh w (ix2 r n) : EReal) = f n)
include hf

/-- The gated heads' queries, -/
theorem out8_apply (T : Turns tc ta tb r cs sn) (u : Fin 1) (n : Fin 512) : (out0_8 x sc sh g w tc ta tb (ix3 u r n) : EReal) = turned (fun n => f ⟨0 + n.val, by omega⟩) cs sn n * eighth := by
  unfold out0_8
  rw [rows_eq, own_eq, after_eq, before_eq]
  generalize k0_pay7 x g sc sh w = y at hf ⊢
  refine (whole_apply (k0_pay11 y tc ta tb) u r n).trans ?_
  rw [queriesD_eq]
  exact congrArg (· * eighth) (block_apply _ T f hf 0 (by decide) _ n)
/-- keys -/
theorem out9_apply (T : Turns tc ta tb r cs sn) (u : Fin 1) (n : Fin 512) : (out0_9 x sc sh g w tc ta tb (ix3 u r n) : EReal) = turned (fun n => f ⟨512 + n.val, by omega⟩) cs sn n := by
  unfold out0_9
  rw [rows_eq, own_eq, after_eq, before_eq]
  generalize k0_pay7 x g sc sh w = y at hf ⊢
  refine (whole_apply (k0_pay17 tc ta tb (k0_pay12 y) (k0_pay13 y tc ta tb) (k0_pay14 y) (k0_pay15 y tc) (k0_pay16 y)) u r n).trans ?_
  rw [keysD_eq]
  exact block_apply _ T f hf 512 (by decide) _ n
/-- and values, -/
theorem out10_apply (u : Fin 1) (n : Fin 512) : (out0_10 x sc sh g w tc ta tb (ix3 u r n) : EReal) = f ⟨1024 + n.val, by omega⟩ := by
  unfold out0_10
  rw [rows_eq]
  generalize k0_pay7 x g sc sh w = y at hf ⊢
  refine (whole_apply (k0_pay18 y) u r n).trans ?_
  rw [valuesD_eq]
  exact (column_apply 1024 _ _ r n (by omega)).trans (hf _)
/-- and the other heads' queries, -/
theorem out11_apply (T : Turns tc ta tb r cs sn) (u : Fin 1) (n : Fin 512) : (out0_11 x sc sh g w tc ta tb (ix3 u r n) : EReal) = turned (fun n => f ⟨1536 + n.val, by omega⟩) cs sn n * eighth := by
  unfold out0_11
  rw [rows_eq, own_eq, after_eq, before_eq]
  generalize k0_pay7 x g sc sh w = y at hf ⊢
  refine (whole_apply (k0_pay24 tc ta tb (k0_pay20 y tc ta tb) (k0_pay21 y tc ta tb) (k0_pay22 y tc ta tb) (k0_pay23 y)) u r n).trans ?_
  rw [queriesM_eq]
  exact congrArg (· * eighth) (block_apply _ T f hf 1536 (by decide) _ n)
/-- keys -/
theorem out12_apply (T : Turns tc ta tb r cs sn) (u : Fin 1) (n : Fin 512) : (out0_12 x sc sh g w tc ta tb (ix3 u r n) : EReal) = turned (fun n => f ⟨2048 + n.val, by omega⟩) cs sn n := by
  unfold out0_12
  rw [rows_eq, own_eq, after_eq, before_eq]
  generalize k0_pay7 x g sc sh w = y at hf ⊢
  refine (whole_apply (k0_pay25 y tc ta tb) u r n).trans ?_
  rw [keysM_eq]
  exact block_apply _ T f hf 2048 (by decide) _ n
/-- and values. -/
theorem out13_apply (u : Fin 1) (n : Fin 512) : (out0_13 x sc sh g w tc ta tb (ix3 u r n) : EReal) = f ⟨2560 + n.val, by omega⟩ := by
  unfold out0_13
  rw [rows_eq]
  generalize k0_pay7 x g sc sh w = y at hf ⊢
  refine (whole_apply (k0_pay26 y) u r n).trans ?_
  rw [valuesM_eq]
  exact (column_apply 2560 _ _ r n (by omega)).trans (hf _)

end blocks

end Cert.Kernel4Ideal.Sample

end
-- ==== Proof.Sample.Array.lean ====
/- The sample projection's result arrays, from the arguments.

   The grid has one point, which reads every array whole and writes every result whole. -/
module

public import proofs.«01_k».proof.Proof.Sample.Tables
public import proofs.«01_k».proof.Proof.Sample.Value
public import proofs.«01_k».proof.Proof.Gen.Kernel4Ideal.Points

@[expose] public section

set_option maxRecDepth 16384

noncomputable section

namespace Cert.Kernel4Ideal.Sample

open Cert.Kernel4Ideal Cert.Kernel4Ideal.Gen Cert.Qkv Cert.Sample
open Idealize.ShloMosaic Idealize.ShloMosaic.TcCoe Idealize.ShloMosaic.ValueIdx

variable (m : (ℓ : Loc nD τ sig) → Buf (Elt Ideal) ℓ)

/-- The arguments on core `c`: rows, scales, shifts, the norm's weights, the projection matrix. -/
abbrev argX (c : Dev nD) : S128x1x1024.Idx → EReal := m ((c : Thread nD τ).loc main_arg0)
abbrev argS (c : Dev nD) : S128x1024.Idx → EReal := m ((c : Thread nD τ).loc main_arg1)
abbrev argH (c : Dev nD) : S128x1024.Idx → EReal := m ((c : Thread nD τ).loc main_arg2)
abbrev argG (c : Dev nD) : S1024.Idx → EReal := m ((c : Thread nD τ).loc main_arg3)
abbrev argW (c : Dev nD) : S1024x3072.Idx → EReal := m ((c : Thread nD τ).loc main_arg4)

/-! ## The point's blocks -/

/-- The point's coordinates as words are zero. -/
theorem word0 (t : Fin grid0.N) : (BitVec.ofNat 32 (grid0.coords t 0).val).toNat = 0 := by
  have h : (grid0.coords t 0).val < 1 := (grid0.coords t 0).isLt
  rw [BitVec.toNat_ofNat]
  omega
theorem word1 (t : Fin grid0.N) : (BitVec.ofNat 32 (grid0.coords t 1).val).toNat = 0 := by
  have h : (grid0.coords t 1).val < 1 := (grid0.coords t 1).isLt
  rw [BitVec.toNat_ofNat]
  omega

/-- The rows, -/
theorem block_x (c : Dev nD) (t : Fin cfg0.N) (r : Fin 128) (k : Fin 1024) :
    ((iblk m c 0 t : S1x128x1024.Idx → EReal) (ix3 (0 : Fin 1) r k)) = argX m c (ix3 r (0 : Fin 1) k) := by
  have h : ∀ T : S1x128x1024.Idx → EReal, ((((cfg0.win 0).blk t).view.read (Elt Ideal) T : S1x128x1024.Idx → EReal) (ix3 (0 : Fin 1) r k)) = T (ix3 (0 : Fin 1) r k) := fun T => by
    show T _ = T _
    refine congrArg _ (funext fun a => Fin.ext ?_)
    match a with
    | ⟨0, _⟩ => show (BitVec.ofNat 32 (grid0.coords t 0).val).toNat * 1 + 1 * 0 = 0; rw [word0]
    | ⟨1, _⟩ => show (BitVec.ofNat 32 (grid0.coords t 1).val).toNat * 128 + 1 * r.val = r.val; rw [word1]; omega
    | ⟨2, _⟩ => show 0 * 1024 + 1 * k.val = k.val; omega
  exact (h (V m c main_v53)).trans ((V_x m c r k).trans (congrFun (V_main_arg0 m c) (ix3 r (0 : Fin 1) k)))
/-- their scales -/
theorem block_sc (c : Dev nD) (t : Fin cfg0.N) (r : Fin 128) (k : Fin 1024) :
    ((iblk m c 1 t : S1x128x1024.Idx → EReal) (ix3 (0 : Fin 1) r k)) = argS m c (ix2 r k) := by
  have h : ∀ T : S1x128x1024.Idx → EReal, ((((cfg0.win 1).blk t).view.read (Elt Ideal) T : S1x128x1024.Idx → EReal) (ix3 (0 : Fin 1) r k)) = T (ix3 (0 : Fin 1) r k) := fun T => by
    show T _ = T _
    refine congrArg _ (funext fun a => Fin.ext ?_)
    match a with
    | ⟨0, _⟩ => show (BitVec.ofNat 32 (grid0.coords t 0).val).toNat * 1 + 1 * 0 = 0; rw [word0]
    | ⟨1, _⟩ => show (BitVec.ofNat 32 (grid0.coords t 1).val).toNat * 128 + 1 * r.val = r.val; rw [word1]; omega
    | ⟨2, _⟩ => show 0 * 1024 + 1 * k.val = k.val; omega
  exact (h (V m c main_v54)).trans ((V_sc m c r k).trans (congrFun (V_main_arg1 m c) (ix2 r k)))
/-- and shifts, -/
theorem block_sh (c : Dev nD) (t : Fin cfg0.N) (r : Fin 128) (k : Fin 1024) :
    ((iblk m c 2 t : S1x128x1024.Idx → EReal) (ix3 (0 : Fin 1) r k)) = argH m c (ix2 r k) := by
  have h : ∀ T : S1x128x1024.Idx → EReal, ((((cfg0.win 2).blk t).view.read (Elt Ideal) T : S1x128x1024.Idx → EReal) (ix3 (0 : Fin 1) r k)) = T (ix3 (0 : Fin 1) r k) := fun T => by
    show T _ = T _
    refine congrArg _ (funext fun a => Fin.ext ?_)
    match a with
    | ⟨0, _⟩ => show (BitVec.ofNat 32 (grid0.coords t 0).val).toNat * 1 + 1 * 0 = 0; rw [word0]
    | ⟨1, _⟩ => show (BitVec.ofNat 32 (grid0.coords t 1).val).toNat * 128 + 1 * r.val = r.val; rw [word1]; omega
    | ⟨2, _⟩ => show 0 * 1024 + 1 * k.val = k.val; omega
  exact (h (V m c main_v55)).trans ((V_sh m c r k).trans (congrFun (V_main_arg2 m c) (ix2 r k)))
/-- the norm's weights, -/
theorem block_g (c : Dev nD) (t : Fin cfg0.N) (k : Fin 1024) : ((iblk m c 3 t : S1x1024.Idx → EReal) (ix2 (0 : Fin 1) k)) = argG m c (ix1 k) := by
  have h : ∀ T : S1x1024.Idx → EReal, ((((cfg0.win 3).blk t).view.read (Elt Ideal) T : S1x1024.Idx → EReal) (ix2 (0 : Fin 1) k)) = T (ix2 (0 : Fin 1) k) := fun T => by
    show T _ = T _
    refine congrArg _ (funext fun a => Fin.ext ?_)
    match a with
    | ⟨0, _⟩ => show 0 * 1 + 1 * 0 = 0; omega
    | ⟨1, _⟩ => show 0 * 1024 + 1 * k.val = k.val; omega
  exact (h (V m c main_v57)).trans ((V_g m c k).trans (congrFun (V_main_arg3 m c) (ix1 k)))
/-- the projection matrix, -/
theorem block_w (c : Dev nD) (t : Fin cfg0.N) (k : Fin 1024) (n : Fin 3072) : ((iblk m c 4 t : S1024x3072.Idx → EReal) (ix2 k n)) = argW m c (ix2 k n) := by
  have h : ∀ T : S1024x3072.Idx → EReal, ((((cfg0.win 4).blk t).view.read (Elt Ideal) T : S1024x3072.Idx → EReal) (ix2 k n)) = T (ix2 k n) := fun T => by
    show T _ = T _
    refine congrArg _ (funext fun a => Fin.ext ?_)
    match a with
    | ⟨0, _⟩ => show 0 * 1024 + 1 * k.val = k.val; omega
    | ⟨1, _⟩ => show 0 * 3072 + 1 * n.val = n.val; omega
  exact (h (V m c main_v56)).trans ((V_w m c (ix2 k n)).trans (congrFun (V_main_arg4 m c) (ix2 k n)))
/-- and the tables. -/
theorem block_tc (c : Dev nD) (t : Fin cfg0.N) (r l : Fin 128) :
    ((iblk m c 5 t : S128x128.Idx → EReal) (ix2 r l)) = (V m c main_v28 : S128x128.Idx → EReal) (ix2 r l) := by
  have h : ∀ T : S128x128.Idx → EReal, ((((cfg0.win 5).blk t).view.read (Elt Ideal) T : S128x128.Idx → EReal) (ix2 r l)) = T (ix2 r l) := fun T => by
    show T _ = T _
    refine congrArg _ (funext fun a => Fin.ext ?_)
    match a with
    | ⟨0, _⟩ => show (BitVec.ofNat 32 (grid0.coords t 1).val).toNat * 128 + 1 * r.val = r.val; rw [word1]; omega
    | ⟨1, _⟩ => show 0 * 128 + 1 * l.val = l.val; omega
  exact h (V m c main_v28)
theorem block_ta (c : Dev nD) (t : Fin cfg0.N) (r l : Fin 128) :
    ((iblk m c 6 t : S128x128.Idx → EReal) (ix2 r l)) = (V m c main_v39 : S128x128.Idx → EReal) (ix2 r l) := by
  have h : ∀ T : S128x128.Idx → EReal, ((((cfg0.win 6).blk t).view.read (Elt Ideal) T : S128x128.Idx → EReal) (ix2 r l)) = T (ix2 r l) := fun T => by
    show T _ = T _
    refine congrArg _ (funext fun a => Fin.ext ?_)
    match a with
    | ⟨0, _⟩ => show (BitVec.ofNat 32 (grid0.coords t 1).val).toNat * 128 + 1 * r.val = r.val; rw [word1]; omega
    | ⟨1, _⟩ => show 0 * 128 + 1 * l.val = l.val; omega
  exact h (V m c main_v39)
theorem block_tb (c : Dev nD) (t : Fin cfg0.N) (r l : Fin 128) :
    ((iblk m c 7 t : S128x128.Idx → EReal) (ix2 r l)) = (V m c main_v52 : S128x128.Idx → EReal) (ix2 r l) := by
  have h : ∀ T : S128x128.Idx → EReal, ((((cfg0.win 7).blk t).view.read (Elt Ideal) T : S128x128.Idx → EReal) (ix2 r l)) = T (ix2 r l) := fun T => by
    show T _ = T _
    refine congrArg _ (funext fun a => Fin.ext ?_)
    match a with
    | ⟨0, _⟩ => show (BitVec.ofNat 32 (grid0.coords t 1).val).toNat * 128 + 1 * r.val = r.val; rw [word1]; omega
    | ⟨1, _⟩ => show 0 * 128 + 1 * l.val = l.val; omega
  exact h (V m c main_v52)

/-- The tables turn every row by its position. -/
theorem turns (c : Dev nD) (t : Fin cfg0.N) (r : Fin 128) : Turns (iblk m c 5 t) (iblk m c 6 t) (iblk m c 7 t) r pastCosine pastSine :=
  ⟨fun l => (block_tc m c t r l).trans (V_c m c r l), fun l => (block_ta m c t r l).trans (V_sa m c r l), fun l => (block_tb m c t r l).trans (V_sb m c r l)⟩

/-- A row of the point's projection is the projection of the row. -/
theorem point_row (c : Dev nD) (t : Fin cfg0.N) (r : Fin 128) : ∀ n, (k0_pay7 (iblk m c 0 t) (iblk m c 3 t) (iblk m c 1 t) (iblk m c 2 t) (iblk m c 4 t) (ix2 r n) : EReal)
    = (fun n => Cert.Sample.proj (argX m c) (argS m c) (argH m c) (argG m c) (argW m c) r n) n := fun n => by
  refine (rows_apply (iblk m c 0 t) (iblk m c 1 t) (iblk m c 2 t) (iblk m c 3 t) (iblk m c 4 t) r n).trans ?_
  show _ = Cert.Sample.proj (argX m c) (argS m c) (argH m c) (argG m c) (argW m c) r n
  unfold Cert.Sample.proj
  refine congr (congr (congr (congr (congrArg projected (funext fun k => ?_)) (funext fun k => ?_)) (funext fun k => ?_)) (funext fun k => ?_)) (funext fun k => ?_)
  · exact block_x m c t r k
  · exact block_g m c t k
  · exact block_sc m c t r k
  · exact block_sh m c t r k
  · exact block_w m c t k n

/-! ## The point covers the results -/

/-- The point. -/
def only : Fin cfg0.N := ⟨0, by show 0 < 1; decide⟩

/-- Each result is one block, written back. -/
theorem covers8 : (cfg0.win 8).Covers := by
  refine ⟨fun a => ?_, fun β => ?_⟩
  · match a with
    | ⟨0, _⟩ => show 0 < 1; decide
    | ⟨1, _⟩ => show 0 < 128; decide
    | ⟨2, _⟩ => show 0 < 512; decide
  have h0 : (β (0 : Fin 3)).val < (1 + 1 - 1) / 1 := (β (0 : Fin 3)).isLt
  have h1 : (β (1 : Fin 3)).val < (128 + 128 - 1) / 128 := (β (1 : Fin 3)).isLt
  have h2 : (β (2 : Fin 3)).val < (512 + 512 - 1) / 512 := (β (2 : Fin 3)).isLt
  refine ⟨only, flush0_8 only, fun a => ⟨?_, .inl rfl⟩⟩
  match a with
  | ⟨0, _⟩ => exact (word0 _).trans (show 0 = (β (0 : Fin 3)).val by omega)
  | ⟨1, _⟩ => exact (word1 _).trans (show 0 = (β (1 : Fin 3)).val by omega)
  | ⟨2, _⟩ => exact show 0 = (β (2 : Fin 3)).val by omega
theorem covers9 : (cfg0.win 9).Covers := by
  refine ⟨fun a => ?_, fun β => ?_⟩
  · match a with
    | ⟨0, _⟩ => show 0 < 1; decide
    | ⟨1, _⟩ => show 0 < 128; decide
    | ⟨2, _⟩ => show 0 < 512; decide
  have h0 : (β (0 : Fin 3)).val < (1 + 1 - 1) / 1 := (β (0 : Fin 3)).isLt
  have h1 : (β (1 : Fin 3)).val < (128 + 128 - 1) / 128 := (β (1 : Fin 3)).isLt
  have h2 : (β (2 : Fin 3)).val < (512 + 512 - 1) / 512 := (β (2 : Fin 3)).isLt
  refine ⟨only, flush0_9 only, fun a => ⟨?_, .inl rfl⟩⟩
  match a with
  | ⟨0, _⟩ => exact (word0 _).trans (show 0 = (β (0 : Fin 3)).val by omega)
  | ⟨1, _⟩ => exact (word1 _).trans (show 0 = (β (1 : Fin 3)).val by omega)
  | ⟨2, _⟩ => exact show 0 = (β (2 : Fin 3)).val by omega
theorem covers10 : (cfg0.win 10).Covers := by
  refine ⟨fun a => ?_, fun β => ?_⟩
  · match a with
    | ⟨0, _⟩ => show 0 < 1; decide
    | ⟨1, _⟩ => show 0 < 128; decide
    | ⟨2, _⟩ => show 0 < 512; decide
  have h0 : (β (0 : Fin 3)).val < (1 + 1 - 1) / 1 := (β (0 : Fin 3)).isLt
  have h1 : (β (1 : Fin 3)).val < (128 + 128 - 1) / 128 := (β (1 : Fin 3)).isLt
  have h2 : (β (2 : Fin 3)).val < (512 + 512 - 1) / 512 := (β (2 : Fin 3)).isLt
  refine ⟨only, flush0_10 only, fun a => ⟨?_, .inl rfl⟩⟩
  match a with
  | ⟨0, _⟩ => exact (word0 _).trans (show 0 = (β (0 : Fin 3)).val by omega)
  | ⟨1, _⟩ => exact (word1 _).trans (show 0 = (β (1 : Fin 3)).val by omega)
  | ⟨2, _⟩ => exact show 0 = (β (2 : Fin 3)).val by omega
theorem covers11 : (cfg0.win 11).Covers := by
  refine ⟨fun a => ?_, fun β => ?_⟩
  · match a with
    | ⟨0, _⟩ => show 0 < 1; decide
    | ⟨1, _⟩ => show 0 < 128; decide
    | ⟨2, _⟩ => show 0 < 512; decide
  have h0 : (β (0 : Fin 3)).val < (1 + 1 - 1) / 1 := (β (0 : Fin 3)).isLt
  have h1 : (β (1 : Fin 3)).val < (128 + 128 - 1) / 128 := (β (1 : Fin 3)).isLt
  have h2 : (β (2 : Fin 3)).val < (512 + 512 - 1) / 512 := (β (2 : Fin 3)).isLt
  refine ⟨only, flush0_11 only, fun a => ⟨?_, .inl rfl⟩⟩
  match a with
  | ⟨0, _⟩ => exact (word0 _).trans (show 0 = (β (0 : Fin 3)).val by omega)
  | ⟨1, _⟩ => exact (word1 _).trans (show 0 = (β (1 : Fin 3)).val by omega)
  | ⟨2, _⟩ => exact show 0 = (β (2 : Fin 3)).val by omega
theorem covers12 : (cfg0.win 12).Covers := by
  refine ⟨fun a => ?_, fun β => ?_⟩
  · match a with
    | ⟨0, _⟩ => show 0 < 1; decide
    | ⟨1, _⟩ => show 0 < 128; decide
    | ⟨2, _⟩ => show 0 < 512; decide
  have h0 : (β (0 : Fin 3)).val < (1 + 1 - 1) / 1 := (β (0 : Fin 3)).isLt
  have h1 : (β (1 : Fin 3)).val < (128 + 128 - 1) / 128 := (β (1 : Fin 3)).isLt
  have h2 : (β (2 : Fin 3)).val < (512 + 512 - 1) / 512 := (β (2 : Fin 3)).isLt
  refine ⟨only, flush0_12 only, fun a => ⟨?_, .inl rfl⟩⟩
  match a with
  | ⟨0, _⟩ => exact (word0 _).trans (show 0 = (β (0 : Fin 3)).val by omega)
  | ⟨1, _⟩ => exact (word1 _).trans (show 0 = (β (1 : Fin 3)).val by omega)
  | ⟨2, _⟩ => exact show 0 = (β (2 : Fin 3)).val by omega
theorem covers13 : (cfg0.win 13).Covers := by
  refine ⟨fun a => ?_, fun β => ?_⟩
  · match a with
    | ⟨0, _⟩ => show 0 < 1; decide
    | ⟨1, _⟩ => show 0 < 128; decide
    | ⟨2, _⟩ => show 0 < 512; decide
  have h0 : (β (0 : Fin 3)).val < (1 + 1 - 1) / 1 := (β (0 : Fin 3)).isLt
  have h1 : (β (1 : Fin 3)).val < (128 + 128 - 1) / 128 := (β (1 : Fin 3)).isLt
  have h2 : (β (2 : Fin 3)).val < (512 + 512 - 1) / 512 := (β (2 : Fin 3)).isLt
  refine ⟨only, flush0_13 only, fun a => ⟨?_, .inl rfl⟩⟩
  match a with
  | ⟨0, _⟩ => exact (word0 _).trans (show 0 = (β (0 : Fin 3)).val by omega)
  | ⟨1, _⟩ => exact (word1 _).trans (show 0 = (β (1 : Fin 3)).val by omega)
  | ⟨2, _⟩ => exact show 0 = (β (2 : Fin 3)).val by omega

/-! ## The result arrays -/

section finals

variable (c : Dev nD)

/-- THE GATED HEADS' QUERIES. -/
theorem final8 : (dats m 0 c).arrAt 8 cfg0.N = queriesD (argX m c) (argS m c) (argH m c) (argG m c) (argW m c) := by
  refine (dats m 0 c).arrAt_eq_of_covers 8 _ covers8 fun t hf y => ?_
  show (dats m 0 c).after 8 t y = _
  rw [after0_8]
  obtain ⟨u, r, n, rfl⟩ : ∃ (u : Fin 1) (r : Fin 128) (n : Fin 512), y = ix3 u r n := ⟨y (0 : Fin 3), y (1 : Fin 3), y (2 : Fin 3), eq_ix3 y⟩
  have hi : ((cfg0.win 8).blk t).view.emb (ix3 u r n) = ix3 u r n := by
    funext a
    refine Fin.ext ?_
    match a with
    | ⟨0, _⟩ => show (BitVec.ofNat 32 (grid0.coords t 0).val).toNat * 1 + 1 * u.val = u.val; rw [word0]; omega
    | ⟨1, _⟩ => show (BitVec.ofNat 32 (grid0.coords t 1).val).toNat * 128 + 1 * r.val = r.val; rw [word1]; omega
    | ⟨2, _⟩ => show 0 * 512 + 1 * n.val = n.val; omega
  refine (out8_apply _ (point_row m c t r) (turns m c t r) u n).trans (Eq.trans ?_ (congrArg _ hi.symm))
  rfl

/-- THE GATED HEADS' KEYS. -/
theorem final9 : (dats m 0 c).arrAt 9 cfg0.N = keysD (argX m c) (argS m c) (argH m c) (argG m c) (argW m c) := by
  refine (dats m 0 c).arrAt_eq_of_covers 9 _ covers9 fun t hf y => ?_
  show (dats m 0 c).after 9 t y = _
  rw [after0_9]
  obtain ⟨u, r, n, rfl⟩ : ∃ (u : Fin 1) (r : Fin 128) (n : Fin 512), y = ix3 u r n := ⟨y (0 : Fin 3), y (1 : Fin 3), y (2 : Fin 3), eq_ix3 y⟩
  have hi : ((cfg0.win 9).blk t).view.emb (ix3 u r n) = ix3 u r n := by
    funext a
    refine Fin.ext ?_
    match a with
    | ⟨0, _⟩ => show (BitVec.ofNat 32 (grid0.coords t 0).val).toNat * 1 + 1 * u.val = u.val; rw [word0]; omega
    | ⟨1, _⟩ => show (BitVec.ofNat 32 (grid0.coords t 1).val).toNat * 128 + 1 * r.val = r.val; rw [word1]; omega
    | ⟨2, _⟩ => show 0 * 512 + 1 * n.val = n.val; omega
  refine (out9_apply _ (point_row m c t r) (turns m c t r) u n).trans (Eq.trans ?_ (congrArg _ hi.symm))
  rfl

/-- THE GATED HEADS' VALUES. -/
theorem final10 : (dats m 0 c).arrAt 10 cfg0.N = valuesD (argX m c) (argS m c) (argH m c) (argG m c) (argW m c) := by
  refine (dats m 0 c).arrAt_eq_of_covers 10 _ covers10 fun t hf y => ?_
  show (dats m 0 c).after 10 t y = _
  rw [after0_10]
  obtain ⟨u, r, n, rfl⟩ : ∃ (u : Fin 1) (r : Fin 128) (n : Fin 512), y = ix3 u r n := ⟨y (0 : Fin 3), y (1 : Fin 3), y (2 : Fin 3), eq_ix3 y⟩
  have hi : ((cfg0.win 10).blk t).view.emb (ix3 u r n) = ix3 u r n := by
    funext a
    refine Fin.ext ?_
    match a with
    | ⟨0, _⟩ => show (BitVec.ofNat 32 (grid0.coords t 0).val).toNat * 1 + 1 * u.val = u.val; rw [word0]; omega
    | ⟨1, _⟩ => show (BitVec.ofNat 32 (grid0.coords t 1).val).toNat * 128 + 1 * r.val = r.val; rw [word1]; omega
    | ⟨2, _⟩ => show 0 * 512 + 1 * n.val = n.val; omega
  refine (out10_apply _ (point_row m c t r) u n).trans (Eq.trans ?_ (congrArg _ hi.symm))
  rfl

/-- THE OTHER HEADS' QUERIES. -/
theorem final11 : (dats m 0 c).arrAt 11 cfg0.N = queriesM (argX m c) (argS m c) (argH m c) (argG m c) (argW m c) := by
  refine (dats m 0 c).arrAt_eq_of_covers 11 _ covers11 fun t hf y => ?_
  show (dats m 0 c).after 11 t y = _
  rw [after0_11]
  obtain ⟨u, r, n, rfl⟩ : ∃ (u : Fin 1) (r : Fin 128) (n : Fin 512), y = ix3 u r n := ⟨y (0 : Fin 3), y (1 : Fin 3), y (2 : Fin 3), eq_ix3 y⟩
  have hi : ((cfg0.win 11).blk t).view.emb (ix3 u r n) = ix3 u r n := by
    funext a
    refine Fin.ext ?_
    match a with
    | ⟨0, _⟩ => show (BitVec.ofNat 32 (grid0.coords t 0).val).toNat * 1 + 1 * u.val = u.val; rw [word0]; omega
    | ⟨1, _⟩ => show (BitVec.ofNat 32 (grid0.coords t 1).val).toNat * 128 + 1 * r.val = r.val; rw [word1]; omega
    | ⟨2, _⟩ => show 0 * 512 + 1 * n.val = n.val; omega
  refine (out11_apply _ (point_row m c t r) (turns m c t r) u n).trans (Eq.trans ?_ (congrArg _ hi.symm))
  rfl

/-- THE OTHER HEADS' KEYS. -/
theorem final12 : (dats m 0 c).arrAt 12 cfg0.N = keysM (argX m c) (argS m c) (argH m c) (argG m c) (argW m c) := by
  refine (dats m 0 c).arrAt_eq_of_covers 12 _ covers12 fun t hf y => ?_
  show (dats m 0 c).after 12 t y = _
  rw [after0_12]
  obtain ⟨u, r, n, rfl⟩ : ∃ (u : Fin 1) (r : Fin 128) (n : Fin 512), y = ix3 u r n := ⟨y (0 : Fin 3), y (1 : Fin 3), y (2 : Fin 3), eq_ix3 y⟩
  have hi : ((cfg0.win 12).blk t).view.emb (ix3 u r n) = ix3 u r n := by
    funext a
    refine Fin.ext ?_
    match a with
    | ⟨0, _⟩ => show (BitVec.ofNat 32 (grid0.coords t 0).val).toNat * 1 + 1 * u.val = u.val; rw [word0]; omega
    | ⟨1, _⟩ => show (BitVec.ofNat 32 (grid0.coords t 1).val).toNat * 128 + 1 * r.val = r.val; rw [word1]; omega
    | ⟨2, _⟩ => show 0 * 512 + 1 * n.val = n.val; omega
  refine (out12_apply _ (point_row m c t r) (turns m c t r) u n).trans (Eq.trans ?_ (congrArg _ hi.symm))
  rfl

/-- THE OTHER HEADS' VALUES. -/
theorem final13 : (dats m 0 c).arrAt 13 cfg0.N = valuesM (argX m c) (argS m c) (argH m c) (argG m c) (argW m c) := by
  refine (dats m 0 c).arrAt_eq_of_covers 13 _ covers13 fun t hf y => ?_
  show (dats m 0 c).after 13 t y = _
  rw [after0_13]
  obtain ⟨u, r, n, rfl⟩ : ∃ (u : Fin 1) (r : Fin 128) (n : Fin 512), y = ix3 u r n := ⟨y (0 : Fin 3), y (1 : Fin 3), y (2 : Fin 3), eq_ix3 y⟩
  have hi : ((cfg0.win 13).blk t).view.emb (ix3 u r n) = ix3 u r n := by
    funext a
    refine Fin.ext ?_
    match a with
    | ⟨0, _⟩ => show (BitVec.ofNat 32 (grid0.coords t 0).val).toNat * 1 + 1 * u.val = u.val; rw [word0]; omega
    | ⟨1, _⟩ => show (BitVec.ofNat 32 (grid0.coords t 1).val).toNat * 128 + 1 * r.val = r.val; rw [word1]; omega
    | ⟨2, _⟩ => show 0 * 512 + 1 * n.val = n.val; omega
  refine (out13_apply _ (point_row m c t r) u n).trans (Eq.trans ?_ (congrArg _ hi.symm))
  rfl

end finals

end Cert.Kernel4Ideal.Sample

end
-- ==== Proof.Sample.Ref.lean ====
/- The reference's results for the sample as the projection's formulas.

   The reference projects the sample's 128 rows, each a sequence of one position, turns the heads of each column as one array, four
   groups of two heads for the gated ones and eight heads for the others, and lays the columns out as results. -/
module

public import proofs.«01_k».proof.Proof.Gen.Reference4Ideal.Read
public import proofs.«01_k».proof.Proof.Sample.Spec

@[expose] public section

set_option maxRecDepth 16384

noncomputable section

namespace Cert.Reference4Ideal.Sample

open Cert.Reference4Ideal Cert.Reference4Ideal.Gen Cert.Reference4Ideal.Read Cert.Qkv Cert.Sample
open Idealize.ShloMosaic Idealize.ShloMosaic.TcCoe Idealize.ShloMosaic.ValueIdx

/-! ## The angles -/

/-- The one position. -/
theorem position : val_main_v2 (F := Ideal) (ix1 (0 : Fin 1)) = 8192#32 := by
  rw [val_main_v2_apply, val_main_v1_apply, val_main_v0_apply]
  rfl

/-- The table of angles, -/
theorem angles_apply (j : Fin 8) : (val_main_v41 (F := Ideal) : S1x8.Idx → EReal) (ix2 (0 : Fin 1) j) = pastAngle j := by
  have h1 : idx_main_v38 (idx_main_v40 (ix2 (0 : Fin 1) j)) = ix1 (0 : Fin 1) := funext fun a => match a with | ⟨0, _⟩ => rfl
  have h2 : idx_main_v39 (ix2 (0 : Fin 1) j) = ix1 j := funext fun a => match a with | ⟨0, _⟩ => rfl
  rw [val_main_v41_apply, val_main_v40_apply, val_main_v38_apply, val_main_v39_apply, h1, h2, val_main_v37_apply, position,
    val_main_v36_apply, val_main_v35_apply, val_main_v34_apply, val_main_v33_apply, val_main_v32_apply, val_main_v31_apply]
  rfl

/-- made four times over. -/
theorem angles74 : val_main_v74 (F := Ideal) = val_main_v41 (F := Ideal) := rfl
theorem angles105 : val_main_v105 (F := Ideal) = val_main_v41 (F := Ideal) := rfl
theorem angles138 : val_main_v138 (F := Ideal) = val_main_v41 (F := Ideal) := rfl

/-! ## Turning a column -/

section turn

variable (y : FVec Ideal S128x1x512 .f32) (t : FVec Ideal S1x8 .f32)

/-- For the gated heads: the column by heads, -/
def headsD : FVec Ideal S128x1x4x2x64 .f32 := shapeCast S128x1x4x2x64 y shapeCasts_S128x1x512_S128x1x4x2x64
/-- the first and second eight numbers of each head, and the rest, -/
def firstD : FVec Ideal S128x1x4x2x8 .f32 := extractStridedSlice S128x1x4x2x8 ![0, 0, 0, 0, 0] (headsD y) slices_S128x1x4x2x64_S128x1x4x2x8_0_0_0_0_0
def secondD : FVec Ideal S128x1x4x2x8 .f32 := extractStridedSlice S128x1x4x2x8 ![0, 0, 0, 0, 8] (headsD y) slices_S128x1x4x2x64_S128x1x4x2x8_0_0_0_0_8
def restD : FVec Ideal S128x1x4x2x48 .f32 := extractStridedSlice S128x1x4x2x48 ![0, 0, 0, 0, 16] (headsD y) slices_S128x1x4x2x64_S128x1x4x2x48_0_0_0_0_16
/-- a table spread over sequences and heads, -/
def spreadD : FVec Ideal S128x1x4x2x8 .f32 := broadcastInDim S128x1x4x2x8 ![0, 1, 2, 3, 4] bcast_S1x1x1x1x8_S128x1x4x2x8_0_1_2_3_4 (shapeCast S1x1x1x1x8 t shapeCasts_S1x8_S1x1x1x1x8)
/-- the new first and second eights, -/
def frontD : FVec Ideal S128x1x4x2x8 .f32 := subf (mulf (firstD y) (spreadD (Host.cos t))) (mulf (secondD y) (spreadD (Host.sin t)))
def backD : FVec Ideal S128x1x4x2x8 .f32 := addf (mulf (secondD y) (spreadD (Host.cos t))) (mulf (firstD y) (spreadD (Host.sin t)))
/-- and all three joined. -/
def turnD : FVec Ideal S128x1x4x2x64 .f32 :=
  concatenate S128x1x4x2x64 4 [⟨S128x1x4x2x8, frontD y t⟩, ⟨S128x1x4x2x8, backD y t⟩, ⟨S128x1x4x2x48, restD y⟩] concatenates_S128x1x4x2x8_S128x1x4x2x8_S128x1x4x2x48_S128x1x4x2x64_d4

theorem headsD_apply (r : Fin 128) (h : Fin 4) (d : Fin 2) (k : Fin 64) :
    headsD y (ix5 r (0 : Fin 1) h d k) = y (ix3 r (0 : Fin 1) (⟨128 * h.val + 64 * d.val + k.val, by omega⟩ : Fin 512)) := by
  unfold headsD
  refine shapeCast_apply (s := S128x1x512) (t := S128x1x4x2x64) y _ _ _ ?_
  refine (Shape.rowMajor_val_three (d := ![128, 1, 512]) _).trans (Eq.trans ?_ (Shape.rowMajor_val_five (d := ![128, 1, 4, 2, 64]) _).symm)
  show (r.val * 1 + 0) * 512 + (128 * h.val + 64 * d.val + k.val) = ((((r.val * 1 + 0) * 4 + h.val) * 2 + d.val) * 64 + k.val)
  omega
theorem firstD_apply (r : Fin 128) (h : Fin 4) (d : Fin 2) (j : Fin 8) :
    firstD y (ix5 r (0 : Fin 1) h d j) = y (ix3 r (0 : Fin 1) (⟨128 * h.val + 64 * d.val + (0 + j.val), by omega⟩ : Fin 512)) := by
  unfold firstD
  refine (extractStridedSlice_apply ![0, 0, 0, 0, 0] (headsD y) slices_S128x1x4x2x64_S128x1x4x2x8_0_0_0_0_0 _ (ix5 r (0 : Fin 1) h d (⟨0 + j.val, by omega⟩ : Fin 64)) (fun a => match a with
    | ⟨0, _⟩ => by show r.val = 0 + r.val; omega
    | ⟨1, _⟩ => by show 0 = 0 + 0; omega
    | ⟨2, _⟩ => by show h.val = 0 + h.val; omega
    | ⟨3, _⟩ => by show d.val = 0 + d.val; omega
    | ⟨4, _⟩ => rfl)
    ).trans ?_
  exact headsD_apply y r h d _
theorem secondD_apply (r : Fin 128) (h : Fin 4) (d : Fin 2) (j : Fin 8) :
    secondD y (ix5 r (0 : Fin 1) h d j) = y (ix3 r (0 : Fin 1) (⟨128 * h.val + 64 * d.val + (8 + j.val), by omega⟩ : Fin 512)) := by
  unfold secondD
  refine (extractStridedSlice_apply ![0, 0, 0, 0, 8] (headsD y) slices_S128x1x4x2x64_S128x1x4x2x8_0_0_0_0_8 _ (ix5 r (0 : Fin 1) h d (⟨8 + j.val, by omega⟩ : Fin 64)) (fun a => match a with
    | ⟨0, _⟩ => by show r.val = 0 + r.val; omega
    | ⟨1, _⟩ => by show 0 = 0 + 0; omega
    | ⟨2, _⟩ => by show h.val = 0 + h.val; omega
    | ⟨3, _⟩ => by show d.val = 0 + d.val; omega
    | ⟨4, _⟩ => rfl)
    ).trans ?_
  exact headsD_apply y r h d _
theorem restD_apply (r : Fin 128) (h : Fin 4) (d : Fin 2) (j : Fin 48) :
    restD y (ix5 r (0 : Fin 1) h d j) = y (ix3 r (0 : Fin 1) (⟨128 * h.val + 64 * d.val + (16 + j.val), by omega⟩ : Fin 512)) := by
  unfold restD
  refine (extractStridedSlice_apply ![0, 0, 0, 0, 16] (headsD y) slices_S128x1x4x2x64_S128x1x4x2x48_0_0_0_0_16 _ (ix5 r (0 : Fin 1) h d (⟨16 + j.val, by omega⟩ : Fin 64)) (fun a => match a with
    | ⟨0, _⟩ => by show r.val = 0 + r.val; omega
    | ⟨1, _⟩ => by show 0 = 0 + 0; omega
    | ⟨2, _⟩ => by show h.val = 0 + h.val; omega
    | ⟨3, _⟩ => by show d.val = 0 + d.val; omega
    | ⟨4, _⟩ => rfl)
    ).trans ?_
  exact headsD_apply y r h d _
theorem spreadD_apply (r : Fin 128) (h : Fin 4) (d : Fin 2) (j : Fin 8) : spreadD t (ix5 r (0 : Fin 1) h d j) = t (ix2 (0 : Fin 1) j) := by
  unfold spreadD
  refine (broadcastInDim_apply ![0, 1, 2, 3, 4] bcast_S1x1x1x1x8_S128x1x4x2x8_0_1_2_3_4 (shapeCast S1x1x1x1x8 t shapeCasts_S1x8_S1x1x1x1x8) (ix5 r (0 : Fin 1) h d j) (ix5 (0 : Fin 1) (0 : Fin 1) (0 : Fin 1) (0 : Fin 1) j) (fun a => match a with
    | ⟨0, _⟩ => by show 0 = if (1 : Nat) = 1 then 0 else r.val; rw [if_pos rfl]
    | ⟨1, _⟩ => by show 0 = if (1 : Nat) = 1 then 0 else 0; rw [if_pos rfl]
    | ⟨2, _⟩ => by show 0 = if (1 : Nat) = 1 then 0 else h.val; rw [if_pos rfl]
    | ⟨3, _⟩ => by show 0 = if (1 : Nat) = 1 then 0 else d.val; rw [if_pos rfl]
    | ⟨4, _⟩ => by show j.val = if (8 : Nat) = 1 then 0 else j.val; rw [if_neg (by decide)])
    ).trans ?_
  refine shapeCast_apply (s := S1x8) (t := S1x1x1x1x8) t _ _ _ ?_
  refine (Shape.rowMajor_val_two (d := ![1, 8]) _).trans (Eq.trans ?_ (Shape.rowMajor_val_five (d := ![1, 1, 1, 1, 8]) _).symm)
  show 0 * 8 + j.val = ((((0 * 1 + 0) * 1 + 0) * 1 + 0) * 8 + j.val)
  omega

/-- A number of the turned column. -/
theorem turnD_apply (r : Fin 128) (n : Fin 512) :
    (turnD y t (ix5 r (0 : Fin 1) (⟨n.val / 128, by omega⟩ : Fin 4) (⟨n.val / 64 % 2, by omega⟩ : Fin 2) (⟨n.val % 64, by omega⟩ : Fin 64)) : EReal)
      = turned (fun n => y (ix3 r (0 : Fin 1) n)) (fun j => Ideal.hostUnary .cos (t (ix2 (0 : Fin 1) j))) (fun j => Ideal.hostUnary .sin (t (ix2 (0 : Fin 1) j))) n := by
  unfold turned
  unfold turnD
  by_cases h : n.val % 64 < 8
  · rw [dif_pos h]
    refine (concatenate_apply_piece (t := S128x1x4x2x64) (4 : Fin 5) _ _ _ 0 (by exact show 0 < 3 by decide) S128x1x4x2x8 (frontD y t) (by rfl) rfl 0 (by rfl)
      (ix5 r (0 : Fin 1) (⟨n.val / 128, by omega⟩ : Fin 4) (⟨n.val / 64 % 2, by omega⟩ : Fin 2) (⟨n.val % 64, h⟩ : Fin 8)) (fun b hb => ?_) ?_).trans ?_
    · match b, hb with
    | ⟨0, _⟩, _ => exact rfl
    | ⟨1, _⟩, _ => exact rfl
    | ⟨2, _⟩, _ => exact rfl
    | ⟨3, _⟩, _ => exact rfl
    | ⟨4, _⟩, hb => exact absurd rfl hb
    · show 0 + n.val % 64 = n.val % 64
      omega
    · show firstD y _ * spreadD (Host.cos t) _ - secondD y _ * spreadD (Host.sin t) _ = _
      rw [firstD_apply, secondD_apply, spreadD_apply, spreadD_apply]
      have e1 : (⟨128 * (n.val / 128) + 64 * (n.val / 64 % 2) + (0 + n.val % 64), by omega⟩ : Fin 512) = n := Fin.ext (by show 128 * (n.val / 128) + 64 * (n.val / 64 % 2) + (0 + n.val % 64) = n.val; omega)
      have e2 : (⟨128 * (n.val / 128) + 64 * (n.val / 64 % 2) + (8 + n.val % 64), by omega⟩ : Fin 512) = ⟨n.val + 8, by omega⟩ :=
        Fin.ext (by show 128 * (n.val / 128) + 64 * (n.val / 64 % 2) + (8 + n.val % 64) = n.val + 8; omega)
      exact congr (congrArg _ (congrArg (fun p => y (ix3 r (0 : Fin 1) p) * _) e1)) (congrArg (fun p => y (ix3 r (0 : Fin 1) p) * _) e2)
  rw [dif_neg h]
  by_cases h' : n.val % 64 < 16
  · rw [dif_pos h']
    refine (concatenate_apply_piece (t := S128x1x4x2x64) (4 : Fin 5) _ _ _ 1 (by exact show 1 < 3 by decide) S128x1x4x2x8 (backD y t) (by rfl) rfl 8 (by rfl)
      (ix5 r (0 : Fin 1) (⟨n.val / 128, by omega⟩ : Fin 4) (⟨n.val / 64 % 2, by omega⟩ : Fin 2) (⟨n.val % 64 - 8, by omega⟩ : Fin 8)) (fun b hb => ?_) ?_).trans ?_
    · match b, hb with
    | ⟨0, _⟩, _ => exact rfl
    | ⟨1, _⟩, _ => exact rfl
    | ⟨2, _⟩, _ => exact rfl
    | ⟨3, _⟩, _ => exact rfl
    | ⟨4, _⟩, hb => exact absurd rfl hb
    · show 8 + (n.val % 64 - 8) = n.val % 64
      omega
    · show secondD y _ * spreadD (Host.cos t) _ + firstD y _ * spreadD (Host.sin t) _ = _
      rw [firstD_apply, secondD_apply, spreadD_apply, spreadD_apply]
      have e1 : (⟨128 * (n.val / 128) + 64 * (n.val / 64 % 2) + (8 + (n.val % 64 - 8)), by omega⟩ : Fin 512) = n := Fin.ext (by show 128 * (n.val / 128) + 64 * (n.val / 64 % 2) + (8 + (n.val % 64 - 8)) = n.val; omega)
      have e2 : (⟨128 * (n.val / 128) + 64 * (n.val / 64 % 2) + (0 + (n.val % 64 - 8)), by omega⟩ : Fin 512) = ⟨n.val - 8, by omega⟩ :=
        Fin.ext (by show 128 * (n.val / 128) + 64 * (n.val / 64 % 2) + (0 + (n.val % 64 - 8)) = n.val - 8; omega)
      exact congr (congrArg _ (congrArg (fun p => y (ix3 r (0 : Fin 1) p) * _) e1)) (congrArg (fun p => y (ix3 r (0 : Fin 1) p) * _) e2)
  rw [dif_neg h']
  refine (concatenate_apply_piece (t := S128x1x4x2x64) (4 : Fin 5) _ _ _ 2 (by exact show 2 < 3 by decide) S128x1x4x2x48 (restD y) (by rfl) rfl 16 (by rfl)
    (ix5 r (0 : Fin 1) (⟨n.val / 128, by omega⟩ : Fin 4) (⟨n.val / 64 % 2, by omega⟩ : Fin 2) (⟨n.val % 64 - 16, by omega⟩ : Fin 48)) (fun b hb => ?_) ?_).trans ?_
  · match b, hb with
    | ⟨0, _⟩, _ => exact rfl
    | ⟨1, _⟩, _ => exact rfl
    | ⟨2, _⟩, _ => exact rfl
    | ⟨3, _⟩, _ => exact rfl
    | ⟨4, _⟩, hb => exact absurd rfl hb
  · show 16 + (n.val % 64 - 16) = n.val % 64
    omega
  · rw [restD_apply]
    exact congrArg (fun p => y (ix3 r (0 : Fin 1) p)) (Fin.ext (by show 128 * (n.val / 128) + 64 * (n.val / 64 % 2) + (16 + (n.val % 64 - 16)) = n.val; omega))

/-- For the other heads: the column by heads, -/
def headsM : FVec Ideal S128x1x8x64 .f32 := shapeCast S128x1x8x64 y shapeCasts_S128x1x512_S128x1x8x64
/-- the first and second eight numbers of each head, and the rest, -/
def firstM : FVec Ideal S128x1x8x8 .f32 := extractStridedSlice S128x1x8x8 ![0, 0, 0, 0] (headsM y) slices_S128x1x8x64_S128x1x8x8_0_0_0_0
def secondM : FVec Ideal S128x1x8x8 .f32 := extractStridedSlice S128x1x8x8 ![0, 0, 0, 8] (headsM y) slices_S128x1x8x64_S128x1x8x8_0_0_0_8
def restM : FVec Ideal S128x1x8x48 .f32 := extractStridedSlice S128x1x8x48 ![0, 0, 0, 16] (headsM y) slices_S128x1x8x64_S128x1x8x48_0_0_0_16
/-- a table spread over sequences and heads, -/
def spreadM : FVec Ideal S128x1x8x8 .f32 := broadcastInDim S128x1x8x8 ![0, 1, 2, 3] bcast_S1x1x1x8_S128x1x8x8_0_1_2_3 (shapeCast S1x1x1x8 t shapeCasts_S1x8_S1x1x1x8)
/-- the new first and second eights, -/
def frontM : FVec Ideal S128x1x8x8 .f32 := subf (mulf (firstM y) (spreadM (Host.cos t))) (mulf (secondM y) (spreadM (Host.sin t)))
def backM : FVec Ideal S128x1x8x8 .f32 := addf (mulf (secondM y) (spreadM (Host.cos t))) (mulf (firstM y) (spreadM (Host.sin t)))
/-- and all three joined. -/
def turnM : FVec Ideal S128x1x8x64 .f32 :=
  concatenate S128x1x8x64 3 [⟨S128x1x8x8, frontM y t⟩, ⟨S128x1x8x8, backM y t⟩, ⟨S128x1x8x48, restM y⟩] concatenates_S128x1x8x8_S128x1x8x8_S128x1x8x48_S128x1x8x64_d3

theorem headsM_apply (r : Fin 128) (h : Fin 8) (k : Fin 64) :
    headsM y (ix4 r (0 : Fin 1) h k) = y (ix3 r (0 : Fin 1) (⟨64 * h.val + k.val, by omega⟩ : Fin 512)) := by
  unfold headsM
  refine shapeCast_apply (s := S128x1x512) (t := S128x1x8x64) y _ _ _ ?_
  refine (Shape.rowMajor_val_three (d := ![128, 1, 512]) _).trans (Eq.trans ?_ (Shape.rowMajor_val_four (d := ![128, 1, 8, 64]) _).symm)
  show (r.val * 1 + 0) * 512 + (64 * h.val + k.val) = (((r.val * 1 + 0) * 8 + h.val) * 64 + k.val)
  omega
theorem firstM_apply (r : Fin 128) (h : Fin 8) (j : Fin 8) :
    firstM y (ix4 r (0 : Fin 1) h j) = y (ix3 r (0 : Fin 1) (⟨64 * h.val + (0 + j.val), by omega⟩ : Fin 512)) := by
  unfold firstM
  refine (extractStridedSlice_apply ![0, 0, 0, 0] (headsM y) slices_S128x1x8x64_S128x1x8x8_0_0_0_0 _ (ix4 r (0 : Fin 1) h (⟨0 + j.val, by omega⟩ : Fin 64)) (fun a => match a with
    | ⟨0, _⟩ => by show r.val = 0 + r.val; omega
    | ⟨1, _⟩ => by show 0 = 0 + 0; omega
    | ⟨2, _⟩ => by show h.val = 0 + h.val; omega
    | ⟨3, _⟩ => rfl)
    ).trans ?_
  exact headsM_apply y r h _
theorem secondM_apply (r : Fin 128) (h : Fin 8) (j : Fin 8) :
    secondM y (ix4 r (0 : Fin 1) h j) = y (ix3 r (0 : Fin 1) (⟨64 * h.val + (8 + j.val), by omega⟩ : Fin 512)) := by
  unfold secondM
  refine (extractStridedSlice_apply ![0, 0, 0, 8] (headsM y) slices_S128x1x8x64_S128x1x8x8_0_0_0_8 _ (ix4 r (0 : Fin 1) h (⟨8 + j.val, by omega⟩ : Fin 64)) (fun a => match a with
    | ⟨0, _⟩ => by show r.val = 0 + r.val; omega
    | ⟨1, _⟩ => by show 0 = 0 + 0; omega
    | ⟨2, _⟩ => by show h.val = 0 + h.val; omega
    | ⟨3, _⟩ => rfl)
    ).trans ?_
  exact headsM_apply y r h _
theorem restM_apply (r : Fin 128) (h : Fin 8) (j : Fin 48) :
    restM y (ix4 r (0 : Fin 1) h j) = y (ix3 r (0 : Fin 1) (⟨64 * h.val + (16 + j.val), by omega⟩ : Fin 512)) := by
  unfold restM
  refine (extractStridedSlice_apply ![0, 0, 0, 16] (headsM y) slices_S128x1x8x64_S128x1x8x48_0_0_0_16 _ (ix4 r (0 : Fin 1) h (⟨16 + j.val, by omega⟩ : Fin 64)) (fun a => match a with
    | ⟨0, _⟩ => by show r.val = 0 + r.val; omega
    | ⟨1, _⟩ => by show 0 = 0 + 0; omega
    | ⟨2, _⟩ => by show h.val = 0 + h.val; omega
    | ⟨3, _⟩ => rfl)
    ).trans ?_
  exact headsM_apply y r h _
theorem spreadM_apply (r : Fin 128) (h : Fin 8) (j : Fin 8) : spreadM t (ix4 r (0 : Fin 1) h j) = t (ix2 (0 : Fin 1) j) := by
  unfold spreadM
  refine (broadcastInDim_apply ![0, 1, 2, 3] bcast_S1x1x1x8_S128x1x8x8_0_1_2_3 (shapeCast S1x1x1x8 t shapeCasts_S1x8_S1x1x1x8) (ix4 r (0 : Fin 1) h j) (ix4 (0 : Fin 1) (0 : Fin 1) (0 : Fin 1) j) (fun a => match a with
    | ⟨0, _⟩ => by show 0 = if (1 : Nat) = 1 then 0 else r.val; rw [if_pos rfl]
    | ⟨1, _⟩ => by show 0 = if (1 : Nat) = 1 then 0 else 0; rw [if_pos rfl]
    | ⟨2, _⟩ => by show 0 = if (1 : Nat) = 1 then 0 else h.val; rw [if_pos rfl]
    | ⟨3, _⟩ => by show j.val = if (8 : Nat) = 1 then 0 else j.val; rw [if_neg (by decide)])
    ).trans ?_
  refine shapeCast_apply (s := S1x8) (t := S1x1x1x8) t _ _ _ ?_
  refine (Shape.rowMajor_val_two (d := ![1, 8]) _).trans (Eq.trans ?_ (Shape.rowMajor_val_four (d := ![1, 1, 1, 8]) _).symm)
  show 0 * 8 + j.val = (((0 * 1 + 0) * 1 + 0) * 8 + j.val)
  omega

/-- A number of the turned column. -/
theorem turnM_apply (r : Fin 128) (n : Fin 512) :
    (turnM y t (ix4 r (0 : Fin 1) (⟨n.val / 64, by omega⟩ : Fin 8) (⟨n.val % 64, by omega⟩ : Fin 64)) : EReal)
      = turned (fun n => y (ix3 r (0 : Fin 1) n)) (fun j => Ideal.hostUnary .cos (t (ix2 (0 : Fin 1) j))) (fun j => Ideal.hostUnary .sin (t (ix2 (0 : Fin 1) j))) n := by
  unfold turned
  unfold turnM
  by_cases h : n.val % 64 < 8
  · rw [dif_pos h]
    refine (concatenate_apply_piece (t := S128x1x8x64) (3 : Fin 4) _ _ _ 0 (by exact show 0 < 3 by decide) S128x1x8x8 (frontM y t) (by rfl) rfl 0 (by rfl)
      (ix4 r (0 : Fin 1) (⟨n.val / 64, by omega⟩ : Fin 8) (⟨n.val % 64, h⟩ : Fin 8)) (fun b hb => ?_) ?_).trans ?_
    · match b, hb with
    | ⟨0, _⟩, _ => exact rfl
    | ⟨1, _⟩, _ => exact rfl
    | ⟨2, _⟩, _ => exact rfl
    | ⟨3, _⟩, hb => exact absurd rfl hb
    · show 0 + n.val % 64 = n.val % 64
      omega
    · show firstM y _ * spreadM (Host.cos t) _ - secondM y _ * spreadM (Host.sin t) _ = _
      rw [firstM_apply, secondM_apply, spreadM_apply, spreadM_apply]
      have e1 : (⟨64 * (n.val / 64) + (0 + n.val % 64), by omega⟩ : Fin 512) = n := Fin.ext (by show 64 * (n.val / 64) + (0 + n.val % 64) = n.val; omega)
      have e2 : (⟨64 * (n.val / 64) + (8 + n.val % 64), by omega⟩ : Fin 512) = ⟨n.val + 8, by omega⟩ :=
        Fin.ext (by show 64 * (n.val / 64) + (8 + n.val % 64) = n.val + 8; omega)
      exact congr (congrArg _ (congrArg (fun p => y (ix3 r (0 : Fin 1) p) * _) e1)) (congrArg (fun p => y (ix3 r (0 : Fin 1) p) * _) e2)
  rw [dif_neg h]
  by_cases h' : n.val % 64 < 16
  · rw [dif_pos h']
    refine (concatenate_apply_piece (t := S128x1x8x64) (3 : Fin 4) _ _ _ 1 (by exact show 1 < 3 by decide) S128x1x8x8 (backM y t) (by rfl) rfl 8 (by rfl)
      (ix4 r (0 : Fin 1) (⟨n.val / 64, by omega⟩ : Fin 8) (⟨n.val % 64 - 8, by omega⟩ : Fin 8)) (fun b hb => ?_) ?_).trans ?_
    · match b, hb with
    | ⟨0, _⟩, _ => exact rfl
    | ⟨1, _⟩, _ => exact rfl
    | ⟨2, _⟩, _ => exact rfl
    | ⟨3, _⟩, hb => exact absurd rfl hb
    · show 8 + (n.val % 64 - 8) = n.val % 64
      omega
    · show secondM y _ * spreadM (Host.cos t) _ + firstM y _ * spreadM (Host.sin t) _ = _
      rw [firstM_apply, secondM_apply, spreadM_apply, spreadM_apply]
      have e1 : (⟨64 * (n.val / 64) + (8 + (n.val % 64 - 8)), by omega⟩ : Fin 512) = n := Fin.ext (by show 64 * (n.val / 64) + (8 + (n.val % 64 - 8)) = n.val; omega)
      have e2 : (⟨64 * (n.val / 64) + (0 + (n.val % 64 - 8)), by omega⟩ : Fin 512) = ⟨n.val - 8, by omega⟩ :=
        Fin.ext (by show 64 * (n.val / 64) + (0 + (n.val % 64 - 8)) = n.val - 8; omega)
      exact congr (congrArg _ (congrArg (fun p => y (ix3 r (0 : Fin 1) p) * _) e1)) (congrArg (fun p => y (ix3 r (0 : Fin 1) p) * _) e2)
  rw [dif_neg h']
  refine (concatenate_apply_piece (t := S128x1x8x64) (3 : Fin 4) _ _ _ 2 (by exact show 2 < 3 by decide) S128x1x8x48 (restM y) (by rfl) rfl 16 (by rfl)
    (ix4 r (0 : Fin 1) (⟨n.val / 64, by omega⟩ : Fin 8) (⟨n.val % 64 - 16, by omega⟩ : Fin 48)) (fun b hb => ?_) ?_).trans ?_
  · match b, hb with
    | ⟨0, _⟩, _ => exact rfl
    | ⟨1, _⟩, _ => exact rfl
    | ⟨2, _⟩, _ => exact rfl
    | ⟨3, _⟩, hb => exact absurd rfl hb
  · show 16 + (n.val % 64 - 16) = n.val % 64
    omega
  · rw [restM_apply]
    exact congrArg (fun p => y (ix3 r (0 : Fin 1) p)) (Fin.ext (by show 64 * (n.val / 64) + (16 + (n.val % 64 - 16)) = n.val; omega))

end turn

/-! ## The projection -/

section args

variable (x : S128x1x1024.Idx → EReal) (sc sh : S128x1024.Idx → EReal) (g : S1024.Idx → EReal) (w : S1024x3072.Idx → EReal)

/-- A number of the modulated rows, -/
theorem modulated_apply (r : Fin 128) (k : Fin 1024) : (val_main_v21 (F := Ideal) x sc sh g : S128x1x1024.Idx → EReal) (ix3 r (0 : Fin 1) k)
    = modulated (fun k => x (ix3 r (0 : Fin 1) k)) (fun k => g (ix1 k)) (fun k => sc (ix2 r k)) (fun k => sh (ix2 r k)) k := by
  have h1 : idx_main_v5 (idx_main_v11 (ix3 r (0 : Fin 1) k)) = ix2 r (0 : Fin 1) := funext fun a => match a with | ⟨0, _⟩ => rfl | ⟨1, _⟩ => rfl
  have h2 : idx_main_v13 (idx_main_v14 (ix3 r (0 : Fin 1) k)) = ix1 k := funext fun a => match a with | ⟨0, _⟩ => rfl
  have h3 : idx_main_v16 (ix3 r (0 : Fin 1) k) = ix2 r k := funext fun a => match a with | ⟨0, _⟩ => rfl | ⟨1, _⟩ => rfl
  have h4 : idx_main_v20 (ix3 r (0 : Fin 1) k) = ix2 r k := funext fun a => match a with | ⟨0, _⟩ => rfl | ⟨1, _⟩ => rfl
  have h5 : ∀ j : Fin 1024, idx_main_v4 (ix2 r (0 : Fin 1)) j = ix3 r (0 : Fin 1) j := fun j => funext fun a => match a with | ⟨0, _⟩ => rfl | ⟨1, _⟩ => rfl | ⟨2, _⟩ => rfl
  have hs : val_main_v4 (F := Ideal) x (ix2 r (0 : Fin 1)) = ∑ j : Fin 1024, x (ix3 r (0 : Fin 1) j) * x (ix3 r (0 : Fin 1) j) := by
    rw [val_main_v4_apply, val_main_cst_apply]
    refine (congrArg (· + _) Ideal.ofBits_zero_f32).trans ((zero_add _).trans (Finset.sum_congr rfl fun j _ => ?_))
    rw [h5 j]
    rfl
  rw [val_main_v21_apply, val_main_v19_apply, val_main_v15_apply, val_main_v12_apply, val_main_v11_apply, val_main_v10_apply, val_main_v9_apply,
    val_main_v7_apply, val_main_v5_apply, h1, hs, val_main_v14_apply, val_main_v13_apply, h2, val_main_v18_apply, val_main_v16_apply, h3,
    val_main_v20_apply, h4, val_main_v6_apply, val_main_v8_apply, val_main_v17_apply]
  rfl

/-- and of the projected ones. -/
theorem projected_apply (r : Fin 128) (n : Fin 3072) :
    (val_main_v22 (F := Ideal) x sc sh g w : S128x1x3072.Idx → EReal) (ix3 r (0 : Fin 1) n) = Cert.Sample.proj x sc sh g w r n := by
  have h1 : ∀ k : Fin 1024, lidx_main_v22 (ix3 r (0 : Fin 1) n) k = ix3 r (0 : Fin 1) k := fun k => funext fun a => match a with | ⟨0, _⟩ => rfl | ⟨1, _⟩ => rfl | ⟨2, _⟩ => rfl
  have h2 : ∀ k : Fin 1024, ridx_main_v22 (ix3 r (0 : Fin 1) n) k = ix2 k n := fun k => funext fun a => match a with | ⟨0, _⟩ => rfl | ⟨1, _⟩ => rfl
  rw [val_main_v22_apply]
  unfold Cert.Sample.proj projected
  refine Finset.sum_congr rfl fun k _ => ?_
  rw [h1 k, h2 k, modulated_apply]

/-- The six columns. -/
theorem column23_apply (r : Fin 128) (n : Fin 512) :
    (val_main_v23 (F := Ideal) x sc sh g w : S128x1x512.Idx → EReal) (ix3 r (0 : Fin 1) n) = Cert.Sample.plain x sc sh g w 0 (by decide) r n := by
  unfold val_main_v23
  refine (extractStridedSlice_apply ![0, 0, 0] (val_main_v22 (F := Ideal) x sc sh g w) slices_S128x1x3072_S128x1x512_0_0_0 _
    (ix3 r (0 : Fin 1) (⟨0 + n.val, by omega⟩ : Fin 3072)) (fun a => match a with
    | ⟨0, _⟩ => by show r.val = 0 + r.val; omega
    | ⟨1, _⟩ => by show 0 = 0 + 0; omega
    | ⟨2, _⟩ => rfl)).trans ?_
  exact projected_apply x sc sh g w r _
theorem column24_apply (r : Fin 128) (n : Fin 512) :
    (val_main_v24 (F := Ideal) x sc sh g w : S128x1x512.Idx → EReal) (ix3 r (0 : Fin 1) n) = Cert.Sample.plain x sc sh g w 512 (by decide) r n := by
  unfold val_main_v24
  refine (extractStridedSlice_apply ![0, 0, 512] (val_main_v22 (F := Ideal) x sc sh g w) slices_S128x1x3072_S128x1x512_0_0_512 _
    (ix3 r (0 : Fin 1) (⟨512 + n.val, by omega⟩ : Fin 3072)) (fun a => match a with
    | ⟨0, _⟩ => by show r.val = 0 + r.val; omega
    | ⟨1, _⟩ => by show 0 = 0 + 0; omega
    | ⟨2, _⟩ => rfl)).trans ?_
  exact projected_apply x sc sh g w r _
theorem column25_apply (r : Fin 128) (n : Fin 512) :
    (val_main_v25 (F := Ideal) x sc sh g w : S128x1x512.Idx → EReal) (ix3 r (0 : Fin 1) n) = Cert.Sample.plain x sc sh g w 1024 (by decide) r n := by
  unfold val_main_v25
  refine (extractStridedSlice_apply ![0, 0, 1024] (val_main_v22 (F := Ideal) x sc sh g w) slices_S128x1x3072_S128x1x512_0_0_1024 _
    (ix3 r (0 : Fin 1) (⟨1024 + n.val, by omega⟩ : Fin 3072)) (fun a => match a with
    | ⟨0, _⟩ => by show r.val = 0 + r.val; omega
    | ⟨1, _⟩ => by show 0 = 0 + 0; omega
    | ⟨2, _⟩ => rfl)).trans ?_
  exact projected_apply x sc sh g w r _
theorem column26_apply (r : Fin 128) (n : Fin 512) :
    (val_main_v26 (F := Ideal) x sc sh g w : S128x1x512.Idx → EReal) (ix3 r (0 : Fin 1) n) = Cert.Sample.plain x sc sh g w 1536 (by decide) r n := by
  unfold val_main_v26
  refine (extractStridedSlice_apply ![0, 0, 1536] (val_main_v22 (F := Ideal) x sc sh g w) slices_S128x1x3072_S128x1x512_0_0_1536 _
    (ix3 r (0 : Fin 1) (⟨1536 + n.val, by omega⟩ : Fin 3072)) (fun a => match a with
    | ⟨0, _⟩ => by show r.val = 0 + r.val; omega
    | ⟨1, _⟩ => by show 0 = 0 + 0; omega
    | ⟨2, _⟩ => rfl)).trans ?_
  exact projected_apply x sc sh g w r _
theorem column27_apply (r : Fin 128) (n : Fin 512) :
    (val_main_v27 (F := Ideal) x sc sh g w : S128x1x512.Idx → EReal) (ix3 r (0 : Fin 1) n) = Cert.Sample.plain x sc sh g w 2048 (by decide) r n := by
  unfold val_main_v27
  refine (extractStridedSlice_apply ![0, 0, 2048] (val_main_v22 (F := Ideal) x sc sh g w) slices_S128x1x3072_S128x1x512_0_0_2048 _
    (ix3 r (0 : Fin 1) (⟨2048 + n.val, by omega⟩ : Fin 3072)) (fun a => match a with
    | ⟨0, _⟩ => by show r.val = 0 + r.val; omega
    | ⟨1, _⟩ => by show 0 = 0 + 0; omega
    | ⟨2, _⟩ => rfl)).trans ?_
  exact projected_apply x sc sh g w r _
theorem column28_apply (r : Fin 128) (n : Fin 512) :
    (val_main_v28 (F := Ideal) x sc sh g w : S128x1x512.Idx → EReal) (ix3 r (0 : Fin 1) n) = Cert.Sample.plain x sc sh g w 2560 (by decide) r n := by
  unfold val_main_v28
  refine (extractStridedSlice_apply ![0, 0, 2560] (val_main_v22 (F := Ideal) x sc sh g w) slices_S128x1x3072_S128x1x512_0_0_2560 _
    (ix3 r (0 : Fin 1) (⟨2560 + n.val, by omega⟩ : Fin 3072)) (fun a => match a with
    | ⟨0, _⟩ => by show r.val = 0 + r.val; omega
    | ⟨1, _⟩ => by show 0 = 0 + 0; omega
    | ⟨2, _⟩ => rfl)).trans ?_
  exact projected_apply x sc sh g w r _

/-! ## The results -/

/-- The turned columns are the program's. -/
theorem turned59 : val_main_v59 (F := Ideal) x sc sh g w = turnD (val_main_v23 (F := Ideal) x sc sh g w) (val_main_v41 (F := Ideal)) := rfl
theorem turned59_apply (r : Fin 128) (n : Fin 512) :
    (val_main_v59 (F := Ideal) x sc sh g w : S128x1x4x2x64.Idx → EReal) (ix5 r (0 : Fin 1) (⟨n.val / 128, by omega⟩ : Fin 4) (⟨n.val / 64 % 2, by omega⟩ : Fin 2) (⟨n.val % 64, by omega⟩ : Fin 64)) = Cert.Sample.rotated x sc sh g w 0 (by decide) r n := by
  rw [turned59]
  refine (turnD_apply _ _ r n).trans ?_
  unfold Cert.Sample.rotated
  refine congr (congr (congr (congrArg turned (funext fun n => ?_)) (funext fun j => ?_)) (funext fun j => ?_)) rfl
  · exact column23_apply x sc sh g w r n
  · exact congrArg _ (angles_apply j)
  · exact congrArg _ (angles_apply j)
theorem turned92 : val_main_v92 (F := Ideal) x sc sh g w = turnD (val_main_v24 (F := Ideal) x sc sh g w) (val_main_v74 (F := Ideal)) := rfl
theorem turned92_apply (r : Fin 128) (n : Fin 512) :
    (val_main_v92 (F := Ideal) x sc sh g w : S128x1x4x2x64.Idx → EReal) (ix5 r (0 : Fin 1) (⟨n.val / 128, by omega⟩ : Fin 4) (⟨n.val / 64 % 2, by omega⟩ : Fin 2) (⟨n.val % 64, by omega⟩ : Fin 64)) = Cert.Sample.rotated x sc sh g w 512 (by decide) r n := by
  rw [turned92]
  rw [angles74]
  refine (turnD_apply _ _ r n).trans ?_
  unfold Cert.Sample.rotated
  refine congr (congr (congr (congrArg turned (funext fun n => ?_)) (funext fun j => ?_)) (funext fun j => ?_)) rfl
  · exact column24_apply x sc sh g w r n
  · exact congrArg _ (angles_apply j)
  · exact congrArg _ (angles_apply j)
theorem turned123 : val_main_v123 (F := Ideal) x sc sh g w = turnM (val_main_v26 (F := Ideal) x sc sh g w) (val_main_v105 (F := Ideal)) := rfl
theorem turned123_apply (r : Fin 128) (n : Fin 512) :
    (val_main_v123 (F := Ideal) x sc sh g w : S128x1x8x64.Idx → EReal) (ix4 r (0 : Fin 1) (⟨n.val / 64, by omega⟩ : Fin 8) (⟨n.val % 64, by omega⟩ : Fin 64)) = Cert.Sample.rotated x sc sh g w 1536 (by decide) r n := by
  rw [turned123]
  rw [angles105]
  refine (turnM_apply _ _ r n).trans ?_
  unfold Cert.Sample.rotated
  refine congr (congr (congr (congrArg turned (funext fun n => ?_)) (funext fun j => ?_)) (funext fun j => ?_)) rfl
  · exact column26_apply x sc sh g w r n
  · exact congrArg _ (angles_apply j)
  · exact congrArg _ (angles_apply j)
theorem turned156 : val_main_v156 (F := Ideal) x sc sh g w = turnM (val_main_v27 (F := Ideal) x sc sh g w) (val_main_v138 (F := Ideal)) := rfl
theorem turned156_apply (r : Fin 128) (n : Fin 512) :
    (val_main_v156 (F := Ideal) x sc sh g w : S128x1x8x64.Idx → EReal) (ix4 r (0 : Fin 1) (⟨n.val / 64, by omega⟩ : Fin 8) (⟨n.val % 64, by omega⟩ : Fin 64)) = Cert.Sample.rotated x sc sh g w 2048 (by decide) r n := by
  rw [turned156]
  rw [angles138]
  refine (turnM_apply _ _ r n).trans ?_
  unfold Cert.Sample.rotated
  refine congr (congr (congr (congrArg turned (funext fun n => ?_)) (funext fun j => ?_)) (funext fun j => ?_)) rfl
  · exact column27_apply x sc sh g w r n
  · exact congrArg _ (angles_apply j)
  · exact congrArg _ (angles_apply j)
/-- Queries of the gated heads, -/
theorem result_queriesD : val_main_v157 (F := Ideal) x sc sh g w = queriesD x sc sh g w := by
  funext i
  obtain ⟨u, r, n, rfl⟩ : ∃ (u : Fin 1) (r : Fin 128) (n : Fin 512), i = ix3 u r n := ⟨i (0 : Fin 3), i (1 : Fin 3), i (2 : Fin 3), eq_ix3 i⟩
  have hu : u.val = 0 := by omega
  refine Eq.trans (b := val_main_v61 (F := Ideal) x sc sh g w (ix5 r (0 : Fin 1) (⟨n.val / 128, by omega⟩ : Fin 4) (⟨n.val / 64 % 2, by omega⟩ : Fin 2) (⟨n.val % 64, by omega⟩ : Fin 64))) ?_ ?_
  · unfold val_main_v157
    refine shapeCast_apply (s := S128x1x4x2x64) (t := S1x128x512) _ _ _ _ ?_
    refine (Shape.rowMajor_val_five (d := ![128, 1, 4, 2, 64]) _).trans (Eq.trans ?_ (Shape.rowMajor_val_three (d := ![1, 128, 512]) _).symm)
    show (((r.val * 1 + 0) * 4 + n.val / 128) * 2 + n.val / 64 % 2) * 64 + n.val % 64 = (u.val * 128 + r.val) * 512 + n.val
    omega
  · rw [val_main_v61_apply, val_main_v60_apply]
    exact congrArg (· * eighth) (turned59_apply x sc sh g w r n)
/-- their keys -/
theorem result_keysD : val_main_v158 (F := Ideal) x sc sh g w = keysD x sc sh g w := by
  funext i
  obtain ⟨u, r, n, rfl⟩ : ∃ (u : Fin 1) (r : Fin 128) (n : Fin 512), i = ix3 u r n := ⟨i (0 : Fin 3), i (1 : Fin 3), i (2 : Fin 3), eq_ix3 i⟩
  have hu : u.val = 0 := by omega
  refine Eq.trans (b := val_main_v92 (F := Ideal) x sc sh g w (ix5 r (0 : Fin 1) (⟨n.val / 128, by omega⟩ : Fin 4) (⟨n.val / 64 % 2, by omega⟩ : Fin 2) (⟨n.val % 64, by omega⟩ : Fin 64))) ?_ ?_
  · unfold val_main_v158
    refine shapeCast_apply (s := S128x1x4x2x64) (t := S1x128x512) _ _ _ _ ?_
    refine (Shape.rowMajor_val_five (d := ![128, 1, 4, 2, 64]) _).trans (Eq.trans ?_ (Shape.rowMajor_val_three (d := ![1, 128, 512]) _).symm)
    show (((r.val * 1 + 0) * 4 + n.val / 128) * 2 + n.val / 64 % 2) * 64 + n.val % 64 = (u.val * 128 + r.val) * 512 + n.val
    omega
  · exact turned92_apply x sc sh g w r n
/-- and values, -/
theorem result_valuesD : val_main_v159 (F := Ideal) x sc sh g w = valuesD x sc sh g w := by
  funext i
  obtain ⟨u, r, n, rfl⟩ : ∃ (u : Fin 1) (r : Fin 128) (n : Fin 512), i = ix3 u r n := ⟨i (0 : Fin 3), i (1 : Fin 3), i (2 : Fin 3), eq_ix3 i⟩
  have hu : u.val = 0 := by omega
  refine Eq.trans (b := val_main_v25 (F := Ideal) x sc sh g w (ix3 r (0 : Fin 1) n)) ?_ ?_
  · unfold val_main_v159
    refine shapeCast_apply (s := S128x1x512) (t := S1x128x512) _ _ _ _ ?_
    refine (Shape.rowMajor_val_three (d := ![128, 1, 512]) _).trans (Eq.trans ?_ (Shape.rowMajor_val_three (d := ![1, 128, 512]) _).symm)
    show (r.val * 1 + 0) * 512 + n.val = (u.val * 128 + r.val) * 512 + n.val
    omega
  · exact column25_apply x sc sh g w r n
/-- and queries of the other heads, -/
theorem result_queriesM : val_main_v160 (F := Ideal) x sc sh g w = queriesM x sc sh g w := by
  funext i
  obtain ⟨u, r, n, rfl⟩ : ∃ (u : Fin 1) (r : Fin 128) (n : Fin 512), i = ix3 u r n := ⟨i (0 : Fin 3), i (1 : Fin 3), i (2 : Fin 3), eq_ix3 i⟩
  have hu : u.val = 0 := by omega
  refine Eq.trans (b := val_main_v125 (F := Ideal) x sc sh g w (ix4 r (0 : Fin 1) (⟨n.val / 64, by omega⟩ : Fin 8) (⟨n.val % 64, by omega⟩ : Fin 64))) ?_ ?_
  · unfold val_main_v160
    refine shapeCast_apply (s := S128x1x8x64) (t := S1x128x512) _ _ _ _ ?_
    refine (Shape.rowMajor_val_four (d := ![128, 1, 8, 64]) _).trans (Eq.trans ?_ (Shape.rowMajor_val_three (d := ![1, 128, 512]) _).symm)
    show ((r.val * 1 + 0) * 8 + n.val / 64) * 64 + n.val % 64 = (u.val * 128 + r.val) * 512 + n.val
    omega
  · rw [val_main_v125_apply, val_main_v124_apply]
    exact congrArg (· * eighth) (turned123_apply x sc sh g w r n)
/-- their keys -/
theorem result_keysM : val_main_v161 (F := Ideal) x sc sh g w = keysM x sc sh g w := by
  funext i
  obtain ⟨u, r, n, rfl⟩ : ∃ (u : Fin 1) (r : Fin 128) (n : Fin 512), i = ix3 u r n := ⟨i (0 : Fin 3), i (1 : Fin 3), i (2 : Fin 3), eq_ix3 i⟩
  have hu : u.val = 0 := by omega
  refine Eq.trans (b := val_main_v156 (F := Ideal) x sc sh g w (ix4 r (0 : Fin 1) (⟨n.val / 64, by omega⟩ : Fin 8) (⟨n.val % 64, by omega⟩ : Fin 64))) ?_ ?_
  · unfold val_main_v161
    refine shapeCast_apply (s := S128x1x8x64) (t := S1x128x512) _ _ _ _ ?_
    refine (Shape.rowMajor_val_four (d := ![128, 1, 8, 64]) _).trans (Eq.trans ?_ (Shape.rowMajor_val_three (d := ![1, 128, 512]) _).symm)
    show ((r.val * 1 + 0) * 8 + n.val / 64) * 64 + n.val % 64 = (u.val * 128 + r.val) * 512 + n.val
    omega
  · exact turned156_apply x sc sh g w r n
/-- and values. -/
theorem result_valuesM : val_main_v162 (F := Ideal) x sc sh g w = valuesM x sc sh g w := by
  funext i
  obtain ⟨u, r, n, rfl⟩ : ∃ (u : Fin 1) (r : Fin 128) (n : Fin 512), i = ix3 u r n := ⟨i (0 : Fin 3), i (1 : Fin 3), i (2 : Fin 3), eq_ix3 i⟩
  have hu : u.val = 0 := by omega
  refine Eq.trans (b := val_main_v28 (F := Ideal) x sc sh g w (ix3 r (0 : Fin 1) n)) ?_ ?_
  · unfold val_main_v162
    refine shapeCast_apply (s := S128x1x512) (t := S1x128x512) _ _ _ _ ?_
    refine (Shape.rowMajor_val_three (d := ![128, 1, 512]) _).trans (Eq.trans ?_ (Shape.rowMajor_val_three (d := ![1, 128, 512]) _).symm)
    show (r.val * 1 + 0) * 512 + n.val = (u.val * 128 + r.val) * 512 + n.val
    omega
  · exact column28_apply x sc sh g w r n

end args

end Cert.Reference4Ideal.Sample

end
-- ==== Proof.lean ====
/- The proof of the claims: the programs run and leave their arguments unchanged, the mask's name is the rounded program's
   constant, and on finite arguments the attention kernel's result is the reference's, number for number; so are the projection
   kernels', of the prompt and of the sample, on any arguments, and the expert kernel's, when every block's expert is one of the 64. -/
module

public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Flash.Ref
public import proofs.«01_k».proof.Proof.Flash.Finite
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_known_expert
public import proofs.«01_k».proof.Proof.Experts.Tables
public import proofs.«01_k».proof.Proof.Experts.Array
public import proofs.«01_k».proof.Proof.Experts.TablesIdeal
public import proofs.«01_k».proof.Proof.Experts.Ref
public import proofs.«01_k».proof.Proof.Qkv.Launch
public import proofs.«01_k».proof.Proof.Qkv.Array
public import proofs.«01_k».proof.Proof.Qkv.Ref
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Sample.Array
public import proofs.«01_k».proof.Proof.Sample.Ref
public import Idealize.ShloMosaic.Adequacy
public import Idealize.ShloMosaic.Init

@[expose] public section

noncomputable section

namespace Cert.Proof

open Idealize.ShloMosaic Idealize.SL.Sem Cert.Kernel

/-- The one rule of the idealization, the mask's name, holds at every place it is used. -/
theorem preserves : Cert.preserves_Kernel_KernelIdeal :=
  Idealize.ShloMosaic.IdealRules.named_const.statement Cert.KernelIdeal.κ "mask" .f32 0xF149F2CA#32 ⊥ rfl

/-- The reference runs and leaves its arguments unchanged. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- On finite arguments the kernel's result is the reference's: both are `Cert.Flash.result`. -/
theorem algebraic : Cert.algebraic_KernelIdeal_ReferenceIdeal_pre_finite := by
  intro m g m' g' hpre hagree
  have key : ∀ c : Dev Cert.KernelIdeal.nD, Cert.ReferenceIdeal.Value.res_main_v66 m' c
      = (Cert.KernelIdeal.Gen.dats m 0 c).arrAt 5 Cert.KernelIdeal.cfg0.N := by
    intro c
    obtain ⟨h0, h1, h2, h3⟩ := Cert.Flash.reals_of_pre (hpre c)
    obtain ⟨q, hq⟩ := Cert.Flash.Reals.of h0
    obtain ⟨k, hk⟩ := Cert.Flash.Reals.of h1
    obtain ⟨v, hv⟩ := Cert.Flash.Reals.of h2
    obtain ⟨lam, hl⟩ := Cert.Flash.lam_real h3
    refine Eq.trans ?_ (Cert.Flash.final m c hq hk hv hl).symm
    rw [Cert.ReferenceIdeal.Read.val_main_v66_eq, (hagree c).1, (hagree c).2.1, (hagree c).2.2.1, (hagree c).2.2.2.1, (hagree c).2.2.2.2]
    exact Cert.Flash.reference_result hq hk hv hl
  exact ⟨fun c => (Cert.KernelIdeal.Gen.dats m 0 c).arrAt 5 Cert.KernelIdeal.cfg0.N, Cert.KernelIdeal.Value.run_blocks m g,
    (θ_run Cert.ReferenceIdeal.defs _ _).mono (fun r h c => ⟨(h c).1.trans (key c), (h c).2⟩) (Cert.ReferenceIdeal.Value.run m' g')⟩

/-- The expert layer's kernel runs, when every block's expert is one of the 64, and leaves its arguments unchanged. -/
theorem experts_frame : Cert.quiescent_Kernel3 := fun m ρ h =>
  (θ_run Cert.Kernel3.defs _ _).mono (fun _ r => ⟨fun c => (r.1 c).2, r.2⟩)
    (Cert.Kernel3.Experts.run_value m ρ (Cert.Kernel3.Experts.ok_of_pre m h))
/-- So does its idealized program, -/
theorem experts_ideal_frame : Cert.quiescent_Kernel3Ideal := fun m ρ h =>
  (θ_run Cert.Kernel3Ideal.defs _ _).mono (fun _ r => ⟨fun c => (r.1 c).2, r.2⟩)
    (Cert.Kernel3Ideal.Experts.run_value m ρ (Cert.Kernel3Ideal.Experts.ok_of_pre m h))
/-- and its reference, on any arguments. -/
theorem experts_reference_frame : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

/-- When every block's expert is one of the 64, the expert kernel's result is its reference's: both are `Cert.Experts.result`. -/
theorem experts_algebraic : Cert.algebraic_Kernel3Ideal_Reference3Ideal := by
  intro m g m' g' hpre hagree
  have hO := Cert.Kernel3Ideal.Experts.ok_of_pre m hpre
  have key : ∀ c : Dev Cert.Kernel3Ideal.nD, Cert.Reference3Ideal.Value.res_main_v34 m' c
      = (Cert.Kernel3Ideal.Experts.dats m hO 0 c).arrAt 3 (Cert.Kernel3Ideal.Experts.cfgM m hO).N := by
    intro c
    refine Eq.trans ?_ (Cert.Kernel3Ideal.Experts.final m hO c).symm
    rw [Cert.Reference3Ideal.Read.val_main_v34_eq, (hagree c).1, (hagree c).2.1, (hagree c).2.2.1, (hagree c).2.2.2.1, (hagree c).2.2.2.2.1,
      (hagree c).2.2.2.2.2]
    exact Cert.Experts.reference_result _ _ _ _ _ _ (Cert.Experts.named_of_pre (hpre c))
  exact ⟨fun c => (Cert.Kernel3Ideal.Experts.dats m hO 0 c).arrAt 3 (Cert.Kernel3Ideal.Experts.cfgM m hO).N,
    (θ_run Cert.Kernel3Ideal.defs _ _).mono (fun _ r c => r.1 c) (Cert.Kernel3Ideal.Experts.run_value m g hO),
    (θ_run Cert.Reference3Ideal.defs _ _).mono (fun r h c => ⟨(h c).1.trans (key c), (h c).2⟩) (Cert.Reference3Ideal.Value.run m' g')⟩

/-- The projection's kernel runs and leaves its arguments unchanged. -/
theorem qkv_frame : Cert.quiescent_Kernel2 := fun m ρ _ =>
  (θ_run Cert.Kernel2.defs _ _).mono (fun _ r => ⟨fun c => (r.1 c).2.2.2.2.2.2, r.2⟩) (Cert.Kernel2.Qkv.run_value m ρ)
/-- So does its idealized program, -/
theorem qkv_ideal_frame : Cert.quiescent_Kernel2Ideal := fun m ρ _ =>
  (θ_run Cert.Kernel2Ideal.defs _ _).mono (fun _ r => ⟨fun c => (r.1 c).2.2.2.2.2.2, r.2⟩) (Cert.Kernel2Ideal.Qkv.run_value m ρ)
/-- and its reference. -/
theorem qkv_reference_frame : Cert.quiescent_Reference2Ideal := fun m ρ _ =>
  (θ_run Cert.Reference2Ideal.defs _ _).mono (fun r h => ⟨fun c => (h c).2.2.2.2.2.2, sem_eq_zero_of_no_sems (by decide) r.2⟩)
    (Cert.Reference2Ideal.Value.run m ρ)

/-- The projection kernel's six results are its reference's: both are the formulas of `Cert.Qkv`. -/
theorem qkv_algebraic : Cert.algebraic_Kernel2Ideal_Reference2Ideal := by
  intro m g m' g' _ hagree
  have keysD : ∀ c : Dev Cert.Kernel2Ideal.nD, Cert.Reference2Ideal.Read.val_main_v161 (F := Ideal) (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4))
      = (Cert.Kernel2Ideal.Qkv.dats m 0 c).arrAt 8 Cert.Kernel2Ideal.cfg0.N := fun c => by
    rw [(hagree c).1, (hagree c).2.1, (hagree c).2.2.1, (hagree c).2.2.2.1, (hagree c).2.2.2.2]
    exact (Cert.Reference2Ideal.Qkv.result_keysD _ _ _ _ _).trans (Cert.Kernel2Ideal.Qkv.final8 m c).symm
  have valuesD : ∀ c : Dev Cert.Kernel2Ideal.nD, Cert.Reference2Ideal.Read.val_main_v162 (F := Ideal) (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4))
      = (Cert.Kernel2Ideal.Qkv.dats m 0 c).arrAt 9 Cert.Kernel2Ideal.cfg0.N := fun c => by
    rw [(hagree c).1, (hagree c).2.1, (hagree c).2.2.1, (hagree c).2.2.2.1, (hagree c).2.2.2.2]
    exact (Cert.Reference2Ideal.Qkv.result_valuesD _ _ _ _ _).trans (Cert.Kernel2Ideal.Qkv.final9 m c).symm
  have keysM : ∀ c : Dev Cert.Kernel2Ideal.nD, Cert.Reference2Ideal.Read.val_main_v163 (F := Ideal) (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4))
      = (Cert.Kernel2Ideal.Qkv.dats m 0 c).arrAt 10 Cert.Kernel2Ideal.cfg0.N := fun c => by
    rw [(hagree c).1, (hagree c).2.1, (hagree c).2.2.1, (hagree c).2.2.2.1, (hagree c).2.2.2.2]
    exact (Cert.Reference2Ideal.Qkv.result_keysM _ _ _ _ _).trans (Cert.Kernel2Ideal.Qkv.final10 m c).symm
  have valuesM : ∀ c : Dev Cert.Kernel2Ideal.nD, Cert.Reference2Ideal.Read.val_main_v28 (F := Ideal) (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4))
      = (Cert.Kernel2Ideal.Qkv.dats m 0 c).arrAt 11 Cert.Kernel2Ideal.cfg0.N := fun c => by
    rw [(hagree c).1, (hagree c).2.1, (hagree c).2.2.1, (hagree c).2.2.2.1, (hagree c).2.2.2.2]
    exact (Cert.Reference2Ideal.Qkv.result_valuesM _ _ _ _ _).trans (Cert.Kernel2Ideal.Qkv.final11 m c).symm
  have queriesM : ∀ c : Dev Cert.Kernel2Ideal.nD, Cert.Reference2Ideal.Read.val_main_v164 (F := Ideal) (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4))
      = (Cert.Kernel2Ideal.Qkv.dats m 0 c).arrAt 12 Cert.Kernel2Ideal.cfg0.N := fun c => by
    rw [(hagree c).1, (hagree c).2.1, (hagree c).2.2.1, (hagree c).2.2.2.1, (hagree c).2.2.2.2]
    exact (Cert.Reference2Ideal.Qkv.result_queriesM _ _ _ _ _).trans (Cert.Kernel2Ideal.Qkv.final12 m c).symm
  have queriesD : ∀ c : Dev Cert.Kernel2Ideal.nD, Cert.Reference2Ideal.Read.val_main_v167 (F := Ideal) (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4))
      = (Cert.Kernel2Ideal.Qkv.dats m 0 c).arrAt 13 Cert.Kernel2Ideal.cfg0.N := fun c => by
    rw [(hagree c).1, (hagree c).2.1, (hagree c).2.2.1, (hagree c).2.2.2.1, (hagree c).2.2.2.2]
    exact (Cert.Reference2Ideal.Qkv.result_queriesD _ _ _ _ _).trans (Cert.Kernel2Ideal.Qkv.final13 m c).symm
  exact ⟨fun c => (Cert.Kernel2Ideal.Qkv.dats m 0 c).arrAt 8 Cert.Kernel2Ideal.cfg0.N,
    fun c => (Cert.Kernel2Ideal.Qkv.dats m 0 c).arrAt 9 Cert.Kernel2Ideal.cfg0.N,
    fun c => (Cert.Kernel2Ideal.Qkv.dats m 0 c).arrAt 10 Cert.Kernel2Ideal.cfg0.N,
    fun c => (Cert.Kernel2Ideal.Qkv.dats m 0 c).arrAt 11 Cert.Kernel2Ideal.cfg0.N,
    fun c => (Cert.Kernel2Ideal.Qkv.dats m 0 c).arrAt 12 Cert.Kernel2Ideal.cfg0.N,
    fun c => (Cert.Kernel2Ideal.Qkv.dats m 0 c).arrAt 13 Cert.Kernel2Ideal.cfg0.N,
    (θ_run Cert.Kernel2Ideal.defs _ _).mono (fun _ r c => r.1 c) (Cert.Kernel2Ideal.Qkv.run_value m g),
    (θ_run Cert.Reference2Ideal.defs _ _).mono (fun r h c => ⟨(h c).1.trans ((Cert.Reference2Ideal.Read.val_main_v161_eq _).trans (keysD c)),
      (h c).2.1.trans ((Cert.Reference2Ideal.Read.val_main_v162_eq _).trans (valuesD c)),
      (h c).2.2.1.trans ((Cert.Reference2Ideal.Read.val_main_v163_eq _).trans (keysM c)),
      (h c).2.2.2.1.trans ((Cert.Reference2Ideal.Read.val_main_v28_eq _).trans (valuesM c)),
      (h c).2.2.2.2.1.trans ((Cert.Reference2Ideal.Read.val_main_v164_eq _).trans (queriesM c)),
      (h c).2.2.2.2.2.1.trans ((Cert.Reference2Ideal.Read.val_main_v167_eq _).trans (queriesD c)), (h c).2.2.2.2.2.2⟩)
      (Cert.Reference2Ideal.Value.run m' g')⟩

/-- The sample projection's kernel runs and leaves its arguments unchanged. -/
theorem sample_frame : Cert.quiescent_Kernel4 := fun m ρ _ => Cert.Kernel4.Gen.frame m ρ
/-- So does its idealized program, -/
theorem sample_ideal_frame : Cert.quiescent_Kernel4Ideal := fun m ρ _ => Cert.Kernel4Ideal.Gen.frame m ρ
/-- and its reference. -/
theorem sample_reference_frame : Cert.quiescent_Reference4Ideal := fun m ρ _ =>
  (θ_run Cert.Reference4Ideal.defs _ _).mono (fun r h => ⟨fun c => (h c).2.2.2.2.2.2, sem_eq_zero_of_no_sems (by decide) r.2⟩)
    (Cert.Reference4Ideal.Value.run m ρ)

/-- The sample projection's six results are its reference's: both are the formulas of `Cert.Sample`. -/
theorem sample_algebraic : Cert.algebraic_Kernel4Ideal_Reference4Ideal := by
  intro m g m' g' _ hagree
  have queriesD : ∀ c : Dev Cert.Kernel4Ideal.nD, Cert.Reference4Ideal.Read.val_main_v157 (F := Ideal) (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2))
      (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4))
      = (Cert.Kernel4Ideal.Gen.dats m 0 c).arrAt 8 Cert.Kernel4Ideal.cfg0.N := fun c => by
    rw [(hagree c).1, (hagree c).2.1, (hagree c).2.2.1, (hagree c).2.2.2.1, (hagree c).2.2.2.2]
    exact (Cert.Reference4Ideal.Sample.result_queriesD _ _ _ _ _).trans (Cert.Kernel4Ideal.Sample.final8 m c).symm
  have keysD : ∀ c : Dev Cert.Kernel4Ideal.nD, Cert.Reference4Ideal.Read.val_main_v158 (F := Ideal) (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2))
      (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4))
      = (Cert.Kernel4Ideal.Gen.dats m 0 c).arrAt 9 Cert.Kernel4Ideal.cfg0.N := fun c => by
    rw [(hagree c).1, (hagree c).2.1, (hagree c).2.2.1, (hagree c).2.2.2.1, (hagree c).2.2.2.2]
    exact (Cert.Reference4Ideal.Sample.result_keysD _ _ _ _ _).trans (Cert.Kernel4Ideal.Sample.final9 m c).symm
  have valuesD : ∀ c : Dev Cert.Kernel4Ideal.nD, Cert.Reference4Ideal.Read.val_main_v159 (F := Ideal) (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2))
      (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4))
      = (Cert.Kernel4Ideal.Gen.dats m 0 c).arrAt 10 Cert.Kernel4Ideal.cfg0.N := fun c => by
    rw [(hagree c).1, (hagree c).2.1, (hagree c).2.2.1, (hagree c).2.2.2.1, (hagree c).2.2.2.2]
    exact (Cert.Reference4Ideal.Sample.result_valuesD _ _ _ _ _).trans (Cert.Kernel4Ideal.Sample.final10 m c).symm
  have queriesM : ∀ c : Dev Cert.Kernel4Ideal.nD, Cert.Reference4Ideal.Read.val_main_v160 (F := Ideal) (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2))
      (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4))
      = (Cert.Kernel4Ideal.Gen.dats m 0 c).arrAt 11 Cert.Kernel4Ideal.cfg0.N := fun c => by
    rw [(hagree c).1, (hagree c).2.1, (hagree c).2.2.1, (hagree c).2.2.2.1, (hagree c).2.2.2.2]
    exact (Cert.Reference4Ideal.Sample.result_queriesM _ _ _ _ _).trans (Cert.Kernel4Ideal.Sample.final11 m c).symm
  have keysM : ∀ c : Dev Cert.Kernel4Ideal.nD, Cert.Reference4Ideal.Read.val_main_v161 (F := Ideal) (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2))
      (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4))
      = (Cert.Kernel4Ideal.Gen.dats m 0 c).arrAt 12 Cert.Kernel4Ideal.cfg0.N := fun c => by
    rw [(hagree c).1, (hagree c).2.1, (hagree c).2.2.1, (hagree c).2.2.2.1, (hagree c).2.2.2.2]
    exact (Cert.Reference4Ideal.Sample.result_keysM _ _ _ _ _).trans (Cert.Kernel4Ideal.Sample.final12 m c).symm
  have valuesM : ∀ c : Dev Cert.Kernel4Ideal.nD, Cert.Reference4Ideal.Read.val_main_v162 (F := Ideal) (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2))
      (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4))
      = (Cert.Kernel4Ideal.Gen.dats m 0 c).arrAt 13 Cert.Kernel4Ideal.cfg0.N := fun c => by
    rw [(hagree c).1, (hagree c).2.1, (hagree c).2.2.1, (hagree c).2.2.2.1, (hagree c).2.2.2.2]
    exact (Cert.Reference4Ideal.Sample.result_valuesM _ _ _ _ _).trans (Cert.Kernel4Ideal.Sample.final13 m c).symm
  exact ⟨fun c => (Cert.Kernel4Ideal.Gen.dats m 0 c).arrAt 8 Cert.Kernel4Ideal.cfg0.N,
    fun c => (Cert.Kernel4Ideal.Gen.dats m 0 c).arrAt 9 Cert.Kernel4Ideal.cfg0.N,
    fun c => (Cert.Kernel4Ideal.Gen.dats m 0 c).arrAt 10 Cert.Kernel4Ideal.cfg0.N,
    fun c => (Cert.Kernel4Ideal.Gen.dats m 0 c).arrAt 11 Cert.Kernel4Ideal.cfg0.N,
    fun c => (Cert.Kernel4Ideal.Gen.dats m 0 c).arrAt 12 Cert.Kernel4Ideal.cfg0.N,
    fun c => (Cert.Kernel4Ideal.Gen.dats m 0 c).arrAt 13 Cert.Kernel4Ideal.cfg0.N,
    Cert.Kernel4Ideal.Value.run_blocks m g,
    (θ_run Cert.Reference4Ideal.defs _ _).mono (fun r h c => ⟨(h c).1.trans ((Cert.Reference4Ideal.Read.val_main_v157_eq _).trans (queriesD c)),
      (h c).2.1.trans ((Cert.Reference4Ideal.Read.val_main_v158_eq _).trans (keysD c)),
      (h c).2.2.1.trans ((Cert.Reference4Ideal.Read.val_main_v159_eq _).trans (valuesD c)),
      (h c).2.2.2.1.trans ((Cert.Reference4Ideal.Read.val_main_v160_eq _).trans (queriesM c)),
      (h c).2.2.2.2.1.trans ((Cert.Reference4Ideal.Read.val_main_v161_eq _).trans (keysM c)),
      (h c).2.2.2.2.2.1.trans ((Cert.Reference4Ideal.Read.val_main_v162_eq _).trans (valuesM c)), (h c).2.2.2.2.2.2⟩)
      (Cert.Reference4Ideal.Value.run m' g')⟩

/-- All claims together. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel4.Gen.facts, Cert.Kernel4Ideal.Gen.facts, Cert.Reference4Ideal.Gen.facts,
  Cert.Kernel3.Gen.facts, Cert.Kernel3Ideal.Gen.facts, Cert.Reference3Ideal.Gen.facts, Cert.Pre_finite.Gen.facts, Cert.Pre_known_expert.Gen.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  qkv_frame, qkv_ideal_frame, qkv_reference_frame,
  sample_frame, sample_ideal_frame, sample_reference_frame,
  experts_frame, experts_ideal_frame, experts_reference_frame,
  fun m ρ _ => experts_reference_frame m ρ trivial,
  preserves, algebraic, trivial, qkv_algebraic, trivial, sample_algebraic, trivial, experts_algebraic⟩

end Cert.Proof

end
